-- ==== Defs.lean ====
def Pre_Closing (m : (ℓ : Loc Cert.Closing.nD Cert.Closing.τ Cert.Closing.sig) → Buf (Elt Bits) ℓ) : Prop :=
  True

def Pre_ClosingIdeal (m : (ℓ : Loc Cert.ClosingIdeal.nD Cert.ClosingIdeal.τ Cert.ClosingIdeal.sig) → Buf (Elt Ideal) ℓ) : Prop :=
  True

def Pre_ClosingRefIdeal (m : (ℓ : Loc Cert.ClosingRefIdeal.nD Cert.ClosingRefIdeal.τ Cert.ClosingRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_ProjectQ (m : (ℓ : Loc Cert.ProjectQ.nD Cert.ProjectQ.τ Cert.ProjectQ.sig) → Buf (Elt Bits) ℓ) : Prop :=
  True

def Pre_ProjectQIdeal (m : (ℓ : Loc Cert.ProjectQIdeal.nD Cert.ProjectQIdeal.τ Cert.ProjectQIdeal.sig) → Buf (Elt Ideal) ℓ) : Prop :=
  True

def Pre_ProjectQRefIdeal (m : (ℓ : Loc Cert.ProjectQRefIdeal.nD Cert.ProjectQRefIdeal.τ Cert.ProjectQRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Closing [hClosing : Cert.Closing.Facts] : Prop :=
  ∀ (m : (ℓ : Loc Cert.Closing.nD Cert.Closing.τ Cert.Closing.sig) → Buf (Elt Bits) ℓ) (g : Dev Cert.Closing.nD → PrngReg), Pre_Closing m →
    θ_run (Cert.Closing.defs (F := Bits)) (onTc (τ := Cert.Closing.τ) (Cert.Closing.main (F := Bits))) ⟨m, fun _ => 0, g⟩ (fun r => (∀ c : Dev Cert.Closing.nD,
      r.2.mem ((c.tc : Thread Cert.Closing.nD Cert.Closing.τ).loc Cert.Closing.main_arg0) = m ((c.tc : Thread Cert.Closing.nD Cert.Closing.τ).loc Cert.Closing.main_arg0)
      ∧ r.2.mem ((c.tc : Thread Cert.Closing.nD Cert.Closing.τ).loc Cert.Closing.main_arg1) = m ((c.tc : Thread Cert.Closing.nD Cert.Closing.τ).loc Cert.Closing.main_arg1)
      ∧ r.2.mem ((c.tc : Thread Cert.Closing.nD Cert.Closing.τ).loc Cert.Closing.main_arg2) = m ((c.tc : Thread Cert.Closing.nD Cert.Closing.τ).loc Cert.Closing.main_arg2)
      ∧ r.2.mem ((c.tc : Thread Cert.Closing.nD Cert.Closing.τ).loc Cert.Closing.main_arg3) = m ((c.tc : Thread Cert.Closing.nD Cert.Closing.τ).loc Cert.Closing.main_arg3)
      ∧ r.2.mem ((c.tc : Thread Cert.Closing.nD Cert.Closing.τ).loc Cert.Closing.main_arg4) = m ((c.tc : Thread Cert.Closing.nD Cert.Closing.τ).loc Cert.Closing.main_arg4)
      ∧ r.2.mem ((c.tc : Thread Cert.Closing.nD Cert.Closing.τ).loc Cert.Closing.main_arg5) = m ((c.tc : Thread Cert.Closing.nD Cert.Closing.τ).loc Cert.Closing.main_arg5))
      ∧ r.2.sem = fun _ => 0)

def quiescent_ClosingIdeal [hClosingIdeal : Cert.ClosingIdeal.Facts] : Prop :=
  ∀ (m : (ℓ : Loc Cert.ClosingIdeal.nD Cert.ClosingIdeal.τ Cert.ClosingIdeal.sig) → Buf (Elt Ideal) ℓ) (g : Dev Cert.ClosingIdeal.nD → PrngReg), Pre_ClosingIdeal m →
    θ_run (Cert.ClosingIdeal.defs (F := Ideal)) (onTc (τ := Cert.ClosingIdeal.τ) (Cert.ClosingIdeal.main (F := Ideal))) ⟨m, fun _ => 0, g⟩ (fun r => (∀ c : Dev Cert.ClosingIdeal.nD,
      r.2.mem ((c.tc : Thread Cert.ClosingIdeal.nD Cert.ClosingIdeal.τ).loc Cert.ClosingIdeal.main_arg0) = m ((c.tc : Thread Cert.ClosingIdeal.nD Cert.ClosingIdeal.τ).loc Cert.ClosingIdeal.main_arg0)
      ∧ r.2.mem ((c.tc : Thread Cert.ClosingIdeal.nD Cert.ClosingIdeal.τ).loc Cert.ClosingIdeal.main_arg1) = m ((c.tc : Thread Cert.ClosingIdeal.nD Cert.ClosingIdeal.τ).loc Cert.ClosingIdeal.main_arg1)
      ∧ r.2.mem ((c.tc : Thread Cert.ClosingIdeal.nD Cert.ClosingIdeal.τ).loc Cert.ClosingIdeal.main_arg2) = m ((c.tc : Thread Cert.ClosingIdeal.nD Cert.ClosingIdeal.τ).loc Cert.ClosingIdeal.main_arg2)
      ∧ r.2.mem ((c.tc : Thread Cert.ClosingIdeal.nD Cert.ClosingIdeal.τ).loc Cert.ClosingIdeal.main_arg3) = m ((c.tc : Thread Cert.ClosingIdeal.nD Cert.ClosingIdeal.τ).loc Cert.ClosingIdeal.main_arg3)
      ∧ r.2.mem ((c.tc : Thread Cert.ClosingIdeal.nD Cert.ClosingIdeal.τ).loc Cert.ClosingIdeal.main_arg4) = m ((c.tc : Thread Cert.ClosingIdeal.nD Cert.ClosingIdeal.τ).loc Cert.ClosingIdeal.main_arg4)
      ∧ r.2.mem ((c.tc : Thread Cert.ClosingIdeal.nD Cert.ClosingIdeal.τ).loc Cert.ClosingIdeal.main_arg5) = m ((c.tc : Thread Cert.ClosingIdeal.nD Cert.ClosingIdeal.τ).loc Cert.ClosingIdeal.main_arg5))
      ∧ r.2.sem = fun _ => 0)

def quiescent_ClosingRefIdeal [hClosingRefIdeal : Cert.ClosingRefIdeal.Facts] : Prop :=
  ∀ (m : (ℓ : Loc Cert.ClosingRefIdeal.nD Cert.ClosingRefIdeal.τ Cert.ClosingRefIdeal.sig) → Buf (Elt Ideal) ℓ) (g : Dev Cert.ClosingRefIdeal.nD → PrngReg), Pre_ClosingRefIdeal m →
    θ_run (Cert.ClosingRefIdeal.defs (F := Ideal)) (onTc (τ := Cert.ClosingRefIdeal.τ) (Cert.ClosingRefIdeal.main (F := Ideal))) ⟨m, fun _ => 0, g⟩ (fun r => (∀ c : Dev Cert.ClosingRefIdeal.nD,
      r.2.mem ((c.tc : Thread Cert.ClosingRefIdeal.nD Cert.ClosingRefIdeal.τ).loc Cert.ClosingRefIdeal.main_arg0) = m ((c.tc : Thread Cert.ClosingRefIdeal.nD Cert.ClosingRefIdeal.τ).loc Cert.ClosingRefIdeal.main_arg0)
      ∧ r.2.mem ((c.tc : Thread Cert.ClosingRefIdeal.nD Cert.ClosingRefIdeal.τ).loc Cert.ClosingRefIdeal.main_arg1) = m ((c.tc : Thread Cert.ClosingRefIdeal.nD Cert.ClosingRefIdeal.τ).loc Cert.ClosingRefIdeal.main_arg1)
      ∧ r.2.mem ((c.tc : Thread Cert.ClosingRefIdeal.nD Cert.ClosingRefIdeal.τ).loc Cert.ClosingRefIdeal.main_arg2) = m ((c.tc : Thread Cert.ClosingRefIdeal.nD Cert.ClosingRefIdeal.τ).loc Cert.ClosingRefIdeal.main_arg2)
      ∧ r.2.mem ((c.tc : Thread Cert.ClosingRefIdeal.nD Cert.ClosingRefIdeal.τ).loc Cert.ClosingRefIdeal.main_arg3) = m ((c.tc : Thread Cert.ClosingRefIdeal.nD Cert.ClosingRefIdeal.τ).loc Cert.ClosingRefIdeal.main_arg3)
      ∧ r.2.mem ((c.tc : Thread Cert.ClosingRefIdeal.nD Cert.ClosingRefIdeal.τ).loc Cert.ClosingRefIdeal.main_arg4) = m ((c.tc : Thread Cert.ClosingRefIdeal.nD Cert.ClosingRefIdeal.τ).loc Cert.ClosingRefIdeal.main_arg4)
      ∧ r.2.mem ((c.tc : Thread Cert.ClosingRefIdeal.nD Cert.ClosingRefIdeal.τ).loc Cert.ClosingRefIdeal.main_arg5) = m ((c.tc : Thread Cert.ClosingRefIdeal.nD Cert.ClosingRefIdeal.τ).loc Cert.ClosingRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_ProjectQ [hProjectQ : Cert.ProjectQ.Facts] : Prop :=
  ∀ (m : (ℓ : Loc Cert.ProjectQ.nD Cert.ProjectQ.τ Cert.ProjectQ.sig) → Buf (Elt Bits) ℓ) (g : Dev Cert.ProjectQ.nD → PrngReg), Pre_ProjectQ m →
    θ_run (Cert.ProjectQ.defs (F := Bits)) (onTc (τ := Cert.ProjectQ.τ) (Cert.ProjectQ.main (F := Bits))) ⟨m, fun _ => 0, g⟩ (fun r => (∀ c : Dev Cert.ProjectQ.nD,
      r.2.mem ((c.tc : Thread Cert.ProjectQ.nD Cert.ProjectQ.τ).loc Cert.ProjectQ.main_arg0) = m ((c.tc : Thread Cert.ProjectQ.nD Cert.ProjectQ.τ).loc Cert.ProjectQ.main_arg0)
      ∧ r.2.mem ((c.tc : Thread Cert.ProjectQ.nD Cert.ProjectQ.τ).loc Cert.ProjectQ.main_arg1) = m ((c.tc : Thread Cert.ProjectQ.nD Cert.ProjectQ.τ).loc Cert.ProjectQ.main_arg1)
      ∧ r.2.mem ((c.tc : Thread Cert.ProjectQ.nD Cert.ProjectQ.τ).loc Cert.ProjectQ.main_arg2) = m ((c.tc : Thread Cert.ProjectQ.nD Cert.ProjectQ.τ).loc Cert.ProjectQ.main_arg2)
      ∧ r.2.mem ((c.tc : Thread Cert.ProjectQ.nD Cert.ProjectQ.τ).loc Cert.ProjectQ.main_arg3) = m ((c.tc : Thread Cert.ProjectQ.nD Cert.ProjectQ.τ).loc Cert.ProjectQ.main_arg3)
      ∧ r.2.mem ((c.tc : Thread Cert.ProjectQ.nD Cert.ProjectQ.τ).loc Cert.ProjectQ.main_arg4) = m ((c.tc : Thread Cert.ProjectQ.nD Cert.ProjectQ.τ).loc Cert.ProjectQ.main_arg4)
      ∧ r.2.mem ((c.tc : Thread Cert.ProjectQ.nD Cert.ProjectQ.τ).loc Cert.ProjectQ.main_arg5) = m ((c.tc : Thread Cert.ProjectQ.nD Cert.ProjectQ.τ).loc Cert.ProjectQ.main_arg5)
      ∧ r.2.mem ((c.tc : Thread Cert.ProjectQ.nD Cert.ProjectQ.τ).loc Cert.ProjectQ.main_arg6) = m ((c.tc : Thread Cert.ProjectQ.nD Cert.ProjectQ.τ).loc Cert.ProjectQ.main_arg6)
      ∧ r.2.mem ((c.tc : Thread Cert.ProjectQ.nD Cert.ProjectQ.τ).loc Cert.ProjectQ.main_arg7) = m ((c.tc : Thread Cert.ProjectQ.nD Cert.ProjectQ.τ).loc Cert.ProjectQ.main_arg7))
      ∧ r.2.sem = fun _ => 0)

def quiescent_ProjectQIdeal [hProjectQIdeal : Cert.ProjectQIdeal.Facts] : Prop :=
  ∀ (m : (ℓ : Loc Cert.ProjectQIdeal.nD Cert.ProjectQIdeal.τ Cert.ProjectQIdeal.sig) → Buf (Elt Ideal) ℓ) (g : Dev Cert.ProjectQIdeal.nD → PrngReg), Pre_ProjectQIdeal m →
    θ_run (Cert.ProjectQIdeal.defs (F := Ideal)) (onTc (τ := Cert.ProjectQIdeal.τ) (Cert.ProjectQIdeal.main (F := Ideal))) ⟨m, fun _ => 0, g⟩ (fun r => (∀ c : Dev Cert.ProjectQIdeal.nD,
      r.2.mem ((c.tc : Thread Cert.ProjectQIdeal.nD Cert.ProjectQIdeal.τ).loc Cert.ProjectQIdeal.main_arg0) = m ((c.tc : Thread Cert.ProjectQIdeal.nD Cert.ProjectQIdeal.τ).loc Cert.ProjectQIdeal.main_arg0)
      ∧ r.2.mem ((c.tc : Thread Cert.ProjectQIdeal.nD Cert.ProjectQIdeal.τ).loc Cert.ProjectQIdeal.main_arg1) = m ((c.tc : Thread Cert.ProjectQIdeal.nD Cert.ProjectQIdeal.τ).loc Cert.ProjectQIdeal.main_arg1)
      ∧ r.2.mem ((c.tc : Thread Cert.ProjectQIdeal.nD Cert.ProjectQIdeal.τ).loc Cert.ProjectQIdeal.main_arg2) = m ((c.tc : Thread Cert.ProjectQIdeal.nD Cert.ProjectQIdeal.τ).loc Cert.ProjectQIdeal.main_arg2)
      ∧ r.2.mem ((c.tc : Thread Cert.ProjectQIdeal.nD Cert.ProjectQIdeal.τ).loc Cert.ProjectQIdeal.main_arg3) = m ((c.tc : Thread Cert.ProjectQIdeal.nD Cert.ProjectQIdeal.τ).loc Cert.ProjectQIdeal.main_arg3)
      ∧ r.2.mem ((c.tc : Thread Cert.ProjectQIdeal.nD Cert.ProjectQIdeal.τ).loc Cert.ProjectQIdeal.main_arg4) = m ((c.tc : Thread Cert.ProjectQIdeal.nD Cert.ProjectQIdeal.τ).loc Cert.ProjectQIdeal.main_arg4)
      ∧ r.2.mem ((c.tc : Thread Cert.ProjectQIdeal.nD Cert.ProjectQIdeal.τ).loc Cert.ProjectQIdeal.main_arg5) = m ((c.tc : Thread Cert.ProjectQIdeal.nD Cert.ProjectQIdeal.τ).loc Cert.ProjectQIdeal.main_arg5)
      ∧ r.2.mem ((c.tc : Thread Cert.ProjectQIdeal.nD Cert.ProjectQIdeal.τ).loc Cert.ProjectQIdeal.main_arg6) = m ((c.tc : Thread Cert.ProjectQIdeal.nD Cert.ProjectQIdeal.τ).loc Cert.ProjectQIdeal.main_arg6)
      ∧ r.2.mem ((c.tc : Thread Cert.ProjectQIdeal.nD Cert.ProjectQIdeal.τ).loc Cert.ProjectQIdeal.main_arg7) = m ((c.tc : Thread Cert.ProjectQIdeal.nD Cert.ProjectQIdeal.τ).loc Cert.ProjectQIdeal.main_arg7))
      ∧ r.2.sem = fun _ => 0)

def quiescent_ProjectQRefIdeal [hProjectQRefIdeal : Cert.ProjectQRefIdeal.Facts] : Prop :=
  ∀ (m : (ℓ : Loc Cert.ProjectQRefIdeal.nD Cert.ProjectQRefIdeal.τ Cert.ProjectQRefIdeal.sig) → Buf (Elt Ideal) ℓ) (g : Dev Cert.ProjectQRefIdeal.nD → PrngReg), Pre_ProjectQRefIdeal m →
    θ_run (Cert.ProjectQRefIdeal.defs (F := Ideal)) (onTc (τ := Cert.ProjectQRefIdeal.τ) (Cert.ProjectQRefIdeal.main (F := Ideal))) ⟨m, fun _ => 0, g⟩ (fun r => (∀ c : Dev Cert.ProjectQRefIdeal.nD,
      r.2.mem ((c.tc : Thread Cert.ProjectQRefIdeal.nD Cert.ProjectQRefIdeal.τ).loc Cert.ProjectQRefIdeal.main_arg0) = m ((c.tc : Thread Cert.ProjectQRefIdeal.nD Cert.ProjectQRefIdeal.τ).loc Cert.ProjectQRefIdeal.main_arg0)
      ∧ r.2.mem ((c.tc : Thread Cert.ProjectQRefIdeal.nD Cert.ProjectQRefIdeal.τ).loc Cert.ProjectQRefIdeal.main_arg1) = m ((c.tc : Thread Cert.ProjectQRefIdeal.nD Cert.ProjectQRefIdeal.τ).loc Cert.ProjectQRefIdeal.main_arg1)
      ∧ r.2.mem ((c.tc : Thread Cert.ProjectQRefIdeal.nD Cert.ProjectQRefIdeal.τ).loc Cert.ProjectQRefIdeal.main_arg2) = m ((c.tc : Thread Cert.ProjectQRefIdeal.nD Cert.ProjectQRefIdeal.τ).loc Cert.ProjectQRefIdeal.main_arg2)
      ∧ r.2.mem ((c.tc : Thread Cert.ProjectQRefIdeal.nD Cert.ProjectQRefIdeal.τ).loc Cert.ProjectQRefIdeal.main_arg3) = m ((c.tc : Thread Cert.ProjectQRefIdeal.nD Cert.ProjectQRefIdeal.τ).loc Cert.ProjectQRefIdeal.main_arg3)
      ∧ r.2.mem ((c.tc : Thread Cert.ProjectQRefIdeal.nD Cert.ProjectQRefIdeal.τ).loc Cert.ProjectQRefIdeal.main_arg4) = m ((c.tc : Thread Cert.ProjectQRefIdeal.nD Cert.ProjectQRefIdeal.τ).loc Cert.ProjectQRefIdeal.main_arg4)
      ∧ r.2.mem ((c.tc : Thread Cert.ProjectQRefIdeal.nD Cert.ProjectQRefIdeal.τ).loc Cert.ProjectQRefIdeal.main_arg5) = m ((c.tc : Thread Cert.ProjectQRefIdeal.nD Cert.ProjectQRefIdeal.τ).loc Cert.ProjectQRefIdeal.main_arg5)
      ∧ r.2.mem ((c.tc : Thread Cert.ProjectQRefIdeal.nD Cert.ProjectQRefIdeal.τ).loc Cert.ProjectQRefIdeal.main_arg6) = m ((c.tc : Thread Cert.ProjectQRefIdeal.nD Cert.ProjectQRefIdeal.τ).loc Cert.ProjectQRefIdeal.main_arg6)
      ∧ r.2.mem ((c.tc : Thread Cert.ProjectQRefIdeal.nD Cert.ProjectQRefIdeal.τ).loc Cert.ProjectQRefIdeal.main_arg7) = m ((c.tc : Thread Cert.ProjectQRefIdeal.nD Cert.ProjectQRefIdeal.τ).loc Cert.ProjectQRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def preserves_Closing_ClosingIdeal : Prop :=
  True

def algebraic_ClosingIdeal_ClosingRefIdeal [hClosingIdeal : Cert.ClosingIdeal.Facts] [hClosingRefIdeal : Cert.ClosingRefIdeal.Facts] : Prop :=
  ∀ (m : (ℓ : Loc Cert.ClosingIdeal.nD Cert.ClosingIdeal.τ Cert.ClosingIdeal.sig) → Buf (Elt Ideal) ℓ) (g : Dev Cert.ClosingIdeal.nD → PrngReg)
    (m' : (ℓ : Loc Cert.ClosingRefIdeal.nD Cert.ClosingRefIdeal.τ Cert.ClosingRefIdeal.sig) → Buf (Elt Ideal) ℓ) (g' : Dev Cert.ClosingRefIdeal.nD → PrngReg), Pre_ClosingIdeal m →
    (∀ c : Dev Cert.ClosingIdeal.nD,
      m' ((c.tc : Thread Cert.ClosingRefIdeal.nD Cert.ClosingRefIdeal.τ).loc Cert.ClosingRefIdeal.main_arg0) = m ((c.tc : Thread Cert.ClosingIdeal.nD Cert.ClosingIdeal.τ).loc Cert.ClosingIdeal.main_arg0)
      ∧ m' ((c.tc : Thread Cert.ClosingRefIdeal.nD Cert.ClosingRefIdeal.τ).loc Cert.ClosingRefIdeal.main_arg1) = m ((c.tc : Thread Cert.ClosingIdeal.nD Cert.ClosingIdeal.τ).loc Cert.ClosingIdeal.main_arg1)
      ∧ m' ((c.tc : Thread Cert.ClosingRefIdeal.nD Cert.ClosingRefIdeal.τ).loc Cert.ClosingRefIdeal.main_arg2) = m ((c.tc : Thread Cert.ClosingIdeal.nD Cert.ClosingIdeal.τ).loc Cert.ClosingIdeal.main_arg2)
      ∧ m' ((c.tc : Thread Cert.ClosingRefIdeal.nD Cert.ClosingRefIdeal.τ).loc Cert.ClosingRefIdeal.main_arg3) = m ((c.tc : Thread Cert.ClosingIdeal.nD Cert.ClosingIdeal.τ).loc Cert.ClosingIdeal.main_arg3)
      ∧ m' ((c.tc : Thread Cert.ClosingRefIdeal.nD Cert.ClosingRefIdeal.τ).loc Cert.ClosingRefIdeal.main_arg4) = m ((c.tc : Thread Cert.ClosingIdeal.nD Cert.ClosingIdeal.τ).loc Cert.ClosingIdeal.main_arg4)
      ∧ m' ((c.tc : Thread Cert.ClosingRefIdeal.nD Cert.ClosingRefIdeal.τ).loc Cert.ClosingRefIdeal.main_arg5) = m ((c.tc : Thread Cert.ClosingIdeal.nD Cert.ClosingIdeal.τ).loc Cert.ClosingIdeal.main_arg5)) →
    ∃ (v0 : (c : Dev Cert.ClosingIdeal.nD) → Buf (Elt Ideal) ((c.tc : Thread Cert.ClosingIdeal.nD Cert.ClosingIdeal.τ).loc Cert.ClosingIdeal.main_v0_0)) (v1 : (c : Dev Cert.ClosingIdeal.nD) → Buf (Elt Ideal) ((c.tc : Thread Cert.ClosingIdeal.nD Cert.ClosingIdeal.τ).loc Cert.ClosingIdeal.main_v0_1)) (v2 : (c : Dev Cert.ClosingIdeal.nD) → Buf (Elt Ideal) ((c.tc : Thread Cert.ClosingIdeal.nD Cert.ClosingIdeal.τ).loc Cert.ClosingIdeal.main_v0_2)),
      θ_run (Cert.ClosingIdeal.defs (F := Ideal)) (onTc (τ := Cert.ClosingIdeal.τ) (Cert.ClosingIdeal.main (F := Ideal))) ⟨m, fun _ => 0, g⟩ (fun r => ∀ c : Dev Cert.ClosingIdeal.nD,
          r.2.mem ((c.tc : Thread Cert.ClosingIdeal.nD Cert.ClosingIdeal.τ).loc Cert.ClosingIdeal.main_v0_0) = v0 c
          ∧ r.2.mem ((c.tc : Thread Cert.ClosingIdeal.nD Cert.ClosingIdeal.τ).loc Cert.ClosingIdeal.main_v0_1) = v1 c
          ∧ r.2.mem ((c.tc : Thread Cert.ClosingIdeal.nD Cert.ClosingIdeal.τ).loc Cert.ClosingIdeal.main_v0_2) = v2 c
          ∧ r.2.mem ((c.tc : Thread Cert.ClosingIdeal.nD Cert.ClosingIdeal.τ).loc Cert.ClosingIdeal.main_arg0) = m ((c.tc : Thread Cert.ClosingIdeal.nD Cert.ClosingIdeal.τ).loc Cert.ClosingIdeal.main_arg0)
          ∧ r.2.mem ((c.tc : Thread Cert.ClosingIdeal.nD Cert.ClosingIdeal.τ).loc Cert.ClosingIdeal.main_arg1) = m ((c.tc : Thread Cert.ClosingIdeal.nD Cert.ClosingIdeal.τ).loc Cert.ClosingIdeal.main_arg1)
          ∧ r.2.mem ((c.tc : Thread Cert.ClosingIdeal.nD Cert.ClosingIdeal.τ).loc Cert.ClosingIdeal.main_arg2) = m ((c.tc : Thread Cert.ClosingIdeal.nD Cert.ClosingIdeal.τ).loc Cert.ClosingIdeal.main_arg2)
          ∧ r.2.mem ((c.tc : Thread Cert.ClosingIdeal.nD Cert.ClosingIdeal.τ).loc Cert.ClosingIdeal.main_arg3) = m ((c.tc : Thread Cert.ClosingIdeal.nD Cert.ClosingIdeal.τ).loc Cert.ClosingIdeal.main_arg3)
          ∧ r.2.mem ((c.tc : Thread Cert.ClosingIdeal.nD Cert.ClosingIdeal.τ).loc Cert.ClosingIdeal.main_arg4) = m ((c.tc : Thread Cert.ClosingIdeal.nD Cert.ClosingIdeal.τ).loc Cert.ClosingIdeal.main_arg4)
          ∧ r.2.mem ((c.tc : Thread Cert.ClosingIdeal.nD Cert.ClosingIdeal.τ).loc Cert.ClosingIdeal.main_arg5) = m ((c.tc : Thread Cert.ClosingIdeal.nD Cert.ClosingIdeal.τ).loc Cert.ClosingIdeal.main_arg5))
      ∧ θ_run (Cert.ClosingRefIdeal.defs (F := Ideal)) (onTc (τ := Cert.ClosingRefIdeal.τ) (Cert.ClosingRefIdeal.main (F := Ideal))) ⟨m', fun _ => 0, g'⟩ (fun r => ∀ c : Dev Cert.ClosingRefIdeal.nD,
          r.2.mem ((c.tc : Thread Cert.ClosingRefIdeal.nD Cert.ClosingRefIdeal.τ).loc Cert.ClosingRefIdeal.main_v0_0) = v0 c
          ∧ r.2.mem ((c.tc : Thread Cert.ClosingRefIdeal.nD Cert.ClosingRefIdeal.τ).loc Cert.ClosingRefIdeal.main_v0_1) = v1 c
          ∧ r.2.mem ((c.tc : Thread Cert.ClosingRefIdeal.nD Cert.ClosingRefIdeal.τ).loc Cert.ClosingRefIdeal.main_v0_2) = v2 c
          ∧ r.2.mem ((c.tc : Thread Cert.ClosingRefIdeal.nD Cert.ClosingRefIdeal.τ).loc Cert.ClosingRefIdeal.main_arg0) = m' ((c.tc : Thread Cert.ClosingRefIdeal.nD Cert.ClosingRefIdeal.τ).loc Cert.ClosingRefIdeal.main_arg0)
          ∧ r.2.mem ((c.tc : Thread Cert.ClosingRefIdeal.nD Cert.ClosingRefIdeal.τ).loc Cert.ClosingRefIdeal.main_arg1) = m' ((c.tc : Thread Cert.ClosingRefIdeal.nD Cert.ClosingRefIdeal.τ).loc Cert.ClosingRefIdeal.main_arg1)
          ∧ r.2.mem ((c.tc : Thread Cert.ClosingRefIdeal.nD Cert.ClosingRefIdeal.τ).loc Cert.ClosingRefIdeal.main_arg2) = m' ((c.tc : Thread Cert.ClosingRefIdeal.nD Cert.ClosingRefIdeal.τ).loc Cert.ClosingRefIdeal.main_arg2)
          ∧ r.2.mem ((c.tc : Thread Cert.ClosingRefIdeal.nD Cert.ClosingRefIdeal.τ).loc Cert.ClosingRefIdeal.main_arg3) = m' ((c.tc : Thread Cert.ClosingRefIdeal.nD Cert.ClosingRefIdeal.τ).loc Cert.ClosingRefIdeal.main_arg3)
          ∧ r.2.mem ((c.tc : Thread Cert.ClosingRefIdeal.nD Cert.ClosingRefIdeal.τ).loc Cert.ClosingRefIdeal.main_arg4) = m' ((c.tc : Thread Cert.ClosingRefIdeal.nD Cert.ClosingRefIdeal.τ).loc Cert.ClosingRefIdeal.main_arg4)
          ∧ r.2.mem ((c.tc : Thread Cert.ClosingRefIdeal.nD Cert.ClosingRefIdeal.τ).loc Cert.ClosingRefIdeal.main_arg5) = m' ((c.tc : Thread Cert.ClosingRefIdeal.nD Cert.ClosingRefIdeal.τ).loc Cert.ClosingRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_ProjectQ_ProjectQIdeal : Prop :=
  True

def algebraic_ProjectQIdeal_ProjectQRefIdeal [hProjectQIdeal : Cert.ProjectQIdeal.Facts] [hProjectQRefIdeal : Cert.ProjectQRefIdeal.Facts] : Prop :=
  ∀ (m : (ℓ : Loc Cert.ProjectQIdeal.nD Cert.ProjectQIdeal.τ Cert.ProjectQIdeal.sig) → Buf (Elt Ideal) ℓ) (g : Dev Cert.ProjectQIdeal.nD → PrngReg)
    (m' : (ℓ : Loc Cert.ProjectQRefIdeal.nD Cert.ProjectQRefIdeal.τ Cert.ProjectQRefIdeal.sig) → Buf (Elt Ideal) ℓ) (g' : Dev Cert.ProjectQRefIdeal.nD → PrngReg), Pre_ProjectQIdeal m →
    (∀ c : Dev Cert.ProjectQIdeal.nD,
      m' ((c.tc : Thread Cert.ProjectQRefIdeal.nD Cert.ProjectQRefIdeal.τ).loc Cert.ProjectQRefIdeal.main_arg0) = m ((c.tc : Thread Cert.ProjectQIdeal.nD Cert.ProjectQIdeal.τ).loc Cert.ProjectQIdeal.main_arg0)
      ∧ m' ((c.tc : Thread Cert.ProjectQRefIdeal.nD Cert.ProjectQRefIdeal.τ).loc Cert.ProjectQRefIdeal.main_arg1) = m ((c.tc : Thread Cert.ProjectQIdeal.nD Cert.ProjectQIdeal.τ).loc Cert.ProjectQIdeal.main_arg1)
      ∧ m' ((c.tc : Thread Cert.ProjectQRefIdeal.nD Cert.ProjectQRefIdeal.τ).loc Cert.ProjectQRefIdeal.main_arg2) = m ((c.tc : Thread Cert.ProjectQIdeal.nD Cert.ProjectQIdeal.τ).loc Cert.ProjectQIdeal.main_arg2)
      ∧ m' ((c.tc : Thread Cert.ProjectQRefIdeal.nD Cert.ProjectQRefIdeal.τ).loc Cert.ProjectQRefIdeal.main_arg3) = m ((c.tc : Thread Cert.ProjectQIdeal.nD Cert.ProjectQIdeal.τ).loc Cert.ProjectQIdeal.main_arg3)
      ∧ m' ((c.tc : Thread Cert.ProjectQRefIdeal.nD Cert.ProjectQRefIdeal.τ).loc Cert.ProjectQRefIdeal.main_arg4) = m ((c.tc : Thread Cert.ProjectQIdeal.nD Cert.ProjectQIdeal.τ).loc Cert.ProjectQIdeal.main_arg4)
      ∧ m' ((c.tc : Thread Cert.ProjectQRefIdeal.nD Cert.ProjectQRefIdeal.τ).loc Cert.ProjectQRefIdeal.main_arg5) = m ((c.tc : Thread Cert.ProjectQIdeal.nD Cert.ProjectQIdeal.τ).loc Cert.ProjectQIdeal.main_arg5)
      ∧ m' ((c.tc : Thread Cert.ProjectQRefIdeal.nD Cert.ProjectQRefIdeal.τ).loc Cert.ProjectQRefIdeal.main_arg6) = m ((c.tc : Thread Cert.ProjectQIdeal.nD Cert.ProjectQIdeal.τ).loc Cert.ProjectQIdeal.main_arg6)
      ∧ m' ((c.tc : Thread Cert.ProjectQRefIdeal.nD Cert.ProjectQRefIdeal.τ).loc Cert.ProjectQRefIdeal.main_arg7) = m ((c.tc : Thread Cert.ProjectQIdeal.nD Cert.ProjectQIdeal.τ).loc Cert.ProjectQIdeal.main_arg7)) →
    ∃ (v0 : (c : Dev Cert.ProjectQIdeal.nD) → Buf (Elt Ideal) ((c.tc : Thread Cert.ProjectQIdeal.nD Cert.ProjectQIdeal.τ).loc Cert.ProjectQIdeal.main_v0)),
      θ_run (Cert.ProjectQIdeal.defs (F := Ideal)) (onTc (τ := Cert.ProjectQIdeal.τ) (Cert.ProjectQIdeal.main (F := Ideal))) ⟨m, fun _ => 0, g⟩ (fun r => ∀ c : Dev Cert.ProjectQIdeal.nD,
          r.2.mem ((c.tc : Thread Cert.ProjectQIdeal.nD Cert.ProjectQIdeal.τ).loc Cert.ProjectQIdeal.main_v0) = v0 c
          ∧ r.2.mem ((c.tc : Thread Cert.ProjectQIdeal.nD Cert.ProjectQIdeal.τ).loc Cert.ProjectQIdeal.main_arg0) = m ((c.tc : Thread Cert.ProjectQIdeal.nD Cert.ProjectQIdeal.τ).loc Cert.ProjectQIdeal.main_arg0)
          ∧ r.2.mem ((c.tc : Thread Cert.ProjectQIdeal.nD Cert.ProjectQIdeal.τ).loc Cert.ProjectQIdeal.main_arg1) = m ((c.tc : Thread Cert.ProjectQIdeal.nD Cert.ProjectQIdeal.τ).loc Cert.ProjectQIdeal.main_arg1)
          ∧ r.2.mem ((c.tc : Thread Cert.ProjectQIdeal.nD Cert.ProjectQIdeal.τ).loc Cert.ProjectQIdeal.main_arg2) = m ((c.tc : Thread Cert.ProjectQIdeal.nD Cert.ProjectQIdeal.τ).loc Cert.ProjectQIdeal.main_arg2)
          ∧ r.2.mem ((c.tc : Thread Cert.ProjectQIdeal.nD Cert.ProjectQIdeal.τ).loc Cert.ProjectQIdeal.main_arg3) = m ((c.tc : Thread Cert.ProjectQIdeal.nD Cert.ProjectQIdeal.τ).loc Cert.ProjectQIdeal.main_arg3)
          ∧ r.2.mem ((c.tc : Thread Cert.ProjectQIdeal.nD Cert.ProjectQIdeal.τ).loc Cert.ProjectQIdeal.main_arg4) = m ((c.tc : Thread Cert.ProjectQIdeal.nD Cert.ProjectQIdeal.τ).loc Cert.ProjectQIdeal.main_arg4)
          ∧ r.2.mem ((c.tc : Thread Cert.ProjectQIdeal.nD Cert.ProjectQIdeal.τ).loc Cert.ProjectQIdeal.main_arg5) = m ((c.tc : Thread Cert.ProjectQIdeal.nD Cert.ProjectQIdeal.τ).loc Cert.ProjectQIdeal.main_arg5)
          ∧ r.2.mem ((c.tc : Thread Cert.ProjectQIdeal.nD Cert.ProjectQIdeal.τ).loc Cert.ProjectQIdeal.main_arg6) = m ((c.tc : Thread Cert.ProjectQIdeal.nD Cert.ProjectQIdeal.τ).loc Cert.ProjectQIdeal.main_arg6)
          ∧ r.2.mem ((c.tc : Thread Cert.ProjectQIdeal.nD Cert.ProjectQIdeal.τ).loc Cert.ProjectQIdeal.main_arg7) = m ((c.tc : Thread Cert.ProjectQIdeal.nD Cert.ProjectQIdeal.τ).loc Cert.ProjectQIdeal.main_arg7))
      ∧ θ_run (Cert.ProjectQRefIdeal.defs (F := Ideal)) (onTc (τ := Cert.ProjectQRefIdeal.τ) (Cert.ProjectQRefIdeal.main (F := Ideal))) ⟨m', fun _ => 0, g'⟩ (fun r => ∀ c : Dev Cert.ProjectQRefIdeal.nD,
          r.2.mem ((c.tc : Thread Cert.ProjectQRefIdeal.nD Cert.ProjectQRefIdeal.τ).loc Cert.ProjectQRefIdeal.main_v0) = v0 c
          ∧ r.2.mem ((c.tc : Thread Cert.ProjectQRefIdeal.nD Cert.ProjectQRefIdeal.τ).loc Cert.ProjectQRefIdeal.main_arg0) = m' ((c.tc : Thread Cert.ProjectQRefIdeal.nD Cert.ProjectQRefIdeal.τ).loc Cert.ProjectQRefIdeal.main_arg0)
          ∧ r.2.mem ((c.tc : Thread Cert.ProjectQRefIdeal.nD Cert.ProjectQRefIdeal.τ).loc Cert.ProjectQRefIdeal.main_arg1) = m' ((c.tc : Thread Cert.ProjectQRefIdeal.nD Cert.ProjectQRefIdeal.τ).loc Cert.ProjectQRefIdeal.main_arg1)
          ∧ r.2.mem ((c.tc : Thread Cert.ProjectQRefIdeal.nD Cert.ProjectQRefIdeal.τ).loc Cert.ProjectQRefIdeal.main_arg2) = m' ((c.tc : Thread Cert.ProjectQRefIdeal.nD Cert.ProjectQRefIdeal.τ).loc Cert.ProjectQRefIdeal.main_arg2)
          ∧ r.2.mem ((c.tc : Thread Cert.ProjectQRefIdeal.nD Cert.ProjectQRefIdeal.τ).loc Cert.ProjectQRefIdeal.main_arg3) = m' ((c.tc : Thread Cert.ProjectQRefIdeal.nD Cert.ProjectQRefIdeal.τ).loc Cert.ProjectQRefIdeal.main_arg3)
          ∧ r.2.mem ((c.tc : Thread Cert.ProjectQRefIdeal.nD Cert.ProjectQRefIdeal.τ).loc Cert.ProjectQRefIdeal.main_arg4) = m' ((c.tc : Thread Cert.ProjectQRefIdeal.nD Cert.ProjectQRefIdeal.τ).loc Cert.ProjectQRefIdeal.main_arg4)
          ∧ r.2.mem ((c.tc : Thread Cert.ProjectQRefIdeal.nD Cert.ProjectQRefIdeal.τ).loc Cert.ProjectQRefIdeal.main_arg5) = m' ((c.tc : Thread Cert.ProjectQRefIdeal.nD Cert.ProjectQRefIdeal.τ).loc Cert.ProjectQRefIdeal.main_arg5)
          ∧ r.2.mem ((c.tc : Thread Cert.ProjectQRefIdeal.nD Cert.ProjectQRefIdeal.τ).loc Cert.ProjectQRefIdeal.main_arg6) = m' ((c.tc : Thread Cert.ProjectQRefIdeal.nD Cert.ProjectQRefIdeal.τ).loc Cert.ProjectQRefIdeal.main_arg6)
          ∧ r.2.mem ((c.tc : Thread Cert.ProjectQRefIdeal.nD Cert.ProjectQRefIdeal.τ).loc Cert.ProjectQRefIdeal.main_arg7) = m' ((c.tc : Thread Cert.ProjectQRefIdeal.nD Cert.ProjectQRefIdeal.τ).loc Cert.ProjectQRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def Claim : Prop :=
  ∃ (hClosing : Cert.Closing.Facts) (hClosingIdeal : Cert.ClosingIdeal.Facts) (hClosingRefIdeal : Cert.ClosingRefIdeal.Facts) (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hProjectQ : Cert.ProjectQ.Facts) (hProjectQIdeal : Cert.ProjectQIdeal.Facts) (hProjectQRefIdeal : Cert.ProjectQRefIdeal.Facts) (hNorm : Cert.Norm.Facts) (hNormIdeal : Cert.NormIdeal.Facts) (hNormRefIdeal : Cert.NormRefIdeal.Facts),
    quiescent_Closing (hClosing := hClosing)
    ∧ quiescent_ClosingIdeal (hClosingIdeal := hClosingIdeal)
    ∧ quiescent_ClosingRefIdeal (hClosingRefIdeal := hClosingRefIdeal)
    ∧ quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_ProjectQ (hProjectQ := hProjectQ)
    ∧ quiescent_ProjectQIdeal (hProjectQIdeal := hProjectQIdeal)
    ∧ quiescent_ProjectQRefIdeal (hProjectQRefIdeal := hProjectQRefIdeal)
    ∧ quiescent_Norm (hNorm := hNorm)
    ∧ quiescent_NormIdeal (hNormIdeal := hNormIdeal)
    ∧ quiescent_NormRefIdeal (hNormRefIdeal := hNormRefIdeal)
    ∧ preserves_Closing_ClosingIdeal
    ∧ algebraic_ClosingIdeal_ClosingRefIdeal (hClosingIdeal := hClosingIdeal) (hClosingRefIdeal := hClosingRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_ProjectQ_ProjectQIdeal
    ∧ algebraic_ProjectQIdeal_ProjectQRefIdeal (hProjectQIdeal := hProjectQIdeal) (hProjectQRefIdeal := hProjectQRefIdeal)
    ∧ preserves_Norm_NormIdeal
    ∧ algebraic_NormIdeal_NormRefIdeal (hNormIdeal := hNormIdeal) (hNormRefIdeal := hNormRefIdeal)
-- ==== Closing.lean ====
abbrev S8192x3584 : Shape := ⟨2, ![8192, 3584]⟩
abbrev S8192x1 : Shape := ⟨2, ![8192, 1]⟩
abbrev S3584x3584 : Shape := ⟨2, ![3584, 3584]⟩
abbrev S1x3584 : Shape := ⟨2, ![1, 3584]⟩
abbrev S256x3584 : Shape := ⟨2, ![256, 3584]⟩
abbrev S256x1 : Shape := ⟨2, ![256, 1]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x1, .f32⟩
  | .hbm, ⟨2, _⟩ => ⟨S3584x3584, .fp8e4m3⟩
  | .hbm, ⟨3, _⟩ => ⟨S1x3584, .f32⟩
  | .hbm, ⟨4, _⟩ => ⟨S8192x3584, .bf16⟩
  | .hbm, ⟨5, _⟩ => ⟨S1x3584, .f32⟩
  | .hbm, ⟨6, _⟩ => ⟨S8192x3584, .bf16⟩
  | .hbm, ⟨7, _⟩ => ⟨S8192x3584, .fp8e4m3⟩
  | .hbm, ⟨8, _⟩ => ⟨S8192x1, .f32⟩
  | .local _ .vmem, ⟨0, _⟩ => ⟨S256x3584, .fp8e4m3⟩
  | .local _ .vmem, ⟨1, _⟩ => ⟨S256x3584, .fp8e4m3⟩
  | .local _ .vmem, ⟨2, _⟩ => ⟨S256x1, .f32⟩
  | .local _ .vmem, ⟨3, _⟩ => ⟨S256x1, .f32⟩
  | .local _ .vmem, ⟨4, _⟩ => ⟨S3584x3584, .fp8e4m3⟩
  | .local _ .vmem, ⟨5, _⟩ => ⟨S1x3584, .f32⟩
  | .local _ .vmem, ⟨6, _⟩ => ⟨S256x3584, .bf16⟩
  | .local _ .vmem, ⟨7, _⟩ => ⟨S256x3584, .bf16⟩
  | .local _ .vmem, ⟨8, _⟩ => ⟨S1x3584, .f32⟩
  | .local _ .vmem, ⟨9, _⟩ => ⟨S256x3584, .bf16⟩
  | .local _ .vmem, ⟨10, _⟩ => ⟨S256x3584, .bf16⟩
  | .local _ .vmem, ⟨11, _⟩ => ⟨S256x3584, .fp8e4m3⟩
  | .local _ .vmem, ⟨12, _⟩ => ⟨S256x3584, .fp8e4m3⟩
  | .local _ .vmem, ⟨13, _⟩ => ⟨S256x1, .f32⟩
  | .local _ .vmem, ⟨14, _⟩ => ⟨S256x1, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ClosingRefIdeal.lean ====
abbrev S8192x3584 : Shape := ⟨2, ![8192, 3584]⟩
abbrev S8192x1 : Shape := ⟨2, ![8192, 1]⟩
abbrev S3584x3584 : Shape := ⟨2, ![3584, 3584]⟩
abbrev S1x3584 : Shape := ⟨2, ![1, 3584]⟩
abbrev S8192 : Shape := ⟨1, ![8192]⟩

abbrev nBuf : Space → Nat
  | .hbm => 9
  | .vmem => 9
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x1, .f32⟩
  | .hbm, ⟨2, _⟩ => ⟨S3584x3584, .fp8e4m3⟩
  | .hbm, ⟨3, _⟩ => ⟨S1x3584, .f32⟩
  | .hbm, ⟨4, _⟩ => ⟨S8192x3584, .bf16⟩
  | .hbm, ⟨5, _⟩ => ⟨S1x3584, .f32⟩
  | .hbm, ⟨6, _⟩ => ⟨S8192x3584, .bf16⟩
  | .hbm, ⟨7, _⟩ => ⟨S8192x3584, .fp8e4m3⟩
  | .hbm, ⟨8, _⟩ => ⟨S8192x1, .f32⟩
  | .local _ .vmem, ⟨0, _⟩ => ⟨S8192x3584, .fp8e4m3⟩
  | .local _ .vmem, ⟨1, _⟩ => ⟨S8192x1, .f32⟩
  | .local _ .vmem, ⟨2, _⟩ => ⟨S3584x3584, .fp8e4m3⟩
  | .local _ .vmem, ⟨3, _⟩ => ⟨S1x3584, .f32⟩
  | .local _ .vmem, ⟨4, _⟩ => ⟨S8192x3584, .bf16⟩
  | .local _ .vmem, ⟨5, _⟩ => ⟨S1x3584, .f32⟩
  | .local _ .vmem, ⟨6, _⟩ => ⟨S8192x3584, .bf16⟩
  | .local _ .vmem, ⟨7, _⟩ => ⟨S8192x3584, .fp8e4m3⟩
  | .local _ .vmem, ⟨8, _⟩ => ⟨S8192x1, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S8192x10752 : Shape := ⟨2, ![8192, 10752]⟩
abbrev S8192x1 : Shape := ⟨2, ![8192, 1]⟩
abbrev S5376x3584 : Shape := ⟨2, ![5376, 3584]⟩
abbrev S84x3584 : Shape := ⟨2, ![84, 3584]⟩
abbrev S8192x3584 : Shape := ⟨2, ![8192, 3584]⟩
abbrev S512x10752 : Shape := ⟨2, ![512, 10752]⟩
abbrev S512x1 : Shape := ⟨2, ![512, 1]⟩
abbrev S5376x512 : Shape := ⟨2, ![5376, 512]⟩
abbrev S84x512 : Shape := ⟨2, ![84, 512]⟩
abbrev S512x3584 : Shape := ⟨2, ![512, 3584]⟩
abbrev S10752x512 : Shape := ⟨2, ![10752, 512]⟩
abbrev S7x512x512 : Shape := ⟨3, ![7, 512, 512]⟩
abbrev S512x128 : Shape := ⟨2, ![512, 128]⟩
abbrev S128x512 : Shape := ⟨2, ![128, 512]⟩
abbrev S32x512 : Shape := ⟨2, ![32, 512]⟩
abbrev S1x512 : Shape := ⟨2, ![1, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 6
  | .vmem => 15
  | .smem => 0
  | _ => 0

abbrev bufTy : (tb : Table) → Fin (tcTables nBuf tb) → BufTy
  | .hbm, ⟨0, _⟩ => ⟨S8192x10752, .fp8e4m3⟩
  | .hbm, ⟨1, _⟩ => ⟨S8192x1, .f32⟩
  | .hbm, ⟨2, _⟩ => ⟨S5376x3584, .i8⟩
  | .hbm, ⟨3, _⟩ => ⟨S84x3584, .f32⟩
  | .hbm, ⟨4, _⟩ => ⟨S8192x3584, .fp8e4m3⟩
  | .hbm, ⟨5, _⟩ => ⟨S8192x1, .f32⟩
  | .local _ .vmem, ⟨0, _⟩ => ⟨S512x10752, .fp8e4m3⟩
  | .local _ .vmem, ⟨1, _⟩ => ⟨S512x10752, .fp8e4m3⟩
  | .local _ .vmem, ⟨2, _⟩ => ⟨S512x1, .f32⟩
  | .local _ .vmem, ⟨3, _⟩ => ⟨S512x1, .f32⟩
  | .local _ .vmem, ⟨4, _⟩ => ⟨S5376x512, .i8⟩
  | .local _ .vmem, ⟨5, _⟩ => ⟨S5376x512, .i8⟩
  | .local _ .vmem, ⟨6, _⟩ => ⟨S84x512, .f32⟩
  | .local _ .vmem, ⟨7, _⟩ => ⟨S84x512, .f32⟩
  | .local _ .vmem, ⟨8, _⟩ => ⟨S512x3584, .fp8e4m3⟩
  | .local _ .vmem, ⟨9, _⟩ => ⟨S512x3584, .fp8e4m3⟩
  | .local _ .vmem, ⟨10, _⟩ => ⟨S512x1, .f32⟩
  | .local _ .vmem, ⟨11, _⟩ => ⟨S512x1, .f32⟩
  | .local _ .vmem, ⟨12, _⟩ => ⟨S10752x512, .bf16⟩
  | .local _ .vmem, ⟨13, _⟩ => ⟨S7x512x512, .f32⟩
  | .local _ .vmem, ⟨14, _⟩ => ⟨S512x128, .f32⟩
  | _, _ => ⟨S8192x10752, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 7], ![false, false]⟩

@[reducible] def k0_t1_loop : Scf.Loop 32 :=
  let c0_i32_1 : BitVec 32 := 0#32
  let c42_i32 : BitVec 32 := 42#32
  let v3 : BitVec 32 := Scalar.addi c0_i32_1 c42_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c128_i32 : BitVec 32 := 128#32
  let v37 : BitVec 32 := Scalar.muli arg11 c128_i32
  v37
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v37 : BitVec 32 := Scalar.muli arg11 c128_i32
  let v38 : BitVec 32 := v37
  let v39 : Index := Scalar.indexCast v38
  let c0_20 : Index := 0#32
  ![v39.toNat, 0]
def k0_off2 (k0_t1 : Fin k0_t1_loop.trips) : Fin 2 → Nat :=
  let c0_i32_21 : BitVec 32 := 0#32
  let c0_i32_1 : BitVec 32 := 0#32
  let c1_i32 : BitVec 32 := 1#32
  let arg11 : BitVec 32 := Scf.iv c0_i32_1 c1_i32 k0_t1
  let v48 : BitVec 32 := Scalar.addi c0_i32_21 arg11
  let v49 : Index := Scalar.indexCast v48
  let c0_22 : Index := 0#32
  ![v49.toNat, 0]
def k0_mult2 (k0_t1 : Fin k0_t1_loop.trips) : BitVec 32 :=
  let c0_i32_23 : BitVec 32 := 0#32
  let c0_i32_1 : BitVec 32 := 0#32
  let c1_i32 : BitVec 32 := 1#32
  let arg11 : BitVec 32 := Scf.iv c0_i32_1 c1_i32 k0_t1
  let v52 : BitVec 32 := Scalar.addi c0_i32_23 arg11
  let c128_i32_24 : BitVec 32 := 128#32
  let v53 : BitVec 32 := Scalar.muli v52 c128_i32_24
  v53
def k0_off3 (k0_t1 : Fin k0_t1_loop.trips) : Fin 2 → Nat :=
  let c0_i32_23 : BitVec 32 := 0#32
  let c0_i32_1 : BitVec 32 := 0#32
  let c1_i32 : BitVec 32 := 1#32
  let arg11 : BitVec 32 := Scf.iv c0_i32_1 c1_i32 k0_t1
  let v52 : BitVec 32 := Scalar.addi c0_i32_23 arg11
  let c128_i32_24 : BitVec 32 := 128#32
  let v53 : BitVec 32 := Scalar.muli v52 c128_i32_24
  let v54 : BitVec 32 := v53
  let v57 : Index := Scalar.indexCast v54
  let c0_25 : Index := 0#32
  ![v57.toNat, 0]
@[reducible] def k0_t2_loop : Scf.Loop 32 :=
  let c0_i32_3 : BitVec 32 := 0#32
  let c42_i32_4 : BitVec 32 := 42#32
  let v4 : BitVec 32 := Scalar.addi c0_i32_3 c42_i32_4
  let c1_i32_5 : BitVec 32 := 1#32
  ⟨c0_i32_3, v4, c1_i32_5⟩
def k0_mult3 (k0_t2 : Fin k0_t2_loop.trips) : BitVec 32 :=
  let c0_i32_3 : BitVec 32 := 0#32
  let c1_i32_5 : BitVec 32 := 1#32
  let arg11 : BitVec 32 := Scf.iv c0_i32_3 c1_i32_5 k0_t2
  let c128_i32 : BitVec 32 := 128#32
  let v37 : BitVec 32 := Scalar.muli arg11 c128_i32
  v37
def k0_off4 (k0_t2 : Fin k0_t2_loop.trips) : Fin 2 → Nat :=
  let c0_i32_3 : BitVec 32 := 0#32
  let c1_i32_5 : BitVec 32 := 1#32
  let arg11 : BitVec 32 := Scf.iv c0_i32_3 c1_i32_5 k0_t2
  let c128_i32 : BitVec 32 := 128#32
  let v37 : BitVec 32 := Scalar.muli arg11 c128_i32
  let v38 : BitVec 32 := v37
  let v39 : Index := Scalar.indexCast v38
  let c0_20 : Index := 0#32
  ![v39.toNat, 0]
def k0_off5 (k0_t2 : Fin k0_t2_loop.trips) : Fin 2 → Nat :=
  let c42_i32_21 : BitVec 32 := 42#32
  let c0_i32_3 : BitVec 32 := 0#32
  let c1_i32_5 : BitVec 32 := 1#32
  let arg11 : BitVec 32 := Scf.iv c0_i32_3 c1_i32_5 k0_t2
  let v46 : BitVec 32 := Scalar.addi c42_i32_21 arg11
  let v47 : Index := Scalar.indexCast v46
  let c0_22 : Index := 0#32
  ![v47.toNat, 0]
def k0_mult4 (k0_t2 : Fin k0_t2_loop.trips) : BitVec 32 :=
  let c42_i32_23 : BitVec 32 := 42#32
  let c0_i32_3 : BitVec 32 := 0#32
  let c1_i32_5 : BitVec 32 := 1#32
  let arg11 : BitVec 32 := Scf.iv c0_i32_3 c1_i32_5 k0_t2
  let v50 : BitVec 32 := Scalar.addi c42_i32_23 arg11
  let c128_i32_24 : BitVec 32 := 128#32
  let v51 : BitVec 32 := Scalar.muli v50 c128_i32_24
  v51
def k0_off6 (k0_t2 : Fin k0_t2_loop.trips) : Fin 2 → Nat :=
  let c42_i32_23 : BitVec 32 := 42#32
  let c0_i32_3 : BitVec 32 := 0#32
  let c1_i32_5 : BitVec 32 := 1#32
  let arg11 : BitVec 32 := Scf.iv c0_i32_3 c1_i32_5 k0_t2
  let v50 : BitVec 32 := Scalar.addi c42_i32_23 arg11
  let c128_i32_24 : BitVec 32 := 128#32
  let v51 : BitVec 32 := Scalar.muli v50 c128_i32_24
  let v52 : BitVec 32 := v51
  let v55 : Index := Scalar.indexCast v52
  let c0_25 : Index := 0#32
  ![v55.toNat, 0]
def k0_off7 (i : grid0.Coords) : Fin 3 → Nat :=
  let arg1 : BitVec 32 := BitVec.ofNat 32 (i 1).val
  let v14 : Index := Scalar.indexCast arg1
  let c0_13 : Index := 0#32
  let c0_14 : Index := 0#32
  ![v14.toNat, 0, 0]
def k0_cond2 (i : grid0.Coords) : BitVec 1 :=
  let arg1 : BitVec 32 := BitVec.ofNat 32 (i 1).val
  let c6_i32 : BitVec 32 := 6#32
  let v34 : BitVec 1 := Scalar.cmpi .eq arg1 c6_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x10752 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5376x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S84x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S8192x10752 : Shape := ⟨2, ![8192, 10752]⟩
abbrev S8192x1 : Shape := ⟨2, ![8192, 1]⟩
abbrev S5376x3584 : Shape := ⟨2, ![5376, 3584]⟩
abbrev S84x3584 : Shape := ⟨2, ![84, 3584]⟩
abbrev S8192x3584 : Shape := ⟨2, ![8192, 3584]⟩
abbrev S42x3584 : Shape := ⟨2, ![42, 3584]⟩
abbrev S42x1x3584 : Shape := ⟨3, ![42, 1, 3584]⟩
abbrev S42x128x3584 : Shape := ⟨3, ![42, 128, 3584]⟩
abbrev S8192x5376 : Shape := ⟨2, ![8192, 5376]⟩
abbrev S8192 : Shape := ⟨1, ![8192]⟩

abbrev nBuf : Space → Nat
  | .hbm => 6
  | .vmem => 6
  | .smem => 0
  | _ => 0

abbrev bufTy : (tb : Table) → Fin (tcTables nBuf tb) → BufTy
  | .hbm, ⟨0, _⟩ => ⟨S8192x10752, .fp8e4m3⟩
  | .hbm, ⟨1, _⟩ => ⟨S8192x1, .f32⟩
  | .hbm, ⟨2, _⟩ => ⟨S5376x3584, .i8⟩
  | .hbm, ⟨3, _⟩ => ⟨S84x3584, .f32⟩
  | .hbm, ⟨4, _⟩ => ⟨S8192x3584, .fp8e4m3⟩
  | .hbm, ⟨5, _⟩ => ⟨S8192x1, .f32⟩
  | .local _ .vmem, ⟨0, _⟩ => ⟨S8192x10752, .fp8e4m3⟩
  | .local _ .vmem, ⟨1, _⟩ => ⟨S8192x1, .f32⟩
  | .local _ .vmem, ⟨2, _⟩ => ⟨S5376x3584, .i8⟩
  | .local _ .vmem, ⟨3, _⟩ => ⟨S84x3584, .f32⟩
  | .local _ .vmem, ⟨4, _⟩ => ⟨S8192x3584, .fp8e4m3⟩
  | .local _ .vmem, ⟨5, _⟩ => ⟨S8192x1, .f32⟩
  | _, _ => ⟨S8192x10752, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x10752 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S84x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S8192x3584 : Shape := ⟨2, ![8192, 3584]⟩
abbrev S8192x1 : Shape := ⟨2, ![8192, 1]⟩
abbrev S1792x21504 : Shape := ⟨2, ![1792, 21504]⟩
abbrev S28x21504 : Shape := ⟨2, ![28, 21504]⟩
abbrev S8192x128 : Shape := ⟨2, ![8192, 128]⟩
abbrev S128x21504 : Shape := ⟨2, ![128, 21504]⟩
abbrev S8192x10752 : Shape := ⟨2, ![8192, 10752]⟩
abbrev S512x3584 : Shape := ⟨2, ![512, 3584]⟩
abbrev S512x1 : Shape := ⟨2, ![512, 1]⟩
abbrev S1792x512 : Shape := ⟨2, ![1792, 512]⟩
abbrev S28x512 : Shape := ⟨2, ![28, 512]⟩
abbrev S512x128 : Shape := ⟨2, ![512, 128]⟩
abbrev S128x512 : Shape := ⟨2, ![128, 512]⟩
abbrev S512x10752 : Shape := ⟨2, ![512, 10752]⟩
abbrev S2x3584x512 : Shape := ⟨3, ![2, 3584, 512]⟩
abbrev S21x512x512 : Shape := ⟨3, ![21, 512, 512]⟩
abbrev S32x512 : Shape := ⟨2, ![32, 512]⟩
abbrev S1x512 : Shape := ⟨2, ![1, 512]⟩
abbrev S1x3584x512 : Shape := ⟨3, ![1, 3584, 512]⟩
abbrev S3584x512 : Shape := ⟨2, ![3584, 512]⟩
abbrev S1x128x512 : Shape := ⟨3, ![1, 128, 512]⟩
abbrev S512x512 : Shape := ⟨2, ![512, 512]⟩
abbrev S1x512x512 : Shape := ⟨3, ![1, 512, 512]⟩
abbrev S512 : Shape := ⟨1, ![512]⟩

abbrev nBuf : Space → Nat
  | .hbm => 8
  | .vmem => 26
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x1, .f32⟩
  | .hbm, ⟨2, _⟩ => ⟨S1792x21504, .i8⟩
  | .hbm, ⟨3, _⟩ => ⟨S28x21504, .f32⟩
  | .hbm, ⟨4, _⟩ => ⟨S8192x128, .bf16⟩
  | .hbm, ⟨5, _⟩ => ⟨S128x21504, .bf16⟩
  | .hbm, ⟨6, _⟩ => ⟨S8192x10752, .fp8e4m3⟩
  | .hbm, ⟨7, _⟩ => ⟨S8192x1, .f32⟩
  | .local _ .vmem, ⟨0, _⟩ => ⟨S512x3584, .fp8e4m3⟩
  | .local _ .vmem, ⟨1, _⟩ => ⟨S512x3584, .fp8e4m3⟩
  | .local _ .vmem, ⟨2, _⟩ => ⟨S512x1, .f32⟩
  | .local _ .vmem, ⟨3, _⟩ => ⟨S512x1, .f32⟩
  | .local _ .vmem, ⟨4, _⟩ => ⟨S1792x512, .i8⟩
  | .local _ .vmem, ⟨5, _⟩ => ⟨S1792x512, .i8⟩
  | .local _ .vmem, ⟨6, _⟩ => ⟨S1792x512, .i8⟩
  | .local _ .vmem, ⟨7, _⟩ => ⟨S1792x512, .i8⟩
  | .local _ .vmem, ⟨8, _⟩ => ⟨S28x512, .f32⟩
  | .local _ .vmem, ⟨9, _⟩ => ⟨S28x512, .f32⟩
  | .local _ .vmem, ⟨10, _⟩ => ⟨S28x512, .f32⟩
  | .local _ .vmem, ⟨11, _⟩ => ⟨S28x512, .f32⟩
  | .local _ .vmem, ⟨12, _⟩ => ⟨S512x128, .bf16⟩
  | .local _ .vmem, ⟨13, _⟩ => ⟨S512x128, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S512x10752, .fp8e4m3⟩
  | .local _ .vmem, ⟨19, _⟩ => ⟨S512x10752, .fp8e4m3⟩
  | .local _ .vmem, ⟨20, _⟩ => ⟨S512x1, .f32⟩
  | .local _ .vmem, ⟨21, _⟩ => ⟨S512x1, .f32⟩
  | .local _ .vmem, ⟨22, _⟩ => ⟨S512x3584, .bf16⟩
  | .local _ .vmem, ⟨23, _⟩ => ⟨S2x3584x512, .bf16⟩
  | .local _ .vmem, ⟨24, _⟩ => ⟨S21x512x512, .f32⟩
  | .local _ .vmem, ⟨25, _⟩ => ⟨S512x128, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 21], ![false, false]⟩

@[reducible] def k0_t1_loop : Scf.Loop 32 :=
  let c0_i32_2 : BitVec 32 := 0#32
  let c14_i32 : BitVec 32 := 14#32
  let v3 : BitVec 32 := Scalar.addi c0_i32_2 c14_i32
  let c1_i32 : BitVec 32 := 1#32
  ⟨c0_i32_2, v3, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c128_i32 : BitVec 32 := 128#32
  let v61 : BitVec 32 := Scalar.muli arg17 c128_i32
  v61
def k0_off1 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let c128_i32 : BitVec 32 := 128#32
  let v61 : BitVec 32 := Scalar.muli arg17 c128_i32
  let v62 : BitVec 32 := v61
  let v63 : Index := Scalar.indexCast v62
  let c0_49 : Index := 0#32
  ![v63.toNat, 0]
def k0_off2 (k0_t1 : Fin k0_t1_loop.trips) : Fin 2 → Nat :=
  let c0_i32_50 : BitVec 32 := 0#32
  let c0_i32_2 : BitVec 32 := 0#32
  let c1_i32 : BitVec 32 := 1#32
  let arg17 : BitVec 32 := Scf.iv c0_i32_2 c1_i32 k0_t1
  let v72 : BitVec 32 := Scalar.addi c0_i32_50 arg17
  let v73 : Index := Scalar.indexCast v72
  let c0_51 : Index := 0#32
  ![v73.toNat, 0]
def k0_mult2 (k0_t1 : Fin k0_t1_loop.trips) : BitVec 32 :=
  let c0_i32_52 : BitVec 32 := 0#32
  let c0_i32_2 : BitVec 32 := 0#32
  let c1_i32 : BitVec 32 := 1#32
  let arg17 : BitVec 32 := Scf.iv c0_i32_2 c1_i32 k0_t1
  let v76 : BitVec 32 := Scalar.addi c0_i32_52 arg17
  let c128_i32_53 : BitVec 32 := 128#32
  let v77 : BitVec 32 := Scalar.muli v76 c128_i32_53
  v77
def k0_off3 (k0_t1 : Fin k0_t1_loop.trips) : Fin 2 → Nat :=
  let c0_i32_52 : BitVec 32 := 0#32
  let c0_i32_2 : BitVec 32 := 0#32
  let c1_i32 : BitVec 32 := 1#32
  let arg17 : BitVec 32 := Scf.iv c0_i32_2 c1_i32 k0_t1
  let v76 : BitVec 32 := Scalar.addi c0_i32_52 arg17
  let c128_i32_53 : BitVec 32 := 128#32
  let v77 : BitVec 32 := Scalar.muli v76 c128_i32_53
  let v78 : BitVec 32 := v77
  let v83 : Index := Scalar.indexCast v78
  let c0_56 : Index := 0#32
  ![v83.toNat, 0]
def k0_off4 (k0_t1 : Fin k0_t1_loop.trips) : Fin 3 → Nat :=
  let c0_i32_1 : BitVec 32 := 0#32
  let c0_i32_52 : BitVec 32 := 0#32
  let c0_i32_2 : BitVec 32 := 0#32
  let c1_i32 : BitVec 32 := 1#32
  let arg17 : BitVec 32 := Scf.iv c0_i32_2 c1_i32 k0_t1
  let v76 : BitVec 32 := Scalar.addi c0_i32_52 arg17
  let c128_i32_53 : BitVec 32 := 128#32
  let v77 : BitVec 32 := Scalar.muli v76 c128_i32_53
  let v78 : BitVec 32 := v77
  let v83 : Index := Scalar.indexCast v78
  let c0_i32_55 : BitVec 32 := 0#32
  ![0, v83.toNat, 0]
@[reducible] def k0_t2_loop : Scf.Loop 32 :=
  let c0_i32_5 : BitVec 32 := 0#32
  let c14_i32_6 : BitVec 32 := 14#32
  let v4 : BitVec 32 := Scalar.addi c0_i32_5 c14_i32_6
  let c1_i32_7 : BitVec 32 := 1#32
  ⟨c0_i32_5, v4, c1_i32_7⟩
def k0_mult3 (k0_t2 : Fin k0_t2_loop.trips) : BitVec 32 :=
  let c0_i32_5 : BitVec 32 := 0#32
  let c1_i32_7 : BitVec 32 := 1#32
  let arg17 : BitVec 32 := Scf.iv c0_i32_5 c1_i32_7 k0_t2
  let c128_i32 : BitVec 32 := 128#32
  let v61 : BitVec 32 := Scalar.muli arg17 c128_i32
  v61
def k0_off5 (k0_t2 : Fin k0_t2_loop.trips) : Fin 2 → Nat :=
  let c0_i32_5 : BitVec 32 := 0#32
  let c1_i32_7 : BitVec 32 := 1#32
  let arg17 : BitVec 32 := Scf.iv c0_i32_5 c1_i32_7 k0_t2
  let c128_i32 : BitVec 32 := 128#32
  let v61 : BitVec 32 := Scalar.muli arg17 c128_i32
  let v62 : BitVec 32 := v61
  let v63 : Index := Scalar.indexCast v62
  let c0_49 : Index := 0#32
  ![v63.toNat, 0]
def k0_off6 (k0_t2 : Fin k0_t2_loop.trips) : Fin 2 → Nat :=
  let c14_i32_50 : BitVec 32 := 14#32
  let c0_i32_5 : BitVec 32 := 0#32
  let c1_i32_7 : BitVec 32 := 1#32
  let arg17 : BitVec 32 := Scf.iv c0_i32_5 c1_i32_7 k0_t2
  let v70 : BitVec 32 := Scalar.addi c14_i32_50 arg17
  let v71 : Index := Scalar.indexCast v70
  let c0_51 : Index := 0#32
  ![v71.toNat, 0]
def k0_mult4 (k0_t2 : Fin k0_t2_loop.trips) : BitVec 32 :=
  let c14_i32_52 : BitVec 32 := 14#32
  let c0_i32_5 : BitVec 32 := 0#32
  let c1_i32_7 : BitVec 32 := 1#32
  let arg17 : BitVec 32 := Scf.iv c0_i32_5 c1_i32_7 k0_t2
  let v74 : BitVec 32 := Scalar.addi c14_i32_52 arg17
  let c128_i32_53 : BitVec 32 := 128#32
  let v75 : BitVec 32 := Scalar.muli v74 c128_i32_53
  v75
def k0_off7 (k0_t2 : Fin k0_t2_loop.trips) : Fin 2 → Nat :=
  let c14_i32_52 : BitVec 32 := 14#32
  let c0_i32_5 : BitVec 32 := 0#32
  let c1_i32_7 : BitVec 32 := 1#32
  let arg17 : BitVec 32 := Scf.iv c0_i32_5 c1_i32_7 k0_t2
  let v74 : BitVec 32 := Scalar.addi c14_i32_52 arg17
  let c128_i32_53 : BitVec 32 := 128#32
  let v75 : BitVec 32 := Scalar.muli v74 c128_i32_53
  let v76 : BitVec 32 := v75
  let v81 : Index := Scalar.indexCast v76
  let c0_56 : Index := 0#32
  ![v81.toNat, 0]
def k0_off8 (k0_t2 : Fin k0_t2_loop.trips) : Fin 3 → Nat :=
  let c0_i32_4 : BitVec 32 := 0#32
  let c14_i32_52 : BitVec 32 := 14#32
  let c0_i32_5 : BitVec 32 := 0#32
  let c1_i32_7 : BitVec 32 := 1#32
  let arg17 : BitVec 32 := Scf.iv c0_i32_5 c1_i32_7 k0_t2
  let v74 : BitVec 32 := Scalar.addi c14_i32_52 arg17
  let c128_i32_53 : BitVec 32 := 128#32
  let v75 : BitVec 32 := Scalar.muli v74 c128_i32_53
  let v76 : BitVec 32 := v75
  let v81 : Index := Scalar.indexCast v76
  let c0_i32_55 : BitVec 32 := 0#32
  ![0, v81.toNat, 0]
@[reducible] def k0_t3_loop : Scf.Loop 32 :=
  let c0_i32_10 : BitVec 32 := 0#32
  let c14_i32_11 : BitVec 32 := 14#32
  let v5 : BitVec 32 := Scalar.addi c0_i32_10 c14_i32_11
  let c1_i32_12 : BitVec 32 := 1#32
  ⟨c0_i32_10, v5, c1_i32_12⟩
def k0_mult5 (k0_t3 : Fin k0_t3_loop.trips) : BitVec 32 :=
  let c0_i32_10 : BitVec 32 := 0#32
  let c1_i32_12 : BitVec 32 := 1#32
  let arg17 : BitVec 32 := Scf.iv c0_i32_10 c1_i32_12 k0_t3
  let c128_i32 : BitVec 32 := 128#32
  let v61 : BitVec 32 := Scalar.muli arg17 c128_i32
  v61
def k0_off9 (k0_t3 : Fin k0_t3_loop.trips) : Fin 2 → Nat :=
  let c0_i32_10 : BitVec 32 := 0#32
  let c1_i32_12 : BitVec 32 := 1#32
  let arg17 : BitVec 32 := Scf.iv c0_i32_10 c1_i32_12 k0_t3
  let c128_i32 : BitVec 32 := 128#32
  let v61 : BitVec 32 := Scalar.muli arg17 c128_i32
  let v62 : BitVec 32 := v61
  let v63 : Index := Scalar.indexCast v62
  let c0_49 : Index := 0#32
  ![v63.toNat, 0]
def k0_off10 (k0_t3 : Fin k0_t3_loop.trips) : Fin 2 → Nat :=
  let c0_i32_50 : BitVec 32 := 0#32
  let c0_i32_10 : BitVec 32 := 0#32
  let c1_i32_12 : BitVec 32 := 1#32
  let arg17 : BitVec 32 := Scf.iv c0_i32_10 c1_i32_12 k0_t3
  let v72 : BitVec 32 := Scalar.addi c0_i32_50 arg17
  let v73 : Index := Scalar.indexCast v72
  let c0_51 : Index := 0#32
  ![v73.toNat, 0]
def k0_mult6 (k0_t3 : Fin k0_t3_loop.trips) : BitVec 32 :=
  let c0_i32_52 : BitVec 32 := 0#32
  let c0_i32_10 : BitVec 32 := 0#32
  let c1_i32_12 : BitVec 32 := 1#32
  let arg17 : BitVec 32 := Scf.iv c0_i32_10 c1_i32_12 k0_t3
  let v76 : BitVec 32 := Scalar.addi c0_i32_52 arg17
  let c128_i32_53 : BitVec 32 := 128#32
  let v77 : BitVec 32 := Scalar.muli v76 c128_i32_53
  v77
def k0_off11 (k0_t3 : Fin k0_t3_loop.trips) : Fin 2 → Nat :=
  let c0_i32_52 : BitVec 32 := 0#32
  let c0_i32_10 : BitVec 32 := 0#32
  let c1_i32_12 : BitVec 32 := 1#32
  let arg17 : BitVec 32 := Scf.iv c0_i32_10 c1_i32_12 k0_t3
  let v76 : BitVec 32 := Scalar.addi c0_i32_52 arg17
  let c128_i32_53 : BitVec 32 := 128#32
  let v77 : BitVec 32 := Scalar.muli v76 c128_i32_53
  let v78 : BitVec 32 := v77
  let v83 : Index := Scalar.indexCast v78
  let c0_56 : Index := 0#32
  ![v83.toNat, 0]
def k0_off12 (k0_t3 : Fin k0_t3_loop.trips) : Fin 3 → Nat :=
  let c1_i32_9 : BitVec 32 := 1#32
  let c0_i32_52 : BitVec 32 := 0#32
  let c0_i32_10 : BitVec 32 := 0#32
  let c1_i32_12 : BitVec 32 := 1#32
  let arg17 : BitVec 32 := Scf.iv c0_i32_10 c1_i32_12 k0_t3
  let v76 : BitVec 32 := Scalar.addi c0_i32_52 arg17
  let c128_i32_53 : BitVec 32 := 128#32
  let v77 : BitVec 32 := Scalar.muli v76 c128_i32_53
  let v78 : BitVec 32 := v77
  let v83 : Index := Scalar.indexCast v78
  let c0_i32_55 : BitVec 32 := 0#32
  ![1, v83.toNat, 0]
@[reducible] def k0_t4_loop : Scf.Loop 32 :=
  let c0_i32_15 : BitVec 32 := 0#32
  let c14_i32_16 : BitVec 32 := 14#32
  let v6 : BitVec 32 := Scalar.addi c0_i32_15 c14_i32_16
  let c1_i32_17 : BitVec 32 := 1#32
  ⟨c0_i32_15, v6, c1_i32_17⟩
def k0_mult7 (k0_t4 : Fin k0_t4_loop.trips) : BitVec 32 :=
  let c0_i32_15 : BitVec 32 := 0#32
  let c1_i32_17 : BitVec 32 := 1#32
  let arg17 : BitVec 32 := Scf.iv c0_i32_15 c1_i32_17 k0_t4
  let c128_i32 : BitVec 32 := 128#32
  let v61 : BitVec 32 := Scalar.muli arg17 c128_i32
  v61
def k0_off13 (k0_t4 : Fin k0_t4_loop.trips) : Fin 2 → Nat :=
  let c0_i32_15 : BitVec 32 := 0#32
  let c1_i32_17 : BitVec 32 := 1#32
  let arg17 : BitVec 32 := Scf.iv c0_i32_15 c1_i32_17 k0_t4
  let c128_i32 : BitVec 32 := 128#32
  let v61 : BitVec 32 := Scalar.muli arg17 c128_i32
  let v62 : BitVec 32 := v61
  let v63 : Index := Scalar.indexCast v62
  let c0_49 : Index := 0#32
  ![v63.toNat, 0]
def k0_off14 (k0_t4 : Fin k0_t4_loop.trips) : Fin 2 → Nat :=
  let c14_i32_50 : BitVec 32 := 14#32
  let c0_i32_15 : BitVec 32 := 0#32
  let c1_i32_17 : BitVec 32 := 1#32
  let arg17 : BitVec 32 := Scf.iv c0_i32_15 c1_i32_17 k0_t4
  let v70 : BitVec 32 := Scalar.addi c14_i32_50 arg17
  let v71 : Index := Scalar.indexCast v70
  let c0_51 : Index := 0#32
  ![v71.toNat, 0]
def k0_mult8 (k0_t4 : Fin k0_t4_loop.trips) : BitVec 32 :=
  let c14_i32_52 : BitVec 32 := 14#32
  let c0_i32_15 : BitVec 32 := 0#32
  let c1_i32_17 : BitVec 32 := 1#32
  let arg17 : BitVec 32 := Scf.iv c0_i32_15 c1_i32_17 k0_t4
  let v74 : BitVec 32 := Scalar.addi c14_i32_52 arg17
  let c128_i32_53 : BitVec 32 := 128#32
  let v75 : BitVec 32 := Scalar.muli v74 c128_i32_53
  v75
def k0_off15 (k0_t4 : Fin k0_t4_loop.trips) : Fin 2 → Nat :=
  let c14_i32_52 : BitVec 32 := 14#32
  let c0_i32_15 : BitVec 32 := 0#32
  let c1_i32_17 : BitVec 32 := 1#32
  let arg17 : BitVec 32 := Scf.iv c0_i32_15 c1_i32_17 k0_t4
  let v74 : BitVec 32 := Scalar.addi c14_i32_52 arg17
  let c128_i32_53 : BitVec 32 := 128#32
  let v75 : BitVec 32 := Scalar.muli v74 c128_i32_53
  let v76 : BitVec 32 := v75
  let v81 : Index := Scalar.indexCast v76
  let c0_56 : Index := 0#32
  ![v81.toNat, 0]
def k0_off16 (k0_t4 : Fin k0_t4_loop.trips) : Fin 3 → Nat :=
  let c1_i32_14 : BitVec 32 := 1#32
  let c14_i32_52 : BitVec 32 := 14#32
  let c0_i32_15 : BitVec 32 := 0#32
  let c1_i32_17 : BitVec 32 := 1#32
  let arg17 : BitVec 32 := Scf.iv c0_i32_15 c1_i32_17 k0_t4
  let v74 : BitVec 32 := Scalar.addi c14_i32_52 arg17
  let c128_i32_53 : BitVec 32 := 128#32
  let v75 : BitVec 32 := Scalar.muli v74 c128_i32_53
  let v76 : BitVec 32 := v75
  let v81 : Index := Scalar.indexCast v76
  let c0_i32_55 : BitVec 32 := 0#32
  ![1, v81.toNat, 0]
def k0_off17 (i : grid0.Coords) : Fin 3 → Nat :=
  let arg1 : BitVec 32 := BitVec.ofNat 32 (i 1).val
  let v38 : Index := Scalar.indexCast arg1
  let c0_42 : Index := 0#32
  let c0_43 : Index := 0#32
  ![v38.toNat, 0, 0]
def k0_cond2 (i : grid0.Coords) : BitVec 1 :=
  let arg1 : BitVec 32 := BitVec.ofNat 32 (i 1).val
  let c20_i32 : BitVec 32 := 20#32
  let v58 : BitVec 1 := Scalar.cmpi .eq arg1 c20_i32
  let v59 : BitVec 32 := Scalar.extui v58
  let c0_i32_48 : BitVec 32 := 0#32
  let v60 : BitVec 1 := Scalar.cmpi .ne v59 c0_i32_48
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1792x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S28x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S28x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x10752 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GateUpRefIdeal.lean ====
abbrev S8192x3584 : Shape := ⟨2, ![8192, 3584]⟩
abbrev S8192x1 : Shape := ⟨2, ![8192, 1]⟩
abbrev S1792x21504 : Shape := ⟨2, ![1792, 21504]⟩
abbrev S28x21504 : Shape := ⟨2, ![28, 21504]⟩
abbrev S8192x128 : Shape := ⟨2, ![8192, 128]⟩
abbrev S128x21504 : Shape := ⟨2, ![128, 21504]⟩
abbrev S8192x10752 : Shape := ⟨2, ![8192, 10752]⟩
abbrev S14x21504 : Shape := ⟨2, ![14, 21504]⟩
abbrev S14x1x21504 : Shape := ⟨3, ![14, 1, 21504]⟩
abbrev S14x128x21504 : Shape := ⟨3, ![14, 128, 21504]⟩
abbrev S8192x1792 : Shape := ⟨2, ![8192, 1792]⟩
abbrev S8192x21504 : Shape := ⟨2, ![8192, 21504]⟩
abbrev S8192 : Shape := ⟨1, ![8192]⟩

abbrev nBuf : Space → Nat
  | .hbm => 8
  | .vmem => 8
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x1, .f32⟩
  | .hbm, ⟨2, _⟩ => ⟨S1792x21504, .i8⟩
  | .hbm, ⟨3, _⟩ => ⟨S28x21504, .f32⟩
  | .hbm, ⟨4, _⟩ => ⟨S8192x128, .bf16⟩
  | .hbm, ⟨5, _⟩ => ⟨S128x21504, .bf16⟩
  | .hbm, ⟨6, _⟩ => ⟨S8192x10752, .fp8e4m3⟩
  | .hbm, ⟨7, _⟩ => ⟨S8192x1, .f32⟩
  | .local _ .vmem, ⟨0, _⟩ => ⟨S8192x3584, .fp8e4m3⟩
  | .local _ .vmem, ⟨1, _⟩ => ⟨S8192x1, .f32⟩
  | .local _ .vmem, ⟨2, _⟩ => ⟨S1792x21504, .i8⟩
  | .local _ .vmem, ⟨3, _⟩ => ⟨S28x21504, .f32⟩
  | .local _ .vmem, ⟨4, _⟩ => ⟨S8192x128, .bf16⟩
  | .local _ .vmem, ⟨5, _⟩ => ⟨S128x21504, .bf16⟩
  | .local _ .vmem, ⟨6, _⟩ => ⟨S8192x10752, .fp8e4m3⟩
  | .local _ .vmem, ⟨7, _⟩ => ⟨S8192x1, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x21504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x21504 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x10752 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ProjectQ.lean ====
abbrev S8192x7168 : Shape := ⟨2, ![8192, 7168]⟩
abbrev S8192x1 : Shape := ⟨2, ![8192, 1]⟩
abbrev S3584x16128 : Shape := ⟨2, ![3584, 16128]⟩
abbrev S56x16128 : Shape := ⟨2, ![56, 16128]⟩
abbrev S8192x384 : Shape := ⟨2, ![8192, 384]⟩
abbrev S128x16128 : Shape := ⟨2, ![128, 16128]⟩
abbrev S8192x128 : Shape := ⟨2, ![8192, 128]⟩
abbrev S2x24x4096x256 : Shape := ⟨4, ![2, 24, 4096, 256]⟩
abbrev S256x7168 : Shape := ⟨2, ![256, 7168]⟩
abbrev S256x1 : Shape := ⟨2, ![256, 1]⟩
abbrev S3584x1792 : Shape := ⟨2, ![3584, 1792]⟩
abbrev S56x1792 : Shape := ⟨2, ![56, 1792]⟩
abbrev S256x128 : Shape := ⟨2, ![256, 128]⟩
abbrev S128x1792 : Shape := ⟨2, ![128, 1792]⟩
abbrev S1x8x256x256 : Shape := ⟨4, ![1, 8, 256, 256]⟩
abbrev S7168x1792 : Shape := ⟨2, ![7168, 1792]⟩
abbrev S32x1792 : Shape := ⟨2, ![32, 1792]⟩
abbrev S1x1792 : Shape := ⟨2, ![1, 1792]⟩
abbrev S256x1792 : Shape := ⟨2, ![256, 1792]⟩
abbrev S256x1920 : Shape := ⟨2, ![256, 1920]⟩
abbrev S1x1x256x128 : Shape := ⟨4, ![1, 1, 256, 128]⟩

abbrev nBuf : Space → Nat
  | .hbm => 9
  | .vmem => 19
  | .smem => 0
  | _ => 0

abbrev bufTy : (tb : Table) → Fin (tcTables nBuf tb) → BufTy
  | .hbm, ⟨0, _⟩ => ⟨S8192x7168, .fp8e4m3⟩
  | .hbm, ⟨1, _⟩ => ⟨S8192x1, .f32⟩
  | .hbm, ⟨2, _⟩ => ⟨S3584x16128, .i8⟩
  | .hbm, ⟨3, _⟩ => ⟨S56x16128, .f32⟩
  | .hbm, ⟨4, _⟩ => ⟨S8192x384, .bf16⟩
  | .hbm, ⟨5, _⟩ => ⟨S128x16128, .bf16⟩
  | .hbm, ⟨6, _⟩ => ⟨S8192x128, .f32⟩
  | .hbm, ⟨7, _⟩ => ⟨S8192x128, .f32⟩
  | .hbm, ⟨8, _⟩ => ⟨S2x24x4096x256, .bf16⟩
  | .local _ .vmem, ⟨0, _⟩ => ⟨S256x7168, .fp8e4m3⟩
  | .local _ .vmem, ⟨1, _⟩ => ⟨S256x7168, .fp8e4m3⟩
  | .local _ .vmem, ⟨2, _⟩ => ⟨S256x1, .f32⟩
  | .local _ .vmem, ⟨3, _⟩ => ⟨S256x1, .f32⟩
  | .local _ .vmem, ⟨4, _⟩ => ⟨S3584x1792, .i8⟩
  | .local _ .vmem, ⟨5, _⟩ => ⟨S3584x1792, .i8⟩
  | .local _ .vmem, ⟨6, _⟩ => ⟨S56x1792, .f32⟩
  | .local _ .vmem, ⟨7, _⟩ => ⟨S56x1792, .f32⟩
  | .local _ .vmem, ⟨8, _⟩ => ⟨S256x128, .bf16⟩
  | .local _ .vmem, ⟨9, _⟩ => ⟨S256x128, .bf16⟩
  | .local _ .vmem, ⟨10, _⟩ => ⟨S128x1792, .bf16⟩
  | .local _ .vmem, ⟨11, _⟩ => ⟨S128x1792, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x8x256x256, .bf16⟩
  | .local _ .vmem, ⟨17, _⟩ => ⟨S1x8x256x256, .bf16⟩
  | .local _ .vmem, ⟨18, _⟩ => ⟨S7168x1792, .bf16⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![3, 2, 16], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_133 : BitVec 32 := 0#32
  let c28_i32 : BitVec 32 := 28#32
  let v229 : BitVec 32 := Scalar.addi c0_i32_133 c28_i32
  let c1_i32 : BitVec 32 := 1#32
  ⟨c0_i32_133, v229, c1_i32⟩
def k0_mult1 (k0_t1 : Fin k0_t1_loop.trips) : BitVec 32 :=
  let c0_i32_133 : BitVec 32 := 0#32
  let c1_i32 : BitVec 32 := 1#32
  let arg13 : BitVec 32 := Scf.iv c0_i32_133 c1_i32 k0_t1
  let c128_i32 : BitVec 32 := 128#32
  let v231 : BitVec 32 := Scalar.muli arg13 c128_i32
  v231
def k0_off1 (k0_t1 : Fin k0_t1_loop.trips) : Fin 2 → Nat :=
  let c0_i32_133 : BitVec 32 := 0#32
  let c1_i32 : BitVec 32 := 1#32
  let arg13 : BitVec 32 := Scf.iv c0_i32_133 c1_i32 k0_t1
  let c128_i32 : BitVec 32 := 128#32
  let v231 : BitVec 32 := Scalar.muli arg13 c128_i32
  let v232 : BitVec 32 := v231
  let v233 : Index := Scalar.indexCast v232
  let c0_139 : Index := 0#32
  ![v233.toNat, 0]
def k0_off2 (k0_t1 : Fin k0_t1_loop.trips) : Fin 2 → Nat :=
  let c0_i32_140 : BitVec 32 := 0#32
  let c0_i32_133 : BitVec 32 := 0#32
  let c1_i32 : BitVec 32 := 1#32
  let arg13 : BitVec 32 := Scf.iv c0_i32_133 c1_i32 k0_t1
  let v242 : BitVec 32 := Scalar.addi c0_i32_140 arg13
  let v243 : Index := Scalar.indexCast v242
  let c0_141 : Index := 0#32
  ![v243.toNat, 0]
def k0_mult2 (k0_t1 : Fin k0_t1_loop.trips) : BitVec 32 :=
  let c0_i32_142 : BitVec 32 := 0#32
  let c0_i32_133 : BitVec 32 := 0#32
  let c1_i32 : BitVec 32 := 1#32
  let arg13 : BitVec 32 := Scf.iv c0_i32_133 c1_i32 k0_t1
  let v246 : BitVec 32 := Scalar.addi c0_i32_142 arg13
  let c128_i32_143 : BitVec 32 := 128#32
  let v247 : BitVec 32 := Scalar.muli v246 c128_i32_143
  v247
def k0_off3 (k0_t1 : Fin k0_t1_loop.trips) : Fin 2 → Nat :=
  let c0_i32_142 : BitVec 32 := 0#32
  let c0_i32_133 : BitVec 32 := 0#32
  let c1_i32 : BitVec 32 := 1#32
  let arg13 : BitVec 32 := Scf.iv c0_i32_133 c1_i32 k0_t1
  let v246 : BitVec 32 := Scalar.addi c0_i32_142 arg13
  let c128_i32_143 : BitVec 32 := 128#32
  let v247 : BitVec 32 := Scalar.muli v246 c128_i32_143
  let v248 : BitVec 32 := v247
  let v251 : Index := Scalar.indexCast v248
  let c0_144 : Index := 0#32
  ![v251.toNat, 0]
@[reducible] def k0_t2_loop : Scf.Loop 32 :=
  let c0_i32_135 : BitVec 32 := 0#32
  let c28_i32_136 : BitVec 32 := 28#32
  let v230 : BitVec 32 := Scalar.addi c0_i32_135 c28_i32_136
  let c1_i32_137 : BitVec 32 := 1#32
  ⟨c0_i32_135, v230, c1_i32_137⟩
def k0_mult3 (k0_t2 : Fin k0_t2_loop.trips) : BitVec 32 :=
  let c0_i32_135 : BitVec 32 := 0#32
  let c1_i32_137 : BitVec 32 := 1#32
  let arg13 : BitVec 32 := Scf.iv c0_i32_135 c1_i32_137 k0_t2
  let c128_i32 : BitVec 32 := 128#32
  let v231 : BitVec 32 := Scalar.muli arg13 c128_i32
  v231
def k0_off4 (k0_t2 : Fin k0_t2_loop.trips) : Fin 2 → Nat :=
  let c0_i32_135 : BitVec 32 := 0#32
  let c1_i32_137 : BitVec 32 := 1#32
  let arg13 : BitVec 32 := Scf.iv c0_i32_135 c1_i32_137 k0_t2
  let c128_i32 : BitVec 32 := 128#32
  let v231 : BitVec 32 := Scalar.muli arg13 c128_i32
  let v232 : BitVec 32 := v231
  let v233 : Index := Scalar.indexCast v232
  let c0_139 : Index := 0#32
  ![v233.toNat, 0]
def k0_off5 (k0_t2 : Fin k0_t2_loop.trips) : Fin 2 → Nat :=
  let c28_i32_140 : BitVec 32 := 28#32
  let c0_i32_135 : BitVec 32 := 0#32
  let c1_i32_137 : BitVec 32 := 1#32
  let arg13 : BitVec 32 := Scf.iv c0_i32_135 c1_i32_137 k0_t2
  let v240 : BitVec 32 := Scalar.addi c28_i32_140 arg13
  let v241 : Index := Scalar.indexCast v240
  let c0_141 : Index := 0#32
  ![v241.toNat, 0]
def k0_mult4 (k0_t2 : Fin k0_t2_loop.trips) : BitVec 32 :=
  let c28_i32_142 : BitVec 32 := 28#32
  let c0_i32_135 : BitVec 32 := 0#32
  let c1_i32_137 : BitVec 32 := 1#32
  let arg13 : BitVec 32 := Scf.iv c0_i32_135 c1_i32_137 k0_t2
  let v244 : BitVec 32 := Scalar.addi c28_i32_142 arg13
  let c128_i32_143 : BitVec 32 := 128#32
  let v245 : BitVec 32 := Scalar.muli v244 c128_i32_143
  v245
def k0_off6 (k0_t2 : Fin k0_t2_loop.trips) : Fin 2 → Nat :=
  let c28_i32_142 : BitVec 32 := 28#32
  let c0_i32_135 : BitVec 32 := 0#32
  let c1_i32_137 : BitVec 32 := 1#32
  let arg13 : BitVec 32 := Scf.iv c0_i32_135 c1_i32_137 k0_t2
  let v244 : BitVec 32 := Scalar.addi c28_i32_142 arg13
  let c128_i32_143 : BitVec 32 := 128#32
  let v245 : BitVec 32 := Scalar.muli v244 c128_i32_143
  let v246 : BitVec 32 := v245
  let v249 : Index := Scalar.indexCast v246
  let c0_144 : Index := 0#32
  ![v249.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S3584x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S56x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x8x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ProjectQRefIdeal.lean ====
abbrev S8192x7168 : Shape := ⟨2, ![8192, 7168]⟩
abbrev S8192x1 : Shape := ⟨2, ![8192, 1]⟩
abbrev S3584x16128 : Shape := ⟨2, ![3584, 16128]⟩
abbrev S56x16128 : Shape := ⟨2, ![56, 16128]⟩
abbrev S8192x384 : Shape := ⟨2, ![8192, 384]⟩
abbrev S128x16128 : Shape := ⟨2, ![128, 16128]⟩
abbrev S8192x128 : Shape := ⟨2, ![8192, 128]⟩
abbrev S2x24x4096x256 : Shape := ⟨4, ![2, 24, 4096, 256]⟩
abbrev S3584x5376 : Shape := ⟨2, ![3584, 5376]⟩
abbrev S56x5376 : Shape := ⟨2, ![56, 5376]⟩
abbrev S28x5376 : Shape := ⟨2, ![28, 5376]⟩
abbrev S28x1x5376 : Shape := ⟨3, ![28, 1, 5376]⟩
abbrev S28x128x5376 : Shape := ⟨3, ![28, 128, 5376]⟩
abbrev S8192x3584 : Shape := ⟨2, ![8192, 3584]⟩
abbrev S8192x5376 : Shape := ⟨2, ![8192, 5376]⟩
abbrev S128x5376 : Shape := ⟨2, ![128, 5376]⟩
abbrev S2x4096x24x224 : Shape := ⟨4, ![2, 4096, 24, 224]⟩
abbrev S2x24x4096x224 : Shape := ⟨4, ![2, 24, 4096, 224]⟩
abbrev S2x24x4096x112 : Shape := ⟨4, ![2, 24, 4096, 112]⟩
abbrev S8192x112 : Shape := ⟨2, ![8192, 112]⟩
abbrev S2x1x4096x112 : Shape := ⟨4, ![2, 1, 4096, 112]⟩
abbrev S2x24x4096x16 : Shape := ⟨4, ![2, 24, 4096, 16]⟩

abbrev nBuf : Space → Nat
  | .hbm => 9
  | .vmem => 9
  | .smem => 0
  | _ => 0

abbrev bufTy : (tb : Table) → Fin (tcTables nBuf tb) → BufTy
  | .hbm, ⟨0, _⟩ => ⟨S8192x7168, .fp8e4m3⟩
  | .hbm, ⟨1, _⟩ => ⟨S8192x1, .f32⟩
  | .hbm, ⟨2, _⟩ => ⟨S3584x16128, .i8⟩
  | .hbm, ⟨3, _⟩ => ⟨S56x16128, .f32⟩
  | .hbm, ⟨4, _⟩ => ⟨S8192x384, .bf16⟩
  | .hbm, ⟨5, _⟩ => ⟨S128x16128, .bf16⟩
  | .hbm, ⟨6, _⟩ => ⟨S8192x128, .f32⟩
  | .hbm, ⟨7, _⟩ => ⟨S8192x128, .f32⟩
  | .hbm, ⟨8, _⟩ => ⟨S2x24x4096x256, .bf16⟩
  | .local _ .vmem, ⟨0, _⟩ => ⟨S8192x7168, .fp8e4m3⟩
  | .local _ .vmem, ⟨1, _⟩ => ⟨S8192x1, .f32⟩
  | .local _ .vmem, ⟨2, _⟩ => ⟨S3584x16128, .i8⟩
  | .local _ .vmem, ⟨3, _⟩ => ⟨S56x16128, .f32⟩
  | .local _ .vmem, ⟨4, _⟩ => ⟨S8192x384, .bf16⟩
  | .local _ .vmem, ⟨5, _⟩ => ⟨S128x16128, .bf16⟩
  | .local _ .vmem, ⟨6, _⟩ => ⟨S8192x128, .f32⟩
  | .local _ .vmem, ⟨7, _⟩ => ⟨S8192x128, .f32⟩
  | .local _ .vmem, ⟨8, _⟩ => ⟨S2x24x4096x256, .bf16⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x16128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x16128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x16128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x24x4096x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Norm.lean ====
abbrev S8192x3584 : Shape := ⟨2, ![8192, 3584]⟩
abbrev S1x7168 : Shape := ⟨2, ![1, 7168]⟩
abbrev S7168x384 : Shape := ⟨2, ![7168, 384]⟩
abbrev S8192x7168 : Shape := ⟨2, ![8192, 7168]⟩
abbrev S8192x1 : Shape := ⟨2, ![8192, 1]⟩
abbrev S8192x384 : Shape := ⟨2, ![8192, 384]⟩
abbrev S256x3584 : Shape := ⟨2, ![256, 3584]⟩
abbrev S256x7168 : Shape := ⟨2, ![256, 7168]⟩
abbrev S256x1 : Shape := ⟨2, ![256, 1]⟩
abbrev S256x384 : Shape := ⟨2, ![256, 384]⟩
abbrev S256 : Shape := ⟨1, ![256]⟩
abbrev S1x3584 : Shape := ⟨2, ![1, 3584]⟩
abbrev S3584x384 : Shape := ⟨2, ![3584, 384]⟩

abbrev nBuf : Space → Nat
  | .hbm => 7
  | .vmem => 12
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .bf16⟩
  | .hbm, ⟨2, _⟩ => ⟨S1x7168, .f32⟩
  | .hbm, ⟨3, _⟩ => ⟨S7168x384, .bf16⟩
  | .hbm, ⟨4, _⟩ => ⟨S8192x7168, .fp8e4m3⟩
  | .hbm, ⟨5, _⟩ => ⟨S8192x1, .f32⟩
  | .hbm, ⟨6, _⟩ => ⟨S8192x384, .bf16⟩
  | .local _ .vmem, ⟨0, _⟩ => ⟨S256x3584, .bf16⟩
  | .local _ .vmem, ⟨1, _⟩ => ⟨S256x3584, .bf16⟩
  | .local _ .vmem, ⟨2, _⟩ => ⟨S256x3584, .bf16⟩
  | .local _ .vmem, ⟨3, _⟩ => ⟨S256x3584, .bf16⟩
  | .local _ .vmem, ⟨4, _⟩ => ⟨S1x7168, .f32⟩
  | .local _ .vmem, ⟨5, _⟩ => ⟨S7168x384, .bf16⟩
  | .local _ .vmem, ⟨6, _⟩ => ⟨S256x7168, .fp8e4m3⟩
  | .local _ .vmem, ⟨7, _⟩ => ⟨S256x7168, .fp8e4m3⟩
  | .local _ .vmem, ⟨8, _⟩ => ⟨S256x1, .f32⟩
  | .local _ .vmem, ⟨9, _⟩ => ⟨S256x1, .f32⟩
  | .local _ .vmem, ⟨10, _⟩ => ⟨S256x384, .bf16⟩
  | .local _ .vmem, ⟨11, _⟩ => ⟨S256x384, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7168x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S8192x3584 : Shape := ⟨2, ![8192, 3584]⟩
abbrev S1x7168 : Shape := ⟨2, ![1, 7168]⟩
abbrev S7168x384 : Shape := ⟨2, ![7168, 384]⟩
abbrev S8192x7168 : Shape := ⟨2, ![8192, 7168]⟩
abbrev S8192x1 : Shape := ⟨2, ![8192, 1]⟩
abbrev S8192x384 : Shape := ⟨2, ![8192, 384]⟩
abbrev S8192 : Shape := ⟨1, ![8192]⟩

abbrev nBuf : Space → Nat
  | .hbm => 7
  | .vmem => 7
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .bf16⟩
  | .hbm, ⟨2, _⟩ => ⟨S1x7168, .f32⟩
  | .hbm, ⟨3, _⟩ => ⟨S7168x384, .bf16⟩
  | .hbm, ⟨4, _⟩ => ⟨S8192x7168, .fp8e4m3⟩
  | .hbm, ⟨5, _⟩ => ⟨S8192x1, .f32⟩
  | .hbm, ⟨6, _⟩ => ⟨S8192x384, .bf16⟩
  | .local _ .vmem, ⟨0, _⟩ => ⟨S8192x3584, .bf16⟩
  | .local _ .vmem, ⟨1, _⟩ => ⟨S8192x3584, .bf16⟩
  | .local _ .vmem, ⟨2, _⟩ => ⟨S1x7168, .f32⟩
  | .local _ .vmem, ⟨3, _⟩ => ⟨S7168x384, .bf16⟩
  | .local _ .vmem, ⟨4, _⟩ => ⟨S8192x7168, .fp8e4m3⟩
  | .local _ .vmem, ⟨5, _⟩ => ⟨S8192x1, .f32⟩
  | .local _ .vmem, ⟨6, _⟩ => ⟨S8192x384, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Rows.lean ====
/-
  Row reductions of a matrix read at a row, at any extents.
-/
module

public import Idealize.ShloMosaic.Lib.Pointwise

@[expose] public section

set_option maxRecDepth 16384

noncomputable section

namespace Cert.Proof.Rows

open Idealize.ShloMosaic

variable {M N : Nat}

/-- The greatest element of a row, as the reduction folds it from minus infinity. -/
def rowMax (f : Fin N → EReal) : EReal := Finset.univ.fold max (Ideal.ofBits .f32 0xFF800000#32) f

theorem multiReduction_max (A : FVec Ideal ⟨2, ![M, N]⟩ .f32) (h : Shape.Reduces ⟨2, ![M, N]⟩ [1] ⟨1, ![M]⟩) (r : Fin M) :
    multiReduction .maximumf [1] ⟨1, ![M]⟩ A 0xFF800000#32 h (.inl rfl) rfl (ix1 r) = rowMax fun k => A (ix2 r k) := by
  pointwise [rowMax]

theorem multiReduction_add (A : FVec Ideal ⟨2, ![M, N]⟩ .f32) (h : Shape.Reduces ⟨2, ![M, N]⟩ [1] ⟨1, ![M]⟩) (r : Fin M) :
    multiReduction .add [1] ⟨1, ![M]⟩ A 0x00000000#32 h (.inl rfl) rfl (ix1 r) = ∑ k, A (ix2 r k) := by
  pointwise

/-- A vector stood up as a column, read at a row. -/
theorem col_at {α : Type} (v : Shape.Idx ⟨1, ![M]⟩ → α) (h : Shape.ShapeCasts ⟨1, ![M]⟩ ⟨2, ![M, 1]⟩) (r : Fin M) :
    shapeCast ⟨2, ![M, 1]⟩ v h (ix2 r 0) = v (ix1 r) := by
  rw [Pointwise.shapeCast_apply, Shape.reshapeEquiv_eq_of_vals h (ix2 r 0) (ix1 r) r.val r.val (rowMajor_val1 _)
    ((rowMajor_val2 _ 1 rfl).trans (by simp)) rfl]

/-- The scale of a row whose greatest magnitude is `a`: `a` over 448, and one where the row is zero. -/
def scaleOf (a : EReal) : EReal := if a = 0 then 1 else Ideal.div a (Ideal.ofBits .f32 0x43E00000#32)

/-- The scale of a row: its greatest magnitude over 448, and one where the row is zero. -/
def rowScale (f : Fin N → EReal) : EReal := scaleOf (rowMax fun k => FloatOps.absf (F := Ideal) (φ := .f32) (f k))

/-- A matrix' row scales as a column, in the operations both programs write. -/
def scaleCol (A : FVec Ideal ⟨2, ![M, N]⟩ .f32) (hr : Shape.Reduces ⟨2, ![M, N]⟩ [1] ⟨1, ![M]⟩)
    (hc : Shape.ShapeCasts ⟨1, ![M]⟩ ⟨2, ![M, 1]⟩) : FVec Ideal ⟨2, ![M, 1]⟩ .f32 :=
  select (cmpf .oeq (shapeCast ⟨2, ![M, 1]⟩ (multiReduction .maximumf [1] ⟨1, ![M]⟩ (absf A) 0xFF800000#32 hr (.inl rfl) rfl) hc)
      (broadcast ⟨2, ![M, 1]⟩ (Scalar.ofBits .f32 0x00000000#32)))
    (broadcast ⟨2, ![M, 1]⟩ (Scalar.ofBits .f32 0x3F800000#32))
    (divf (shapeCast ⟨2, ![M, 1]⟩ (multiReduction .maximumf [1] ⟨1, ![M]⟩ (absf A) 0xFF800000#32 hr (.inl rfl) rfl) hc)
      (broadcast ⟨2, ![M, 1]⟩ (Scalar.ofBits .f32 0x43E00000#32)))

theorem scaleCol_at (A : FVec Ideal ⟨2, ![M, N]⟩ .f32) (hr : Shape.Reduces ⟨2, ![M, N]⟩ [1] ⟨1, ![M]⟩)
    (hc : Shape.ShapeCasts ⟨1, ![M]⟩ ⟨2, ![M, 1]⟩) (r : Fin M) :
    scaleCol A hr hc (ix2 r 0) = rowScale fun k => A (ix2 r k) := by
  have key := multiReduction_max (absf A) hr r
  unfold scaleCol
  generalize multiReduction .maximumf [1] ⟨1, ![M]⟩ (absf A) 0xFF800000#32 hr (.inl rfl) rfl = B at key ⊢
  have hcol := col_at B hc r
  generalize shapeCast ⟨2, ![M, 1]⟩ B hc = C at hcol ⊢
  pointwise [rowScale, scaleOf]
  simp only [hcol, key]
  rfl

end Cert.Proof.Rows

end
-- ==== Proof.ClosingPay.lean ====
/-
  The closing call's arithmetic: each payload of the kernel's row block, at a row, is the reference's payload of the
  whole arrays at the row that block row stands for.
-/
module

public import proofs.«01_k».proof.Proof.Gen.ClosingIdeal.Frame
public import proofs.«01_k».proof.Proof.Gen.ClosingRefIdeal.Frame
public import proofs.«01_k».proof.Proof.Rows

@[expose] public section

set_option maxRecDepth 16384

noncomputable section

namespace Cert.Proof.Closing

open Idealize.ShloMosaic

variable [Cert.ClosingIdeal.Facts] [Cert.ClosingRefIdeal.Facts]

variable {x : FVec Ideal ⟨2, ![256, 3584]⟩ .fp8e4m3} {X : FVec Ideal ⟨2, ![8192, 3584]⟩ .fp8e4m3}
  {cs : FVec Ideal ⟨2, ![256, 1]⟩ .f32} {CS : FVec Ideal ⟨2, ![8192, 1]⟩ .f32}
  {w : FVec Ideal ⟨2, ![3584, 3584]⟩ .fp8e4m3} {sl g : FVec Ideal ⟨2, ![1, 3584]⟩ .f32}
  {h : FVec Ideal ⟨2, ![256, 3584]⟩ .bf16} {H : FVec Ideal ⟨2, ![8192, 3584]⟩ .bf16}
  {r : Fin 256} {q : Fin 8192}

/-- The new hidden state at one row. -/
theorem hNew (hx : ∀ k, x (ix2 r k) = X (ix2 q k)) (hcs : cs (ix2 r 0) = CS (ix2 q 0))
    (hh : ∀ k, h (ix2 r k) = H (ix2 q k)) (l : Fin 3584) :
    Cert.ClosingIdeal.Gen.k0_pay2 (F := Ideal) x w h cs sl (ix2 r l) = Cert.ClosingRefIdeal.Gen.k0_pay2 (F := Ideal) H X w CS sl (ix2 q l) := by
  pointwise [Cert.ClosingIdeal.Gen.k0_pay2, Cert.ClosingRefIdeal.Gen.k0_pay2]
  simp only [hx, hcs, hh]

theorem hOut (hx : ∀ k, x (ix2 r k) = X (ix2 q k)) (hcs : cs (ix2 r 0) = CS (ix2 q 0))
    (hh : ∀ k, h (ix2 r k) = H (ix2 q k)) (l : Fin 3584) :
    Cert.ClosingIdeal.Gen.k0_pay3 (F := Ideal) x w h cs sl (ix2 r l) = Cert.ClosingRefIdeal.Gen.k0_pay3 (F := Ideal) H X w CS sl (ix2 q l) := by
  pointwise [Cert.ClosingIdeal.Gen.k0_pay3, Cert.ClosingRefIdeal.Gen.k0_pay3]
  simp only [hNew hx hcs hh]

theorem normed (hx : ∀ k, x (ix2 r k) = X (ix2 q k)) (hcs : cs (ix2 r 0) = CS (ix2 q 0))
    (hh : ∀ k, h (ix2 r k) = H (ix2 q k)) (l : Fin 3584) :
    Cert.ClosingIdeal.Gen.k0_pay4 (F := Ideal) x w h cs sl g (ix2 r l) = Cert.ClosingRefIdeal.Gen.k0_pay4 (F := Ideal) H X w CS sl g (ix2 q l) := by
  pointwise [Cert.ClosingIdeal.Gen.k0_pay4, Cert.ClosingRefIdeal.Gen.k0_pay4]
  simp only [hNew hx hcs hh]

theorem scaleK : Cert.ClosingIdeal.Gen.k0_pay5 (F := Ideal) x w h cs sl g
    = Rows.scaleCol (Cert.ClosingIdeal.Gen.k0_pay4 (F := Ideal) x w h cs sl g) Cert.ClosingIdeal.Facts₀.reduces_S256x3584_S256 Cert.ClosingIdeal.Facts₀.shapeCasts_S256_S256x1 := by
  unfold Cert.ClosingIdeal.Gen.k0_pay5 Rows.scaleCol
  rfl

theorem scaleR : Cert.ClosingRefIdeal.Gen.k0_pay5 (F := Ideal) H X w CS sl g
    = Rows.scaleCol (Cert.ClosingRefIdeal.Gen.k0_pay4 (F := Ideal) H X w CS sl g) Cert.ClosingRefIdeal.Facts₀.reduces_S8192x3584_S8192 Cert.ClosingRefIdeal.Facts₀.shapeCasts_S8192_S8192x1 := by
  unfold Cert.ClosingRefIdeal.Gen.k0_pay5 Rows.scaleCol
  rfl

/-- The scale of one row. -/
theorem scale (hx : ∀ k, x (ix2 r k) = X (ix2 q k)) (hcs : cs (ix2 r 0) = CS (ix2 q 0))
    (hh : ∀ k, h (ix2 r k) = H (ix2 q k)) :
    Cert.ClosingIdeal.Gen.k0_pay5 (F := Ideal) x w h cs sl g (ix2 r 0) = Cert.ClosingRefIdeal.Gen.k0_pay5 (F := Ideal) H X w CS sl g (ix2 q 0) := by
  rw [scaleK, scaleR, Rows.scaleCol_at, Rows.scaleCol_at]
  simp only [normed hx hcs hh]

theorem codeStep {a : FVec Ideal ⟨2, ![256, 3584]⟩ .f32} {b : FVec Ideal ⟨2, ![256, 1]⟩ .f32} {c : FVec Ideal ⟨2, ![8192, 3584]⟩ .f32}
    {d : FVec Ideal ⟨2, ![8192, 1]⟩ .f32} (hb) (l : Fin 3584) (e1 : a (ix2 r l) = c (ix2 q l)) (e2 : b (ix2 r 0) = d (ix2 q 0)) :
    Cert.ClosingIdeal.Gen.k0_pay1 (F := Ideal) a b (ix2 r l)
      = Cert.ClosingRefIdeal.Gen.k0_pay1 (F := Ideal) c (broadcastTo ⟨2, ![8192, 3584]⟩ d hb) (ix2 q l) := by
  pointwise [Cert.ClosingIdeal.Gen.k0_pay1, Cert.ClosingRefIdeal.Gen.k0_pay1]
  simp only [e1, e2]

/-- The code of one element. -/
theorem codes (hx : ∀ k, x (ix2 r k) = X (ix2 q k)) (hcs : cs (ix2 r 0) = CS (ix2 q 0))
    (hh : ∀ k, h (ix2 r k) = H (ix2 q k)) (l : Fin 3584) :
    Cert.ClosingIdeal.Gen.k0_pay1 (F := Ideal) (Cert.ClosingIdeal.Gen.k0_pay4 (F := Ideal) x w h cs sl g) (Cert.ClosingIdeal.Gen.k0_pay5 (F := Ideal) x w h cs sl g) (ix2 r l)
      = Cert.ClosingRefIdeal.Gen.k0_pay1 (F := Ideal) (Cert.ClosingRefIdeal.Gen.k0_pay4 (F := Ideal) H X w CS sl g) (Cert.ClosingRefIdeal.Gen.k0_pay6 (F := Ideal) H X w CS sl g) (ix2 q l) := by
  unfold Cert.ClosingRefIdeal.Gen.k0_pay6
  exact codeStep _ l (normed hx hcs hh l) (scale hx hcs hh)

end Cert.Proof.Closing

end
-- ==== Proof.ClosingValue.lean ====
/-
  The closing call's arrays after the run: each is the reference's function of the argument arrays.
-/
module

public import proofs.«01_k».proof.Proof.ClosingPay
public import proofs.«01_k».proof.Proof.Gen.ClosingIdeal.Value
public import proofs.«01_k».proof.Proof.Gen.ClosingRefIdeal.Value
public import Idealize.ShloMosaic.Lib.Pipeline.ValueKit

@[expose] public section

set_option maxRecDepth 16384

noncomputable section

namespace Cert.Proof.Closing

open Idealize.ShloMosaic Idealize.ShloMosaic.TcCoe Idealize.SL.Sem
open Cert.ClosingIdeal Cert.ClosingIdeal.Gen

variable (m : (l : Loc nD τ sig) → Buf (Elt Ideal) l) (c : Dev nD)

/-- Where each window's block stands: the row windows at the point's number, the others at the start. -/
theorem idx6 : ∀ t : Fin cfg0.N, win0_6.index t = ![t.val, 0] := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx5 : ∀ t : Fin cfg0.N, win0_5.index t = ![0, 0] := (by decide +kernel : ∀ t : Fin grid0.N, _)

/-- The array row a block row stands for. -/
def row (t : Fin cfg0.N) (r : Fin 256) : Fin 8192 := ⟨t.val * 256 + r.val, by have h : t.val < 32 := t.isLt; have := r.isLt; omega⟩

/-- An index of a matrix is its row and its column. -/
theorem at2 {a b : Nat} (y : Shape.Idx ⟨2, ![a, b]⟩) : ∃ (r : Fin a) (l : Fin b), y = ix2 r l := ⟨y 0, y 1, Idealize.ShloMosaic.eq_ix2 y⟩

/-- An index of a column is its row. -/
theorem at1 {a : Nat} (y : Shape.Idx ⟨2, ![a, 1]⟩) : ∃ r : Fin a, y = ix2 r 0 := by
  obtain ⟨r, l, rfl⟩ := at2 y
  exact ⟨r, by rw [Subsingleton.elim l 0]⟩

/-! The blocks the body reads, as parts of the argument arrays. -/

theorem iblk0 (t : Fin cfg0.N) (r : Fin 256) (k : Fin 3584) : iblk m c 0 t (ix2 r k) = V m c main_arg0 (ix2 (row t r) k) := by
  blk_point [iblk, idx0 t, row]

theorem iblk1 (t : Fin cfg0.N) (r : Fin 256) : iblk m c 1 t (ix2 r 0) = V m c main_arg1 (ix2 (row t r) 0) := by
  blk_point [iblk, idx1 t, row]

theorem iblk2 (t : Fin cfg0.N) : iblk m c 2 t = V m c main_arg2 := by
  funext y
  obtain ⟨a, b, rfl⟩ := at2 y
  blk_point [iblk, idx2 t]

theorem iblk3 (t : Fin cfg0.N) : iblk m c 3 t = V m c main_arg3 := by
  funext y
  obtain ⟨a, b, rfl⟩ := at2 y
  blk_point [iblk, idx3 t]

theorem iblk4 (t : Fin cfg0.N) (r : Fin 256) (k : Fin 3584) : iblk m c 4 t (ix2 r k) = V m c main_arg4 (ix2 (row t r) k) := by
  blk_point [iblk, idx4 t, row]

theorem iblk5 (t : Fin cfg0.N) : iblk m c 5 t = V m c main_arg5 := by
  funext y
  obtain ⟨a, b, rfl⟩ := at2 y
  blk_point [iblk, idx5 t]

/-- Where an output block's element stands in the array. -/
theorem emb6 (t : Fin cfg0.N) (r : Fin 256) (l : Fin 3584) : ((View.whole main_v0_0).slice (win0_6.rect t)).emb (ix2 r l) = ix2 (row t r) l := by
  blk_ext [idx6 t, row]

theorem emb7 (t : Fin cfg0.N) (r : Fin 256) (l : Fin 3584) : ((View.whole main_v0_1).slice (win0_7.rect t)).emb (ix2 r l) = ix2 (row t r) l := by
  blk_ext [idx7 t, row]

theorem emb8 (t : Fin cfg0.N) (r : Fin 256) : ((View.whole main_v0_2).slice (win0_8.rect t)).emb (ix2 r 0) = ix2 (row t r) 0 := by
  blk_ext [idx8 t, row]

/-! The three arrays after the run. -/

theorem fin6 : (dats m 0 c).arrAt 6 cfg0.N = Cert.ClosingRefIdeal.Gen.k0_pay3 (F := Ideal) (V m c main_arg4) (V m c main_arg0) (V m c main_arg2) (V m c main_arg1) (V m c main_arg3) := by
  refine (dats m 0 c).arrAt_eq_of_covers 6 _ (by decide +kernel) fun t hf y => ?_
  blk_simp
  rw [after0_6]
  frame_out
  obtain ⟨r, l, rfl⟩ := at2 (a := 256) (b := 3584) y
  rw [iblk2, iblk3, emb6]
  exact hOut (iblk0 m c t r) (iblk1 m c t r) (iblk4 m c t r) l

theorem fin7 : (dats m 0 c).arrAt 7 cfg0.N = Cert.ClosingRefIdeal.Gen.k0_pay1 (F := Ideal)
    (Cert.ClosingRefIdeal.Gen.k0_pay4 (F := Ideal) (V m c main_arg4) (V m c main_arg0) (V m c main_arg2) (V m c main_arg1) (V m c main_arg3) (V m c main_arg5))
    (Cert.ClosingRefIdeal.Gen.k0_pay6 (F := Ideal) (V m c main_arg4) (V m c main_arg0) (V m c main_arg2) (V m c main_arg1) (V m c main_arg3) (V m c main_arg5)) := by
  refine (dats m 0 c).arrAt_eq_of_covers 7 _ (by decide +kernel) fun t hf y => ?_
  blk_simp
  rw [after0_7]
  unfold_out out0_7
  frame_out
  obtain ⟨r, l, rfl⟩ := at2 (a := 256) (b := 3584) y
  rw [iblk2, iblk3, iblk5, emb7]
  exact codes (iblk0 m c t r) (iblk1 m c t r) (iblk4 m c t r) l

theorem fin8 : (dats m 0 c).arrAt 8 cfg0.N = Cert.ClosingRefIdeal.Gen.k0_pay5 (F := Ideal) (V m c main_arg4) (V m c main_arg0) (V m c main_arg2) (V m c main_arg1) (V m c main_arg3) (V m c main_arg5) := by
  refine (dats m 0 c).arrAt_eq_of_covers 8 _ (by decide +kernel) fun t hf y => ?_
  blk_simp
  rw [after0_8]
  unfold_out out0_8
  frame_out
  obtain ⟨r, rfl⟩ := at1 (a := 256) y
  rw [iblk2, iblk3, iblk5, emb8]
  exact scale (iblk0 m c t r) (iblk1 m c t r) (iblk4 m c t r)

end Cert.Proof.Closing

end
-- ==== Proof.ClosingClaim.lean ====
/-
  The closing call: the kernel's results are the reference's.
-/
module

public import proofs.«01_k».proof.Defs
public import proofs.«01_k».proof.Proof.ClosingValue

@[expose] public section

noncomputable section

namespace Cert.Proof.Closing

open Idealize.ShloMosaic Idealize.SL.Sem

/-- Both programs run, and from equal arguments their results are equal. -/
theorem algebraic : Cert.algebraic_ClosingIdeal_ClosingRefIdeal (hClosingIdeal := Cert.ClosingIdeal.Gen.facts)
    (hClosingRefIdeal := Cert.ClosingRefIdeal.Gen.facts) := by
  intro m g m' g' _ hargs
  refine ⟨fun c => (Cert.ClosingIdeal.Gen.dats m 0 c).arrAt 6 Cert.ClosingIdeal.cfg0.N,
    fun c => (Cert.ClosingIdeal.Gen.dats m 0 c).arrAt 7 Cert.ClosingIdeal.cfg0.N,
    fun c => (Cert.ClosingIdeal.Gen.dats m 0 c).arrAt 8 Cert.ClosingIdeal.cfg0.N,
    Cert.ClosingIdeal.Value.run_blocks (F := Ideal) m g,
    (θ_run _ _ _).mono (fun r h c => ?_) (Cert.ClosingRefIdeal.Value.run (F := Ideal) m' g')⟩
  obtain ⟨h0, h1, h2, hk⟩ := h c
  obtain ⟨a0, a1, a2, a3, a4, a5⟩ := hargs c
  rw [a0, a1, a2, a3, a4, a5] at h0 h1 h2
  exact ⟨h0.trans (fin6 m c).symm, h1.trans (fin7 m c).symm, h2.trans (fin8 m c).symm, hk⟩

end Cert.Proof.Closing

end
-- ==== Proof.Groups.lean ====
module
public import Idealize.ShloMosaic.Lib.WritesUnit
public import Idealize.ShloMosaic.Lib.VecWindow
public import Idealize.ShloMosaic.Lib.Pipeline.ValueKit

/-! A buffer of rows filled by a counted loop, one group of `W` rows per trip: what it reads at a row. -/

@[expose] public section
noncomputable section
namespace Groups
open Idealize.ShloMosaic

variable {sig : RefSig} {κ : Kind} {sp : Space} {e : EltTy} {Val : EltTy → Type} {R C W : ℕ}

/-- Row `q` of group `r / W`: the index inside the group. -/
def inGroup (hW : 0 < W) (r : ℕ) (l : Fin C) : (⟨2, ![W, C]⟩ : Shape).Idx := ix2 ⟨r % W, Nat.mod_lt _ hW⟩ l

/-- After `n` trips that each store group `k` at row `base + W * k`, a row of those groups reads its group's payload,
    any other row what the stores before the loop left. -/
theorem read_groups (hW : 0 < W) (v : View sig κ sp (⟨2, ![R, C]⟩ : Shape) e) (f : v.ty.Contents Val) (base N : ℕ)
    (P : ℕ → (⟨2, ![W, C]⟩ : Shape).Idx → Val e) (pb : ℕ → List (View.Piece Val (⟨2, ![R, C]⟩ : Shape) e)) (h0 : pb 0 = [])
    (hs : ∀ k, k < N → ∃ (off : Fin 2 → ℕ) (inb : ∀ a : Fin 2, off a + (![W, C] : Fin 2 → ℕ) a ≤ (![R, C] : Fin 2 → ℕ) a),
      off = ![base + W * k, 0]
        ∧ pb (k + 1) = [(⟨Rect.unit (s := ⟨2, ![R, C]⟩) off ![W, C] inb, P k⟩ : View.Piece Val (⟨2, ![R, C]⟩ : Shape) e)] ++ pb k) :
    ∀ n, n ≤ N → ∀ (L : List (View.Piece Val (⟨2, ![R, C]⟩ : Shape) e)) (r : Fin R) (l : Fin C),
      v.read Val (v.writes Val f (pb n ++ L)) (ix2 r l)
        = if base ≤ r.val ∧ r.val < base + W * n then P ((r.val - base) / W) (inGroup hW (r.val - base) l)
          else v.read Val (v.writes Val f L) (ix2 r l) := by
  intro n
  induction n with
  | zero => intro _ L r l; rw [h0, if_neg (by omega)]; rfl
  | succ n ih =>
    intro hn L r l
    obtain ⟨off, inb, hoff, e⟩ := hs n (by omega)
    rw [e]
    have hm : W * (n + 1) = W * n + W := Nat.mul_succ W n
    by_cases h : base + W * n ≤ r.val ∧ r.val < base + W * n + W
    · have hq : (r.val - base) / W = n := by
        rw [Nat.div_eq_iff hW]; constructor
        · rw [Nat.mul_comm]; omega
        · rw [Nat.mul_comm]; omega
      have hr : (r.val - base) % W = r.val - base - W * n := by
        have := Nat.div_add_mod (r.val - base) W
        rw [hq] at this; omega
      rw [if_pos (by omega), hq]
      refine View.read_writes_cons_rows_of_mem (d := ![R, C]) (o := base + W * n) v f inb (P n) (pb n ++ L) (ix2 r l)
        (inGroup hW (r.val - base) l) hoff ?_ rfl
      show r.val = base + W * n + (r.val - base) % W
      omega
    · refine (View.read_writes_cons_rows_of_not_mem (d := ![R, C]) (o := base + W * n) (W := W) v f inb (P n) (pb n ++ L)
        (ix2 r l) hoff rfl (by show r.val < _ ∨ _ ≤ r.val; omega)).trans ?_
      rw [ih (by omega) L r l]
      by_cases h' : base ≤ r.val ∧ r.val < base + W * n
      · rw [if_pos h', if_pos (by omega)]
      · rw [if_neg h', if_neg (by omega)]

/-- The index inside a group of a buffer of planes. -/
def inGroup3 (hW : 0 < W) (r : ℕ) (l : Fin C) : (⟨3, ![1, W, C]⟩ : Shape).Idx := ix3 0 ⟨r % W, Nat.mod_lt _ hW⟩ l

/-- The same for a buffer of planes, the trips filling rows of plane `h`. -/
theorem read_groups3 {B : ℕ} (hW : 0 < W) (v : View sig κ sp (⟨3, ![B, R, C]⟩ : Shape) e) (f : v.ty.Contents Val) (h base N : ℕ)
    (P : ℕ → (⟨3, ![1, W, C]⟩ : Shape).Idx → Val e) (pb : ℕ → List (View.Piece Val (⟨3, ![B, R, C]⟩ : Shape) e)) (h0 : pb 0 = [])
    (hs : ∀ k, k < N → ∃ (off : Fin 3 → ℕ) (inb : ∀ a : Fin 3, off a + (![1, W, C] : Fin 3 → ℕ) a ≤ (![B, R, C] : Fin 3 → ℕ) a),
      off = ![h, base + W * k, 0]
        ∧ pb (k + 1) = [(⟨Rect.unit (s := ⟨3, ![B, R, C]⟩) off ![1, W, C] inb, P k⟩ : View.Piece Val (⟨3, ![B, R, C]⟩ : Shape) e)] ++ pb k) :
    ∀ n, n ≤ N → ∀ (L : List (View.Piece Val (⟨3, ![B, R, C]⟩ : Shape) e)) (p : Fin B) (r : Fin R) (l : Fin C),
      v.read Val (v.writes Val f (pb n ++ L)) (ix3 p r l)
        = if p.val = h ∧ base ≤ r.val ∧ r.val < base + W * n then P ((r.val - base) / W) (inGroup3 hW (r.val - base) l)
          else v.read Val (v.writes Val f L) (ix3 p r l) := by
  intro n
  induction n with
  | zero => intro _ L p r l; rw [h0, if_neg (by omega)]; rfl
  | succ n ih =>
    intro hn L p r l
    obtain ⟨off, inb, hoff, he⟩ := hs n (by omega)
    subst hoff
    rw [he]
    have hm : W * (n + 1) = W * n + W := Nat.mul_succ W n
    by_cases hc : p.val = h ∧ base + W * n ≤ r.val ∧ r.val < base + W * n + W
    · have hq : (r.val - base) / W = n := by
        rw [Nat.div_eq_iff hW]; constructor
        · rw [Nat.mul_comm]; omega
        · rw [Nat.mul_comm]; omega
      have hr : (r.val - base) % W = r.val - base - W * n := by
        have := Nat.div_add_mod (r.val - base) W
        rw [hq] at this; omega
      rw [if_pos (by omega), hq]
      refine View.read_writes_cons_unit_of_mem v f inb (P n) (pb n ++ L) (ix3 p r l) (inGroup3 hW (r.val - base) l) rfl fun a => ?_
      match a with
      | 0 => show p.val = h + 0; omega
      | 1 => show r.val = base + W * n + (r.val - base) % W; omega
      | 2 => exact (Nat.zero_add _).symm
    · have key : v.read Val (v.writes Val f ([(⟨Rect.unit (s := ⟨3, ![B, R, C]⟩) ![h, base + W * n, 0] ![1, W, C] inb, P n⟩ : View.Piece Val (⟨3, ![B, R, C]⟩ : Shape) e)] ++ pb n ++ L)) (ix3 p r l)
          = v.read Val (v.writes Val f (pb n ++ L)) (ix3 p r l) := by
        by_cases hp : p.val = h
        · refine View.read_writes_cons_unit_of_not_mem v f inb (P n) (pb n ++ L) (ix3 p r l) rfl 1 ?_
          show r.val < base + W * n ∨ base + W * n + W ≤ r.val
          omega
        · refine View.read_writes_cons_unit_of_not_mem v f inb (P n) (pb n ++ L) (ix3 p r l) rfl 0 ?_
          show p.val < h ∨ h + 1 ≤ p.val
          omega
      refine key.trans ?_
      rw [ih (by omega) L p r l]
      by_cases h' : p.val = h ∧ base ≤ r.val ∧ r.val < base + W * n
      · rw [if_pos h', if_pos (by omega)]
      · rw [if_neg h', if_neg (by omega)]

end Groups
end
-- ==== Proof.DownWide.lean ====
module
public import proofs.«01_k».proof.Proof.Gen.DownIdeal.Loops
public import proofs.«01_k».proof.Proof.Groups

@[expose] public section
set_option maxRecDepth 16384
noncomputable section
namespace Cert.DownIdeal.Body
open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S5376x512 .i8) (k : Fin 42) : Vec F S128x512 .i8 :=
  fun z => x (ix2 ⟨128 * k.val + (z 0).val, by have := (z 0).isLt; have h : S128x512.size 0 = 128 := rfl; omega⟩ (z 1))
/-- The scales of weight group `g`. -/
def sRow (x : Vec F S84x512 .f32) (g : Fin 84) : Vec F S1x512 .f32 := fun z => x (ix2 g (z 1))

/-- What one trip of the loop stores: its group of widened weights. -/
theorem tripL_t1 (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (k : Fin k0_t1_loop.trips) :
    ∃ inb, tripL_k0_t1 (F := F) 𝒱 c bd i arg2 harg2 arg3 harg3 arg4 harg4 arg5 harg5 arg6 harg6 arg7 harg7 arg8 harg8 arg9 harg9 arg10 harg10 X4 X5 k
      = [⟨Rect.unit (s := S10752x512) (k0_off3 k) S128x512.size inb, k0_pay13 (F := F) (wBlk (arg4.view.read (Elt F) X4) ⟨k.val, k.isLt⟩) (sRow (arg5.view.read (Elt F) X5) ⟨k.val, Nat.lt_of_lt_of_le (k.isLt) (by decide)⟩)⟩] := by
  refine ⟨k0_off3_inb k, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg4.view.read (Elt F) X4) ⟨k.val, k.isLt⟩
      = View.readAt (Elt F) arg4.view (Rect.unit (s := S5376x512) (k0_off1 k) S128x512.size (k0_off1_inb k)).toLoadRect X4 := by
    funext z
    refine congrArg (arg4.view.read (Elt F) X4) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg5.view.read (Elt F) X5) ⟨k.val, Nat.lt_of_lt_of_le (k.isLt) (by decide)⟩
      = View.readAt (Elt F) arg5.view (Rect.unit (s := S84x512) (k0_off2 k) S1x512.size (k0_off2_inb k)).toLoadRect X5 := by
    funext z
    refine congrArg (arg5.view.read (Elt F) X5) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of the loop stores: its group of widened weights. -/
theorem tripL_t2 (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (k : Fin k0_t2_loop.trips) :
    ∃ inb, tripL_k0_t2 (F := F) 𝒱 c bd i arg2 harg2 arg3 harg3 arg4 harg4 arg5 harg5 arg6 harg6 arg7 harg7 arg8 harg8 arg9 harg9 arg10 harg10 X4 X5 k
      = [⟨Rect.unit (s := S10752x512) (k0_off6 k) S128x512.size inb, k0_pay14 (F := F) (wBlk (arg4.view.read (Elt F) X4) ⟨k.val, k.isLt⟩) (sRow (arg5.view.read (Elt F) X5) ⟨42 + k.val, Nat.lt_of_lt_of_le (Nat.add_lt_add_left k.isLt 42) (by decide)⟩)⟩] := by
  refine ⟨k0_off6_inb k, ?_⟩
  have e1 : ∀ k : Fin k0_t2_loop.trips, k0_off4 k = ![128 * k.val, 0] := by decide +kernel
  have e2 : ∀ k : Fin k0_t2_loop.trips, k0_off5 k = ![42 + k.val, 0] := by decide +kernel
  have hw : wBlk (F := F) (arg4.view.read (Elt F) X4) ⟨k.val, k.isLt⟩
      = View.readAt (Elt F) arg4.view (Rect.unit (s := S5376x512) (k0_off4 k) S128x512.size (k0_off4_inb k)).toLoadRect X4 := by
    funext z
    refine congrArg (arg4.view.read (Elt F) X4) (funext fun a => Fin.ext ?_)
    match a with
    | 0 => show _ = k0_off4 k 0 + 1 * (z 0).val; rw [e1 k]; show _ = 128 * k.val + _; rw [Nat.one_mul]; rfl
    | 1 => show _ = k0_off4 k 1 + 1 * (z 1).val; rw [e1 k]; show _ = 0 + _; rw [Nat.one_mul, Nat.zero_add]; rfl
  have hs : sRow (F := F) (arg5.view.read (Elt F) X5) ⟨42 + k.val, Nat.lt_of_lt_of_le (Nat.add_lt_add_left k.isLt 42) (by decide)⟩
      = View.readAt (Elt F) arg5.view (Rect.unit (s := S84x512) (k0_off5 k) S1x512.size (k0_off5_inb k)).toLoadRect X5 := by
    funext z
    refine congrArg (arg5.view.read (Elt F) X5) (funext fun a => Fin.ext ?_)
    match a with
    | 0 => show _ = k0_off5 k 0 + 1 * (z 0).val; rw [e2 k]; have h0 : (z 0).val = 0 := Nat.lt_one_iff.mp (z 0).isLt; rw [h0]; rfl
    | 1 => show _ = k0_off5 k 1 + 1 * (z 1).val; rw [e2 k]; show _ = 0 + _; rw [Nat.one_mul, Nat.zero_add]; rfl
  rw [hw, hs]
  unfold tripL_k0_t2 trip_k0_t2
  rfl

/-- The widened weights: rows of the low nibbles, then rows of the high nibbles, group by group. -/
def wide (x2 : Vec F S5376x512 .i8) (x3 : Vec F S84x512 .f32) : Vec F S10752x512 .bf16 := fun y =>
  if h : (y 0).val < 5376 then
    k0_pay13 (F := F) (wBlk x2 ⟨(y 0).val / 128, by omega⟩) (sRow x3 ⟨(y 0).val / 128, by omega⟩) (Groups.inGroup (W := 128) (by decide) (y 0).val (y 1))
  else
    k0_pay14 (F := F) (wBlk x2 ⟨((y 0).val - 5376) / 128, by have := (y 0).isLt; have e : S10752x512.size 0 = 10752 := rfl; omega⟩)
      (sRow x3 ⟨42 + ((y 0).val - 5376) / 128, by have := (y 0).isLt; have e : S10752x512.size 0 = 10752 := rfl; omega⟩)
      (Groups.inGroup (W := 128) (by decide) ((y 0).val - 5376) (y 1))

/-- After both loops the scratch reads as the widened weights, whatever it held. -/
theorem read_wide (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (f : BufTy.Contents (Elt F) arg8.view.ty) :
    arg8.view.read (Elt F) (arg8.view.writes (Elt F) f
        (pb_k0_t2 (F := F) 𝒱 c bd i arg2 harg2 arg3 harg3 arg4 harg4 arg5 harg5 arg6 harg6 arg7 harg7 arg8 harg8 arg9 harg9 arg10 harg10 X4 X5 42 ++ pb_k0_t1 (F := F) 𝒱 c bd i arg2 harg2 arg3 harg3 arg4 harg4 arg5 harg5 arg6 harg6 arg7 harg7 arg8 harg8 arg9 harg9 arg10 harg10 X4 X5 42))
      = wide (F := F) (arg4.view.read (Elt F) X4) (arg5.view.read (Elt F) X5) := by
  funext y
  obtain ⟨r, l, rfl⟩ : ∃ (r : Fin 10752) (l : Fin 512), y = ix2 r l := ⟨y 0, y 1, by funext a; match a with | 0 => rfl | 1 => rfl⟩
  have o3 : ∀ k : Fin k0_t1_loop.trips, k0_off3 k = ![0 + 128 * k.val, 0] := by decide +kernel
  have o6 : ∀ k : Fin k0_t2_loop.trips, k0_off6 k = ![5376 + 128 * k.val, 0] := by decide +kernel
  have g2 := Groups.read_groups (W := 128) (by decide) arg8.view f 5376 42
    (fun k => if h : k < 42 then k0_pay14 (F := F) (wBlk (arg4.view.read (Elt F) X4) ⟨k, h⟩) (sRow (arg5.view.read (Elt F) X5) ⟨42 + k, by omega⟩) else fun _ => arg8.view.read (Elt F) f (ix2 r l))
    (pb_k0_t2 (F := F) 𝒱 c bd i arg2 harg2 arg3 harg3 arg4 harg4 arg5 harg5 arg6 harg6 arg7 harg7 arg8 harg8 arg9 harg9 arg10 harg10 X4 X5) rfl
    (fun k hk => by
      obtain ⟨inb, e⟩ := tripL_t2 (F := F) 𝒱 c bd i arg2 harg2 arg3 harg3 arg4 harg4 arg5 harg5 arg6 harg6 arg7 harg7 arg8 harg8 arg9 harg9 arg10 harg10 X4 X5 ⟨k, hk⟩
      refine ⟨k0_off6 ⟨k, hk⟩, inb, o6 ⟨k, hk⟩, ?_⟩
      rw [dif_pos hk, ← e]
      exact pb_k0_t2_succ (F := F) 𝒱 c bd i arg2 harg2 arg3 harg3 arg4 harg4 arg5 harg5 arg6 harg6 arg7 harg7 arg8 harg8 arg9 harg9 arg10 harg10 X4 X5 ⟨k, hk⟩) 42 le_rfl
  have g1 := Groups.read_groups (W := 128) (by decide) arg8.view f 0 42
    (fun k => if h : k < 42 then k0_pay13 (F := F) (wBlk (arg4.view.read (Elt F) X4) ⟨k, h⟩) (sRow (arg5.view.read (Elt F) X5) ⟨k, by omega⟩) else fun _ => arg8.view.read (Elt F) f (ix2 r l))
    (pb_k0_t1 (F := F) 𝒱 c bd i arg2 harg2 arg3 harg3 arg4 harg4 arg5 harg5 arg6 harg6 arg7 harg7 arg8 harg8 arg9 harg9 arg10 harg10 X4 X5) rfl
    (fun k hk => by
      obtain ⟨inb, e⟩ := tripL_t1 (F := F) 𝒱 c bd i arg2 harg2 arg3 harg3 arg4 harg4 arg5 harg5 arg6 harg6 arg7 harg7 arg8 harg8 arg9 harg9 arg10 harg10 X4 X5 ⟨k, hk⟩
      refine ⟨k0_off3 ⟨k, hk⟩, inb, o3 ⟨k, hk⟩, ?_⟩
      rw [dif_pos hk, ← e]
      exact pb_k0_t1_succ (F := F) 𝒱 c bd i arg2 harg2 arg3 harg3 arg4 harg4 arg5 harg5 arg6 harg6 arg7 harg7 arg8 harg8 arg9 harg9 arg10 harg10 X4 X5 ⟨k, hk⟩) 42 le_rfl [] r l
  rw [List.append_nil] at g1
  rw [g2 _ r l, g1]
  unfold wide
  have hr := r.isLt
  by_cases h : r.val < 5376
  · rw [if_neg (by omega), if_pos (by omega), dif_pos (show ((ix2 r l : S10752x512.Idx) 0).val < 5376 from h), dif_pos (by omega)]; rfl
  · rw [if_pos (by omega), dif_neg (show ¬ ((ix2 r l : S10752x512.Idx) 0).val < 5376 from h), dif_pos (by omega)]; rfl
end Cert.DownIdeal.Body
end
-- ==== Proof.DownBody.lean ====
module
public import proofs.«01_k».proof.Proof.Gen.DownIdeal.Frame
public import proofs.«01_k».proof.Proof.DownWide

@[expose] public section
set_option maxRecDepth 16384
noncomputable section
namespace Cert.DownIdeal.Body
open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The condition of the first point of a row of the grid. -/
theorem first_iff : ∀ j : Fin 7, Iff (Scalar.cmpi .ne (Scalar.extui (Scalar.cmpi .eq (BitVec.ofNat 32 j.val) 0#32)) 0#32 = 1#1) (j.val = 0) := by decide +kernel

/-- The products' scratch after a point: that point's slot at its product. -/
def yNext (i : grid0.Coords) (y : Vec F S7x512x512 .f32) (x0 : Vec F S512x10752 .fp8e4m3) (x1 : Vec F S512x1 .f32) (x2 : Vec F S5376x512 .i8) (x3 : Vec F S84x512 .f32) : Vec F S7x512x512 .f32 :=
  VecWindow.put y (k0_off7 i) S1x512x512.size (k0_pay16 (F := F) x0 (wide (F := F) x2 x3) x1)

/-- The running maxima after a point. -/
def aNext (i : grid0.Coords) (a : Vec F S512x128 .f32) (x0 : Vec F S512x10752 .fp8e4m3) (x1 : Vec F S512x1 .f32) (x2 : Vec F S5376x512 .i8) (x3 : Vec F S84x512 .f32) : Vec F S512x128 .f32 :=
  k0_pay1 (F := F) (k0_pay17 (F := F) x0 (wide (F := F) x2 x3) x1 (if (i 1).val = 0 then k0_pay12 (F := F) else a))

set_option maxHeartbeats 4000000 in
theorem sound_step (c : Dev nD) (E : Set ℕ) (i : grid0.Coords) (h2 : ¬ k0_cond2 i = 1#1) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (x0 : Vec F S512x10752 .fp8e4m3) (x1 : Vec F S512x1 .f32) (x2 : Vec F S5376x512 .i8) (x3 : Vec F S84x512 .f32) (x4 : Vec F S512x3584 .fp8e4m3) (x5 : Vec F S512x1 .f32) (x6 : Vec F S10752x512 .bf16) (x7 : Vec F S7x512x512 .f32) (x8 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (yNext (F := F) i x7 x0 x1 x2 x3) ∗ owns (c : Thread nD τ) arg10 fullShare (aNext (F := F) i x8 x0 x1 x2 x3)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  have e7 : sound_step.sl.v7 c i arg2 harg2 arg3 harg3 arg4 harg4 arg5 harg5 arg6 harg6 arg7 harg7 arg8 harg8 arg9 harg9 arg10 harg10 f2 f3 f6 = wide (F := F) (arg4.view.read (Elt F) f2) (arg5.view.read (Elt F) f3) := by
    unfold sound_step.sl.v7
    exact (View.readAt_full _ _ _).trans (read_wide (F := F) Variants.none c none i arg2 harg2 arg3 harg3 arg4 harg4 arg5 harg5 arg6 harg6 arg7 harg7 arg8 harg8 arg9 harg9 arg10 harg10 f2 f3 f6)
  have e18 : sound_step.sl.v18 c i arg10 f8 = (if (i 1).val = 0 then k0_pay12 (F := F) else arg10.view.read (Elt F) f8) := by
    unfold sound_step.sl.v18
    refine (View.readAt_full _ _ _).trans ?_
    have hc : sound_step.sl.v2 i = 1#1 ↔ (i 1).val = 0 := by
      unfold sound_step.sl.v2 sound_step.sl.v1
      exact first_iff (i 1)
    by_cases h0 : (i 1).val = 0
    · rw [dif_pos (hc.mpr h0), if_pos h0]; exact View.read_writes_full _ _ _ _ _
    · rw [dif_neg (fun h => h0 (hc.mp h)), if_neg h0]
  have er : sound_step.sl.r c i arg2 harg2 arg3 harg3 arg4 harg4 arg5 harg5 arg6 harg6 arg7 harg7 arg8 harg8 arg9 harg9 arg10 harg10 f0 f1 f2 f3 f6 f8 = k0_pay17 (F := F) (arg2.view.read (Elt F) f0) (wide (F := F) (arg4.view.read (Elt F) f2) (arg5.view.read (Elt F) f3)) (arg3.view.read (Elt F) f1) (if (i 1).val = 0 then k0_pay12 (F := F) else arg10.view.read (Elt F) f8) := by
    unfold sound_step.sl.r
    rw [e7, e18, View.readAt_full, View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists _; iexists _; isplitr; swap; · iexact H6
                  ipureintro; rfl
  isplitl [H7]
  · iexists _; isplitr; swap; · iexact H7
    ipureintro
    unfold yNext
    rw [e7, View.readAt_full, View.readAt_full]
    exact View.read_writes_cons_put _ _ _ _ [] rfl
  iexists _; isplitr; swap; · iexact H8
  ipureintro
  unfold aNext
  rw [er]
  exact View.read_writes_full _ _ _ _ _

/-- Slot `j` of the products' scratch. -/
def slot (y : Vec F S7x512x512 .f32) (j : Fin 7) : Vec F S1x512x512 .f32 :=
  fun z => y (ix3 j (z 1) (z 2))

/-- The codes written after the last slot: tile `q` of the columns from slot `q`. -/
def codesOf (a : Vec F S512x128 .f32) (y : Vec F S7x512x512 .f32) : Vec F S512x3584 .fp8e4m3 := fun z =>
  k0_pay5 (F := F) a (slot y ⟨(z 1).val / 512, by have := (z 1).isLt; have h : S512x3584.size 1 = 3584 := rfl; omega⟩)
    (ix2 (z 0) ⟨(z 1).val % 512, Nat.mod_lt _ (by decide)⟩)

/-- A store of a tile of 512 columns, read at an index. -/
theorem read_cons_col {arg6 : Memref sig .tc .vmem S512x3584 .fp8e4m3} (f : BufTy.Contents (Elt F) arg6.view.ty) (o : ℕ)
    (inb : ∀ a : Fin 2, (![0, o] : Fin 2 → ℕ) a + S512x512.size a ≤ S512x3584.size a) (w : Vec F S512x512 .fp8e4m3)
    (L : List (View.Piece (Elt F) S512x3584 .fp8e4m3)) (r : Fin 512) (l : Fin 3584) :
    arg6.view.read (Elt F) (arg6.view.writes (Elt F) f (⟨Rect.unit (s := S512x3584) ![0, o] S512x512.size inb, w⟩ :: L)) (ix2 r l)
      = if h : o ≤ l.val ∧ l.val < o + 512 then w (ix2 r ⟨l.val - o, by omega⟩) else arg6.view.read (Elt F) (arg6.view.writes (Elt F) f L) (ix2 r l) := by
  by_cases h : o ≤ l.val ∧ l.val < o + 512
  · rw [dif_pos h]
    refine View.read_writes_cons_unit_of_mem arg6.view f inb w L (ix2 r l) (ix2 r (⟨l.val - o, by omega⟩ : Fin 512)) rfl fun a => ?_
    match a with
    | 0 => exact (Nat.zero_add _).symm
    | 1 => show l.val = o + (l.val - o); omega
  · rw [dif_neg h]
    refine View.read_writes_cons_unit_of_not_mem _ _ _ _ _ _ rfl 1 ?_
    show l.val < o ∨ o + 512 ≤ l.val
    omega

/-- The seven stores of the codes, read as `codesOf`. -/
theorem read_codes {arg6 : Memref sig .tc .vmem S512x3584 .fp8e4m3} (f : BufTy.Contents (Elt F) arg6.view.ty)
    (a : Vec F S512x128 .f32) (y : Vec F S7x512x512 .f32) (i0 i1 i2 i3 i4 i5 i6) :
    arg6.view.read (Elt F) (arg6.view.writes (Elt F) f
      [⟨Rect.unit (s := S512x3584) ![0, 3072] S512x512.size i6, k0_pay5 (F := F) a (slot y 6)⟩,
       ⟨Rect.unit (s := S512x3584) ![0, 2560] S512x512.size i5, k0_pay5 (F := F) a (slot y 5)⟩,
       ⟨Rect.unit (s := S512x3584) ![0, 2048] S512x512.size i4, k0_pay5 (F := F) a (slot y 4)⟩,
       ⟨Rect.unit (s := S512x3584) ![0, 1536] S512x512.size i3, k0_pay5 (F := F) a (slot y 3)⟩,
       ⟨Rect.unit (s := S512x3584) ![0, 1024] S512x512.size i2, k0_pay5 (F := F) a (slot y 2)⟩,
       ⟨Rect.unit (s := S512x3584) ![0, 512] S512x512.size i1, k0_pay5 (F := F) a (slot y 1)⟩,
       ⟨Rect.unit (s := S512x3584) ![0, 0] S512x512.size i0, k0_pay5 (F := F) a (slot y 0)⟩]) = codesOf a y := by
  funext z
  obtain ⟨r, l, rfl⟩ : ∃ (r : Fin 512) (l : Fin 3584), z = ix2 r l := ⟨z 0, z 1, by funext a; match a with | 0 => rfl | 1 => rfl⟩
  have hl := l.isLt
  have key : ∀ (q : Fin 7) (h : 512 * q.val ≤ l.val ∧ l.val < 512 * q.val + 512),
      codesOf a y (ix2 r l) = k0_pay5 (F := F) a (slot y q) (ix2 r ⟨l.val - 512 * q.val, by omega⟩) := fun q h => by
    have e1 : (⟨l.val / 512, by omega⟩ : Fin 7) = q := Fin.ext (by show l.val / 512 = q.val; omega)
    have e2 : (⟨l.val % 512, Nat.mod_lt _ (by decide)⟩ : Fin 512) = ⟨l.val - 512 * q.val, by omega⟩ := Fin.ext (by show l.val % 512 = l.val - 512 * q.val; omega)
    show k0_pay5 (F := F) a (slot y ⟨l.val / 512, _⟩) (ix2 r ⟨l.val % 512, _⟩) = _
    rw [e1, e2]
  by_cases c6 : 3072 ≤ l.val
  · rw [read_cons_col, dif_pos (by omega)]; exact (key 6 (by show 512 * 6 ≤ _ ∧ _ < 512 * 6 + 512; omega)).symm
  by_cases c5 : 2560 ≤ l.val
  · rw [read_cons_col, dif_neg (by omega), read_cons_col, dif_pos (by omega)]; exact (key 5 (by show 512 * 5 ≤ _ ∧ _ < 512 * 5 + 512; omega)).symm
  by_cases c4 : 2048 ≤ l.val
  · rw [read_cons_col, dif_neg (by omega), read_cons_col, dif_neg (by omega), read_cons_col, dif_pos (by omega)]; exact (key 4 (by show 512 * 4 ≤ _ ∧ _ < 512 * 4 + 512; omega)).symm
  by_cases c3 : 1536 ≤ l.val
  · rw [read_cons_col, dif_neg (by omega), read_cons_col, dif_neg (by omega), read_cons_col, dif_neg (by omega), read_cons_col, dif_pos (by omega)]; exact (key 3 (by show 512 * 3 ≤ _ ∧ _ < 512 * 3 + 512; omega)).symm
  by_cases c2 : 1024 ≤ l.val
  · rw [read_cons_col, dif_neg (by omega), read_cons_col, dif_neg (by omega), read_cons_col, dif_neg (by omega), read_cons_col, dif_neg (by omega), read_cons_col, dif_pos (by omega)]; exact (key 2 (by show 512 * 2 ≤ _ ∧ _ < 512 * 2 + 512; omega)).symm
  by_cases c1 : 512 ≤ l.val
  · rw [read_cons_col, dif_neg (by omega), read_cons_col, dif_neg (by omega), read_cons_col, dif_neg (by omega), read_cons_col, dif_neg (by omega), read_cons_col, dif_neg (by omega), read_cons_col, dif_pos (by omega)]; exact (key 1 (by show 512 * 1 ≤ _ ∧ _ < 512 * 1 + 512; omega)).symm
  rw [read_cons_col, dif_neg (by omega), read_cons_col, dif_neg (by omega), read_cons_col, dif_neg (by omega), read_cons_col, dif_neg (by omega), read_cons_col, dif_neg (by omega), read_cons_col, dif_neg (by omega), read_cons_col, dif_pos (by omega)]
  exact (key 0 (by show 512 * 0 ≤ _ ∧ _ < 512 * 0 + 512; omega)).symm

/-- A load of one slot of the products' scratch. -/
theorem readAt_slot {arg9 : Memref sig .tc .vmem S7x512x512 .f32} (f : BufTy.Contents (Elt F) arg9.view.ty) (j : Fin 7)
    (inb : ∀ a : Fin 3, (![j.val, 0, 0] : Fin 3 → ℕ) a + S1x512x512.size a ≤ S7x512x512.size a) :
    View.readAt (Elt F) arg9.view (Rect.unit (s := S7x512x512) ![j.val, 0, 0] S1x512x512.size inb).toLoadRect f = slot (arg9.view.read (Elt F) f) j := by
  funext z
  refine congrArg (arg9.view.read (Elt F) f) (funext fun a => Fin.ext ?_)
  match a with
  | 0 => show j.val + 1 * (z 0).val = j.val; have h0 : (z 0).val = 0 := Nat.lt_one_iff.mp (z 0).isLt; omega
  | 1 => show 0 + 1 * (z 1).val = (z 1).val; omega
  | 2 => show 0 + 1 * (z 2).val = (z 2).val; omega

set_option maxHeartbeats 4000000 in
theorem sound_last (c : Dev nD) (E : Set ℕ) (i : grid0.Coords) (h2 : k0_cond2 i = 1#1) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (x0 : Vec F S512x10752 .fp8e4m3) (x1 : Vec F S512x1 .f32) (x2 : Vec F S5376x512 .i8) (x3 : Vec F S84x512 .f32) (x4 : Vec F S512x3584 .fp8e4m3) (x5 : Vec F S512x1 .f32) (x6 : Vec F S10752x512 .bf16) (x7 : Vec F S7x512x512 .f32) (x8 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codesOf (F := F) (aNext (F := F) i x8 x0 x1 x2 x3) (yNext (F := F) i x7 x0 x1 x2 x3)) ∗ owns (c : Thread nD τ) arg7 fullShare (k0_pay4 (F := F) (aNext (F := F) i x8 x0 x1 x2 x3)) ∗ (∃ d, owns (c : Thread nD τ) arg8 fullShare d) ∗ owns (c : Thread nD τ) arg9 fullShare (yNext (F := F) i x7 x0 x1 x2 x3) ∗ owns (c : Thread nD τ) arg10 fullShare (aNext (F := F) i x8 x0 x1 x2 x3)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  have e7 : sound_last.sl.v7 c i arg2 harg2 arg3 harg3 arg4 harg4 arg5 harg5 arg6 harg6 arg7 harg7 arg8 harg8 arg9 harg9 arg10 harg10 f2 f3 f6 = wide (F := F) (arg4.view.read (Elt F) f2) (arg5.view.read (Elt F) f3) := by
    unfold sound_last.sl.v7
    exact (View.readAt_full _ _ _).trans (read_wide (F := F) Variants.none c none i arg2 harg2 arg3 harg3 arg4 harg4 arg5 harg5 arg6 harg6 arg7 harg7 arg8 harg8 arg9 harg9 arg10 harg10 f2 f3 f6)
  have e18 : sound_last.sl.v18 c i arg10 f8 = (if (i 1).val = 0 then k0_pay12 (F := F) else arg10.view.read (Elt F) f8) := by
    unfold sound_last.sl.v18
    refine (View.readAt_full _ _ _).trans ?_
    have hc : sound_last.sl.v2 i = 1#1 ↔ (i 1).val = 0 := by
      unfold sound_last.sl.v2 sound_last.sl.v1
      exact first_iff (i 1)
    by_cases h0 : (i 1).val = 0
    · rw [dif_pos (hc.mpr h0), if_pos h0]; exact View.read_writes_full _ _ _ _ _
    · rw [dif_neg (fun h => h0 (hc.mp h)), if_neg h0]
  have er : sound_last.sl.r c i arg2 harg2 arg3 harg3 arg4 harg4 arg5 harg5 arg6 harg6 arg7 harg7 arg8 harg8 arg9 harg9 arg10 harg10 f0 f1 f2 f3 f6 f8 = k0_pay17 (F := F) (arg2.view.read (Elt F) f0) (wide (F := F) (arg4.view.read (Elt F) f2) (arg5.view.read (Elt F) f3)) (arg3.view.read (Elt F) f1) (if (i 1).val = 0 then k0_pay12 (F := F) else arg10.view.read (Elt F) f8) := by
    unfold sound_last.sl.r
    rw [e7, e18, View.readAt_full, View.readAt_full]
  have e37 : sound_last.sl.v37 c i arg2 harg2 arg3 harg3 arg4 harg4 arg5 harg5 arg6 harg6 arg7 harg7 arg8 harg8 arg9 harg9 arg10 harg10 f0 f1 f2 f3 f6 f8 = aNext (F := F) i (arg10.view.read (Elt F) f8) (arg2.view.read (Elt F) f0) (arg3.view.read (Elt F) f1) (arg4.view.read (Elt F) f2) (arg5.view.read (Elt F) f3) := by
    unfold sound_last.sl.v37 sound_last.sl.H8_1 aNext
    rw [er]
    exact View.readAt_writes_full _ _ _ _ _ _
  have ey : arg9.view.read (Elt F) (arg9.view.writes (Elt F) f7 (sound_last.sl.H7_1 c i arg2 harg2 arg3 harg3 arg4 harg4 arg5 harg5 arg6 harg6 arg7 harg7 arg8 harg8 arg9 harg9 arg10 harg10 f0 f1 f2 f3 f6)) = yNext (F := F) i (arg9.view.read (Elt F) f7) (arg2.view.read (Elt F) f0) (arg3.view.read (Elt F) f1) (arg4.view.read (Elt F) f2) (arg5.view.read (Elt F) f3) := by
    unfold sound_last.sl.H7_1 yNext
    rw [e7, View.readAt_full, View.readAt_full]
    exact View.read_writes_cons_put _ _ _ _ [] rfl
  have s0 : sound_last.sl.v47 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 0 := by
    unfold sound_last.sl.v47
    rw [← ey]
    exact readAt_slot _ 0 _
  have s1 : sound_last.sl.v57 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 1 := by
    unfold sound_last.sl.v57
    rw [← ey]
    exact readAt_slot _ 1 _
  have s2 : sound_last.sl.v67 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 2 := by
    unfold sound_last.sl.v67
    rw [← ey]
    exact readAt_slot _ 2 _
  have s3 : sound_last.sl.v77 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 3 := by
    unfold sound_last.sl.v77
    rw [← ey]
    exact readAt_slot _ 3 _
  have s4 : sound_last.sl.v87 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 4 := by
    unfold sound_last.sl.v87
    rw [← ey]
    exact readAt_slot _ 4 _
  have s5 : sound_last.sl.v97 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 5 := by
    unfold sound_last.sl.v97
    rw [← ey]
    exact readAt_slot _ 5 _
  have s6 : sound_last.sl.v107 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 6 := by
    unfold sound_last.sl.v107
    rw [← ey]
    exact readAt_slot _ 6 _
  have q1 : sound_last.sl.r_1 c i arg2 harg2 arg3 harg3 arg4 harg4 arg5 harg5 arg6 harg6 arg7 harg7 arg8 harg8 arg9 harg9 arg10 harg10 f0 f1 f2 f3 f6 f8 = k0_pay4 (F := F) (aNext (F := F) i (arg10.view.read (Elt F) f8) (arg2.view.read (Elt F) f0) (arg3.view.read (Elt F) f1) (arg4.view.read (Elt F) f2) (arg5.view.read (Elt F) f3)) := by
    unfold sound_last.sl.r_1
    rw [e37]
  have q2 : sound_last.sl.r_2 c i arg2 harg2 arg3 harg3 arg4 harg4 arg5 harg5 arg6 harg6 arg7 harg7 arg8 harg8 arg9 harg9 arg10 harg10 f0 f1 f2 f3 f6 f7 = k0_pay7 (F := F) (slot (F := F) (yNext (F := F) i (arg9.view.read (Elt F) f7) (arg2.view.read (Elt F) f0) (arg3.view.read (Elt F) f1) (arg4.view.read (Elt F) f2) (arg5.view.read (Elt F) f3)) 2) := by
    unfold sound_last.sl.r_2
    rw [s2]
  have q3 : sound_last.sl.r_3 c i arg2 harg2 arg3 harg3 arg4 harg4 arg5 harg5 arg6 harg6 arg7 harg7 arg8 harg8 arg9 harg9 arg10 harg10 f0 f1 f2 f3 f6 f7 f8 = k0_pay11 (F := F) (k0_pay4 (F := F) (aNext (F := F) i (arg10.view.read (Elt F) f8) (arg2.view.read (Elt F) f0) (arg3.view.read (Elt F) f1) (arg4.view.read (Elt F) f2) (arg5.view.read (Elt F) f3))) (slot (F := F) (yNext (F := F) i (arg9.view.read (Elt F) f7) (arg2.view.read (Elt F) f0) (arg3.view.read (Elt F) f1) (arg4.view.read (Elt F) f2) (arg5.view.read (Elt F) f3)) 5) := by
    unfold sound_last.sl.r_3
    rw [q1, s5]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists _; isplitr; swap; · iexact H4
                  ipureintro
                  rw [q1, q2, q3, e37, s0, s1, s3, s4, s6]
                  exact read_codes (F := F) f4 (aNext (F := F) i (arg10.view.read (Elt F) f8) (arg2.view.read (Elt F) f0) (arg3.view.read (Elt F) f1) (arg4.view.read (Elt F) f2) (arg5.view.read (Elt F) f3)) (yNext (F := F) i (arg9.view.read (Elt F) f7) (arg2.view.read (Elt F) f0) (arg3.view.read (Elt F) f1) (arg4.view.read (Elt F) f2) (arg5.view.read (Elt F) f3)) _ _ _ _ _ _ _
  isplitl [H5]; · iexists _; isplitr; swap; · iexact H5
                  ipureintro
                  rw [e37]
                  exact View.read_writes_full _ _ _ _ _
  isplitl [H6]; · iexists _; iexists _; isplitr; swap; · iexact H6
                  ipureintro; rfl
  isplitl [H7]
  · iexists _; isplitr; swap; · iexact H7
    ipureintro
    exact ey
  iexists _; isplitr; swap; · iexact H8
  ipureintro
  unfold aNext sound_last.sl.H8_1
  rw [er]
  exact View.read_writes_full _ _ _ _ _

end Cert.DownIdeal.Body
end
-- ==== Proof.Nibbles.lean ====
/-
  Four-bit weights: the two halves of a byte, and a row of products over weights widened to sixteen times their value.
-/
module

public import Idealize.ShloMosaic.Lib.Pointwise
public import Idealize.ShloMosaic.Lib.BitcastFour

@[expose] public section

set_option maxRecDepth 16384

noncomputable section

namespace Cert.Proof.Nibbles

open Idealize.ShloMosaic

/-- Thirty-two bit words read at eight bits: row `p` of a column is byte `p % 4` of word `p / 4`. -/
theorem bitcast_32_8_getLsbD_ix2 {R r n : Nat} (y : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 y h (ix2 p l)).getLsbD q = (y (ix2 a l)).getLsbD (8 * (p.val % 4) + q) := by
  rw [bitcast_getLsbD y h _ q hq (by decide)]
  have hrow : (⟨2, ![R, n]⟩ : Shape).row (ix2 p l) = p.val := rfl
  have e2 : ((⟨2, ![R, n]⟩ : Shape).row (ix2 p l) * 8 + q) % 32 = 8 * (p.val % 4) + q := by rw [hrow]; omega
  rw [e2]
  congr 2
  funext c
  refine Fin.ext ?_
  match c with
  | 0 => show ((⟨2, ![R, n]⟩ : Shape).row (ix2 p l) * 8 + q) / 32 = a.val; rw [hrow]; omega
  | 1 => rfl

/-- Four bytes read as a word, bit by bit. -/
theorem four_bits {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) :=
  bitcast_8_32_getLsbD_ix2 x h a l q hq p hp

variable {R r n : Nat}

theorem mask_bit : ∀ (m : Fin 4) (q : Fin 8), (4042322160#32).getLsbD (8 * m.val + q.val) = (240#8).getLsbD q.val := by decide +kernel

/-- The high halves of four bytes masked in a word. -/
theorem high_byte (x : IVec ⟨2, ![R, n]⟩ 8) (h : (⟨2, ![R, n]⟩ : Shape).Bitcasts 8 ⟨2, ![r, n]⟩ 32)
    (h' : (⟨2, ![r, n]⟩ : Shape).Bitcasts 32 ⟨2, ![R, n]⟩ 8) (hR : R = 4 * r) (p : Fin R) (l : Fin n) :
    bitcast ⟨2, ![R, n]⟩ 8 (andi (bitcast ⟨2, ![r, n]⟩ 32 x h) (broadcast ⟨2, ![r, n]⟩ 4042322160#32)) h' (ix2 p l)
      = x (ix2 p l) &&& 240#8 := by
  refine BitVec.eq_of_getLsbD_eq fun q hq => ?_
  have hp := p.isLt
  rw [bitcast_32_8_getLsbD_ix2 _ h' p l q hq ⟨p.val / 4, by omega⟩ rfl]
  show (bitcast ⟨2, ![r, n]⟩ 32 x h (ix2 _ l) &&& 4042322160#32).getLsbD _ = _
  rw [BitVec.getLsbD_and, four_bits x h _ l _ (by omega) p (by show p.val = 4 * (p.val / 4) + _; omega), BitVec.getLsbD_and]
  have e := mask_bit ⟨p.val % 4, by omega⟩ ⟨q, hq⟩
  rw [show (8 * (p.val % 4) + q) % 8 = q by omega]
  exact congrArg _ e

/-- The low halves of four bytes shifted up and masked in a word. -/
theorem low_byte (x : IVec ⟨2, ![R, n]⟩ 8) (h : (⟨2, ![R, n]⟩ : Shape).Bitcasts 8 ⟨2, ![r, n]⟩ 32)
    (h' : (⟨2, ![r, n]⟩ : Shape).Bitcasts 32 ⟨2, ![R, n]⟩ 8) (hR : R = 4 * r) (p : Fin R) (l : Fin n) :
    bitcast ⟨2, ![R, n]⟩ 8 (andi (shli (bitcast ⟨2, ![r, n]⟩ 32 x h) (broadcast ⟨2, ![r, n]⟩ 4#32)) (broadcast ⟨2, ![r, n]⟩ 4042322160#32)) h' (ix2 p l)
      = x (ix2 p l) <<< 4 := by
  refine BitVec.eq_of_getLsbD_eq fun q hq => ?_
  have hp := p.isLt
  rw [bitcast_32_8_getLsbD_ix2 _ h' p l q hq ⟨p.val / 4, by omega⟩ rfl]
  show ((IntOp.shli .vector (bitcast ⟨2, ![r, n]⟩ 32 x h (ix2 _ l)) 4#32) &&& 4042322160#32).getLsbD _ = _
  rw [show IntOp.shli .vector (bitcast ⟨2, ![r, n]⟩ 32 x h (ix2 ⟨p.val / 4, by omega⟩ l)) 4#32 = bitcast ⟨2, ![r, n]⟩ 32 x h (ix2 ⟨p.val / 4, by omega⟩ l) <<< 4 from rfl,
    BitVec.getLsbD_and, BitVec.getLsbD_shiftLeft, BitVec.getLsbD_shiftLeft]
  have e := mask_bit ⟨p.val % 4, by omega⟩ ⟨q, hq⟩
  have e' : (4042322160#32).getLsbD (8 * (p.val % 4) + q) = (240#8).getLsbD q := e
  rw [e']
  by_cases hq4 : q < 4
  · have : (240#8).getLsbD q = false := by
      have : ∀ q : Fin 4, (240#8).getLsbD q.val = false := by decide
      exact this ⟨q, hq4⟩
    rw [this]
    simp [hq4]
  · have : (240#8).getLsbD q = true := by
      have : ∀ q : Fin 4, (240#8).getLsbD (4 + q.val) = true := by decide
      have := this ⟨q - 4, by omega⟩
      rwa [show 4 + (q - 4) = q by omega] at this
    rw [this, four_bits x h _ l _ (by omega) p (by show p.val = 4 * (p.val / 4) + _; omega)]
    rw [show (8 * (p.val % 4) + q - 4) % 8 = q - 4 by omega]
    simp [hq4, hq]
    omega

/-- A four-bit field read with its sign. -/
def signed (v : BitVec 32) : BitVec 32 := if IntOp.cmpi .sge v 8#32 = 1#1 then v - 16#32 else v

/-- The low half of a byte, with its sign. -/
def lowNib (w : BitVec 8) : Int := (signed (w.setWidth 32 &&& 15#32)).toInt

/-- The high half of a byte, with its sign. -/
def highNib (w : BitVec 8) : Int := (signed (IntOp.shrsi .vector (w.setWidth 32) 4#32)).toInt

theorem low_toInt (w : BitVec 8) : (w <<< 4).toInt = 16 * lowNib w := by
  have key : ∀ n : Fin 256, ((BitVec.ofFin n : BitVec 8) <<< 4).toInt = 16 * lowNib (BitVec.ofFin n) := by decide +kernel
  exact key w.toFin

theorem high_toInt (w : BitVec 8) : (w &&& 240#8).toInt = 16 * highNib w := by
  have key : ∀ n : Fin 256, ((BitVec.ofFin n : BitVec 8) &&& 240#8).toInt = 16 * highNib (BitVec.ofFin n) := by decide +kernel
  exact key w.toFin

/-- An integer as an extended real. -/
def val (i : Int) : EReal := (((i : ℝ)) : EReal)

theorem val_sixteen (i : Int) : val (16 * i) = 16 * val i := by
  unfold val
  rw [Int.cast_mul, EReal.coe_mul]
  rfl

/-- Sixteen times a sum. -/
theorem sixteen_sum {ι : Type} (s : Finset ι) (f : ι → EReal) : ∑ k ∈ s, (16 : EReal) * f k = 16 * ∑ k ∈ s, f k := by
  classical
  refine Finset.induction_on s (by simp) fun a s ha ih => ?_
  rw [Finset.sum_insert ha, Finset.sum_insert ha, ih, EReal.left_distrib_of_nonneg_of_ne_top (by norm_num) (by decide)]

theorem sixteen_bits : Ideal.ofBits .f32 0x41800000#32 = 16 := by
  have h : Ideal.ofBits .f32 0x41800000#32 = ((16 : ℝ) : EReal) := by
    simp [Ideal.ofBits, Ideal.ieee, -EReal.coe_mul]; norm_num
  rw [h]; rfl

/-- A row of products: codes against the signed halves of bytes, each half with its own scales, times the row's scale. -/
def rowOf {H : Nat} (xl xh : Fin H → EReal) (w : Fin H → BitVec 8) (sl sh : Fin H → EReal) (cs : EReal) : EReal :=
  ((∑ k, xl k * (val (lowNib (w k)) * sl k)) + ∑ k, xh k * (val (highNib (w k)) * sh k)) * cs

/-- The same from weights sixteen times too large, against a sixteenth of the row's scale. -/
theorem rowOf_wide {H : Nat} (xl xh : Fin H → EReal) (w : Fin H → BitVec 8) (sl sh : Fin H → EReal) (cs : EReal) :
    ((∑ k, xl k * (val (16 * lowNib (w k)) * sl k)) + ∑ k, xh k * (val (16 * highNib (w k)) * sh k)) * Ideal.div cs 16
      = rowOf xl xh w sl sh cs := by
  have hl : ∀ (x v s : EReal), x * (16 * v * s) = 16 * (x * (v * s)) := fun x v s => by
    rw [mul_assoc, mul_left_comm]
  simp only [val_sixteen, hl]
  rw [sixteen_sum, sixteen_sum, ← EReal.left_distrib_of_nonneg_of_ne_top (by norm_num) (by decide)]
  unfold rowOf Ideal.div
  rw [if_neg (by norm_num), mul_comm cs, ← mul_assoc, mul_comm (16 : EReal), mul_assoc _ (16 : EReal)]
  have h : (16 : EReal) * (16 : EReal)⁻¹ = 1 := by
    have e : (16 : EReal) = ((16 : ℝ) : EReal) := rfl
    rw [e, ← EReal.coe_inv, ← EReal.coe_mul]; norm_num
  rw [h, mul_one]

/-- A sum over both halves of its range. -/
theorem sum_halves {H N : Nat} (h : N = H + H) (f : Fin N → EReal) :
    ∑ k, f k = (∑ k : Fin H, f ⟨k.val, by omega⟩) + ∑ k : Fin H, f ⟨H + k.val, by omega⟩ := by
  subst h
  exact Fin.sum_univ_add f

theorem signed_eq (v : BitVec 32) : Scalar.select (IntOp.cmpi .sge v 8#32) (IntOp.subi v 16#32) v = signed v := rfl

end Cert.Proof.Nibbles

end
-- ==== Proof.RowBounds.lean ====
/-
  Row maxima by the bounds they satisfy, and the scale column of a matrix of partial maxima.
-/
module

public import proofs.«01_k».proof.Proof.Rows

@[expose] public section

set_option maxRecDepth 16384

noncomputable section

namespace Cert.Proof.Rows

open Idealize.ShloMosaic

variable {M N : Nat}

theorem negInf : Ideal.ofBits .f32 0xFF800000#32 = ⊥ := by
  simp [Ideal.ofBits, Ideal.ieee]

/-- A row's maximum is below what every entry is below. -/
theorem rowMax_le (f : Fin N → EReal) (c : EReal) : rowMax f ≤ c ↔ ∀ k, f k ≤ c := by
  unfold rowMax
  rw [Finset.fold_max_le, negInf]
  simp

/-- The magnitude of an extended real. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (by simpa using EReal.neg_le_neg_iff.mpr h)

/-- The scales of rows whose partial maxima stand in a matrix, in the operations the kernels write. -/
def maxScaleCol (A : FVec Ideal ⟨2, ![M, N]⟩ .f32) (hr : Shape.Reduces ⟨2, ![M, N]⟩ [1] ⟨1, ![M]⟩)
    (hc : Shape.ShapeCasts ⟨1, ![M]⟩ ⟨2, ![M, 1]⟩) : FVec Ideal ⟨2, ![M, 1]⟩ .f32 :=
  select (cmpf .oeq (shapeCast ⟨2, ![M, 1]⟩ (multiReduction .maximumf [1] ⟨1, ![M]⟩ A 0xFF800000#32 hr (.inl rfl) rfl) hc)
      (broadcast ⟨2, ![M, 1]⟩ (Scalar.ofBits .f32 0x00000000#32)))
    (broadcast ⟨2, ![M, 1]⟩ (Scalar.ofBits .f32 0x3F800000#32))
    (divf (shapeCast ⟨2, ![M, 1]⟩ (multiReduction .maximumf [1] ⟨1, ![M]⟩ A 0xFF800000#32 hr (.inl rfl) rfl) hc)
      (broadcast ⟨2, ![M, 1]⟩ (Scalar.ofBits .f32 0x43E00000#32)))

theorem maxScaleCol_at (A : FVec Ideal ⟨2, ![M, N]⟩ .f32) (hr : Shape.Reduces ⟨2, ![M, N]⟩ [1] ⟨1, ![M]⟩)
    (hc : Shape.ShapeCasts ⟨1, ![M]⟩ ⟨2, ![M, 1]⟩) (r : Fin M) :
    maxScaleCol A hr hc (ix2 r 0) = scaleOf (rowMax fun k => A (ix2 r k)) := by
  have key := multiReduction_max A hr r
  unfold maxScaleCol
  generalize multiReduction .maximumf [1] ⟨1, ![M]⟩ A 0xFF800000#32 hr (.inl rfl) rfl = B at key ⊢
  have hcol := col_at B hc r
  generalize shapeCast ⟨2, ![M, 1]⟩ B hc = C at hcol ⊢
  pointwise [scaleOf]
  simp only [hcol, key]

end Cert.Proof.Rows

end
-- ==== Proof.DownPay.lean ====
/-
  The down projection's arithmetic at the ideal values: the kernel's product of a block, from weights widened to
  sixteen times their value, and the reference's product of the whole arrays are the same row of products.
-/
module

public import proofs.«01_k».proof.Proof.DownBody
public import proofs.«01_k».proof.Proof.Gen.DownRefIdeal.Frame
public import proofs.«01_k».proof.Proof.Nibbles
public import proofs.«01_k».proof.Proof.RowBounds

@[expose] public section

set_option maxRecDepth 16384

noncomputable section

namespace Cert.Proof.Down

open Idealize.ShloMosaic Cert.Proof.Nibbles

variable [Cert.DownIdeal.Facts] [Cert.DownRefIdeal.Facts]

/-- A widened low half: sixteen times the nibble, times the scale. -/
theorem low_pay (w : IVec ⟨2, ![128, 512]⟩ 8) (s : FVec Ideal ⟨2, ![1, 512]⟩ .f32) (p : Fin 128) (l : Fin 512) :
    Cert.DownIdeal.Gen.k0_pay13 (F := Ideal) w s (ix2 p l) = val (16 * lowNib (w (ix2 p l))) * s (ix2 0 l) := by
  have h := low_byte w Cert.DownIdeal.Facts₀.bitcasts_S128x512_w8_S32x512_w32 Cert.DownIdeal.Facts₀.bitcasts_S32x512_w32_S128x512_w8 rfl p l
  rw [← low_toInt, ← h]
  unfold Cert.DownIdeal.Gen.k0_pay13
  generalize (bitcast _ 8 _ _ : IVec ⟨2, ![128, 512]⟩ 8) = B
  pointwise
  rfl

/-- A widened high half: sixteen times the nibble, times the scale. -/
theorem high_pay (w : IVec ⟨2, ![128, 512]⟩ 8) (s : FVec Ideal ⟨2, ![1, 512]⟩ .f32) (p : Fin 128) (l : Fin 512) :
    Cert.DownIdeal.Gen.k0_pay14 (F := Ideal) w s (ix2 p l) = val (16 * highNib (w (ix2 p l))) * s (ix2 0 l) := by
  have h := high_byte w Cert.DownIdeal.Facts₀.bitcasts_S128x512_w8_S32x512_w32 Cert.DownIdeal.Facts₀.bitcasts_S32x512_w32_S128x512_w8 rfl p l
  rw [← high_toInt, ← h]
  unfold Cert.DownIdeal.Gen.k0_pay14
  generalize (bitcast _ 8 _ _ : IVec ⟨2, ![128, 512]⟩ 8) = B
  pointwise
  rfl

/-- The reference's product at an element. -/
theorem ref_prod (X : FVec Ideal ⟨2, ![8192, 10752]⟩ .fp8e4m3) (CS : FVec Ideal ⟨2, ![8192, 1]⟩ .f32)
    (W : IVec ⟨2, ![5376, 3584]⟩ 8) (S : FVec Ideal ⟨2, ![84, 3584]⟩ .f32) (R : Fin 8192) (C : Fin 3584) :
    Cert.DownRefIdeal.Gen.k0_pay3 (F := Ideal) X CS W S (ix2 R C)
      = rowOf (H := 5376) (fun k => X (ix2 R ⟨k.val, by have := k.isLt; omega⟩)) (fun k => X (ix2 R ⟨5376 + k.val, by have := k.isLt; omega⟩)) (fun k => W (ix2 k C)) (fun k => S (ix2 ⟨k.val / 128, by have := k.isLt; omega⟩ C)) (fun k => S (ix2 ⟨42 + k.val / 128, by have := k.isLt; omega⟩ C)) (CS (ix2 R 0)) := by
  pointwise [Cert.DownRefIdeal.Gen.k0_pay3]
  simp only [signed_eq]
  rfl

variable (x : FVec Ideal ⟨2, ![512, 10752]⟩ .fp8e4m3) (cs : FVec Ideal ⟨2, ![512, 1]⟩ .f32)
  (w : IVec ⟨2, ![5376, 512]⟩ 8) (s : FVec Ideal ⟨2, ![84, 512]⟩ .f32)

/-- The widened weights, one half at a time. -/
theorem wide_low (k : Fin 5376) (l : Fin 512) :
    Cert.DownIdeal.Body.wide (F := Ideal) w s (ix2 ⟨k.val, by have := k.isLt; omega⟩ l)
      = val (16 * lowNib (w (ix2 k l))) * s (ix2 ⟨k.val / 128, by have := k.isLt; omega⟩ l) := by
  unfold Cert.DownIdeal.Body.wide
  refine (dif_pos k.isLt).trans ?_
  refine (low_pay _ _ _ _).trans ?_
  unfold Cert.DownIdeal.Body.wBlk Cert.DownIdeal.Body.sRow
  refine congrArg (fun i => val (16 * lowNib (w i)) * _) (funext fun a => Fin.ext ?_)
  match a with
  | 0 => show 128 * (k.val / 128) + k.val % 128 = k.val; omega
  | 1 => rfl

theorem high_group (k : Fin 5376) (D : Nat) (hD : D = k.val) (h1 : D / 128 < 42) (h2 : 42 + D / 128 < 84) (l : Fin 512) :
    Cert.DownIdeal.Gen.k0_pay14 (F := Ideal) (Cert.DownIdeal.Body.wBlk (F := Ideal) w ⟨D / 128, h1⟩) (Cert.DownIdeal.Body.sRow (F := Ideal) s ⟨42 + D / 128, h2⟩)
        (Groups.inGroup (W := 128) (by decide) D l)
      = val (16 * highNib (w (ix2 k l))) * s (ix2 ⟨42 + k.val / 128, by have := k.isLt; omega⟩ l) := by
  subst hD
  refine (high_pay _ _ _ _).trans ?_
  unfold Cert.DownIdeal.Body.wBlk Cert.DownIdeal.Body.sRow
  refine congrArg (fun i => val (16 * highNib (w i)) * _) (funext fun a => Fin.ext ?_)
  match a with
  | 0 => show 128 * (k.val / 128) + k.val % 128 = k.val; omega
  | 1 => rfl

theorem wide_high_of (k : Fin 5376) (K : Fin 10752) (hK : K.val = 5376 + k.val) (l : Fin 512) :
    Cert.DownIdeal.Body.wide (F := Ideal) w s (ix2 K l)
      = val (16 * highNib (w (ix2 k l))) * s (ix2 ⟨42 + k.val / 128, by have := k.isLt; omega⟩ l) := by
  unfold Cert.DownIdeal.Body.wide
  refine (dif_neg (show ¬ K.val < 5376 by omega)).trans ?_
  exact high_group w s k (K.val - 5376) (by omega) _ _ l

theorem wide_high (k : Fin 5376) (l : Fin 512) :
    Cert.DownIdeal.Body.wide (F := Ideal) w s (ix2 ⟨5376 + k.val, by have := k.isLt; omega⟩ l)
      = val (16 * highNib (w (ix2 k l))) * s (ix2 ⟨42 + k.val / 128, by have := k.isLt; omega⟩ l) :=
  wide_high_of w s k _ rfl l

/-- The kernel's product at an element. -/
theorem ker_prod (r l : Fin 512) :
    Cert.DownIdeal.Gen.k0_pay15 (F := Ideal) x (Cert.DownIdeal.Body.wide (F := Ideal) w s) cs (ix2 r l)
      = rowOf (H := 5376) (fun k => x (ix2 r ⟨k.val, by have := k.isLt; omega⟩)) (fun k => x (ix2 r ⟨5376 + k.val, by have := k.isLt; omega⟩)) (fun k => w (ix2 k l)) (fun k => s (ix2 ⟨k.val / 128, by have := k.isLt; omega⟩ l)) (fun k => s (ix2 ⟨42 + k.val / 128, by have := k.isLt; omega⟩ l)) (cs (ix2 r 0)) := by
  have key : ∀ v : FVec Ideal ⟨2, ![10752, 512]⟩ .bf16, Cert.DownIdeal.Gen.k0_pay15 (F := Ideal) x v cs (ix2 r l)
      = (∑ k, x (ix2 r k) * v (ix2 k l)) * Ideal.div (cs (ix2 r 0)) (Ideal.ofBits .f32 0x41800000#32) := fun v => by
    pointwise [Cert.DownIdeal.Gen.k0_pay15]
  rw [key, sum_halves (H := 5376) rfl, sixteen_bits, ← rowOf_wide]
  simp only [wide_low, wide_high]

end Cert.Proof.Down

end
-- ==== Proof.DownRun.lean ====
module
public import proofs.«01_k».proof.Proof.DownBody

@[expose] public section
set_option maxRecDepth 16384
noncomputable section
namespace Cert.DownIdeal.Body
open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S10752x512 .bf16 := Memref.whole cc0_scratch0
abbrev scM0_1 : Memref sig .tc .vmem S7x512x512 .f32 := Memref.whole cc0_scratch1
abbrev scM0_2 : Memref sig .tc .vmem S512x128 .f32 := Memref.whole cc0_scratch2

theorem PhiA_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

theorem last_iff : ∀ t : Fin cfg0.N, Iff (k0_cond2 (grid0.coords t) = 1#1) (t.val % 7 = 6) := (by decide +kernel : ∀ t : Fin grid0.N, _)
theorem coord1 : ∀ t : Fin cfg0.N, (grid0.coords t 1).val = t.val % 7 := (by decide +kernel : ∀ t : Fin grid0.N, _)
theorem off7_eq : ∀ t : Fin cfg0.N, k0_off7 (grid0.coords t) = ![t.val % 7, 0, 0] := (by decide +kernel : ∀ t : Fin grid0.N, _)

/-- The product a point computes. -/
def prodAt (c : Dev nD) (t : Fin cfg0.N) : Vec F S1x512x512 .f32 :=
  k0_pay16 (F := F) (iblk m c 0 t) (wide (F := F) (iblk m c 2 t) (iblk m c 3 t)) (iblk m c 1 t)

/-- The running maxima after point `n`. -/
def maxAt (c : Dev nD) : (n : ℕ) → n < cfg0.N → Vec F S512x128 .f32
  | 0, h => aNext (F := F) (grid0.coords ⟨0, h⟩) (k0_pay12 (F := F)) (iblk m c 0 ⟨0, h⟩) (iblk m c 1 ⟨0, h⟩) (iblk m c 2 ⟨0, h⟩) (iblk m c 3 ⟨0, h⟩)
  | n + 1, h => aNext (F := F) (grid0.coords ⟨n + 1, h⟩) (maxAt c n (Nat.lt_of_succ_lt h)) (iblk m c 0 ⟨n + 1, h⟩) (iblk m c 1 ⟨n + 1, h⟩) (iblk m c 2 ⟨n + 1, h⟩) (iblk m c 3 ⟨n + 1, h⟩)

/-- What the scratch buffers hold before position `n`: the slots of the points of its row of the grid already done, and
    their running maxima. -/
def Good (c : Dev nD) (n : ℕ) (Y : Vec F S7x512x512 .f32) (A : Vec F S512x128 .f32) : Prop :=
  (∀ (j : Fin 7) (t : Fin cfg0.N), j.val < n % 7 → t.val = n - n % 7 + j.val → slot Y j = prodAt m c t)
  ∧ (∀ t : Fin cfg0.N, n % 7 ≠ 0 → t.val + 1 = n → A = maxAt m c t.val t.isLt)

theorem slot_yNext (t : Fin cfg0.N) (Y : Vec F S7x512x512 .f32) (x0 : Vec F S512x10752 .fp8e4m3) (x1 : Vec F S512x1 .f32) (x2 : Vec F S5376x512 .i8) (x3 : Vec F S84x512 .f32) (j : Fin 7) :
    slot (yNext (F := F) (grid0.coords t) Y x0 x1 x2 x3) j = if j.val = t.val % 7 then k0_pay16 (F := F) x0 (wide (F := F) x2 x3) x1 else slot Y j := by
  funext z
  unfold slot yNext
  rw [off7_eq]
  by_cases h : j.val = t.val % 7
  · rw [if_pos h]
    refine (dif_pos ?_).trans (congrArg (k0_pay16 (F := F) x0 (wide (F := F) x2 x3) x1) (funext fun a => Fin.ext ?_))
    · intro a
      match a with
      | 0 => show t.val % 7 ≤ j.val ∧ j.val < t.val % 7 + 1; omega
      | 1 => exact ⟨Nat.zero_le _, by show (z 1).val < 0 + 512; have := (z 1).isLt; have e : S1x512x512.size 1 = 512 := rfl; omega⟩
      | 2 => exact ⟨Nat.zero_le _, by show (z 2).val < 0 + 512; have := (z 2).isLt; have e : S1x512x512.size 2 = 512 := rfl; omega⟩
    · match a with
      | 0 => show j.val - t.val % 7 = (z 0).val; have h0 : (z 0).val = 0 := Nat.lt_one_iff.mp (z 0).isLt; omega
      | 1 => exact Nat.sub_zero _
      | 2 => exact Nat.sub_zero _
  · rw [if_neg h]
    refine dif_neg fun hall => ?_
    have := hall 0
    have h1 : t.val % 7 ≤ j.val ∧ j.val < t.val % 7 + 1 := this
    omega

theorem good_next (c : Dev nD) (t : Fin cfg0.N) (Y : Vec F S7x512x512 .f32) (A : Vec F S512x128 .f32) (h : Good m c t.val Y A) :
    Good m c (t.val + 1) (yNext (F := F) (grid0.coords t) Y (iblk m c 0 t) (iblk m c 1 t) (iblk m c 2 t) (iblk m c 3 t)) (aNext (F := F) (grid0.coords t) A (iblk m c 0 t) (iblk m c 1 t) (iblk m c 2 t) (iblk m c 3 t)) := by
  constructor
  · intro j t' hj ht'
    rw [slot_yNext]
    by_cases e : j.val = t.val % 7
    · rw [if_pos e]
      have : t' = t := Fin.ext (by omega)
      rw [this]; rfl
    · rw [if_neg e]
      exact h.1 j t' (by omega) (by omega)
  · intro t' hn ht'
    have e : t' = t := Fin.ext (by omega)
    subst e
    obtain ⟨n, hn'⟩ := t'
    by_cases hz : n % 7 = 0
    · have key : ∀ a a' : Vec F S512x128 .f32, ∀ x0 x1 x2 x3, aNext (F := F) (grid0.coords ⟨n, hn'⟩) a x0 x1 x2 x3 = aNext (F := F) (grid0.coords ⟨n, hn'⟩) a' x0 x1 x2 x3 := by
        intro a a' x0 x1 x2 x3
        have e0 : (grid0.coords ⟨n, hn'⟩ 1).val = 0 := (coord1 ⟨n, hn'⟩).trans hz
        unfold aNext; rw [if_pos e0, if_pos e0]
      cases n with
      | zero => exact key _ _ _ _ _ _
      | succ n => exact key _ _ _ _ _ _
    · cases n with
      | zero => exact absurd rfl hz
      | succ n =>
        have hA := h.2 ⟨n, Nat.lt_of_succ_lt hn'⟩ hz rfl
        rw [hA]; rfl

/-- The scale a row block ends with. -/
def scaleAt (c : Dev nD) (t : Fin cfg0.N) : Vec F S512x1 .f32 := k0_pay4 (F := F) (maxAt m c t.val t.isLt)

/-- The products of a whole row of the grid, the last of whose points is `t`. -/
def prods (c : Dev nD) (t : Fin cfg0.N) : Vec F S7x512x512 .f32 := fun z =>
  prodAt m c ⟨t.val - t.val % 7 + (z 0).val, by
    have h1 := t.isLt; have h2 : cfg0.N = 112 := N_0; have h3 := (z 0).isLt; have h4 : S7x512x512.size 0 = 7 := rfl; omega⟩ (ix3 0 (z 1) (z 2))

/-- The codes a row block ends with. -/
def codesAt (c : Dev nD) (t : Fin cfg0.N) : Vec F S512x3584 .fp8e4m3 := codesOf (F := F) (maxAt m c t.val t.isLt) (prods m c t)

theorem outs_last (c : Dev nD) (t : Fin cfg0.N) (ht : t.val % 7 = 6) (Y : Vec F S7x512x512 .f32) (A : Vec F S512x128 .f32) (h : Good m c t.val Y A) :
    codesOf (F := F) (aNext (F := F) (grid0.coords t) A (iblk m c 0 t) (iblk m c 1 t) (iblk m c 2 t) (iblk m c 3 t)) (yNext (F := F) (grid0.coords t) Y (iblk m c 0 t) (iblk m c 1 t) (iblk m c 2 t) (iblk m c 3 t)) = codesAt m c t
    ∧ k0_pay4 (F := F) (aNext (F := F) (grid0.coords t) A (iblk m c 0 t) (iblk m c 1 t) (iblk m c 2 t) (iblk m c 3 t)) = scaleAt m c t := by
  have hmax : aNext (F := F) (grid0.coords t) A (iblk m c 0 t) (iblk m c 1 t) (iblk m c 2 t) (iblk m c 3 t) = maxAt m c t.val t.isLt := by
    obtain ⟨n, hn⟩ := t
    cases n with
    | zero => exact absurd (show (0 : ℕ) % 7 = 6 from ht) (by decide)
    | succ n =>
      have hA := h.2 ⟨n, Nat.lt_of_succ_lt hn⟩ (by show (n + 1) % 7 ≠ 0; have : (n + 1) % 7 = 6 := ht; omega) rfl
      rw [hA]; rfl
  have hs : ∀ j : Fin 7, slot (yNext (F := F) (grid0.coords t) Y (iblk m c 0 t) (iblk m c 1 t) (iblk m c 2 t) (iblk m c 3 t)) j = slot (prods m c t) j := fun j => by
    have hl := t.isLt
    have hN : cfg0.N = 112 := N_0
    have hj := j.isLt
    have hp : slot (prods m c t) j = prodAt m c ⟨t.val - t.val % 7 + j.val, by omega⟩ := by
      funext z
      refine congrArg (prodAt m c _) (funext fun a => Fin.ext ?_)
      match a with
      | 0 => exact (Nat.lt_one_iff.mp (z 0).isLt).symm
      | 1 => rfl
      | 2 => rfl
    rw [slot_yNext, hp]
    by_cases e : j.val = t.val % 7
    · rw [if_pos e]
      have e' : (⟨t.val - t.val % 7 + j.val, by omega⟩ : Fin cfg0.N) = t := Fin.ext (by show t.val - t.val % 7 + j.val = t.val; omega)
      rw [e']; rfl
    · rw [if_neg e]
      exact h.1 j _ (by omega) rfl
  constructor
  · unfold codesAt
    rw [hmax]
    funext z
    unfold codesOf
    rw [hs]
  · rw [hmax]; rfl

/-- The invariant before position `n`: the widened weights' scratch at anything, the other two as `Good` says. -/
def Phi (c : Dev nD) (n : ℕ) (_h : n ≤ cfg0.N) : sProp 𝕄 :=
  iprop(iprop((∃ d, owns (c : Thread nD τ) scM0_0 fullShare d)
    ∗ (∃ Y A, ⌜Good m c n Y A⌝ ∗ owns (c : Thread nD τ) scM0_1 fullShare Y ∗ owns (c : Thread nD τ) scM0_2 fullShare A)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c t
    | ⟨_ + 6, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]
theorem after0_5 (c : Dev nD) (t : Fin cfg0.N) : (dats m 0 c).after 5 t = scaleAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem body_mid (c : Dev nD) (t : Fin cfg0.N) (ht : ¬ t.val % 7 = 6) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((dats m 0 c).before 4 t d))
    ∗ (∃ d, owns (c : Thread nD τ) (st0_5 t) fullShare ((dats m 0 c).before 5 t d)))) := by
  unfold bodyAt0
  simp only [before0_0, before0_1, before0_2, before0_3]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3]
  unfold Phi
  iintro ⟨⟨⟨⟨%g0, HS0⟩, %Y, %A, %hG, HS1, HS2⟩, Hg⟩, Ho, ⟨%d0, H0⟩, ⟨%d1, H1⟩, ⟨%d2, H2⟩, ⟨%d3, H3⟩, ⟨%d4, H4⟩, ⟨%d5, H5⟩⟩
  iapply (sound_step (F := F) c Set.univ (grid0.coords t) (fun h => ht ((last_iff t).mp h)) _ _ _ _ _ _ _ _ _ _ _ _ _ _ _ _ _ _ (iblk m c 0 t) (iblk m c 1 t) (iblk m c 2 t) (iblk m c 3 t) _ _ g0 Y A _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      iexists _; iexists _; isplitr; swap
      · isplitl [HS1]; · iexact HS1
        iexact HS2
      ipureintro
      exact good_next m c t Y A hG
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

theorem body_last (c : Dev nD) (t : Fin cfg0.N) (ht : t.val % 7 = 6) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))) := by
  unfold bodyAt0
  simp only [before0_0, before0_1, before0_2, before0_3]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5]
  unfold Phi
  iintro ⟨⟨⟨⟨%g0, HS0⟩, %Y, %A, %hG, HS1, HS2⟩, Hg⟩, Ho, ⟨%d0, H0⟩, ⟨%d1, H1⟩, ⟨%d2, H2⟩, ⟨%d3, H3⟩, ⟨%d4, H4⟩, ⟨%d5, H5⟩⟩
  iapply (sound_last (F := F) c Set.univ (grid0.coords t) ((last_iff t).mpr ht) _ _ _ _ _ _ _ _ _ _ _ _ _ _ _ _ _ _ (iblk m c 0 t) (iblk m c 1 t) (iblk m c 2 t) (iblk m c 3 t) _ _ g0 Y A _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      iexists _; iexists _; isplitr; swap
      · isplitl [HS1]; · iexact HS1
        iexact HS2
      ipureintro
      exact good_next m c t Y A hG
    iexact Hg
  isplitl [Ho]; · iexact Ho
  isplitl [H0]; · iexact H0
  isplitl [H1]; · iexact H1
  isplitl [H2]; · iexact H2
  isplitl [H3]; · iexact H3
  rw [← (outs_last m c t ht Y A hG).1, ← (outs_last m c t ht Y A hG).2]
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  by_cases ht : t.val % 7 = 6
  · have i4 : cfg0.idle 4 (cfg0.grid.coords t) = false := by
      show (!(k0_cond2 (grid0.coords t) == 1#1)) = false
      rw [(last_iff t).mpr ht]; rfl
    have i4' : idle0 4 (grid0.coords t) = false := i4
    have i5' : idle0 5 (grid0.coords t) = false := i4
    have hb := body_last m c t ht
    refine triple_restated hb rfl .rfl fun _ => ?_
    simp only [i0, i1, i2, i3, i4', i5']
    exact .rfl
  · have i4 : cfg0.idle 4 (cfg0.grid.coords t) = true := by
      show (!(k0_cond2 (grid0.coords t) == 1#1)) = true
      have hn : ¬ k0_cond2 (grid0.coords t) = 1#1 := fun h => ht ((last_iff t).mp h)
      rw [Bool.not_eq_true', beq_eq_false_iff_ne]; exact hn
    have i4' : idle0 4 (grid0.coords t) = true := i4
    have i5' : idle0 5 (grid0.coords t) = true := i4
    have f4 : (cfg0.win 4).flush t = false := Bool.eq_false_iff.mpr fun h => ht ((flush0_4 t).mp h)
    have f5 : (cfg0.win 5).flush t = false := Bool.eq_false_iff.mpr fun h => ht ((flush0_5 t).mp h)
    refine triple_restated (body_mid m c t ht) rfl .rfl fun _ => ?_
    simp only [i0, i1, i2, i3, i4', i5', f4, f5]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨H0, ⟨%Y, H1⟩, ⟨%A, H2⟩⟩, Hg⟩
  isplitl [H0 H1 H2]
  · isplitl [H0]; · iexact H0
    iexists Y; iexists A; isplitr; swap
    · isplitl [H1]; · iexact H1
      iexact H2
    ipureintro
    exact ⟨fun j t hj => absurd hj (Nat.not_lt_zero _), fun t h => absurd rfl h⟩
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨H0, %Y, %A, %_, H1, H2⟩, Hg⟩
  isplitl [H0 H1 H2]
  · isplitl [H0]; · iexact H0
    isplitl [H1]; · iexists Y; iexact H1
    iexists A; iexact H2
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))
end Cert.DownIdeal.Body
end
-- ==== Proof.DownValue.lean ====
/-
  The down projection's arrays after the run: each is the reference's function of the argument arrays.
-/
module

public import proofs.«01_k».proof.Proof.DownPay
public import proofs.«01_k».proof.Proof.DownRun
public import Idealize.ShloMosaic.Lib.Pipeline.ValueKit

@[expose] public section

set_option maxRecDepth 16384

noncomputable section

namespace Cert.Proof.Down

open Idealize.ShloMosaic Idealize.ShloMosaic.TcCoe Idealize.SL.Sem
open Cert.DownIdeal Cert.DownIdeal.Gen Cert.DownIdeal.Body

variable [Cert.DownRefIdeal.Facts]
variable (m : (l : Loc nD τ sig) → Buf (Elt Ideal) l) (c : Dev nD)

/-- Where each window's block stands: row blocks at the point's row of the grid, column blocks at its column. -/
theorem idx0 : ∀ t : Fin cfg0.N, win0_0.index t = ![t.val / 7, 0] := (by decide +kernel : ∀ t : Fin grid0.N, _)
theorem idx1 : ∀ t : Fin cfg0.N, win0_1.index t = ![t.val / 7, 0] := (by decide +kernel : ∀ t : Fin grid0.N, _)
theorem idx2 : ∀ t : Fin cfg0.N, win0_2.index t = ![0, t.val % 7] := (by decide +kernel : ∀ t : Fin grid0.N, _)
theorem idx3 : ∀ t : Fin cfg0.N, win0_3.index t = ![0, t.val % 7] := (by decide +kernel : ∀ t : Fin grid0.N, _)
theorem idx4 : ∀ t : Fin cfg0.N, win0_4.index t = ![t.val / 7, 0] := (by decide +kernel : ∀ t : Fin grid0.N, _)
theorem idx5 : ∀ t : Fin cfg0.N, win0_5.index t = ![t.val / 7, 0] := (by decide +kernel : ∀ t : Fin grid0.N, _)

/-- The array row and the array column an element of a point's block stands for. -/
def row (t : Fin cfg0.N) (r : Fin 512) : Fin 8192 := ⟨t.val / 7 * 512 + r.val, by have h : t.val < 112 := t.isLt; have := r.isLt; omega⟩
def col (t : Fin cfg0.N) (l : Fin 512) : Fin 3584 := ⟨t.val % 7 * 512 + l.val, by have := l.isLt; omega⟩

theorem iblk0 (t : Fin cfg0.N) (r : Fin 512) (k : Fin 10752) : iblk m c 0 t (ix2 r k) = V m c main_arg0 (ix2 (row t r) k) := by
  blk_point [iblk, idx0 t, row]
theorem iblk1 (t : Fin cfg0.N) (r : Fin 512) : iblk m c 1 t (ix2 r 0) = V m c main_arg1 (ix2 (row t r) 0) := by
  blk_point [iblk, idx1 t, row]
theorem iblk2 (t : Fin cfg0.N) (k : Fin 5376) (l : Fin 512) : iblk m c 2 t (ix2 k l) = V m c main_arg2 (ix2 k (col t l)) := by
  blk_point [iblk, idx2 t, col]
theorem iblk3 (t : Fin cfg0.N) (k : Fin 84) (l : Fin 512) : iblk m c 3 t (ix2 k l) = V m c main_arg3 (ix2 k (col t l)) := by
  blk_point [iblk, idx3 t, col]

theorem emb4 (t : Fin cfg0.N) (r : Fin 512) (l : Fin 3584) : ((View.whole main_v0_0).slice (win0_4.rect t)).emb (ix2 r l) = ix2 (row t r) l := by
  blk_ext [idx4 t, row]
theorem emb5 (t : Fin cfg0.N) (r : Fin 512) : ((View.whole main_v0_1).slice (win0_5.rect t)).emb (ix2 r 0) = ix2 (row t r) 0 := by
  blk_ext [idx5 t, row]

/-- The products of a point's block before they are stored, and the reference's products. -/
def blkProd (t : Fin cfg0.N) : FVec Ideal ⟨2, ![512, 512]⟩ .f32 :=
  k0_pay15 (F := Ideal) (iblk m c 0 t) (wide (F := Ideal) (iblk m c 2 t) (iblk m c 3 t)) (iblk m c 1 t)
def refProd : FVec Ideal ⟨2, ![8192, 3584]⟩ .f32 :=
  Cert.DownRefIdeal.Gen.k0_pay3 (F := Ideal) (V m c main_arg0) (V m c main_arg1) (V m c main_arg2) (V m c main_arg3)

theorem blkProd_at (t : Fin cfg0.N) (r l : Fin 512) : blkProd m c t (ix2 r l) = refProd m c (ix2 (row t r) (col t l)) := by
  unfold blkProd refProd
  refine (ker_prod _ _ _ _ r l).trans (Eq.trans ?_ (ref_prod _ _ _ _ _ _).symm)
  simp only [iblk0, iblk1, iblk2, iblk3]

theorem prodAt_at (t : Fin cfg0.N) (r l : Fin 512) : prodAt m c t (ix3 0 r l) = refProd m c (ix2 (row t r) (col t l)) := by
  rw [← blkProd_at]
  have key : ∀ (x v cs), k0_pay16 (F := Ideal) x v cs (ix3 0 r l) = k0_pay15 (F := Ideal) x v cs (ix2 r l) := fun x v cs => by
    unfold k0_pay16
    generalize k0_pay15 (F := Ideal) x v cs = B
    pointwise
  exact key _ _ _

/-- One point's step of the running maxima, by the bounds they satisfy. -/
theorem step_le (a : FVec Ideal ⟨2, ![512, 128]⟩ .f32) (x v cs) (r : Fin 512) (l : Fin 128) (b : EReal) :
    k0_pay1 (F := Ideal) (k0_pay17 (F := Ideal) x v cs a) (ix2 r l) ≤ b
      ↔ a (ix2 r l) ≤ b ∧ ∀ q : Fin 4, Rows.mag (k0_pay15 (F := Ideal) x v cs (ix2 r ⟨q.val * 128 + l.val, by have := q.isLt; have := l.isLt; omega⟩)) ≤ b := by
  unfold k0_pay1 k0_pay17
  generalize k0_pay15 (F := Ideal) x v cs = B
  have e : ∀ (h0 h1 h2 h3 h4), shapeCast ⟨2, ![512, 128]⟩ (maximumf (maximumf (maximumf (maximumf a
      (absf (extractStridedSlice ⟨2, ![512, 128]⟩ ![0, 0] B h0))) (absf (extractStridedSlice ⟨2, ![512, 128]⟩ ![0, 128] B h1)))
      (absf (extractStridedSlice ⟨2, ![512, 128]⟩ ![0, 256] B h2))) (absf (extractStridedSlice ⟨2, ![512, 128]⟩ ![0, 384] B h3))) h4 (ix2 r l)
    = max (max (max (max (a (ix2 r l)) (Rows.mag (B (ix2 r ⟨0 * 128 + l.val, by have := l.isLt; omega⟩)))) (Rows.mag (B (ix2 r ⟨1 * 128 + l.val, by have := l.isLt; omega⟩))))
        (Rows.mag (B (ix2 r ⟨2 * 128 + l.val, by have := l.isLt; omega⟩)))) (Rows.mag (B (ix2 r ⟨3 * 128 + l.val, by have := l.isLt; omega⟩))) := by
    intro h0 h1 h2 h3 h4
    pointwise [Rows.mag]
  refine (Eq.to_iff (congrArg (· ≤ b) (e _ _ _ _ _))).trans ?_
  simp only [max_le_iff]
  constructor
  · rintro ⟨⟨⟨⟨h, h0⟩, h1⟩, h2⟩, h3⟩
    refine ⟨h, fun q => ?_⟩
    match q with
    | 0 => exact h0
    | 1 => exact h1
    | 2 => exact h2
    | 3 => exact h3
  · rintro ⟨h, hq⟩
    exact ⟨⟨⟨⟨h, hq 0⟩, hq 1⟩, hq 2⟩, hq 3⟩

theorem zero_at (r : Fin 512) (l : Fin 128) : k0_pay12 (F := Ideal) (ix2 r l) = 0 := by
  pointwise [k0_pay12]

/-- The running maxima after a point, by the bounds they satisfy: the magnitudes of the points so far of its row of the
    grid. -/
theorem maxAt_le (r : Fin 512) (l : Fin 128) (b : EReal) : ∀ (n : ℕ) (h : n < cfg0.N),
    maxAt m c n h (ix2 r l) ≤ b ↔ 0 ≤ b ∧ ∀ t : Fin cfg0.N, t.val / 7 = n / 7 → t.val ≤ n → ∀ q : Fin 4,
      Rows.mag (blkProd m c t (ix2 r ⟨q.val * 128 + l.val, by have := q.isLt; have := l.isLt; omega⟩)) ≤ b := by
  intro n
  induction n with
  | zero =>
    intro h
    have e0 : (grid0.coords ⟨0, h⟩ 1).val = 0 := coord1 ⟨0, h⟩
    unfold maxAt aNext
    rw [if_pos e0, step_le, zero_at]
    refine and_congr Iff.rfl ⟨fun H t _ ht q => ?_, fun H q => H ⟨0, h⟩ rfl le_rfl q⟩
    obtain rfl : t = ⟨0, h⟩ := Fin.ext (by show t.val = 0; omega)
    exact H q
  | succ n ih =>
    intro h
    have e1 : (grid0.coords ⟨n + 1, h⟩ 1).val = (n + 1) % 7 := coord1 ⟨n + 1, h⟩
    unfold maxAt aNext
    by_cases hz : (n + 1) % 7 = 0
    · rw [if_pos (e1.trans hz), step_le, zero_at]
      refine and_congr Iff.rfl ⟨fun H t ht ht' q => ?_, fun H q => H ⟨n + 1, h⟩ rfl le_rfl q⟩
      obtain rfl : t = ⟨n + 1, h⟩ := Fin.ext (by show t.val = n + 1; omega)
      exact H q
    · rw [if_neg (fun h' => hz (e1.symm.trans h')), step_le, ih (Nat.lt_of_succ_lt h), and_assoc]
      refine and_congr Iff.rfl ⟨fun H t ht ht' q => ?_, fun H => ⟨fun t ht ht' q => H t (by omega) (by omega) q, fun q => H ⟨n + 1, h⟩ rfl le_rfl q⟩⟩
      by_cases e : t.val = n + 1
      · obtain rfl : t = ⟨n + 1, h⟩ := Fin.ext e
        exact H.2 q
      · exact H.1 t (by omega) (by omega) q

/-- After the last point of a row of the grid the maxima of the lanes have the greatest magnitude of the whole row. -/
theorem maxAt_last (t : Fin cfg0.N) (ht : t.val % 7 = 6) (r : Fin 512) :
    Rows.rowMax (fun l : Fin 128 => maxAt m c t.val t.isLt (ix2 r l)) = Rows.rowMax fun C : Fin 3584 => Rows.mag (refProd m c (ix2 (row t r) C)) := by
  refine eq_of_forall_ge_iff fun b => ?_
  rw [Rows.rowMax_le, Rows.rowMax_le]
  refine Iff.trans (forall_congr' fun l => maxAt_le m c r l b t.val t.isLt) ?_
  simp only [blkProd_at]
  have hN : t.val < 112 := t.isLt
  constructor
  · intro H C
    have hC := C.isLt
    have h := (H ⟨C.val % 128, Nat.mod_lt _ (by decide)⟩).2 ⟨t.val / 7 * 7 + C.val / 512, by show _ < 112; omega⟩
      (by show (t.val / 7 * 7 + C.val / 512) / 7 = t.val / 7; omega) (by show t.val / 7 * 7 + C.val / 512 ≤ t.val; omega) ⟨C.val % 512 / 128, by omega⟩
    refine (Eq.to_iff (congrArg (fun i => Rows.mag (refProd m c i) ≤ b) ?_)).mp h
    refine congrArg₂ ix2 (Fin.ext ?_) (Fin.ext ?_)
    · show (t.val / 7 * 7 + C.val / 512) / 7 * 512 + r.val = t.val / 7 * 512 + r.val; omega
    · show (t.val / 7 * 7 + C.val / 512) % 7 * 512 + (C.val % 512 / 128 * 128 + C.val % 128) = C.val; omega
  · intro H l
    refine ⟨(Rows.mag_nonneg _).trans (H 0), fun t' h1 _ q => ?_⟩
    have e : row t' r = row t r := Fin.ext (by show t'.val / 7 * 512 + r.val = t.val / 7 * 512 + r.val; rw [h1])
    rw [e]
    exact H _

theorem scaleK (A) : k0_pay4 (F := Ideal) A = Rows.maxScaleCol A Cert.DownIdeal.Facts₀.reduces_S512x128_S512 Cert.DownIdeal.Facts₀.shapeCasts_S512_S512x1 := by
  unfold k0_pay4 Rows.maxScaleCol
  rfl

theorem scaleR (X CS W S) : Cert.DownRefIdeal.Gen.k0_pay1 (F := Ideal) (Cert.DownRefIdeal.Gen.k0_pay4 (F := Ideal) X CS W S)
    = Rows.scaleCol (Cert.DownRefIdeal.Gen.k0_pay3 (F := Ideal) X CS W S) Cert.DownRefIdeal.Facts₀.reduces_S8192x3584_S8192 Cert.DownRefIdeal.Facts₀.shapeCasts_S8192_S8192x1 := by
  unfold Cert.DownRefIdeal.Gen.k0_pay1 Cert.DownRefIdeal.Gen.k0_pay4 Rows.scaleCol
  rfl

/-- The generated frame names the row maxima once more. -/
theorem pay5_eq (X CS W S) : Cert.DownRefIdeal.Gen.k0_pay5 (F := Ideal) X CS W S = Cert.DownRefIdeal.Gen.k0_pay4 (F := Ideal) X CS W S := by
  have h0 : (![0, 0] : Fin 2 → Nat) = fun _ => 0 := funext fun a => by fin_cases a <;> rfl
  unfold Cert.DownRefIdeal.Gen.k0_pay5
  rw [View.ld_unit_zero (S := S8192x10752) h0 _ X, View.ld_unit_zero (S := S8192x1) h0 _ CS, View.ld_unit_zero (S := S5376x3584) h0 _ W, View.ld_unit_zero (S := S84x3584) h0 _ S]

/-- The scale of one row. -/
theorem scale (t : Fin cfg0.N) (ht : t.val % 7 = 6) (r : Fin 512) :
    k0_pay4 (F := Ideal) (maxAt m c t.val t.isLt) (ix2 r 0)
      = Cert.DownRefIdeal.Gen.k0_pay1 (F := Ideal) (Cert.DownRefIdeal.Gen.k0_pay4 (F := Ideal) (V m c main_arg0) (V m c main_arg1) (V m c main_arg2) (V m c main_arg3)) (ix2 (row t r) 0) := by
  rw [scaleK, scaleR, Rows.maxScaleCol_at, Rows.scaleCol_at, maxAt_last m c t ht r]
  rfl

theorem codeStep {a : FVec Ideal ⟨2, ![512, 128]⟩ .f32} {y : FVec Ideal ⟨3, ![1, 512, 512]⟩ .f32} {A : FVec Ideal ⟨2, ![8192, 3584]⟩ .f32}
    {B : FVec Ideal ⟨1, ![8192]⟩ .f32} (r l : Fin 512) (R : Fin 8192) (C : Fin 3584) (e1 : y (ix3 0 r l) = A (ix2 R C))
    (e2 : k0_pay4 (F := Ideal) a (ix2 r 0) = Cert.DownRefIdeal.Gen.k0_pay1 (F := Ideal) B (ix2 R 0)) :
    k0_pay5 (F := Ideal) a y (ix2 r l) = Cert.DownRefIdeal.Gen.k0_pay2 (F := Ideal) A B (ix2 R C) := by
  unfold k0_pay5 Cert.DownRefIdeal.Gen.k0_pay2
  generalize k0_pay4 (F := Ideal) a = S at e2 ⊢
  generalize Cert.DownRefIdeal.Gen.k0_pay1 (F := Ideal) B = T at e2 ⊢
  pointwise
  simp only [e1, e2]

/-- The codes a row of the grid ends with. -/
theorem codes (t : Fin cfg0.N) (ht : t.val % 7 = 6) (r : Fin 512) (l : Fin 3584) :
    codesAt m c t (ix2 r l) = Cert.DownRefIdeal.Gen.k0_pay2 (F := Ideal) (refProd m c)
      (Cert.DownRefIdeal.Gen.k0_pay4 (F := Ideal) (V m c main_arg0) (V m c main_arg1) (V m c main_arg2) (V m c main_arg3)) (ix2 (row t r) l) := by
  have hl := l.isLt
  have hN : t.val < 112 := t.isLt
  unfold codesAt codesOf
  refine codeStep r ⟨l.val % 512, Nat.mod_lt _ (by decide)⟩ (row t r) l ?_ (scale m c t ht r)
  refine (prodAt_at m c ⟨t.val - t.val % 7 + l.val / 512, by show _ < 112; omega⟩ r ⟨l.val % 512, Nat.mod_lt _ (by decide)⟩).trans ?_
  refine congrArg (refProd m c) (congrArg₂ ix2 (Fin.ext ?_) (Fin.ext ?_))
  · show (t.val - t.val % 7 + l.val / 512) / 7 * 512 + r.val = t.val / 7 * 512 + r.val; omega
  · show (t.val - t.val % 7 + l.val / 512) % 7 * 512 + l.val % 512 = l.val; omega

/-- An index of a matrix is its row and its column. -/
theorem at2 {a b : Nat} (y : Shape.Idx ⟨2, ![a, b]⟩) : ∃ (r : Fin a) (l : Fin b), y = ix2 r l := ⟨y 0, y 1, Idealize.ShloMosaic.eq_ix2 y⟩

/-- An index of a column is its row. -/
theorem at1 {a : Nat} (y : Shape.Idx ⟨2, ![a, 1]⟩) : ∃ r : Fin a, y = ix2 r 0 := by
  obtain ⟨r, l, rfl⟩ := at2 y
  exact ⟨r, by rw [Subsingleton.elim l 0]⟩

/-! The arrays after the run. -/

theorem fin4 : (dats m 0 c).arrAt 4 cfg0.N = Cert.DownRefIdeal.Gen.k0_pay2 (F := Ideal) (refProd m c)
    (Cert.DownRefIdeal.Gen.k0_pay5 (F := Ideal) (V m c main_arg0) (V m c main_arg1) (V m c main_arg2) (V m c main_arg3)) := by
  rw [pay5_eq]
  refine (dats m 0 c).arrAt_eq_of_covers 4 _ (by decide +kernel) fun t hf y => ?_
  blk_simp
  rw [after0_4]
  obtain ⟨r, l, rfl⟩ := at2 (a := 512) (b := 3584) y
  rw [emb4]
  exact codes m c t ((flush0_4 t).mp hf) r l

theorem fin5 : (dats m 0 c).arrAt 5 cfg0.N = Cert.DownRefIdeal.Gen.k0_pay1 (F := Ideal)
    (Cert.DownRefIdeal.Gen.k0_pay5 (F := Ideal) (V m c main_arg0) (V m c main_arg1) (V m c main_arg2) (V m c main_arg3)) := by
  rw [pay5_eq]
  refine (dats m 0 c).arrAt_eq_of_covers 5 _ (by decide +kernel) fun t hf y => ?_
  blk_simp
  rw [after0_5]
  obtain ⟨r, rfl⟩ := at1 (a := 512) y
  rw [emb5]
  exact scale m c t ((flush0_5 t).mp hf) r

end Cert.Proof.Down

end
-- ==== Proof.DownClaim.lean ====
/-
  The down projection: the kernel's results are the reference's.
-/
module

public import proofs.«01_k».proof.Defs
public import proofs.«01_k».proof.Proof.DownValue
public import proofs.«01_k».proof.Proof.Gen.DownRefIdeal.Value

@[expose] public section

noncomputable section

namespace Cert.Proof.Down

open Idealize.ShloMosaic Idealize.SL.Sem

/-- Both programs run, and from equal arguments their results are equal. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => (Cert.DownIdeal.Body.dats m 0 c).arrAt 4 Cert.DownIdeal.cfg0.N, fun c => (Cert.DownIdeal.Body.dats m 0 c).arrAt 5 Cert.DownIdeal.cfg0.N,
    (θ_run _ _ _).mono (fun r h c => ?_) (θ_run_and (Cert.DownIdeal.Body.run_main (F := Ideal) m g) (Cert.DownIdeal.Body.frame (F := Ideal) m g)),
    (θ_run _ _ _).mono (fun r h c => ?_) (Cert.DownRefIdeal.Value.run (F := Ideal) m' g')⟩
  · exact ⟨(h.1 c).1 4, (h.1 c).1 5, h.2.1 c⟩
  · obtain ⟨h0, h1, hk⟩ := h c
    obtain ⟨a0, a1, a2, a3⟩ := hargs c
    rw [a0, a1, a2, a3] at h0 h1
    exact ⟨h0.trans (fin4 m c).symm, h1.trans (fin5 m c).symm, hk⟩

end Cert.Proof.Down

end
-- ==== Proof.GateUpWide.lean ====
module
public import proofs.«01_k».proof.Proof.Gen.GateUpIdeal.Loops
public import proofs.«01_k».proof.Proof.Groups

@[expose] public section
set_option maxRecDepth 16384
noncomputable section
namespace Cert.GateUpIdeal.Body
open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S1792x512 .i8) (k : Fin 14) : Vec F S128x512 .i8 :=
  fun z => x (ix2 ⟨128 * k.val + (z 0).val, by have := (z 0).isLt; have h : S128x512.size 0 = 128 := rfl; omega⟩ (z 1))
/-- The scales of weight group `g`. -/
def sRow (x : Vec F S28x512 .f32) (g : Fin 28) : Vec F S1x512 .f32 := fun z => x (ix2 g (z 1))

section Trips
variable (𝒱 : Variants) (c : Dev nD) (bd : Option 𝒱.V) (i : grid0.Coords) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)

/-- What one trip of loop 1 stores: its group of widened weights. -/
theorem tripL_t1 (Xw : BufTy.Contents (Elt F) arg4.view.ty) (Xs : BufTy.Contents (Elt F) arg6.view.ty) (k : Fin k0_t1_loop.trips) :
    ∃ inb, tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off4 k) S1x128x512.size inb, k0_pay29 (F := F) (wBlk (arg4.view.read (Elt F) Xw) ⟨k.val, k.isLt⟩) (sRow (arg6.view.read (Elt F) Xs) ⟨k.val, Nat.lt_of_lt_of_le k.isLt (by decide)⟩)⟩] := by
  refine ⟨k0_off4_inb k, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg4.view.read (Elt F) Xw) ⟨k.val, k.isLt⟩
      = View.readAt (Elt F) arg4.view (Rect.unit (s := S1792x512) (k0_off1 k) S128x512.size (k0_off1_inb k)).toLoadRect Xw := by
    funext z
    refine congrArg (arg4.view.read (Elt F) Xw) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg6.view.read (Elt F) Xs) ⟨k.val, Nat.lt_of_lt_of_le k.isLt (by decide)⟩
      = View.readAt (Elt F) arg6.view (Rect.unit (s := S28x512) (k0_off2 k) S1x512.size (k0_off2_inb k)).toLoadRect Xs := by
    funext z
    refine congrArg (arg6.view.read (Elt F) Xs) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of loop 2 stores: its group of widened weights. -/
theorem tripL_t2 (Xw : BufTy.Contents (Elt F) arg4.view.ty) (Xs : BufTy.Contents (Elt F) arg6.view.ty) (k : Fin k0_t2_loop.trips) :
    ∃ inb, tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off8 k) S1x128x512.size inb, k0_pay30 (F := F) (wBlk (arg4.view.read (Elt F) Xw) ⟨k.val, k.isLt⟩) (sRow (arg6.view.read (Elt F) Xs) ⟨14 + k.val, Nat.lt_of_lt_of_le (Nat.add_lt_add_left k.isLt 14) (by decide)⟩)⟩] := by
  refine ⟨k0_off8_inb k, ?_⟩
  have e1 : ∀ k : Fin k0_t2_loop.trips, k0_off5 k = ![128 * k.val, 0] := by decide +kernel
  have e2 : ∀ k : Fin k0_t2_loop.trips, k0_off6 k = ![14 + k.val, 0] := by decide +kernel
  have hw : wBlk (F := F) (arg4.view.read (Elt F) Xw) ⟨k.val, k.isLt⟩
      = View.readAt (Elt F) arg4.view (Rect.unit (s := S1792x512) (k0_off5 k) S128x512.size (k0_off5_inb k)).toLoadRect Xw := by
    funext z
    refine congrArg (arg4.view.read (Elt F) Xw) (funext fun a => Fin.ext ?_)
    match a with
    | 0 => show _ = k0_off5 k 0 + 1 * (z 0).val; rw [e1 k]; show _ = 128 * k.val + _; rw [Nat.one_mul]; rfl
    | 1 => show _ = k0_off5 k 1 + 1 * (z 1).val; rw [e1 k]; show _ = 0 + _; rw [Nat.one_mul, Nat.zero_add]; rfl
  have hs : sRow (F := F) (arg6.view.read (Elt F) Xs) ⟨14 + k.val, Nat.lt_of_lt_of_le (Nat.add_lt_add_left k.isLt 14) (by decide)⟩
      = View.readAt (Elt F) arg6.view (Rect.unit (s := S28x512) (k0_off6 k) S1x512.size (k0_off6_inb k)).toLoadRect Xs := by
    funext z
    refine congrArg (arg6.view.read (Elt F) Xs) (funext fun a => Fin.ext ?_)
    match a with
    | 0 => show _ = k0_off6 k 0 + 1 * (z 0).val; rw [e2 k]; have h0 : (z 0).val = 0 := Nat.lt_one_iff.mp (z 0).isLt; rw [h0]; rfl
    | 1 => show _ = k0_off6 k 1 + 1 * (z 1).val; rw [e2 k]; show _ = 0 + _; rw [Nat.one_mul, Nat.zero_add]; rfl
  rw [hw, hs]
  unfold tripL_k0_t2 trip_k0_t2
  rfl

/-- What one trip of loop 3 stores: its group of widened weights. -/
theorem tripL_t3 (Xw : BufTy.Contents (Elt F) arg5.view.ty) (Xs : BufTy.Contents (Elt F) arg7.view.ty) (k : Fin k0_t3_loop.trips) :
    ∃ inb, tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off12 k) S1x128x512.size inb, k0_pay31 (F := F) (wBlk (arg5.view.read (Elt F) Xw) ⟨k.val, k.isLt⟩) (sRow (arg7.view.read (Elt F) Xs) ⟨k.val, Nat.lt_of_lt_of_le k.isLt (by decide)⟩)⟩] := by
  refine ⟨k0_off12_inb k, ?_⟩
  have e1 : ∀ k : Fin k0_t3_loop.trips, k0_off9 k = ![128 * k.val, 0] := by decide +kernel
  have e2 : ∀ k : Fin k0_t3_loop.trips, k0_off10 k = ![k.val, 0] := by decide +kernel
  have hw : wBlk (F := F) (arg5.view.read (Elt F) Xw) ⟨k.val, k.isLt⟩
      = View.readAt (Elt F) arg5.view (Rect.unit (s := S1792x512) (k0_off9 k) S128x512.size (k0_off9_inb k)).toLoadRect Xw := by
    funext z
    refine congrArg (arg5.view.read (Elt F) Xw) (funext fun a => Fin.ext ?_)
    match a with
    | 0 => show _ = k0_off9 k 0 + 1 * (z 0).val; rw [e1 k]; show _ = 128 * k.val + _; rw [Nat.one_mul]; rfl
    | 1 => show _ = k0_off9 k 1 + 1 * (z 1).val; rw [e1 k]; show _ = 0 + _; rw [Nat.one_mul, Nat.zero_add]; rfl
  have hs : sRow (F := F) (arg7.view.read (Elt F) Xs) ⟨k.val, Nat.lt_of_lt_of_le k.isLt (by decide)⟩
      = View.readAt (Elt F) arg7.view (Rect.unit (s := S28x512) (k0_off10 k) S1x512.size (k0_off10_inb k)).toLoadRect Xs := by
    funext z
    refine congrArg (arg7.view.read (Elt F) Xs) (funext fun a => Fin.ext ?_)
    match a with
    | 0 => show _ = k0_off10 k 0 + 1 * (z 0).val; rw [e2 k]; have h0 : (z 0).val = 0 := Nat.lt_one_iff.mp (z 0).isLt; rw [h0]; rfl
    | 1 => show _ = k0_off10 k 1 + 1 * (z 1).val; rw [e2 k]; show _ = 0 + _; rw [Nat.one_mul, Nat.zero_add]; rfl
  rw [hw, hs]
  unfold tripL_k0_t3 trip_k0_t3
  rfl

/-- What one trip of loop 4 stores: its group of widened weights. -/
theorem tripL_t4 (Xw : BufTy.Contents (Elt F) arg5.view.ty) (Xs : BufTy.Contents (Elt F) arg7.view.ty) (k : Fin k0_t4_loop.trips) :
    ∃ inb, tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off16 k) S1x128x512.size inb, k0_pay32 (F := F) (wBlk (arg5.view.read (Elt F) Xw) ⟨k.val, k.isLt⟩) (sRow (arg7.view.read (Elt F) Xs) ⟨14 + k.val, Nat.lt_of_lt_of_le (Nat.add_lt_add_left k.isLt 14) (by decide)⟩)⟩] := by
  refine ⟨k0_off16_inb k, ?_⟩
  have e1 : ∀ k : Fin k0_t4_loop.trips, k0_off13 k = ![128 * k.val, 0] := by decide +kernel
  have e2 : ∀ k : Fin k0_t4_loop.trips, k0_off14 k = ![14 + k.val, 0] := by decide +kernel
  have hw : wBlk (F := F) (arg5.view.read (Elt F) Xw) ⟨k.val, k.isLt⟩
      = View.readAt (Elt F) arg5.view (Rect.unit (s := S1792x512) (k0_off13 k) S128x512.size (k0_off13_inb k)).toLoadRect Xw := by
    funext z
    refine congrArg (arg5.view.read (Elt F) Xw) (funext fun a => Fin.ext ?_)
    match a with
    | 0 => show _ = k0_off13 k 0 + 1 * (z 0).val; rw [e1 k]; show _ = 128 * k.val + _; rw [Nat.one_mul]; rfl
    | 1 => show _ = k0_off13 k 1 + 1 * (z 1).val; rw [e1 k]; show _ = 0 + _; rw [Nat.one_mul, Nat.zero_add]; rfl
  have hs : sRow (F := F) (arg7.view.read (Elt F) Xs) ⟨14 + k.val, Nat.lt_of_lt_of_le (Nat.add_lt_add_left k.isLt 14) (by decide)⟩
      = View.readAt (Elt F) arg7.view (Rect.unit (s := S28x512) (k0_off14 k) S1x512.size (k0_off14_inb k)).toLoadRect Xs := by
    funext z
    refine congrArg (arg7.view.read (Elt F) Xs) (funext fun a => Fin.ext ?_)
    match a with
    | 0 => show _ = k0_off14 k 0 + 1 * (z 0).val; rw [e2 k]; have h0 : (z 0).val = 0 := Nat.lt_one_iff.mp (z 0).isLt; rw [h0]; rfl
    | 1 => show _ = k0_off14 k 1 + 1 * (z 1).val; rw [e2 k]; show _ = 0 + _; rw [Nat.one_mul, Nat.zero_add]; rfl
  rw [hw, hs]
  unfold tripL_k0_t4 trip_k0_t4
  rfl

/-- The widened weights of one window: rows of the low nibbles, then rows of the high nibbles, group by group. -/
def wide (w : Vec F S1792x512 .i8) (s : Vec F S28x512 .f32) : Vec F S1x3584x512 .bf16 := fun y =>
  if h : (y 1).val < 1792 then
    k0_pay29 (F := F) (wBlk w ⟨(y 1).val / 128, by omega⟩) (sRow s ⟨(y 1).val / 128, by omega⟩) (Groups.inGroup3 (W := 128) (by decide) (y 1).val (y 2))
  else
    k0_pay30 (F := F) (wBlk w ⟨((y 1).val - 1792) / 128, by have := (y 1).isLt; have e : S1x3584x512.size 1 = 3584 := rfl; omega⟩)
      (sRow s ⟨14 + ((y 1).val - 1792) / 128, by have := (y 1).isLt; have e : S1x3584x512.size 1 = 3584 := rfl; omega⟩)
      (Groups.inGroup3 (W := 128) (by decide) ((y 1).val - 1792) (y 2))

/-- The scratch after loop 1, read at an index. -/
theorem read_t1 (Xw : BufTy.Contents (Elt F) arg4.view.ty) (Xs : BufTy.Contents (Elt F) arg6.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 0 ∧ 0 ≤ r.val ∧ r.val < 0 + 1792 then wide (F := F) (arg4.view.read (Elt F) Xw) (arg6.view.read (Elt F) Xs) (ix3 0 r l)
        else arg14.view.read (Elt F) (arg14.view.writes (Elt F) f L) (ix3 p r l) := by
  have o4 : ∀ k : Fin k0_t1_loop.trips, k0_off4 k = ![0, 0 + 128 * k.val, 0] := by decide +kernel
  have g := Groups.read_groups3 (W := 128) (by decide) arg14.view f 0 0 14
    (fun k => if h : k < 14 then k0_pay29 (F := F) (wBlk (arg4.view.read (Elt F) Xw) ⟨k, h⟩) (sRow (arg6.view.read (Elt F) Xs) ⟨k, by omega⟩) else fun _ => arg14.view.read (Elt F) f (ix3 p r l))
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off4 ⟨k, hk⟩, inb, o4 ⟨k, hk⟩, ?_⟩
      rw [dif_pos hk, ← e]
      exact pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 0 ∧ 0 ≤ r.val ∧ r.val < 0 + 1792
  · rw [if_pos hc, if_pos (by omega)]
    unfold wide
    rw [dif_pos (show ((ix3 0 r l : S1x3584x512.Idx) 1).val < 1792 by show r.val < 1792; omega), dif_pos (by omega)]; rfl
  · rw [if_neg hc, if_neg (by omega)]

/-- The scratch after loop 2, read at an index. -/
theorem read_t2 (Xw : BufTy.Contents (Elt F) arg4.view.ty) (Xs : BufTy.Contents (Elt F) arg6.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 0 ∧ 1792 ≤ r.val ∧ r.val < 1792 + 1792 then wide (F := F) (arg4.view.read (Elt F) Xw) (arg6.view.read (Elt F) Xs) (ix3 0 r l)
        else arg14.view.read (Elt F) (arg14.view.writes (Elt F) f L) (ix3 p r l) := by
  have o4 : ∀ k : Fin k0_t2_loop.trips, k0_off8 k = ![0, 1792 + 128 * k.val, 0] := by decide +kernel
  have g := Groups.read_groups3 (W := 128) (by decide) arg14.view f 0 1792 14
    (fun k => if h : k < 14 then k0_pay30 (F := F) (wBlk (arg4.view.read (Elt F) Xw) ⟨k, h⟩) (sRow (arg6.view.read (Elt F) Xs) ⟨14 + k, by omega⟩) else fun _ => arg14.view.read (Elt F) f (ix3 p r l))
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off8 ⟨k, hk⟩, inb, o4 ⟨k, hk⟩, ?_⟩
      rw [dif_pos hk, ← e]
      exact pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 0 ∧ 1792 ≤ r.val ∧ r.val < 1792 + 1792
  · rw [if_pos hc, if_pos (by omega)]
    unfold wide
    rw [dif_neg (show ¬ ((ix3 0 r l : S1x3584x512.Idx) 1).val < 1792 by show ¬ r.val < 1792; omega), dif_pos (by omega)]; rfl
  · rw [if_neg hc, if_neg (by omega)]

/-- The scratch after loop 3, read at an index. -/
theorem read_t3 (Xw : BufTy.Contents (Elt F) arg5.view.ty) (Xs : BufTy.Contents (Elt F) arg7.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 1 ∧ 0 ≤ r.val ∧ r.val < 0 + 1792 then wide (F := F) (arg5.view.read (Elt F) Xw) (arg7.view.read (Elt F) Xs) (ix3 0 r l)
        else arg14.view.read (Elt F) (arg14.view.writes (Elt F) f L) (ix3 p r l) := by
  have o4 : ∀ k : Fin k0_t3_loop.trips, k0_off12 k = ![1, 0 + 128 * k.val, 0] := by decide +kernel
  have g := Groups.read_groups3 (W := 128) (by decide) arg14.view f 1 0 14
    (fun k => if h : k < 14 then k0_pay31 (F := F) (wBlk (arg5.view.read (Elt F) Xw) ⟨k, h⟩) (sRow (arg7.view.read (Elt F) Xs) ⟨k, by omega⟩) else fun _ => arg14.view.read (Elt F) f (ix3 p r l))
    (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off12 ⟨k, hk⟩, inb, o4 ⟨k, hk⟩, ?_⟩
      rw [dif_pos hk, ← e]
      exact pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 1 ∧ 0 ≤ r.val ∧ r.val < 0 + 1792
  · rw [if_pos hc, if_pos (by omega)]
    unfold wide
    rw [dif_pos (show ((ix3 0 r l : S1x3584x512.Idx) 1).val < 1792 by show r.val < 1792; omega), dif_pos (by omega)]; rfl
  · rw [if_neg hc, if_neg (by omega)]

/-- The scratch after loop 4, read at an index. -/
theorem read_t4 (Xw : BufTy.Contents (Elt F) arg5.view.ty) (Xs : BufTy.Contents (Elt F) arg7.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 1 ∧ 1792 ≤ r.val ∧ r.val < 1792 + 1792 then wide (F := F) (arg5.view.read (Elt F) Xw) (arg7.view.read (Elt F) Xs) (ix3 0 r l)
        else arg14.view.read (Elt F) (arg14.view.writes (Elt F) f L) (ix3 p r l) := by
  have o4 : ∀ k : Fin k0_t4_loop.trips, k0_off16 k = ![1, 1792 + 128 * k.val, 0] := by decide +kernel
  have g := Groups.read_groups3 (W := 128) (by decide) arg14.view f 1 1792 14
    (fun k => if h : k < 14 then k0_pay32 (F := F) (wBlk (arg5.view.read (Elt F) Xw) ⟨k, h⟩) (sRow (arg7.view.read (Elt F) Xs) ⟨14 + k, by omega⟩) else fun _ => arg14.view.read (Elt F) f (ix3 p r l))
    (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off16 ⟨k, hk⟩, inb, o4 ⟨k, hk⟩, ?_⟩
      rw [dif_pos hk, ← e]
      exact pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 1 ∧ 1792 ≤ r.val ∧ r.val < 1792 + 1792
  · rw [if_pos hc, if_pos (by omega)]
    unfold wide
    rw [dif_neg (show ¬ ((ix3 0 r l : S1x3584x512.Idx) 1).val < 1792 by show ¬ r.val < 1792; omega), dif_pos (by omega)]; rfl
  · rw [if_neg hc, if_neg (by omega)]

/-- After the four loops plane 0 of the scratch reads as its window's widened weights, whatever it held. -/
theorem read_wide0 (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg14.view.ty) (inb) :
    View.readAt (Elt F) arg14.view (Rect.unit (s := S2x3584x512) ![0, 0, 0] S1x3584x512.size inb).toLoadRect (arg14.view.writes (Elt F) f
        (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14 ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14))))
      = wide (F := F) (arg4.view.read (Elt F) X4) (arg6.view.read (Elt F) X6) := by
  funext y
  obtain ⟨r, l, rfl⟩ : ∃ (r : Fin 3584) (l : Fin 512), y = ix3 0 r l := ⟨y 1, y 2, by
    funext a; match a with | 0 => exact Fin.ext (Nat.lt_one_iff.mp (y 0).isLt) | 1 => rfl | 2 => rfl⟩
  have e : ∀ g : BufTy.Contents (Elt F) arg14.view.ty, View.readAt (Elt F) arg14.view (Rect.unit (s := S2x3584x512) ![0, 0, 0] S1x3584x512.size inb).toLoadRect g (ix3 0 r l)
      = arg14.view.read (Elt F) g (ix3 0 r l) := fun g => by
    refine congrArg (arg14.view.read (Elt F) g) (funext fun a => Fin.ext ?_)
    match a with
    | 0 => rfl
    | 1 => show 0 + 1 * r.val = r.val; omega
    | 2 => show 0 + 1 * l.val = l.val; omega
  have hr := r.isLt
  rw [e, read_t4, read_t3, read_t2, ← List.append_nil (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14), read_t1]
  by_cases hh : r.val < 1792
  · rw [if_neg (by simp), if_neg (by simp), if_neg (by omega), if_pos ⟨rfl, by omega, by omega⟩]
  · rw [if_neg (by simp), if_neg (by simp), if_pos ⟨rfl, by omega, by omega⟩]

/-- After the four loops plane 1 of the scratch reads as its window's widened weights, whatever it held. -/
theorem read_wide1 (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg14.view.ty) (inb) :
    View.readAt (Elt F) arg14.view (Rect.unit (s := S2x3584x512) ![1, 0, 0] S1x3584x512.size inb).toLoadRect (arg14.view.writes (Elt F) f
        (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14 ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14))))
      = wide (F := F) (arg5.view.read (Elt F) X5) (arg7.view.read (Elt F) X7) := by
  funext y
  obtain ⟨r, l, rfl⟩ : ∃ (r : Fin 3584) (l : Fin 512), y = ix3 0 r l := ⟨y 1, y 2, by
    funext a; match a with | 0 => exact Fin.ext (Nat.lt_one_iff.mp (y 0).isLt) | 1 => rfl | 2 => rfl⟩
  have e : ∀ g : BufTy.Contents (Elt F) arg14.view.ty, View.readAt (Elt F) arg14.view (Rect.unit (s := S2x3584x512) ![1, 0, 0] S1x3584x512.size inb).toLoadRect g (ix3 0 r l)
      = arg14.view.read (Elt F) g (ix3 1 r l) := fun g => by
    refine congrArg (arg14.view.read (Elt F) g) (funext fun a => Fin.ext ?_)
    match a with
    | 0 => rfl
    | 1 => show 0 + 1 * r.val = r.val; omega
    | 2 => show 0 + 1 * l.val = l.val; omega
  have hr := r.isLt
  rw [e, read_t4, read_t3, read_t2, ← List.append_nil (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14), read_t1]
  by_cases hh : r.val < 1792
  · rw [if_neg (by omega), if_pos ⟨rfl, by omega, by omega⟩]
  · rw [if_pos ⟨rfl, by omega, by omega⟩]
end Trips
end Cert.GateUpIdeal.Body
end
-- ==== Proof.GateUpBody.lean ====
module
public import proofs.«01_k».proof.Proof.Gen.GateUpIdeal.Frame
public import proofs.«01_k».proof.Proof.GateUpWide

@[expose] public section
set_option maxRecDepth 16384
noncomputable section
namespace Cert.GateUpIdeal.Body
open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The condition of the first point of a row of the grid. -/
theorem first_iff : ∀ j : Fin 21, Iff (Scalar.cmpi .ne (Scalar.extui (Scalar.cmpi .eq (BitVec.ofNat 32 j.val) 0#32)) 0#32 = 1#1) (j.val = 0) := by decide +kernel

/-- The widened activations a row of the grid works with after a point. -/
def xNext (i : grid0.Coords) (xb : Vec F S512x3584 .bf16) (x0 : Vec F S512x3584 .fp8e4m3) : Vec F S512x3584 .bf16 :=
  if (i 1).val = 0 then k0_pay27 (F := F) x0 else xb

/-- The gated product of one tile of columns. -/
def mid (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S1x512x512 .f32 :=
  k0_pay36 (F := F) (k0_pay33 (F := F) x1) x6 (k0_pay34 (F := F) x1 xb (wide (F := F) x2 x4)) x7 xb (wide (F := F) x3 x5) x8

/-- The scratch of the tiles after a point: that point's slot at its gated product. -/
def yNext (i : grid0.Coords) (y : Vec F S21x512x512 .f32) (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S21x512x512 .f32 :=
  VecWindow.put y (k0_off17 i) S1x512x512.size (mid (F := F) xb x1 x2 x3 x4 x5 x6 x7 x8)

/-- The running maxima after a point. -/
def aNext (i : grid0.Coords) (a : Vec F S512x128 .f32) (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S512x128 .f32 :=
  k0_pay37 (F := F) (k0_pay33 (F := F) x1) x6 (k0_pay34 (F := F) x1 xb (wide (F := F) x2 x4)) x7 xb (wide (F := F) x3 x5) x8 (if (i 1).val = 0 then k0_pay28 (F := F) else a)

/-- Slot `j` of the tiles' scratch. -/
def slot (y : Vec F S21x512x512 .f32) (j : Fin 21) : Vec F S1x512x512 .f32 :=
  fun z => y (ix3 j (z 1) (z 2))

/-- The codes written after the last slot: tile `q` of the columns from slot `q`. -/
def codesOf (a : Vec F S512x128 .f32) (y : Vec F S21x512x512 .f32) : Vec F S512x10752 .fp8e4m3 := fun z =>
  k0_pay5 (F := F) a (slot y ⟨(z 1).val / 512, by have := (z 1).isLt; have h : S512x10752.size 1 = 10752 := rfl; omega⟩)
    (ix2 (z 0) ⟨(z 1).val % 512, Nat.mod_lt _ (by decide)⟩)

/-- A store of a tile of 512 columns, read at an index. -/
theorem read_cons_col {arg11 : Memref sig .tc .vmem S512x10752 .fp8e4m3} (f : BufTy.Contents (Elt F) arg11.view.ty) (o : ℕ)
    (inb : ∀ a : Fin 2, (![0, o] : Fin 2 → ℕ) a + S512x512.size a ≤ S512x10752.size a) (w : Vec F S512x512 .fp8e4m3)
    (L : List (View.Piece (Elt F) S512x10752 .fp8e4m3)) (r : Fin 512) (l : Fin 10752) :
    arg11.view.read (Elt F) (arg11.view.writes (Elt F) f (⟨Rect.unit (s := S512x10752) ![0, o] S512x512.size inb, w⟩ :: L)) (ix2 r l)
      = if h : o ≤ l.val ∧ l.val < o + 512 then w (ix2 r ⟨l.val - o, by omega⟩) else arg11.view.read (Elt F) (arg11.view.writes (Elt F) f L) (ix2 r l) := by
  by_cases h : o ≤ l.val ∧ l.val < o + 512
  · rw [dif_pos h]
    refine View.read_writes_cons_unit_of_mem arg11.view f inb w L (ix2 r l) (ix2 r (⟨l.val - o, by omega⟩ : Fin 512)) rfl fun a => ?_
    match a with
    | 0 => exact (Nat.zero_add _).symm
    | 1 => show l.val = o + (l.val - o); omega
  · rw [dif_neg h]
    refine View.read_writes_cons_unit_of_not_mem _ _ _ _ _ _ rfl 1 ?_
    show l.val < o ∨ o + 512 ≤ l.val
    omega

/-- One more tile: if the first `q` tiles of columns read as they should, so do the first `q + 1`. -/
theorem read_codes_step {arg11 : Memref sig .tc .vmem S512x10752 .fp8e4m3} (f : BufTy.Contents (Elt F) arg11.view.ty)
    (a : Vec F S512x128 .f32) (y : Vec F S21x512x512 .f32) (q : Fin 21) (o : ℕ) (ho : o = 512 * q.val)
    (inb : ∀ a : Fin 2, (![0, o] : Fin 2 → ℕ) a + S512x512.size a ≤ S512x10752.size a)
    (L : List (View.Piece (Elt F) S512x10752 .fp8e4m3))
    (ih : ∀ (r : Fin 512) (l : Fin 10752), l.val < 512 * q.val → arg11.view.read (Elt F) (arg11.view.writes (Elt F) f L) (ix2 r l) = codesOf a y (ix2 r l))
    (r : Fin 512) (l : Fin 10752) (hl : l.val < 512 * (q.val + 1)) :
    arg11.view.read (Elt F) (arg11.view.writes (Elt F) f (⟨Rect.unit (s := S512x10752) ![0, o] S512x512.size inb, k0_pay5 (F := F) a (slot y q)⟩ :: L)) (ix2 r l) = codesOf a y (ix2 r l) := by
  rw [read_cons_col]
  by_cases h : o ≤ l.val ∧ l.val < o + 512
  · rw [dif_pos h]
    have hlt := l.isLt
    have e1 : (⟨l.val / 512, by omega⟩ : Fin 21) = q := Fin.ext (by show l.val / 512 = q.val; omega)
    have e2 : (⟨l.val % 512, Nat.mod_lt _ (by decide)⟩ : Fin 512) = ⟨l.val - o, by omega⟩ := Fin.ext (by show l.val % 512 = l.val - o; omega)
    show _ = k0_pay5 (F := F) a (slot y ⟨l.val / 512, _⟩) (ix2 r ⟨l.val % 512, _⟩)
    rw [e1, e2]
  · rw [dif_neg h]
    exact ih r l (by omega)

/-- The stores of the codes, read as `codesOf`. -/
theorem read_codes {arg11 : Memref sig .tc .vmem S512x10752 .fp8e4m3} (f : BufTy.Contents (Elt F) arg11.view.ty)
    (a : Vec F S512x128 .f32) (y : Vec F S21x512x512 .f32) (i0 i1 i2 i3 i4 i5 i6 i7 i8 i9 i10 i11 i12 i13 i14 i15 i16 i17 i18 i19 i20) :
    arg11.view.read (Elt F) (arg11.view.writes (Elt F) f
      [⟨Rect.unit (s := S512x10752) ![0, 10240] S512x512.size i20, k0_pay5 (F := F) a (slot y 20)⟩,
       ⟨Rect.unit (s := S512x10752) ![0, 9728] S512x512.size i19, k0_pay5 (F := F) a (slot y 19)⟩,
       ⟨Rect.unit (s := S512x10752) ![0, 9216] S512x512.size i18, k0_pay5 (F := F) a (slot y 18)⟩,
       ⟨Rect.unit (s := S512x10752) ![0, 8704] S512x512.size i17, k0_pay5 (F := F) a (slot y 17)⟩,
       ⟨Rect.unit (s := S512x10752) ![0, 8192] S512x512.size i16, k0_pay5 (F := F) a (slot y 16)⟩,
       ⟨Rect.unit (s := S512x10752) ![0, 7680] S512x512.size i15, k0_pay5 (F := F) a (slot y 15)⟩,
       ⟨Rect.unit (s := S512x10752) ![0, 7168] S512x512.size i14, k0_pay5 (F := F) a (slot y 14)⟩,
       ⟨Rect.unit (s := S512x10752) ![0, 6656] S512x512.size i13, k0_pay5 (F := F) a (slot y 13)⟩,
       ⟨Rect.unit (s := S512x10752) ![0, 6144] S512x512.size i12, k0_pay5 (F := F) a (slot y 12)⟩,
       ⟨Rect.unit (s := S512x10752) ![0, 5632] S512x512.size i11, k0_pay5 (F := F) a (slot y 11)⟩,
       ⟨Rect.unit (s := S512x10752) ![0, 5120] S512x512.size i10, k0_pay5 (F := F) a (slot y 10)⟩,
       ⟨Rect.unit (s := S512x10752) ![0, 4608] S512x512.size i9, k0_pay5 (F := F) a (slot y 9)⟩,
       ⟨Rect.unit (s := S512x10752) ![0, 4096] S512x512.size i8, k0_pay5 (F := F) a (slot y 8)⟩,
       ⟨Rect.unit (s := S512x10752) ![0, 3584] S512x512.size i7, k0_pay5 (F := F) a (slot y 7)⟩,
       ⟨Rect.unit (s := S512x10752) ![0, 3072] S512x512.size i6, k0_pay5 (F := F) a (slot y 6)⟩,
       ⟨Rect.unit (s := S512x10752) ![0, 2560] S512x512.size i5, k0_pay5 (F := F) a (slot y 5)⟩,
       ⟨Rect.unit (s := S512x10752) ![0, 2048] S512x512.size i4, k0_pay5 (F := F) a (slot y 4)⟩,
       ⟨Rect.unit (s := S512x10752) ![0, 1536] S512x512.size i3, k0_pay5 (F := F) a (slot y 3)⟩,
       ⟨Rect.unit (s := S512x10752) ![0, 1024] S512x512.size i2, k0_pay5 (F := F) a (slot y 2)⟩,
       ⟨Rect.unit (s := S512x10752) ![0, 512] S512x512.size i1, k0_pay5 (F := F) a (slot y 1)⟩,
       ⟨Rect.unit (s := S512x10752) ![0, 0] S512x512.size i0, k0_pay5 (F := F) a (slot y 0)⟩]) = codesOf a y := by
  funext z
  obtain ⟨r, l, rfl⟩ : ∃ (r : Fin 512) (l : Fin 10752), z = ix2 r l := ⟨z 0, z 1, by funext a; match a with | 0 => rfl | 1 => rfl⟩
  refine read_codes_step f a y 20 10240 rfl _ _ (fun r l hl => ?_) r l l.isLt
  refine read_codes_step f a y 19 9728 rfl _ _ (fun r l hl => ?_) r l hl
  refine read_codes_step f a y 18 9216 rfl _ _ (fun r l hl => ?_) r l hl
  refine read_codes_step f a y 17 8704 rfl _ _ (fun r l hl => ?_) r l hl
  refine read_codes_step f a y 16 8192 rfl _ _ (fun r l hl => ?_) r l hl
  refine read_codes_step f a y 15 7680 rfl _ _ (fun r l hl => ?_) r l hl
  refine read_codes_step f a y 14 7168 rfl _ _ (fun r l hl => ?_) r l hl
  refine read_codes_step f a y 13 6656 rfl _ _ (fun r l hl => ?_) r l hl
  refine read_codes_step f a y 12 6144 rfl _ _ (fun r l hl => ?_) r l hl
  refine read_codes_step f a y 11 5632 rfl _ _ (fun r l hl => ?_) r l hl
  refine read_codes_step f a y 10 5120 rfl _ _ (fun r l hl => ?_) r l hl
  refine read_codes_step f a y 9 4608 rfl _ _ (fun r l hl => ?_) r l hl
  refine read_codes_step f a y 8 4096 rfl _ _ (fun r l hl => ?_) r l hl
  refine read_codes_step f a y 7 3584 rfl _ _ (fun r l hl => ?_) r l hl
  refine read_codes_step f a y 6 3072 rfl _ _ (fun r l hl => ?_) r l hl
  refine read_codes_step f a y 5 2560 rfl _ _ (fun r l hl => ?_) r l hl
  refine read_codes_step f a y 4 2048 rfl _ _ (fun r l hl => ?_) r l hl
  refine read_codes_step f a y 3 1536 rfl _ _ (fun r l hl => ?_) r l hl
  refine read_codes_step f a y 2 1024 rfl _ _ (fun r l hl => ?_) r l hl
  refine read_codes_step f a y 1 512 rfl _ _ (fun r l hl => ?_) r l hl
  refine read_codes_step f a y 0 0 rfl _ _ (fun r l hl => ?_) r l hl
  exact absurd hl (Nat.not_lt_zero _)

/-- A load of one slot of the tiles' scratch. -/
theorem readAt_slot {arg15 : Memref sig .tc .vmem S21x512x512 .f32} (f : BufTy.Contents (Elt F) arg15.view.ty) (j : Fin 21)
    (inb : ∀ a : Fin 3, (![j.val, 0, 0] : Fin 3 → ℕ) a + S1x512x512.size a ≤ S21x512x512.size a) :
    View.readAt (Elt F) arg15.view (Rect.unit (s := S21x512x512) ![j.val, 0, 0] S1x512x512.size inb).toLoadRect f = slot (arg15.view.read (Elt F) f) j := by
  funext z
  refine congrArg (arg15.view.read (Elt F) f) (funext fun a => Fin.ext ?_)
  match a with
  | 0 => show j.val + 1 * (z 0).val = j.val; have h0 : (z 0).val = 0 := Nat.lt_one_iff.mp (z 0).isLt; omega
  | 1 => show 0 + 1 * (z 1).val = (z 1).val; omega
  | 2 => show 0 + 1 * (z 2).val = (z 2).val; omega

set_option maxHeartbeats 4000000 in
/-- A point that does not end a row of the grid. -/
theorem sound_step (c : Dev nD) (E : Set ℕ) (i : grid0.Coords) (h2 : ¬ k0_cond2 i = 1#1) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)
    (x0 : Vec F S512x3584 .fp8e4m3) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (x9 : Vec F S512x10752 .fp8e4m3) (x10 : Vec F S512x1 .f32) (x11 : Vec F S512x3584 .bf16) (x12 : Vec F S2x3584x512 .bf16) (x13 : Vec F S21x512x512 .f32) (x14 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (xNext (F := F) i x11 x0) ∗ (∃ d, owns (c : Thread nD τ) arg14 fullShare d) ∗ owns (c : Thread nD τ) arg15 fullShare (yNext (F := F) i x13 (xNext (F := F) i x11 x0) x1 x2 x3 x4 x5 x6 x7 x8) ∗ owns (c : Thread nD τ) arg16 fullShare (aNext (F := F) i x14 (xNext (F := F) i x11 x0) x1 x2 x3 x4 x5 x6 x7 x8)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec
  sl_step
  have hc : sound_step.sl.v2 i = 1#1 ↔ (i 1).val = 0 := by
    unfold sound_step.sl.v2 sound_step.sl.v1
    exact first_iff (i 1)
  have ex : arg13.view.read (Elt F) (if hc : sound_step.sl.v2 i = 1#1 then arg13.view.writes (Elt F) f11 [⟨Rect.unit (s := S512x3584) ![0, 0] S512x3584.size inb_S512x3584_S512x3584_0_0, k0_pay27 (F := F) (View.readAt (Elt F) arg2.view (Rect.unit (s := S512x3584) ![0, 0] S512x3584.size inb_S512x3584_S512x3584_0_0).toLoadRect f0)⟩] else f11) = (xNext (F := F) i (arg13.view.read (Elt F) f11) (arg2.view.read (Elt F) f0)) := by
    unfold xNext
    by_cases h0 : (i 1).val = 0
    · rw [dif_pos (hc.mpr h0), if_pos h0, View.readAt_full]; exact View.read_writes_full _ _ _ _ _
    · rw [dif_neg (fun h => h0 (hc.mp h)), if_neg h0]
  have e11 : sound_step.sl.v11 c i arg2 arg13 f0 f11 = (xNext (F := F) i (arg13.view.read (Elt F) f11) (arg2.view.read (Elt F) f0)) := by
    unfold sound_step.sl.v11
    exact (View.readAt_full _ _ _).trans ex
  have e12 : sound_step.sl.v12 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg4.view.read (Elt F) f2) (arg6.view.read (Elt F) f4) := by
    unfold sound_step.sl.v12
    exact read_wide0 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e21 : sound_step.sl.v21 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg5.view.read (Elt F) f3) (arg7.view.read (Elt F) f5) := by
    unfold sound_step.sl.v21
    exact read_wide1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e42 : sound_step.sl.v42 c i arg16 f14 = (if (i 1).val = 0 then k0_pay28 (F := F) else (arg16.view.read (Elt F) f14)) := by
    unfold sound_step.sl.v42
    refine (View.readAt_full _ _ _).trans ?_
    by_cases h0 : (i 1).val = 0
    · rw [dif_pos (hc.mpr h0), if_pos h0]; exact View.read_writes_full _ _ _ _ _
    · rw [dif_neg (fun h => h0 (hc.mp h)), if_neg h0]
  have er0 : sound_step.sl.r c arg3 f1 = k0_pay33 (F := F) (arg3.view.read (Elt F) f1) := by
    unfold sound_step.sl.r
    rw [View.readAt_full]
  have er1 : sound_step.sl.r_1 c arg8 f6 = (arg8.view.read (Elt F) f6) := by
    unfold sound_step.sl.r_1
    rw [View.readAt_full]
  have er2 : sound_step.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f11 f12 = k0_pay34 (F := F) (arg3.view.read (Elt F) f1) (xNext (F := F) i (arg13.view.read (Elt F) f11) (arg2.view.read (Elt F) f0)) (wide (F := F) (arg4.view.read (Elt F) f2) (arg6.view.read (Elt F) f4)) := by
    unfold sound_step.sl.r_2
    rw [View.readAt_full, e11, e12]
  have er3 : sound_step.sl.r_3 c arg9 f7 = (arg9.view.read (Elt F) f7) := by
    unfold sound_step.sl.r_3
    rw [View.readAt_full]
  have er4 : sound_step.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_step.sl.r_4 aNext
    rw [er0, er1, er2, er3, e11, e21, e42, View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]
  · iexists _; isplitr; swap; · iexact H11
    ipureintro
    exact ex
  isplitl [H12]; · iexists _; iexists _; isplitr; swap; · iexact H12
                   ipureintro; rfl
  isplitl [H13]
  · iexists _; isplitr; swap; · iexact H13
    ipureintro
    unfold yNext mid
    rw [er0, er1, er2, er3, e11, e21, View.readAt_full]
    exact View.read_writes_cons_put _ _ _ _ [] rfl
  iexists _; isplitr; swap; · iexact H14
  ipureintro
  rw [er4]
  exact View.read_writes_full _ _ _ _ _

set_option maxHeartbeats 4000000 in
/-- A point that ends a row of the grid. -/
theorem sound_last (c : Dev nD) (E : Set ℕ) (i : grid0.Coords) (h2 : k0_cond2 i = 1#1) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)
    (x0 : Vec F S512x3584 .fp8e4m3) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (x9 : Vec F S512x10752 .fp8e4m3) (x10 : Vec F S512x1 .f32) (x11 : Vec F S512x3584 .bf16) (x12 : Vec F S2x3584x512 .bf16) (x13 : Vec F S21x512x512 .f32) (x14 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (codesOf (F := F) (aNext (F := F) i x14 (xNext (F := F) i x11 x0) x1 x2 x3 x4 x5 x6 x7 x8) (yNext (F := F) i x13 (xNext (F := F) i x11 x0) x1 x2 x3 x4 x5 x6 x7 x8)) ∗ owns (c : Thread nD τ) arg12 fullShare (k0_pay3 (F := F) (aNext (F := F) i x14 (xNext (F := F) i x11 x0) x1 x2 x3 x4 x5 x6 x7 x8)) ∗ owns (c : Thread nD τ) arg13 fullShare (xNext (F := F) i x11 x0) ∗ (∃ d, owns (c : Thread nD τ) arg14 fullShare d) ∗ owns (c : Thread nD τ) arg15 fullShare (yNext (F := F) i x13 (xNext (F := F) i x11 x0) x1 x2 x3 x4 x5 x6 x7 x8) ∗ owns (c : Thread nD τ) arg16 fullShare (aNext (F := F) i x14 (xNext (F := F) i x11 x0) x1 x2 x3 x4 x5 x6 x7 x8)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec
  sl_step
  have hc : sound_last.sl.v2 i = 1#1 ↔ (i 1).val = 0 := by
    unfold sound_last.sl.v2 sound_last.sl.v1
    exact first_iff (i 1)
  have ex : arg13.view.read (Elt F) (if hc : sound_last.sl.v2 i = 1#1 then arg13.view.writes (Elt F) f11 [⟨Rect.unit (s := S512x3584) ![0, 0] S512x3584.size inb_S512x3584_S512x3584_0_0, k0_pay27 (F := F) (View.readAt (Elt F) arg2.view (Rect.unit (s := S512x3584) ![0, 0] S512x3584.size inb_S512x3584_S512x3584_0_0).toLoadRect f0)⟩] else f11) = (xNext (F := F) i (arg13.view.read (Elt F) f11) (arg2.view.read (Elt F) f0)) := by
    unfold xNext
    by_cases h0 : (i 1).val = 0
    · rw [dif_pos (hc.mpr h0), if_pos h0, View.readAt_full]; exact View.read_writes_full _ _ _ _ _
    · rw [dif_neg (fun h => h0 (hc.mp h)), if_neg h0]
  have e11 : sound_last.sl.v11 c i arg2 arg13 f0 f11 = (xNext (F := F) i (arg13.view.read (Elt F) f11) (arg2.view.read (Elt F) f0)) := by
    unfold sound_last.sl.v11
    exact (View.readAt_full _ _ _).trans ex
  have e12 : sound_last.sl.v12 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg4.view.read (Elt F) f2) (arg6.view.read (Elt F) f4) := by
    unfold sound_last.sl.v12
    exact read_wide0 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e21 : sound_last.sl.v21 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg5.view.read (Elt F) f3) (arg7.view.read (Elt F) f5) := by
    unfold sound_last.sl.v21
    exact read_wide1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e42 : sound_last.sl.v42 c i arg16 f14 = (if (i 1).val = 0 then k0_pay28 (F := F) else (arg16.view.read (Elt F) f14)) := by
    unfold sound_last.sl.v42
    refine (View.readAt_full _ _ _).trans ?_
    by_cases h0 : (i 1).val = 0
    · rw [dif_pos (hc.mpr h0), if_pos h0]; exact View.read_writes_full _ _ _ _ _
    · rw [dif_neg (fun h => h0 (hc.mp h)), if_neg h0]
  have er0 : sound_last.sl.r c arg3 f1 = k0_pay33 (F := F) (arg3.view.read (Elt F) f1) := by
    unfold sound_last.sl.r
    rw [View.readAt_full]
  have er1 : sound_last.sl.r_1 c arg8 f6 = (arg8.view.read (Elt F) f6) := by
    unfold sound_last.sl.r_1
    rw [View.readAt_full]
  have er2 : sound_last.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f11 f12 = k0_pay34 (F := F) (arg3.view.read (Elt F) f1) (xNext (F := F) i (arg13.view.read (Elt F) f11) (arg2.view.read (Elt F) f0)) (wide (F := F) (arg4.view.read (Elt F) f2) (arg6.view.read (Elt F) f4)) := by
    unfold sound_last.sl.r_2
    rw [View.readAt_full, e11, e12]
  have er3 : sound_last.sl.r_3 c arg9 f7 = (arg9.view.read (Elt F) f7) := by
    unfold sound_last.sl.r_3
    rw [View.readAt_full]
  have er4 : sound_last.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.r_4 aNext
    rw [er0, er1, er2, er3, e11, e21, e42, View.readAt_full]
  have e61 : sound_last.sl.v61 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.v61 sound_last.sl.H14_1
    rw [er4]
    exact View.readCov_full _ _ _ _ []
  have ey : arg15.view.read (Elt F) (arg15.view.writes (Elt F) f13 (sound_last.sl.H13_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12)) = (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.H13_1 yNext mid
    rw [er0, er1, er2, er3, e11, e21, View.readAt_full]
    exact View.read_writes_cons_put _ _ _ _ [] rfl
  have s0 : sound_last.sl.v71 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 0 := by
    unfold sound_last.sl.v71
    rw [← ey]
    exact readAt_slot _ 0 _
  have s1 : sound_last.sl.v81 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 1 := by
    unfold sound_last.sl.v81
    rw [← ey]
    exact readAt_slot _ 1 _
  have s2 : sound_last.sl.v91 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 2 := by
    unfold sound_last.sl.v91
    rw [← ey]
    exact readAt_slot _ 2 _
  have s3 : sound_last.sl.v101 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 3 := by
    unfold sound_last.sl.v101
    rw [← ey]
    exact readAt_slot _ 3 _
  have s4 : sound_last.sl.v111 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 4 := by
    unfold sound_last.sl.v111
    rw [← ey]
    exact readAt_slot _ 4 _
  have s5 : sound_last.sl.v121 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 5 := by
    unfold sound_last.sl.v121
    rw [← ey]
    exact readAt_slot _ 5 _
  have s6 : sound_last.sl.v131 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 6 := by
    unfold sound_last.sl.v131
    rw [← ey]
    exact readAt_slot _ 6 _
  have s7 : sound_last.sl.v141 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 7 := by
    unfold sound_last.sl.v141
    rw [← ey]
    exact readAt_slot _ 7 _
  have s8 : sound_last.sl.v151 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 8 := by
    unfold sound_last.sl.v151
    rw [← ey]
    exact readAt_slot _ 8 _
  have s9 : sound_last.sl.v161 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 9 := by
    unfold sound_last.sl.v161
    rw [← ey]
    exact readAt_slot _ 9 _
  have s10 : sound_last.sl.v171 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 10 := by
    unfold sound_last.sl.v171
    rw [← ey]
    exact readAt_slot _ 10 _
  have s11 : sound_last.sl.v181 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 11 := by
    unfold sound_last.sl.v181
    rw [← ey]
    exact readAt_slot _ 11 _
  have s12 : sound_last.sl.v191 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 12 := by
    unfold sound_last.sl.v191
    rw [← ey]
    exact readAt_slot _ 12 _
  have s13 : sound_last.sl.v201 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 13 := by
    unfold sound_last.sl.v201
    rw [← ey]
    exact readAt_slot _ 13 _
  have s14 : sound_last.sl.v211 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 14 := by
    unfold sound_last.sl.v211
    rw [← ey]
    exact readAt_slot _ 14 _
  have s15 : sound_last.sl.v221 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 15 := by
    unfold sound_last.sl.v221
    rw [← ey]
    exact readAt_slot _ 15 _
  have s16 : sound_last.sl.v231 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 16 := by
    unfold sound_last.sl.v231
    rw [← ey]
    exact readAt_slot _ 16 _
  have s17 : sound_last.sl.v241 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 17 := by
    unfold sound_last.sl.v241
    rw [← ey]
    exact readAt_slot _ 17 _
  have s18 : sound_last.sl.v251 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 18 := by
    unfold sound_last.sl.v251
    rw [← ey]
    exact readAt_slot _ 18 _
  have s19 : sound_last.sl.v261 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 19 := by
    unfold sound_last.sl.v261
    rw [← ey]
    exact readAt_slot _ 19 _
  have s20 : sound_last.sl.v271 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 20 := by
    unfold sound_last.sl.v271
    rw [← ey]
    exact readAt_slot _ 20 _
  have q5 : sound_last.sl.r_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.r_5
    rw [e61]
  have q6 : sound_last.sl.r_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = k0_pay6 (F := F) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 2) := by
    unfold sound_last.sl.r_6
    rw [s2]
  have q7 : sound_last.sl.r_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay10 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 5) := by
    unfold sound_last.sl.r_7
    rw [q5, s5]
  have q8 : sound_last.sl.r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay14 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 8) := by
    unfold sound_last.sl.r_8
    rw [q5, s8]
  have q9 : sound_last.sl.r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = k0_pay18 (F := F) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 12) := by
    unfold sound_last.sl.r_9
    rw [s12]
  have q10 : sound_last.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay22 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 15) := by
    unfold sound_last.sl.r_10
    rw [q5, s15]
  have q11 : sound_last.sl.r_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay26 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 18) := by
    unfold sound_last.sl.r_11
    rw [q5, s18]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists _; isplitr; swap; · iexact H9
                  ipureintro
                  rw [e61, q5, q6, q7, q8, q9, q10, q11, s0, s1, s3, s4, s6, s7, s9, s10, s11, s13, s14, s16, s17, s19, s20]
                  exact read_codes (F := F) f9 (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) _ _ _ _ _ _ _ _ _ _ _ _ _ _ _ _ _ _ _ _ _
  isplitl [H10]; · iexists _; isplitr; swap; · iexact H10
                   ipureintro
                   simp only [e61, q5]
                   exact View.read_writes_full _ _ _ _ _
  isplitl [H11]
  · iexists _; isplitr; swap; · iexact H11
    ipureintro
    exact ex
  isplitl [H12]; · iexists _; iexists _; isplitr; swap; · iexact H12
                   ipureintro; rfl
  isplitl [H13]
  · iexists _; isplitr; swap; · iexact H13
    ipureintro
    exact ey
  iexists _; isplitr; swap; · iexact H14
  ipureintro
  unfold sound_last.sl.H14_1
  rw [er4]
  exact View.read_writes_full _ _ _ _ _

end Cert.GateUpIdeal.Body
end
-- ==== Proof.GateUpPay.lean ====
/-
  The gate/up projection's arithmetic at the ideal values: the kernel's gated product of a block, from weights widened
  to sixteen times their value, and the reference's of the whole arrays are the same function of a row.
-/
module

public import proofs.«01_k».proof.Proof.GateUpBody
public import proofs.«01_k».proof.Proof.Gen.GateUpRefIdeal.Frame
public import proofs.«01_k».proof.Proof.Nibbles
public import proofs.«01_k».proof.Proof.RowBounds

@[expose] public section

set_option maxRecDepth 16384

noncomputable section

namespace Cert.Proof.GateUp

open Idealize.ShloMosaic Cert.Proof.Nibbles

variable [Cert.GateUpIdeal.Facts] [Cert.GateUpRefIdeal.Facts]

/-- The gated product of one element: the activation of the gate times the up value. -/
def glu (g u : EReal) : EReal :=
  Ideal.ofBits .f32 0x3F000000#32 * g * (Ideal.ofBits .f32 0x3F800000#32 + FloatOps.erf (F := Ideal) (φ := .f32) (g * Ideal.ofBits .f32 0x3F3504F3#32)) * u

/-- A widened low half: sixteen times the nibble, times the scale. -/
theorem low_pay (w : IVec ⟨2, ![128, 512]⟩ 8) (s : FVec Ideal ⟨2, ![1, 512]⟩ .f32) (p : Fin 128) (l : Fin 512) :
    Cert.GateUpIdeal.Gen.k0_pay29 (F := Ideal) w s (ix3 0 p l) = val (16 * lowNib (w (ix2 p l))) * s (ix2 0 l) := by
  have h := low_byte w Cert.GateUpIdeal.Facts₀.bitcasts_S128x512_w8_S32x512_w32 Cert.GateUpIdeal.Facts₀.bitcasts_S32x512_w32_S128x512_w8 rfl p l
  rw [← low_toInt, ← h]
  unfold Cert.GateUpIdeal.Gen.k0_pay29
  generalize (bitcast _ 8 _ _ : IVec ⟨2, ![128, 512]⟩ 8) = B
  pointwise
  rfl

/-- A widened high half: sixteen times the nibble, times the scale. -/
theorem high_pay (w : IVec ⟨2, ![128, 512]⟩ 8) (s : FVec Ideal ⟨2, ![1, 512]⟩ .f32) (p : Fin 128) (l : Fin 512) :
    Cert.GateUpIdeal.Gen.k0_pay30 (F := Ideal) w s (ix3 0 p l) = val (16 * highNib (w (ix2 p l))) * s (ix2 0 l) := by
  have h := high_byte w Cert.GateUpIdeal.Facts₀.bitcasts_S128x512_w8_S32x512_w32 Cert.GateUpIdeal.Facts₀.bitcasts_S32x512_w32_S128x512_w8 rfl p l
  rw [← high_toInt, ← h]
  unfold Cert.GateUpIdeal.Gen.k0_pay30
  generalize (bitcast _ 8 _ _ : IVec ⟨2, ![128, 512]⟩ 8) = B
  pointwise
  rfl

/-- The reference's product at an element. -/
theorem ref_prod (X : FVec Ideal ⟨2, ![8192, 3584]⟩ .fp8e4m3) (CS : FVec Ideal ⟨2, ![8192, 1]⟩ .f32)
    (W : IVec ⟨2, ![1792, 21504]⟩ 8) (S : FVec Ideal ⟨2, ![28, 21504]⟩ .f32) (R : Fin 8192) (C : Fin 21504) :
    Cert.GateUpRefIdeal.Gen.k0_pay4 (F := Ideal) X CS W S (ix2 R C)
      = rowOf (H := 1792) (fun k => X (ix2 R ⟨k.val, by have := k.isLt; omega⟩)) (fun k => X (ix2 R ⟨1792 + k.val, by have := k.isLt; omega⟩)) (fun k => W (ix2 k C)) (fun k => S (ix2 ⟨k.val / 128, by have := k.isLt; omega⟩ C)) (fun k => S (ix2 ⟨14 + k.val / 128, by have := k.isLt; omega⟩ C)) (CS (ix2 R 0)) := by
  pointwise [Cert.GateUpRefIdeal.Gen.k0_pay4]
  simp only [signed_eq]
  rfl

/-- The reference's gated product at an element, from its products. -/
theorem ref_mid (A : FVec Ideal ⟨2, ![8192, 21504]⟩ .f32) (T : FVec Ideal ⟨2, ![8192, 128]⟩ .bf16) (LB : FVec Ideal ⟨2, ![128, 21504]⟩ .bf16)
    (R : Fin 8192) (C : Fin 10752) :
    Cert.GateUpRefIdeal.Gen.k0_pay1 (F := Ideal) A T LB (ix2 R C)
      = glu (A (ix2 R ⟨C.val, by have := C.isLt; omega⟩) + ∑ k, T (ix2 R k) * LB (ix2 k ⟨C.val, by have := C.isLt; omega⟩))
          (A (ix2 R ⟨10752 + C.val, by have := C.isLt; omega⟩) + ∑ k, T (ix2 R k) * LB (ix2 k ⟨10752 + C.val, by have := C.isLt; omega⟩)) := by
  pointwise [Cert.GateUpRefIdeal.Gen.k0_pay1, glu]

variable (x : FVec Ideal ⟨2, ![512, 3584]⟩ .fp8e4m3) (cs : FVec Ideal ⟨2, ![512, 1]⟩ .f32)
  (w : IVec ⟨2, ![1792, 512]⟩ 8) (s : FVec Ideal ⟨2, ![28, 512]⟩ .f32)

/-- The widened weights, one half at a time. -/
theorem wide_low (k : Fin 1792) (l : Fin 512) :
    Cert.GateUpIdeal.Body.wide (F := Ideal) w s (ix3 0 ⟨k.val, by have := k.isLt; omega⟩ l)
      = val (16 * lowNib (w (ix2 k l))) * s (ix2 ⟨k.val / 128, by have := k.isLt; omega⟩ l) := by
  unfold Cert.GateUpIdeal.Body.wide
  refine (dif_pos k.isLt).trans ?_
  refine (low_pay _ _ _ _).trans ?_
  unfold Cert.GateUpIdeal.Body.wBlk Cert.GateUpIdeal.Body.sRow
  refine congrArg (fun i => val (16 * lowNib (w i)) * _) (funext fun a => Fin.ext ?_)
  match a with
  | 0 => show 128 * (k.val / 128) + k.val % 128 = k.val; omega
  | 1 => rfl

theorem high_group (k : Fin 1792) (D : Nat) (hD : D = k.val) (h1 : D / 128 < 14) (h2 : 14 + D / 128 < 28) (l : Fin 512) :
    Cert.GateUpIdeal.Gen.k0_pay30 (F := Ideal) (Cert.GateUpIdeal.Body.wBlk (F := Ideal) w ⟨D / 128, h1⟩) (Cert.GateUpIdeal.Body.sRow (F := Ideal) s ⟨14 + D / 128, h2⟩)
        (Groups.inGroup3 (W := 128) (by decide) D l)
      = val (16 * highNib (w (ix2 k l))) * s (ix2 ⟨14 + k.val / 128, by have := k.isLt; omega⟩ l) := by
  subst hD
  refine (high_pay _ _ _ _).trans ?_
  unfold Cert.GateUpIdeal.Body.wBlk Cert.GateUpIdeal.Body.sRow
  refine congrArg (fun i => val (16 * highNib (w i)) * _) (funext fun a => Fin.ext ?_)
  match a with
  | 0 => show 128 * (k.val / 128) + k.val % 128 = k.val; omega
  | 1 => rfl

theorem wide_high_of (k : Fin 1792) (K : Fin 3584) (hK : K.val = 1792 + k.val) (l : Fin 512) :
    Cert.GateUpIdeal.Body.wide (F := Ideal) w s (ix3 0 K l)
      = val (16 * highNib (w (ix2 k l))) * s (ix2 ⟨14 + k.val / 128, by have := k.isLt; omega⟩ l) := by
  unfold Cert.GateUpIdeal.Body.wide
  refine (dif_neg (show ¬ K.val < 1792 by omega)).trans ?_
  exact high_group w s k (K.val - 1792) (by omega) _ _ l

theorem wide_high (k : Fin 1792) (l : Fin 512) :
    Cert.GateUpIdeal.Body.wide (F := Ideal) w s (ix3 0 ⟨1792 + k.val, by have := k.isLt; omega⟩ l)
      = val (16 * highNib (w (ix2 k l))) * s (ix2 ⟨14 + k.val / 128, by have := k.isLt; omega⟩ l) :=
  wide_high_of w s k _ rfl l

/-- A row of products against the widened weights. -/
theorem wide_row (f : Fin 3584 → EReal) (l : Fin 512) (d : EReal) :
    (∑ k, f k * Cert.GateUpIdeal.Body.wide (F := Ideal) w s (ix3 0 k l)) * Ideal.div d (Ideal.ofBits .f32 0x41800000#32)
      = rowOf (H := 1792) (fun k => f ⟨k.val, by have := k.isLt; omega⟩) (fun k => f ⟨1792 + k.val, by have := k.isLt; omega⟩) (fun k => w (ix2 k l)) (fun k => s (ix2 ⟨k.val / 128, by have := k.isLt; omega⟩ l)) (fun k => s (ix2 ⟨14 + k.val / 128, by have := k.isLt; omega⟩ l)) d := by
  rw [sum_halves (H := 1792) rfl, sixteen_bits, ← rowOf_wide]
  simp only [wide_low, wide_high]

variable (wu : IVec ⟨2, ![1792, 512]⟩ 8) (su : FVec Ideal ⟨2, ![28, 512]⟩ .f32) (t : FVec Ideal ⟨2, ![512, 128]⟩ .bf16)
  (lg lu : FVec Ideal ⟨2, ![128, 512]⟩ .bf16)

/-- A tile of the kernel's gated products before it is stored. -/
def tile : FVec Ideal ⟨2, ![512, 512]⟩ .f32 :=
  Cert.GateUpIdeal.Gen.k0_pay35 (F := Ideal) (Cert.GateUpIdeal.Gen.k0_pay33 (F := Ideal) cs) t
    (Cert.GateUpIdeal.Gen.k0_pay34 (F := Ideal) cs (Cert.GateUpIdeal.Gen.k0_pay27 (F := Ideal) x) (Cert.GateUpIdeal.Body.wide (F := Ideal) w s)) lg
    (Cert.GateUpIdeal.Gen.k0_pay27 (F := Ideal) x) (Cert.GateUpIdeal.Body.wide (F := Ideal) wu su) lu

/-- The kernel's gated product at an element. -/
theorem ker_mid (r l : Fin 512) :
    tile x cs w s wu su t lg lu (ix2 r l)
      = glu (rowOf (H := 1792) (fun k => x (ix2 r ⟨k.val, by have := k.isLt; omega⟩)) (fun k => x (ix2 r ⟨1792 + k.val, by have := k.isLt; omega⟩)) (fun k => w (ix2 k l)) (fun k => s (ix2 ⟨k.val / 128, by have := k.isLt; omega⟩ l)) (fun k => s (ix2 ⟨14 + k.val / 128, by have := k.isLt; omega⟩ l)) (cs (ix2 r 0)) + ∑ k, t (ix2 r k) * lg (ix2 k l))
          (rowOf (H := 1792) (fun k => x (ix2 r ⟨k.val, by have := k.isLt; omega⟩)) (fun k => x (ix2 r ⟨1792 + k.val, by have := k.isLt; omega⟩)) (fun k => wu (ix2 k l)) (fun k => su (ix2 ⟨k.val / 128, by have := k.isLt; omega⟩ l)) (fun k => su (ix2 ⟨14 + k.val / 128, by have := k.isLt; omega⟩ l)) (cs (ix2 r 0)) + ∑ k, t (ix2 r k) * lu (ix2 k l)) := by
  have key : ∀ v u : FVec Ideal ⟨3, ![1, 3584, 512]⟩ .bf16,
      Cert.GateUpIdeal.Gen.k0_pay35 (F := Ideal) (Cert.GateUpIdeal.Gen.k0_pay33 (F := Ideal) cs) t
        (Cert.GateUpIdeal.Gen.k0_pay34 (F := Ideal) cs (Cert.GateUpIdeal.Gen.k0_pay27 (F := Ideal) x) v) lg (Cert.GateUpIdeal.Gen.k0_pay27 (F := Ideal) x) u lu (ix2 r l)
      = glu ((∑ k, x (ix2 r k) * v (ix3 0 k l)) * Ideal.div (cs (ix2 r 0)) (Ideal.ofBits .f32 0x41800000#32) + ∑ k, t (ix2 r k) * lg (ix2 k l))
          ((∑ k, x (ix2 r k) * u (ix3 0 k l)) * Ideal.div (cs (ix2 r 0)) (Ideal.ofBits .f32 0x41800000#32) + ∑ k, t (ix2 r k) * lu (ix2 k l)) := fun v u => by
    pointwise [Cert.GateUpIdeal.Gen.k0_pay35, Cert.GateUpIdeal.Gen.k0_pay33, Cert.GateUpIdeal.Gen.k0_pay34, Cert.GateUpIdeal.Gen.k0_pay27, glu]
  unfold tile
  rw [key, wide_row w s (fun k => x (ix2 r k)), wide_row wu su (fun k => x (ix2 r k))]

end Cert.Proof.GateUp

end
-- ==== Proof.GateUpRun.lean ====
module
public import proofs.«01_k».proof.Proof.GateUpBody

@[expose] public section
set_option maxRecDepth 16384
noncomputable section
namespace Cert.GateUpIdeal.Body
open Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S512x3584 .bf16 := Memref.whole cc0_scratch0
abbrev scM0_1 : Memref sig .tc .vmem S2x3584x512 .bf16 := Memref.whole cc0_scratch1
abbrev scM0_2 : Memref sig .tc .vmem S21x512x512 .f32 := Memref.whole cc0_scratch2
abbrev scM0_3 : Memref sig .tc .vmem S512x128 .f32 := Memref.whole cc0_scratch3

theorem PhiA_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem last_iff : ∀ t : Fin cfg0.N, Iff (k0_cond2 (grid0.coords t) = 1#1) (t.val % 21 = 20) := (by decide +kernel : ∀ t : Fin grid0.N, _)
theorem coord1 : ∀ t : Fin cfg0.N, (grid0.coords t 1).val = t.val % 21 := (by decide +kernel : ∀ t : Fin grid0.N, _)
theorem off17_eq : ∀ t : Fin cfg0.N, k0_off17 (grid0.coords t) = ![t.val % 21, 0, 0] := (by decide +kernel : ∀ t : Fin grid0.N, _)

/-- The first point of the row of the grid a point belongs to. -/
def rowStart (t : Fin cfg0.N) : Fin cfg0.N := ⟨t.val - t.val % 21, Nat.lt_of_le_of_lt (Nat.sub_le _ _) t.isLt⟩

/-- The widened activations a point works with: those its row of the grid began with. -/
def xbAt (c : Dev nD) (t : Fin cfg0.N) : Vec F S512x3584 .bf16 := k0_pay27 (F := F) (iblk m c 0 (rowStart t))

/-- The gated product a point computes. -/
def prodAt (c : Dev nD) (t : Fin cfg0.N) : Vec F S1x512x512 .f32 :=
  mid (F := F) (xbAt m c t) (iblk m c 1 t) (iblk m c 2 t) (iblk m c 3 t) (iblk m c 4 t) (iblk m c 5 t) (iblk m c 6 t) (iblk m c 7 t) (iblk m c 8 t)

/-- The running maxima after point `n`. -/
def maxAt (c : Dev nD) : (n : ℕ) → n < cfg0.N → Vec F S512x128 .f32
  | 0, h => aNext (F := F) (grid0.coords ⟨0, h⟩) (k0_pay28 (F := F)) (xbAt m c ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩)
  | n + 1, h => aNext (F := F) (grid0.coords ⟨n + 1, h⟩) (maxAt c n (Nat.lt_of_succ_lt h)) (xbAt m c ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩)

/-- What the scratch buffers hold before position `n`: the widened activations of its row of the grid, the slots of the
    points of the row already done, and their running maxima. -/
def Good (c : Dev nD) (n : ℕ) (X : Vec F S512x3584 .bf16) (Y : Vec F S21x512x512 .f32) (A : Vec F S512x128 .f32) : Prop :=
  (∀ (j : Fin 21) (t : Fin cfg0.N), j.val < n % 21 → t.val = n - n % 21 + j.val → slot Y j = prodAt m c t)
  ∧ (∀ t : Fin cfg0.N, n % 21 ≠ 0 → t.val + 1 = n → A = maxAt m c t.val t.isLt)
  ∧ (∀ t : Fin cfg0.N, n % 21 ≠ 0 → t.val + 1 = n → X = xbAt m c t)

theorem xNext_eq (c : Dev nD) (t : Fin cfg0.N) (X : Vec F S512x3584 .bf16) (Y : Vec F S21x512x512 .f32) (A : Vec F S512x128 .f32) (h : Good m c t.val X Y A) :
    xNext (F := F) (grid0.coords t) X (iblk m c 0 t) = xbAt m c t := by
  unfold xNext xbAt
  by_cases h0 : t.val % 21 = 0
  · rw [if_pos ((coord1 t).trans h0)]
    have e : rowStart t = t := Fin.ext (by show t.val - t.val % 21 = t.val; omega)
    rw [e]
  · rw [if_neg (fun hh => h0 ((coord1 t).symm.trans hh))]
    have hl := t.isLt
    rw [h.2.2 ⟨t.val - 1, by omega⟩ h0 (by show t.val - 1 + 1 = t.val; omega)]
    unfold xbAt
    have e : rowStart ⟨t.val - 1, by omega⟩ = rowStart t := Fin.ext (by show t.val - 1 - (t.val - 1) % 21 = t.val - t.val % 21; omega)
    rw [e]

theorem slot_yNext (t : Fin cfg0.N) (Y : Vec F S21x512x512 .f32) (X : Vec F S512x3584 .bf16) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (j : Fin 21) :
    slot (yNext (F := F) (grid0.coords t) Y X x1 x2 x3 x4 x5 x6 x7 x8) j = if j.val = t.val % 21 then mid (F := F) X x1 x2 x3 x4 x5 x6 x7 x8 else slot Y j := by
  funext z
  unfold slot yNext
  rw [off17_eq]
  by_cases h : j.val = t.val % 21
  · rw [if_pos h]
    refine (dif_pos ?_).trans (congrArg (mid (F := F) X x1 x2 x3 x4 x5 x6 x7 x8) (funext fun a => Fin.ext ?_))
    · intro a
      match a with
      | 0 => show t.val % 21 ≤ j.val ∧ j.val < t.val % 21 + 1; omega
      | 1 => exact ⟨Nat.zero_le _, by show (z 1).val < 0 + 512; have := (z 1).isLt; have e : S1x512x512.size 1 = 512 := rfl; omega⟩
      | 2 => exact ⟨Nat.zero_le _, by show (z 2).val < 0 + 512; have := (z 2).isLt; have e : S1x512x512.size 2 = 512 := rfl; omega⟩
    · match a with
      | 0 => show j.val - t.val % 21 = (z 0).val; have h0 : (z 0).val = 0 := Nat.lt_one_iff.mp (z 0).isLt; omega
      | 1 => exact Nat.sub_zero _
      | 2 => exact Nat.sub_zero _
  · rw [if_neg h]
    refine dif_neg fun hall => ?_
    have := hall 0
    have h1 : t.val % 21 ≤ j.val ∧ j.val < t.val % 21 + 1 := this
    omega

/-- The maxima after a point, from any state its row of the grid can be in. -/
theorem aNext_eq (c : Dev nD) (t : Fin cfg0.N) (X : Vec F S512x3584 .bf16) (Y : Vec F S21x512x512 .f32) (A : Vec F S512x128 .f32) (h : Good m c t.val X Y A) :
    aNext (F := F) (grid0.coords t) A (xbAt m c t) (iblk m c 1 t) (iblk m c 2 t) (iblk m c 3 t) (iblk m c 4 t) (iblk m c 5 t) (iblk m c 6 t) (iblk m c 7 t) (iblk m c 8 t) = maxAt m c t.val t.isLt := by
  obtain ⟨n, hn'⟩ := t
  by_cases hz : n % 21 = 0
  · have key : ∀ a a' : Vec F S512x128 .f32, ∀ x x1 x2 x3 x4 x5 x6 x7 x8, aNext (F := F) (grid0.coords ⟨n, hn'⟩) a x x1 x2 x3 x4 x5 x6 x7 x8 = aNext (F := F) (grid0.coords ⟨n, hn'⟩) a' x x1 x2 x3 x4 x5 x6 x7 x8 := by
      intro a a' x x1 x2 x3 x4 x5 x6 x7 x8
      have e0 : (grid0.coords ⟨n, hn'⟩ 1).val = 0 := (coord1 ⟨n, hn'⟩).trans hz
      unfold aNext; rw [if_pos e0, if_pos e0]
    cases n with
    | zero => exact key _ _ _ _ _ _ _ _ _ _ _
    | succ n => exact key _ _ _ _ _ _ _ _ _ _ _
  · cases n with
    | zero => exact absurd rfl hz
    | succ n =>
      have hA := h.2.1 ⟨n, Nat.lt_of_succ_lt hn'⟩ hz rfl
      rw [hA]; rfl

theorem good_next (c : Dev nD) (t : Fin cfg0.N) (X : Vec F S512x3584 .bf16) (Y : Vec F S21x512x512 .f32) (A : Vec F S512x128 .f32) (h : Good m c t.val X Y A) :
    Good m c (t.val + 1) (xbAt m c t) (yNext (F := F) (grid0.coords t) Y (xbAt m c t) (iblk m c 1 t) (iblk m c 2 t) (iblk m c 3 t) (iblk m c 4 t) (iblk m c 5 t) (iblk m c 6 t) (iblk m c 7 t) (iblk m c 8 t)) (aNext (F := F) (grid0.coords t) A (xbAt m c t) (iblk m c 1 t) (iblk m c 2 t) (iblk m c 3 t) (iblk m c 4 t) (iblk m c 5 t) (iblk m c 6 t) (iblk m c 7 t) (iblk m c 8 t)) := by
  refine ⟨?_, ?_, ?_⟩
  · intro j t' hj ht'
    rw [slot_yNext]
    by_cases e : j.val = t.val % 21
    · rw [if_pos e]
      have : t' = t := Fin.ext (by omega)
      rw [this]; rfl
    · rw [if_neg e]
      exact h.1 j t' (by omega) (by omega)
  · intro t' hn ht'
    have e : t' = t := Fin.ext (by omega)
    subst e
    exact aNext_eq m c t' X Y A h
  · intro t' hn ht'
    have e : t' = t := Fin.ext (by omega)
    rw [e]

/-- The scale a row block ends with. -/
def scaleAt (c : Dev nD) (t : Fin cfg0.N) : Vec F S512x1 .f32 := k0_pay3 (F := F) (maxAt m c t.val t.isLt)

/-- The gated products of a whole row of the grid, the last of whose points is `t`. -/
def prods (c : Dev nD) (t : Fin cfg0.N) : Vec F S21x512x512 .f32 := fun z =>
  prodAt m c ⟨t.val - t.val % 21 + (z 0).val, by
    have h1 := t.isLt; have h2 : cfg0.N = 336 := N_0; have h3 := (z 0).isLt; have h4 : S21x512x512.size 0 = 21 := rfl; omega⟩ (ix3 0 (z 1) (z 2))

/-- The codes a row block ends with. -/
def codesAt (c : Dev nD) (t : Fin cfg0.N) : Vec F S512x10752 .fp8e4m3 := codesOf (F := F) (maxAt m c t.val t.isLt) (prods m c t)

theorem outs_last (c : Dev nD) (t : Fin cfg0.N) (ht : t.val % 21 = 20) (X : Vec F S512x3584 .bf16) (Y : Vec F S21x512x512 .f32) (A : Vec F S512x128 .f32) (h : Good m c t.val X Y A) :
    codesOf (F := F) (aNext (F := F) (grid0.coords t) A (xbAt m c t) (iblk m c 1 t) (iblk m c 2 t) (iblk m c 3 t) (iblk m c 4 t) (iblk m c 5 t) (iblk m c 6 t) (iblk m c 7 t) (iblk m c 8 t)) (yNext (F := F) (grid0.coords t) Y (xbAt m c t) (iblk m c 1 t) (iblk m c 2 t) (iblk m c 3 t) (iblk m c 4 t) (iblk m c 5 t) (iblk m c 6 t) (iblk m c 7 t) (iblk m c 8 t)) = codesAt m c t
    ∧ k0_pay3 (F := F) (aNext (F := F) (grid0.coords t) A (xbAt m c t) (iblk m c 1 t) (iblk m c 2 t) (iblk m c 3 t) (iblk m c 4 t) (iblk m c 5 t) (iblk m c 6 t) (iblk m c 7 t) (iblk m c 8 t)) = scaleAt m c t := by
  have hmax := aNext_eq m c t X Y A h
  have hs : ∀ j : Fin 21, slot (yNext (F := F) (grid0.coords t) Y (xbAt m c t) (iblk m c 1 t) (iblk m c 2 t) (iblk m c 3 t) (iblk m c 4 t) (iblk m c 5 t) (iblk m c 6 t) (iblk m c 7 t) (iblk m c 8 t)) j = slot (prods m c t) j := fun j => by
    have hl := t.isLt
    have hN : cfg0.N = 336 := N_0
    have hj := j.isLt
    have hp : slot (prods m c t) j = prodAt m c ⟨t.val - t.val % 21 + j.val, by omega⟩ := by
      funext z
      refine congrArg (prodAt m c _) (funext fun a => Fin.ext ?_)
      match a with
      | 0 => exact (Nat.lt_one_iff.mp (z 0).isLt).symm
      | 1 => rfl
      | 2 => rfl
    rw [slot_yNext, hp]
    by_cases e : j.val = t.val % 21
    · rw [if_pos e]
      have e' : (⟨t.val - t.val % 21 + j.val, by omega⟩ : Fin cfg0.N) = t := Fin.ext (by show t.val - t.val % 21 + j.val = t.val; omega)
      rw [e']; rfl
    · rw [if_neg e]
      exact h.1 j _ (by omega) rfl
  constructor
  · unfold codesAt
    rw [hmax]
    funext z
    unfold codesOf
    rw [hs]
  · rw [hmax]; rfl

/-- The invariant before position `n`: the widened weights' scratch at anything, the other three as `Good` says. -/
def Phi (c : Dev nD) (n : ℕ) (_h : n ≤ cfg0.N) : sProp 𝕄 :=
  iprop(iprop((∃ d, owns (c : Thread nD τ) scM0_1 fullShare d)
    ∗ (∃ X Y A, ⌜Good m c n X Y A⌝ ∗ owns (c : Thread nD τ) scM0_0 fullShare X ∗ owns (c : Thread nD τ) scM0_2 fullShare Y ∗ owns (c : Thread nD τ) scM0_3 fullShare A)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => codesAt m c t
    | ⟨10, _⟩ => scaleAt m c t
    | ⟨_ + 11, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = codesAt m c t := by dsimp only [dats]
theorem after0_10 (c : Dev nD) (t : Fin cfg0.N) : (dats m 0 c).after 10 t = scaleAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem body_mid (c : Dev nD) (t : Fin cfg0.N) (ht : ¬ t.val % 21 = 20) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare ((dats m 0 c).before 9 t d))
    ∗ (∃ d, owns (c : Thread nD τ) (st0_10 t) fullShare ((dats m 0 c).before 10 t d)))) := by
  unfold bodyAt0
  simp only [before0_0, before0_1, before0_2, before0_3, before0_4, before0_5, before0_6, before0_7, before0_8]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi
  iintro ⟨⟨⟨⟨%g1, HS1⟩, %X, %Y, %A, %hG, HS0, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hx := xNext_eq m c t X Y A hG
  iapply (sound_step (F := F) c Set.univ (grid0.coords t) (fun h => ht ((last_iff t).mp h)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ X g1 Y A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  rw [hx]
  iintro ⟨H0, H1, H2, H3, H4, H5, H6, H7, H8, H9, H10, HS0, HS1, HS2, HS3⟩
  isplitl [HS0 HS1 HS2 HS3 Hg]
  · isplitl [HS0 HS1 HS2 HS3]
    · isplitl [HS1]; · iexact HS1
      iexists _; iexists _; iexists _; isplitr; swap
      · isplitl [HS0]; · iexact HS0
        isplitl [HS2]; · iexact HS2
        iexact HS3
      ipureintro
      exact good_next m c t X Y A hG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

theorem body_last (c : Dev nD) (t : Fin cfg0.N) (ht : t.val % 21 = 20) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))) := by
  unfold bodyAt0
  simp only [before0_0, before0_1, before0_2, before0_3, before0_4, before0_5, before0_6, before0_7, before0_8]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8, after0_9, after0_10]
  unfold Phi
  iintro ⟨⟨⟨⟨%g1, HS1⟩, %X, %Y, %A, %hG, HS0, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hx := xNext_eq m c t X Y A hG
  iapply (sound_last (F := F) c Set.univ (grid0.coords t) ((last_iff t).mpr ht) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ X g1 Y A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  rw [hx]
  iintro ⟨H0, H1, H2, H3, H4, H5, H6, H7, H8, H9, H10, HS0, HS1, HS2, HS3⟩
  isplitl [HS0 HS1 HS2 HS3 Hg]
  · isplitl [HS0 HS1 HS2 HS3]
    · isplitl [HS1]; · iexact HS1
      iexists _; iexists _; iexists _; isplitr; swap
      · isplitl [HS0]; · iexact HS0
        isplitl [HS2]; · iexact HS2
        iexact HS3
      ipureintro
      exact good_next m c t X Y A hG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← (outs_last m c t ht X Y A hG).1, ← (outs_last m c t ht X Y A hG).2]
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  have i4 : cfg0.idle 4 (cfg0.grid.coords t) = false := rfl
  have i5 : cfg0.idle 5 (cfg0.grid.coords t) = false := rfl
  have i6 : cfg0.idle 6 (cfg0.grid.coords t) = false := rfl
  have i7 : cfg0.idle 7 (cfg0.grid.coords t) = false := rfl
  have i8 : cfg0.idle 8 (cfg0.grid.coords t) = false := rfl
  by_cases ht : t.val % 21 = 20
  · have i9 : cfg0.idle 9 (cfg0.grid.coords t) = false := by
      show (!(k0_cond2 (grid0.coords t) == 1#1)) = false
      rw [(last_iff t).mpr ht]; rfl
    have i9' : idle0 9 (grid0.coords t) = false := i9
    have i10' : idle0 10 (grid0.coords t) = false := i9
    have hb := body_last m c t ht
    refine triple_restated hb rfl .rfl fun _ => ?_
    simp only [i0, i1, i2, i3, i4, i5, i6, i7, i8, i9', i10']
    exact .rfl
  · have i9 : cfg0.idle 9 (cfg0.grid.coords t) = true := by
      show (!(k0_cond2 (grid0.coords t) == 1#1)) = true
      have hn : ¬ k0_cond2 (grid0.coords t) = 1#1 := fun h => ht ((last_iff t).mp h)
      rw [Bool.not_eq_true', beq_eq_false_iff_ne]; exact hn
    have i9' : idle0 9 (grid0.coords t) = true := i9
    have i10' : idle0 10 (grid0.coords t) = true := i9
    have f9 : (cfg0.win 9).flush t = false := Bool.eq_false_iff.mpr fun h => ht ((flush0_9 t).mp h)
    have f10 : (cfg0.win 10).flush t = false := Bool.eq_false_iff.mpr fun h => ht ((flush0_10 t).mp h)
    refine triple_restated (body_mid m c t ht) rfl .rfl fun _ => ?_
    simp only [i0, i1, i2, i3, i4, i5, i6, i7, i8, i9', i10', f9, f10]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨⟨%X, H0⟩, H1, ⟨%Y, H2⟩, ⟨%A, H3⟩⟩, Hg⟩
  isplitl [H0 H1 H2 H3]
  · isplitl [H1]; · iexact H1
    iexists X; iexists Y; iexists A; isplitr; swap
    · isplitl [H0]; · iexact H0
      isplitl [H2]; · iexact H2
      iexact H3
    ipureintro
    exact ⟨fun j t hj => absurd hj (Nat.not_lt_zero _), fun t h => absurd rfl h, fun t h => absurd rfl h⟩
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨H1, %X, %Y, %A, %_, H0, H2, H3⟩, Hg⟩
  isplitl [H0 H1 H2 H3]
  · isplitl [H0]; · iexists X; iexact H0
    isplitl [H1]; · iexact H1
    isplitl [H2]; · iexists Y; iexact H2
    iexists A; iexact H3
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))
end Cert.GateUpIdeal.Body
end
-- ==== Proof.GateUpValue.lean ====
/-
  The gate/up projection's arrays after the run: each is the reference's function of the argument arrays.
-/
module

public import proofs.«01_k».proof.Proof.GateUpPay
public import proofs.«01_k».proof.Proof.GateUpRun
public import Idealize.ShloMosaic.Lib.Pipeline.ValueKit

@[expose] public section

set_option maxRecDepth 16384

noncomputable section

namespace Cert.Proof.GateUp

open Idealize.ShloMosaic Idealize.ShloMosaic.TcCoe Idealize.SL.Sem
open Cert.GateUpIdeal Cert.GateUpIdeal.Gen Cert.GateUpIdeal.Body

variable [Cert.GateUpRefIdeal.Facts]
variable (m : (l : Loc nD τ sig) → Buf (Elt Ideal) l) (c : Dev nD)

/-- Where each window's block stands: row blocks at the point's row of the grid, column blocks at its column, those of
    the up half behind those of the gate half. -/
theorem idx0 : ∀ t : Fin cfg0.N, win0_0.index t = ![t.val / 21, 0] := (by decide +kernel : ∀ t : Fin grid0.N, _)
theorem idx1 : ∀ t : Fin cfg0.N, win0_1.index t = ![t.val / 21, 0] := (by decide +kernel : ∀ t : Fin grid0.N, _)
theorem idx2 : ∀ t : Fin cfg0.N, win0_2.index t = ![0, t.val % 21] := (by decide +kernel : ∀ t : Fin grid0.N, _)
theorem idx3 : ∀ t : Fin cfg0.N, win0_3.index t = ![0, 21 + t.val % 21] := (by decide +kernel : ∀ t : Fin grid0.N, _)
theorem idx4 : ∀ t : Fin cfg0.N, win0_4.index t = ![0, t.val % 21] := (by decide +kernel : ∀ t : Fin grid0.N, _)
theorem idx5 : ∀ t : Fin cfg0.N, win0_5.index t = ![0, 21 + t.val % 21] := (by decide +kernel : ∀ t : Fin grid0.N, _)
theorem idx6 : ∀ t : Fin cfg0.N, win0_6.index t = ![t.val / 21, 0] := (by decide +kernel : ∀ t : Fin grid0.N, _)
theorem idx7 : ∀ t : Fin cfg0.N, win0_7.index t = ![0, t.val % 21] := (by decide +kernel : ∀ t : Fin grid0.N, _)
theorem idx8 : ∀ t : Fin cfg0.N, win0_8.index t = ![0, 21 + t.val % 21] := (by decide +kernel : ∀ t : Fin grid0.N, _)
theorem idx9 : ∀ t : Fin cfg0.N, win0_9.index t = ![t.val / 21, 0] := (by decide +kernel : ∀ t : Fin grid0.N, _)
theorem idx10 : ∀ t : Fin cfg0.N, win0_10.index t = ![t.val / 21, 0] := (by decide +kernel : ∀ t : Fin grid0.N, _)

/-- The array row an element of a point's block stands for, its array column, and the column of its up value. -/
def row (t : Fin cfg0.N) (r : Fin 512) : Fin 8192 := ⟨t.val / 21 * 512 + r.val, by have h : t.val < 336 := t.isLt; have := r.isLt; omega⟩
def col (t : Fin cfg0.N) (l : Fin 512) : Fin 10752 := ⟨t.val % 21 * 512 + l.val, by have := l.isLt; omega⟩
def gcol (t : Fin cfg0.N) (l : Fin 512) : Fin 21504 := ⟨t.val % 21 * 512 + l.val, by have := l.isLt; omega⟩
def ucol (t : Fin cfg0.N) (l : Fin 512) : Fin 21504 := ⟨(21 + t.val % 21) * 512 + l.val, by have := l.isLt; omega⟩

theorem iblk0 (t : Fin cfg0.N) (r : Fin 512) (k : Fin 3584) : iblk m c 0 t (ix2 r k) = V m c main_arg0 (ix2 (row t r) k) := by
  blk_point [iblk, idx0 t, row]
theorem iblk1 (t : Fin cfg0.N) (r : Fin 512) : iblk m c 1 t (ix2 r 0) = V m c main_arg1 (ix2 (row t r) 0) := by
  blk_point [iblk, idx1 t, row]
theorem iblk2 (t : Fin cfg0.N) (k : Fin 1792) (l : Fin 512) : iblk m c 2 t (ix2 k l) = V m c main_arg2 (ix2 k (gcol t l)) := by
  blk_point [iblk, idx2 t, gcol]
theorem iblk3 (t : Fin cfg0.N) (k : Fin 1792) (l : Fin 512) : iblk m c 3 t (ix2 k l) = V m c main_arg2 (ix2 k (ucol t l)) := by
  blk_point [iblk, idx3 t, ucol]
theorem iblk4 (t : Fin cfg0.N) (k : Fin 28) (l : Fin 512) : iblk m c 4 t (ix2 k l) = V m c main_arg3 (ix2 k (gcol t l)) := by
  blk_point [iblk, idx4 t, gcol]
theorem iblk5 (t : Fin cfg0.N) (k : Fin 28) (l : Fin 512) : iblk m c 5 t (ix2 k l) = V m c main_arg3 (ix2 k (ucol t l)) := by
  blk_point [iblk, idx5 t, ucol]
theorem iblk6 (t : Fin cfg0.N) (r : Fin 512) (k : Fin 128) : iblk m c 6 t (ix2 r k) = V m c main_arg4 (ix2 (row t r) k) := by
  blk_point [iblk, idx6 t, row]
theorem iblk7 (t : Fin cfg0.N) (k : Fin 128) (l : Fin 512) : iblk m c 7 t (ix2 k l) = V m c main_arg5 (ix2 k (gcol t l)) := by
  blk_point [iblk, idx7 t, gcol]
theorem iblk8 (t : Fin cfg0.N) (k : Fin 128) (l : Fin 512) : iblk m c 8 t (ix2 k l) = V m c main_arg5 (ix2 k (ucol t l)) := by
  blk_point [iblk, idx8 t, ucol]

theorem emb9 (t : Fin cfg0.N) (r : Fin 512) (l : Fin 10752) : ((View.whole main_v0_0).slice (win0_9.rect t)).emb (ix2 r l) = ix2 (row t r) l := by
  blk_ext [idx9 t, row]
theorem emb10 (t : Fin cfg0.N) (r : Fin 512) : ((View.whole main_v0_1).slice (win0_10.rect t)).emb (ix2 r 0) = ix2 (row t r) 0 := by
  blk_ext [idx10 t, row]

theorem row_start (t : Fin cfg0.N) (r : Fin 512) : row (rowStart t) r = row t r :=
  Fin.ext (by show (t.val - t.val % 21) / 21 * 512 + r.val = t.val / 21 * 512 + r.val; omega)

/-- The gated products of a point's block before they are stored, the reference's products, and its gated products. -/
def blkProd (t : Fin cfg0.N) : FVec Ideal ⟨2, ![512, 512]⟩ .f32 :=
  tile (iblk m c 0 (rowStart t)) (iblk m c 1 t) (iblk m c 2 t) (iblk m c 4 t) (iblk m c 3 t) (iblk m c 5 t) (iblk m c 6 t) (iblk m c 7 t) (iblk m c 8 t)
def refRows : FVec Ideal ⟨2, ![8192, 21504]⟩ .f32 :=
  Cert.GateUpRefIdeal.Gen.k0_pay4 (F := Ideal) (V m c main_arg0) (V m c main_arg1) (V m c main_arg2) (V m c main_arg3)
def refProd : FVec Ideal ⟨2, ![8192, 10752]⟩ .f32 :=
  Cert.GateUpRefIdeal.Gen.k0_pay1 (F := Ideal) (refRows m c) (V m c main_arg4) (V m c main_arg5)

theorem blkProd_at (t : Fin cfg0.N) (r l : Fin 512) : blkProd m c t (ix2 r l) = refProd m c (ix2 (row t r) (col t l)) := by
  have eg : (⟨(col t l).val, by have := (col t l).isLt; omega⟩ : Fin 21504) = gcol t l := rfl
  have eu : (⟨10752 + (col t l).val, by have := (col t l).isLt; omega⟩ : Fin 21504) = ucol t l :=
    Fin.ext (by show 10752 + (t.val % 21 * 512 + l.val) = (21 + t.val % 21) * 512 + l.val; omega)
  unfold blkProd refProd
  refine (ker_mid _ _ _ _ _ _ _ _ _ r l).trans (Eq.trans ?_ (ref_mid _ _ _ _ _).symm)
  rw [eg, eu]
  unfold refRows
  rw [ref_prod, ref_prod]
  simp only [iblk0, iblk1, iblk2, iblk3, iblk4, iblk5, iblk6, iblk7, iblk8, row_start]

theorem prodAt_at (t : Fin cfg0.N) (r l : Fin 512) : prodAt m c t (ix3 0 r l) = refProd m c (ix2 (row t r) (col t l)) := by
  rw [← blkProd_at]
  have key : ∀ (a b d e f g h), k0_pay36 (F := Ideal) a b d e f g h (ix3 0 r l) = k0_pay35 (F := Ideal) a b d e f g h (ix2 r l) := fun a b d e f g h => by
    unfold k0_pay36
    generalize k0_pay35 (F := Ideal) a b d e f g h = B
    pointwise
  exact key _ _ _ _ _ _ _

/-- One point's step of the running maxima, by the bounds they satisfy. -/
theorem step_le (a : FVec Ideal ⟨2, ![512, 128]⟩ .f32) (x cs w s wu su t lg lu) (r : Fin 512) (l : Fin 128) (b : EReal) :
    k0_pay37 (F := Ideal) (k0_pay33 (F := Ideal) cs) t
        (k0_pay34 (F := Ideal) cs (k0_pay27 (F := Ideal) x) (wide (F := Ideal) w s)) lg
        (k0_pay27 (F := Ideal) x) (wide (F := Ideal) wu su) lu a (ix2 r l) ≤ b
      ↔ a (ix2 r l) ≤ b ∧ ∀ q : Fin 4, Rows.mag (tile x cs w s wu su t lg lu (ix2 r ⟨q.val * 128 + l.val, by have := q.isLt; have := l.isLt; omega⟩)) ≤ b := by
  unfold tile k0_pay37
  generalize k0_pay35 (F := Ideal) (k0_pay33 (F := Ideal) cs) t (k0_pay34 (F := Ideal) cs (k0_pay27 (F := Ideal) x) (wide (F := Ideal) w s)) lg
        (k0_pay27 (F := Ideal) x) (wide (F := Ideal) wu su) lu = B
  have e : ∀ (h0 h1 h2 h3 h4), shapeCast ⟨2, ![512, 128]⟩ (maximumf (maximumf (maximumf (maximumf a
      (absf (extractStridedSlice ⟨2, ![512, 128]⟩ ![0, 0] B h0))) (absf (extractStridedSlice ⟨2, ![512, 128]⟩ ![0, 128] B h1)))
      (absf (extractStridedSlice ⟨2, ![512, 128]⟩ ![0, 256] B h2))) (absf (extractStridedSlice ⟨2, ![512, 128]⟩ ![0, 384] B h3))) h4 (ix2 r l)
    = max (max (max (max (a (ix2 r l)) (Rows.mag (B (ix2 r ⟨0 * 128 + l.val, by have := l.isLt; omega⟩)))) (Rows.mag (B (ix2 r ⟨1 * 128 + l.val, by have := l.isLt; omega⟩))))
        (Rows.mag (B (ix2 r ⟨2 * 128 + l.val, by have := l.isLt; omega⟩)))) (Rows.mag (B (ix2 r ⟨3 * 128 + l.val, by have := l.isLt; omega⟩))) := by
    intro h0 h1 h2 h3 h4
    pointwise [Rows.mag]
  refine (Eq.to_iff (congrArg (· ≤ b) (e _ _ _ _ _))).trans ?_
  simp only [max_le_iff]
  constructor
  · rintro ⟨⟨⟨⟨h, h0⟩, h1⟩, h2⟩, h3⟩
    refine ⟨h, fun q => ?_⟩
    match q with
    | 0 => exact h0
    | 1 => exact h1
    | 2 => exact h2
    | 3 => exact h3
  · rintro ⟨h, hq⟩
    exact ⟨⟨⟨⟨h, hq 0⟩, hq 1⟩, hq 2⟩, hq 3⟩

theorem zero_at (r : Fin 512) (l : Fin 128) : k0_pay28 (F := Ideal) (ix2 r l) = 0 := by
  pointwise [k0_pay28]

/-- The running maxima after a point, by the bounds they satisfy: the magnitudes of the points so far of its row of the
    grid. -/
theorem maxAt_le (r : Fin 512) (l : Fin 128) (b : EReal) : ∀ (n : ℕ) (h : n < cfg0.N),
    maxAt m c n h (ix2 r l) ≤ b ↔ 0 ≤ b ∧ ∀ t : Fin cfg0.N, t.val / 21 = n / 21 → t.val ≤ n → ∀ q : Fin 4,
      Rows.mag (blkProd m c t (ix2 r ⟨q.val * 128 + l.val, by have := q.isLt; have := l.isLt; omega⟩)) ≤ b := by
  intro n
  induction n with
  | zero =>
    intro h
    have e0 : (grid0.coords ⟨0, h⟩ 1).val = 0 := coord1 ⟨0, h⟩
    unfold maxAt aNext xbAt
    rw [if_pos e0, step_le, zero_at]
    refine and_congr Iff.rfl ⟨fun H t _ ht q => ?_, fun H q => H ⟨0, h⟩ rfl le_rfl q⟩
    obtain rfl : t = ⟨0, h⟩ := Fin.ext (by show t.val = 0; omega)
    exact H q
  | succ n ih =>
    intro h
    have e1 : (grid0.coords ⟨n + 1, h⟩ 1).val = (n + 1) % 21 := coord1 ⟨n + 1, h⟩
    unfold maxAt aNext xbAt
    by_cases hz : (n + 1) % 21 = 0
    · rw [if_pos (e1.trans hz), step_le, zero_at]
      refine and_congr Iff.rfl ⟨fun H t ht ht' q => ?_, fun H q => H ⟨n + 1, h⟩ rfl le_rfl q⟩
      obtain rfl : t = ⟨n + 1, h⟩ := Fin.ext (by show t.val = n + 1; omega)
      exact H q
    · rw [if_neg (fun h' => hz (e1.symm.trans h')), step_le, ih (Nat.lt_of_succ_lt h), and_assoc]
      refine and_congr Iff.rfl ⟨fun H t ht ht' q => ?_, fun H => ⟨fun t ht ht' q => H t (by omega) (by omega) q, fun q => H ⟨n + 1, h⟩ rfl le_rfl q⟩⟩
      by_cases e : t.val = n + 1
      · obtain rfl : t = ⟨n + 1, h⟩ := Fin.ext e
        exact H.2 q
      · exact H.1 t (by omega) (by omega) q

/-- After the last point of a row of the grid the maxima of the lanes have the greatest magnitude of the whole row. -/
theorem maxAt_last (t : Fin cfg0.N) (ht : t.val % 21 = 20) (r : Fin 512) :
    Rows.rowMax (fun l : Fin 128 => maxAt m c t.val t.isLt (ix2 r l)) = Rows.rowMax fun C : Fin 10752 => Rows.mag (refProd m c (ix2 (row t r) C)) := by
  refine eq_of_forall_ge_iff fun b => ?_
  rw [Rows.rowMax_le, Rows.rowMax_le]
  refine Iff.trans (forall_congr' fun l => maxAt_le m c r l b t.val t.isLt) ?_
  simp only [blkProd_at]
  have hN : t.val < 336 := t.isLt
  constructor
  · intro H C
    have hC := C.isLt
    have h := (H ⟨C.val % 128, Nat.mod_lt _ (by decide)⟩).2 ⟨t.val / 21 * 21 + C.val / 512, by show _ < 336; omega⟩
      (by show (t.val / 21 * 21 + C.val / 512) / 21 = t.val / 21; omega) (by show t.val / 21 * 21 + C.val / 512 ≤ t.val; omega) ⟨C.val % 512 / 128, by omega⟩
    refine (Eq.to_iff (congrArg (fun i => Rows.mag (refProd m c i) ≤ b) ?_)).mp h
    refine congrArg₂ ix2 (Fin.ext ?_) (Fin.ext ?_)
    · show (t.val / 21 * 21 + C.val / 512) / 21 * 512 + r.val = t.val / 21 * 512 + r.val; omega
    · show (t.val / 21 * 21 + C.val / 512) % 21 * 512 + (C.val % 512 / 128 * 128 + C.val % 128) = C.val; omega
  · intro H l
    refine ⟨(Rows.mag_nonneg _).trans (H 0), fun t' h1 _ q => ?_⟩
    have e : row t' r = row t r := Fin.ext (by show t'.val / 21 * 512 + r.val = t.val / 21 * 512 + r.val; rw [h1])
    rw [e]
    exact H _

theorem scaleK (A) : k0_pay3 (F := Ideal) A = Rows.maxScaleCol A Cert.GateUpIdeal.Facts₀.reduces_S512x128_S512 Cert.GateUpIdeal.Facts₀.shapeCasts_S512_S512x1 := by
  unfold k0_pay3 Rows.maxScaleCol
  rfl

theorem scaleR (A T LB) : Cert.GateUpRefIdeal.Gen.k0_pay2 (F := Ideal) A T LB
    = Rows.scaleCol (Cert.GateUpRefIdeal.Gen.k0_pay1 (F := Ideal) A T LB) Cert.GateUpRefIdeal.Facts₀.reduces_S8192x10752_S8192 Cert.GateUpRefIdeal.Facts₀.shapeCasts_S8192_S8192x1 := by
  unfold Cert.GateUpRefIdeal.Gen.k0_pay2 Rows.scaleCol
  rfl

/-- The generated frame names the products once more. -/
theorem pay5_eq (X CS W S T LB) : Cert.GateUpRefIdeal.Gen.k0_pay5 (F := Ideal) X CS W S T LB = Cert.GateUpRefIdeal.Gen.k0_pay4 (F := Ideal) X CS W S := by
  have h0 : (![0, 0] : Fin 2 → Nat) = fun _ => 0 := funext fun a => by fin_cases a <;> rfl
  unfold Cert.GateUpRefIdeal.Gen.k0_pay5
  rw [View.ld_unit_zero (S := S8192x3584) h0 _ X, View.ld_unit_zero (S := S8192x1) h0 _ CS, View.ld_unit_zero (S := S1792x21504) h0 _ W, View.ld_unit_zero (S := S28x21504) h0 _ S]

/-- The scale of one row. -/
theorem scale (t : Fin cfg0.N) (ht : t.val % 21 = 20) (r : Fin 512) :
    k0_pay3 (F := Ideal) (maxAt m c t.val t.isLt) (ix2 r 0)
      = Cert.GateUpRefIdeal.Gen.k0_pay2 (F := Ideal) (refRows m c) (V m c main_arg4) (V m c main_arg5) (ix2 (row t r) 0) := by
  rw [scaleK, scaleR, Rows.maxScaleCol_at, Rows.scaleCol_at, maxAt_last m c t ht r]
  rfl

/-- A value over its row's scale, clamped to the codes' range. -/
def clampOf (v d : EReal) : EReal :=
  min (Ideal.ofBits .f32 0x43E00000#32) (max (Ideal.ofBits .f32 0xC3E00000#32) (Ideal.div v d))

/-- The clamp both programs write, at an element. -/
theorem ker_clamp (B : FVec Ideal ⟨2, ![512, 512]⟩ .f32) (D : FVec Ideal ⟨2, ![512, 1]⟩ .f32)
    (h : Shape.Broadcasts ⟨2, ![512, 1]⟩ ⟨2, ![512, 512]⟩) (hb) (r : Fin 512) (l : Fin 512) :
    truncf (F := Ideal) .fp8e4m3 (minimumf (broadcast ⟨2, ![512, 512]⟩ (Scalar.ofBits .f32 0x43E00000#32)) (maximumf (broadcast ⟨2, ![512, 512]⟩ (Scalar.ofBits .f32 0xC3E00000#32)) (divf B (broadcastTo ⟨2, ![512, 512]⟩ D h)))) hb (ix2 r l)
      = clampOf (B (ix2 r l)) (D (ix2 r 0)) := by
  pointwise [clampOf]

theorem ref_clamp (B : FVec Ideal ⟨2, ![8192, 10752]⟩ .f32) (D : FVec Ideal ⟨2, ![8192, 1]⟩ .f32)
    (h : Shape.Broadcasts ⟨2, ![8192, 1]⟩ ⟨2, ![8192, 10752]⟩) (hb) (r : Fin 8192) (l : Fin 10752) :
    truncf (F := Ideal) .fp8e4m3 (minimumf (broadcast ⟨2, ![8192, 10752]⟩ (Scalar.ofBits .f32 0x43E00000#32)) (maximumf (broadcast ⟨2, ![8192, 10752]⟩ (Scalar.ofBits .f32 0xC3E00000#32)) (divf B (broadcastTo ⟨2, ![8192, 10752]⟩ D h)))) hb (ix2 r l)
      = clampOf (B (ix2 r l)) (D (ix2 r 0)) := by
  pointwise [clampOf]

theorem kerCode (a : FVec Ideal ⟨2, ![512, 128]⟩ .f32) (y : FVec Ideal ⟨3, ![1, 512, 512]⟩ .f32) (r l : Fin 512) :
    k0_pay5 (F := Ideal) a y (ix2 r l) = clampOf (y (ix3 0 r l)) (k0_pay3 (F := Ideal) a (ix2 r 0)) := by
  unfold k0_pay5
  refine (ker_clamp _ _ _ _ r l).trans ?_
  generalize k0_pay3 (F := Ideal) a = S
  pointwise

theorem refCode (A : FVec Ideal ⟨2, ![8192, 21504]⟩ .f32)
    (T : FVec Ideal ⟨2, ![8192, 128]⟩ .bf16) (LB : FVec Ideal ⟨2, ![128, 21504]⟩ .bf16) (R : Fin 8192) (C : Fin 10752) :
    Cert.GateUpRefIdeal.Gen.k0_pay3 (F := Ideal) A T LB (ix2 R C) = clampOf (Cert.GateUpRefIdeal.Gen.k0_pay1 (F := Ideal) A T LB (ix2 R C)) (Cert.GateUpRefIdeal.Gen.k0_pay2 (F := Ideal) A T LB (ix2 R 0)) := by
  unfold Cert.GateUpRefIdeal.Gen.k0_pay3
  exact ref_clamp _ _ _ _ R C

/-- The codes a row of the grid ends with. -/
theorem codes (t : Fin cfg0.N) (ht : t.val % 21 = 20) (r : Fin 512) (l : Fin 10752) :
    codesAt m c t (ix2 r l) = Cert.GateUpRefIdeal.Gen.k0_pay3 (F := Ideal) (refRows m c) (V m c main_arg4) (V m c main_arg5) (ix2 (row t r) l) := by
  have hl := l.isLt
  have hN : t.val < 336 := t.isLt
  unfold codesAt codesOf
  rw [refCode, ← scale m c t ht r]
  refine (kerCode _ _ r ⟨l.val % 512, Nat.mod_lt _ (by decide)⟩).trans (congrArg (clampOf · _) ?_)
  refine (prodAt_at m c ⟨t.val - t.val % 21 + l.val / 512, by show _ < 336; omega⟩ r ⟨l.val % 512, Nat.mod_lt _ (by decide)⟩).trans ?_
  refine congrArg (refProd m c) (congrArg₂ ix2 (Fin.ext ?_) (Fin.ext ?_))
  · show (t.val - t.val % 21 + l.val / 512) / 21 * 512 + r.val = t.val / 21 * 512 + r.val; omega
  · show (t.val - t.val % 21 + l.val / 512) % 21 * 512 + l.val % 512 = l.val; omega

/-- An index of a matrix is its row and its column. -/
theorem at2 {a b : Nat} (y : Shape.Idx ⟨2, ![a, b]⟩) : ∃ (r : Fin a) (l : Fin b), y = ix2 r l := ⟨y 0, y 1, Idealize.ShloMosaic.eq_ix2 y⟩

/-- An index of a column is its row. -/
theorem at1 {a : Nat} (y : Shape.Idx ⟨2, ![a, 1]⟩) : ∃ r : Fin a, y = ix2 r 0 := by
  obtain ⟨r, l, rfl⟩ := at2 y
  exact ⟨r, by rw [Subsingleton.elim l 0]⟩

/-! The arrays after the run. -/

theorem fin9 : (dats m 0 c).arrAt 9 cfg0.N = Cert.GateUpRefIdeal.Gen.k0_pay3 (F := Ideal)
    (Cert.GateUpRefIdeal.Gen.k0_pay5 (F := Ideal) (V m c main_arg0) (V m c main_arg1) (V m c main_arg2) (V m c main_arg3) (V m c main_arg4) (V m c main_arg5)) (V m c main_arg4) (V m c main_arg5) := by
  rw [pay5_eq]
  refine (dats m 0 c).arrAt_eq_of_covers 9 _ (by decide +kernel) fun t hf y => ?_
  blk_simp
  rw [after0_9]
  obtain ⟨r, l, rfl⟩ := at2 (a := 512) (b := 10752) y
  rw [emb9]
  exact codes m c t ((flush0_9 t).mp hf) r l

theorem fin10 : (dats m 0 c).arrAt 10 cfg0.N = Cert.GateUpRefIdeal.Gen.k0_pay2 (F := Ideal)
    (Cert.GateUpRefIdeal.Gen.k0_pay5 (F := Ideal) (V m c main_arg0) (V m c main_arg1) (V m c main_arg2) (V m c main_arg3) (V m c main_arg4) (V m c main_arg5)) (V m c main_arg4) (V m c main_arg5) := by
  rw [pay5_eq]
  refine (dats m 0 c).arrAt_eq_of_covers 10 _ (by decide +kernel) fun t hf y => ?_
  blk_simp
  rw [after0_10]
  obtain ⟨r, rfl⟩ := at1 (a := 512) y
  rw [emb10]
  exact scale m c t ((flush0_10 t).mp hf) r

end Cert.Proof.GateUp

end
-- ==== Proof.GateUpClaim.lean ====
/-
  The gate/up projection: the kernel's results are the reference's.
-/
module

public import proofs.«01_k».proof.Defs
public import proofs.«01_k».proof.Proof.GateUpValue
public import proofs.«01_k».proof.Proof.Gen.GateUpRefIdeal.Value

@[expose] public section

noncomputable section

namespace Cert.Proof.GateUp

open Idealize.ShloMosaic Idealize.SL.Sem

/-- Both programs run, and from equal arguments their results are equal. -/
theorem algebraic : Cert.algebraic_GateUpIdeal_GateUpRefIdeal (hGateUpIdeal := Cert.GateUpIdeal.Gen.facts)
    (hGateUpRefIdeal := Cert.GateUpRefIdeal.Gen.facts) := by
  intro m g m' g' _ hargs
  refine ⟨fun c => (Cert.GateUpIdeal.Body.dats m 0 c).arrAt 9 Cert.GateUpIdeal.cfg0.N, fun c => (Cert.GateUpIdeal.Body.dats m 0 c).arrAt 10 Cert.GateUpIdeal.cfg0.N,
    (θ_run _ _ _).mono (fun r h c => ?_) (θ_run_and (Cert.GateUpIdeal.Body.run_main (F := Ideal) m g) (Cert.GateUpIdeal.Body.frame (F := Ideal) m g)),
    (θ_run _ _ _).mono (fun r h c => ?_) (Cert.GateUpRefIdeal.Value.run (F := Ideal) m' g')⟩
  · exact ⟨(h.1 c).1 9, (h.1 c).1 10, h.2.1 c⟩
  · obtain ⟨h0, h1, hk⟩ := h c
    obtain ⟨a0, a1, a2, a3, a4, a5⟩ := hargs c
    rw [a0, a1, a2, a3, a4, a5] at h0 h1
    exact ⟨h0.trans (fin9 m c).symm, h1.trans (fin10 m c).symm, hk⟩

end Cert.Proof.GateUp

end
-- ==== Proof.ProjectQWide.lean ====
module
public import proofs.«01_k».proof.Proof.Gen.ProjectQIdeal.Loops
public import proofs.«01_k».proof.Proof.Groups

@[expose] public section
set_option maxRecDepth 16384
noncomputable section
namespace Cert.ProjectQIdeal.Body
open Cert.ProjectQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S3584x1792 .i8) (k : Fin 28) : Vec F S128x1792 .i8 :=
  fun z => x (ix2 ⟨128 * k.val + (z 0).val, by have := (z 0).isLt; have h : S128x1792.size 0 = 128 := rfl; omega⟩ (z 1))
/-- The scales of weight group `g`. -/
def sRow (x : Vec F S56x1792 .f32) (g : Fin 56) : Vec F S1x1792 .f32 := fun z => x (ix2 g (z 1))

/-- What one trip of the loop stores: its group of widened weights. -/
theorem tripL_t1 (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (k : Fin k0_t1_loop.trips) :
    ∃ inb, tripL_k0_t1 (F := F) 𝒱 c bd i arg3 harg3 arg4 harg4 arg5 harg5 arg6 harg6 arg7 harg7 arg8 harg8 arg9 harg9 arg10 harg10 arg11 harg11 arg12 harg12 k0_h1 X5 X6 k
      = [⟨Rect.unit (s := S7168x1792) (k0_off3 k) S128x1792.size inb, k0_pay3 (F := F) (wBlk (arg5.view.read (Elt F) X5) ⟨k.val, k.isLt⟩) (sRow (arg6.view.read (Elt F) X6) ⟨k.val, Nat.lt_of_lt_of_le (k.isLt) (by decide)⟩)⟩] := by
  refine ⟨k0_off3_inb i k k0_h1, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg5.view.read (Elt F) X5) ⟨k.val, k.isLt⟩
      = View.readAt (Elt F) arg5.view (Rect.unit (s := S3584x1792) (k0_off1 k) S128x1792.size (k0_off1_inb i k k0_h1)).toLoadRect X5 := by
    funext z
    refine congrArg (arg5.view.read (Elt F) X5) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg6.view.read (Elt F) X6) ⟨k.val, Nat.lt_of_lt_of_le (k.isLt) (by decide)⟩
      = View.readAt (Elt F) arg6.view (Rect.unit (s := S56x1792) (k0_off2 k) S1x1792.size (k0_off2_inb i k k0_h1)).toLoadRect X6 := by
    funext z
    refine congrArg (arg6.view.read (Elt F) X6) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of the loop stores: its group of widened weights. -/
theorem tripL_t2 (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (k : Fin k0_t2_loop.trips) :
    ∃ inb, tripL_k0_t2 (F := F) 𝒱 c bd i arg3 harg3 arg4 harg4 arg5 harg5 arg6 harg6 arg7 harg7 arg8 harg8 arg9 harg9 arg10 harg10 arg11 harg11 arg12 harg12 k0_h1 X5 X6 k
      = [⟨Rect.unit (s := S7168x1792) (k0_off6 k) S128x1792.size inb, k0_pay4 (F := F) (wBlk (arg5.view.read (Elt F) X5) ⟨k.val, k.isLt⟩) (sRow (arg6.view.read (Elt F) X6) ⟨28 + k.val, Nat.lt_of_lt_of_le (Nat.add_lt_add_left k.isLt 28) (by decide)⟩)⟩] := by
  refine ⟨k0_off6_inb i k k0_h1, ?_⟩
  have e1 : ∀ k : Fin k0_t2_loop.trips, k0_off4 k = ![128 * k.val, 0] := by decide +kernel
  have e2 : ∀ k : Fin k0_t2_loop.trips, k0_off5 k = ![28 + k.val, 0] := by decide +kernel
  have hw : wBlk (F := F) (arg5.view.read (Elt F) X5) ⟨k.val, k.isLt⟩
      = View.readAt (Elt F) arg5.view (Rect.unit (s := S3584x1792) (k0_off4 k) S128x1792.size (k0_off4_inb i k k0_h1)).toLoadRect X5 := by
    funext z
    refine congrArg (arg5.view.read (Elt F) X5) (funext fun a => Fin.ext ?_)
    match a with
    | 0 => show _ = k0_off4 k 0 + 1 * (z 0).val; rw [e1 k]; show _ = 128 * k.val + _; rw [Nat.one_mul]; rfl
    | 1 => show _ = k0_off4 k 1 + 1 * (z 1).val; rw [e1 k]; show _ = 0 + _; rw [Nat.one_mul, Nat.zero_add]; rfl
  have hs : sRow (F := F) (arg6.view.read (Elt F) X6) ⟨28 + k.val, Nat.lt_of_lt_of_le (Nat.add_lt_add_left k.isLt 28) (by decide)⟩
      = View.readAt (Elt F) arg6.view (Rect.unit (s := S56x1792) (k0_off5 k) S1x1792.size (k0_off5_inb i k k0_h1)).toLoadRect X6 := by
    funext z
    refine congrArg (arg6.view.read (Elt F) X6) (funext fun a => Fin.ext ?_)
    match a with
    | 0 => show _ = k0_off5 k 0 + 1 * (z 0).val; rw [e2 k]; have h0 : (z 0).val = 0 := Nat.lt_one_iff.mp (z 0).isLt; rw [h0]; rfl
    | 1 => show _ = k0_off5 k 1 + 1 * (z 1).val; rw [e2 k]; show _ = 0 + _; rw [Nat.one_mul, Nat.zero_add]; rfl
  rw [hw, hs]
  unfold tripL_k0_t2 trip_k0_t2
  rfl

/-- The widened weights: rows of the low nibbles, then rows of the high nibbles, group by group. -/
def wide (w : Vec F S3584x1792 .i8) (s : Vec F S56x1792 .f32) : Vec F S7168x1792 .bf16 := fun y =>
  if h : (y 0).val < 3584 then
    k0_pay3 (F := F) (wBlk w ⟨(y 0).val / 128, by omega⟩) (sRow s ⟨(y 0).val / 128, by omega⟩) (Groups.inGroup (W := 128) (by decide) (y 0).val (y 1))
  else
    k0_pay4 (F := F) (wBlk w ⟨((y 0).val - 3584) / 128, by have := (y 0).isLt; have e : S7168x1792.size 0 = 7168 := rfl; omega⟩)
      (sRow s ⟨28 + ((y 0).val - 3584) / 128, by have := (y 0).isLt; have e : S7168x1792.size 0 = 7168 := rfl; omega⟩)
      (Groups.inGroup (W := 128) (by decide) ((y 0).val - 3584) (y 1))

/-- After both loops the scratch reads as the widened weights, whatever it held. -/
theorem read_wide (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (f : BufTy.Contents (Elt F) arg12.view.ty) :
    arg12.view.read (Elt F) (arg12.view.writes (Elt F) f
        (pb_k0_t2 (F := F) 𝒱 c bd i arg3 harg3 arg4 harg4 arg5 harg5 arg6 harg6 arg7 harg7 arg8 harg8 arg9 harg9 arg10 harg10 arg11 harg11 arg12 harg12 k0_h1 X5 X6 28 ++ pb_k0_t1 (F := F) 𝒱 c bd i arg3 harg3 arg4 harg4 arg5 harg5 arg6 harg6 arg7 harg7 arg8 harg8 arg9 harg9 arg10 harg10 arg11 harg11 arg12 harg12 k0_h1 X5 X6 28))
      = wide (F := F) (arg5.view.read (Elt F) X5) (arg6.view.read (Elt F) X6) := by
  funext y
  obtain ⟨r, l, rfl⟩ : ∃ (r : Fin 7168) (l : Fin 1792), y = ix2 r l := ⟨y 0, y 1, by funext a; match a with | 0 => rfl | 1 => rfl⟩
  have o3 : ∀ k : Fin k0_t1_loop.trips, k0_off3 k = ![0 + 128 * k.val, 0] := by decide +kernel
  have o6 : ∀ k : Fin k0_t2_loop.trips, k0_off6 k = ![3584 + 128 * k.val, 0] := by decide +kernel
  have g2 := Groups.read_groups (W := 128) (by decide) arg12.view f 3584 28
    (fun k => if h : k < 28 then k0_pay4 (F := F) (wBlk (arg5.view.read (Elt F) X5) ⟨k, h⟩) (sRow (arg6.view.read (Elt F) X6) ⟨28 + k, by omega⟩) else fun _ => arg12.view.read (Elt F) f (ix2 r l))
    (pb_k0_t2 (F := F) 𝒱 c bd i arg3 harg3 arg4 harg4 arg5 harg5 arg6 harg6 arg7 harg7 arg8 harg8 arg9 harg9 arg10 harg10 arg11 harg11 arg12 harg12 k0_h1 X5 X6) rfl
    (fun k hk => by
      obtain ⟨inb, e⟩ := tripL_t2 (F := F) 𝒱 c bd i arg3 harg3 arg4 harg4 arg5 harg5 arg6 harg6 arg7 harg7 arg8 harg8 arg9 harg9 arg10 harg10 arg11 harg11 arg12 harg12 k0_h1 X5 X6 ⟨k, hk⟩
      refine ⟨k0_off6 ⟨k, hk⟩, inb, o6 ⟨k, hk⟩, ?_⟩
      rw [dif_pos hk, ← e]
      exact pb_k0_t2_succ (F := F) 𝒱 c bd i arg3 harg3 arg4 harg4 arg5 harg5 arg6 harg6 arg7 harg7 arg8 harg8 arg9 harg9 arg10 harg10 arg11 harg11 arg12 harg12 k0_h1 X5 X6 ⟨k, hk⟩) 28 le_rfl
  have g1 := Groups.read_groups (W := 128) (by decide) arg12.view f 0 28
    (fun k => if h : k < 28 then k0_pay3 (F := F) (wBlk (arg5.view.read (Elt F) X5) ⟨k, h⟩) (sRow (arg6.view.read (Elt F) X6) ⟨k, by omega⟩) else fun _ => arg12.view.read (Elt F) f (ix2 r l))
    (pb_k0_t1 (F := F) 𝒱 c bd i arg3 harg3 arg4 harg4 arg5 harg5 arg6 harg6 arg7 harg7 arg8 harg8 arg9 harg9 arg10 harg10 arg11 harg11 arg12 harg12 k0_h1 X5 X6) rfl
    (fun k hk => by
      obtain ⟨inb, e⟩ := tripL_t1 (F := F) 𝒱 c bd i arg3 harg3 arg4 harg4 arg5 harg5 arg6 harg6 arg7 harg7 arg8 harg8 arg9 harg9 arg10 harg10 arg11 harg11 arg12 harg12 k0_h1 X5 X6 ⟨k, hk⟩
      refine ⟨k0_off3 ⟨k, hk⟩, inb, o3 ⟨k, hk⟩, ?_⟩
      rw [dif_pos hk, ← e]
      exact pb_k0_t1_succ (F := F) 𝒱 c bd i arg3 harg3 arg4 harg4 arg5 harg5 arg6 harg6 arg7 harg7 arg8 harg8 arg9 harg9 arg10 harg10 arg11 harg11 arg12 harg12 k0_h1 X5 X6 ⟨k, hk⟩) 28 le_rfl [] r l
  rw [List.append_nil] at g1
  rw [g2 _ r l, g1]
  unfold wide
  have hr := r.isLt
  by_cases h : r.val < 3584
  · rw [if_neg (by omega), if_pos (by omega), dif_pos (show ((ix2 r l : S7168x1792.Idx) 0).val < 3584 from h), dif_pos (by omega)]; rfl
  · rw [if_pos (by omega), dif_neg (show ¬ ((ix2 r l : S7168x1792.Idx) 0).val < 3584 from h), dif_pos (by omega)]; rfl
end Cert.ProjectQIdeal.Body
end
-- ==== Proof.ProjectQBody.lean ====
module
public import proofs.«01_k».proof.Proof.Gen.ProjectQIdeal.Frame
public import proofs.«01_k».proof.Proof.ProjectQWide

@[expose] public section
set_option maxRecDepth 16384
noncomputable section
namespace Cert.ProjectQIdeal.Body
open Cert.ProjectQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The 128 columns of the product that begin at column `o`. -/
def part (y : FVec F S256x1920 .f32) (o : ℕ) (ho : o ≤ 1792) : FVec F S256x128 .f32 :=
  fun z => y (ix2 (z 0) ⟨o + (z 1).val, by have := (z 1).isLt; have h : S256x128.size 1 = 128 := rfl; omega⟩)

/-- A slice of 128 columns is the columns from its offset. -/
theorem slice_part (y : FVec F S256x1920 .f32) (o : ℕ) (ho : o ≤ 1792) (h) :
    extractStridedSlice S256x128 ![0, o] y h = part y o ho := by
  funext z
  refine congrArg y (funext fun a => Fin.ext ?_)
  match a with
  | 0 => exact Nat.zero_add _
  | 1 => rfl

/-- The number of a lane. -/
def lane : IVec S256x128 32 := iota .tc S256x128 32 [1] iota_S256x128_d1_w32

/-- The first half of head `h`, rotated. -/
def lo (y : FVec F S256x1920 .f32) (c s : FVec F S256x128 .f32) (h : Fin 8) : FVec F S1x1x256x128 .bf16 :=
  k0_pay1 (F := F) lane (part y (224 * h.val) (by omega)) (part y (224 * h.val + 112) (by omega)) c s k0_pay43

/-- The second half of head `h`, rotated. -/
def hi (y : FVec F S256x1920 .f32) (c s : FVec F S256x128 .f32) (h : Fin 8) : FVec F S1x1x256x128 .bf16 :=
  k0_pay2 (F := F) lane (part y (224 * h.val) (by omega)) (part y (224 * h.val + 112) (by omega)) c s

/-- The block of rotated heads, from the product and the angles' cosines and sines. -/
def outOf (y : FVec F S256x1920 .f32) (c s : FVec F S256x128 .f32) : Vec F S1x8x256x256 .bf16 := fun z =>
  if h : (z 3).val < 128 then lo y c s (z 1) (ix4 0 0 (z 2) ⟨(z 3).val, h⟩)
  else hi y c s (z 1) (ix4 0 0 (z 2) ⟨(z 3).val - 128, by have := (z 3).isLt; have e : S1x8x256x256.size 3 = 256 := rfl; omega⟩)

theorem outOf_eq (y : FVec F S256x1920 .f32) (c s : FVec F S256x128 .f32) (h : Fin 8) (r l : Fin 256) :
    outOf y c s (ix4 0 h r l) = if h1 : l.val < 128 then lo y c s h (ix4 0 0 r ⟨l.val, h1⟩) else hi y c s h (ix4 0 0 r ⟨l.val - 128, by have := l.isLt; omega⟩) := rfl

theorem outOf_lo (y : FVec F S256x1920 .f32) (c s : FVec F S256x128 .f32) (h : Fin 8) (r l : Fin 256) (hc : l.val < 128) :
    outOf y c s (ix4 0 h r l) = lo y c s h (ix4 0 0 r ⟨l.val, hc⟩) := by
  rw [outOf_eq, dif_pos hc]

theorem outOf_hi (y : FVec F S256x1920 .f32) (c s : FVec F S256x128 .f32) (h : Fin 8) (r l : Fin 256) (hc : ¬ l.val < 128) :
    outOf y c s (ix4 0 h r l) = hi y c s h (ix4 0 0 r ⟨l.val - 128, by have := l.isLt; omega⟩) := by
  rw [outOf_eq, dif_neg hc]

/-- One more head: if the first `q` heads read as they should, so do the first `q + 1`. -/
theorem read_head {arg11 : Memref sig .tc .vmem S1x8x256x256 .bf16} (f : BufTy.Contents (Elt F) arg11.view.ty)
    (y : FVec F S256x1920 .f32) (c s : FVec F S256x128 .f32) (q : Fin 8) (o : ℕ) (ho : o = q.val)
    (i1 : ∀ a : Fin 4, (![0, o, 0, 128] : Fin 4 → ℕ) a + S1x1x256x128.size a ≤ S1x8x256x256.size a)
    (i0 : ∀ a : Fin 4, (![0, o, 0, 0] : Fin 4 → ℕ) a + S1x1x256x128.size a ≤ S1x8x256x256.size a)
    (L : List (View.Piece (Elt F) S1x8x256x256 .bf16))
    (ih : ∀ (h : Fin 8) (r l : Fin 256), h.val < q.val → arg11.view.read (Elt F) (arg11.view.writes (Elt F) f L) (ix4 0 h r l) = outOf y c s (ix4 0 h r l))
    (h : Fin 8) (r l : Fin 256) (hl : h.val < q.val + 1) :
    arg11.view.read (Elt F) (arg11.view.writes (Elt F) f (⟨Rect.unit (s := S1x8x256x256) ![0, o, 0, 128] S1x1x256x128.size i1, hi y c s q⟩
      :: ⟨Rect.unit (s := S1x8x256x256) ![0, o, 0, 0] S1x1x256x128.size i0, lo y c s q⟩ :: L)) (ix4 0 h r l) = outOf y c s (ix4 0 h r l) := by
  subst ho
  by_cases hq : h.val = q.val
  · have hq' : h = q := Fin.ext hq
    subst hq'
    by_cases hc : l.val < 128
    · refine (View.read_writes_cons_unit_of_not_mem arg11.view f i1 _ _ (ix4 0 h r l) rfl 3 (Or.inl hc)).trans ?_
      refine (View.read_writes_cons_unit_of_mem arg11.view f i0 _ L (ix4 0 h r l) (ix4 0 0 r (⟨l.val, hc⟩ : Fin 128)) rfl fun a => ?_).trans ?_
      · match a with
        | 0 => rfl
        | 1 => rfl
        | 2 => exact (Nat.zero_add _).symm
        | 3 => exact (Nat.zero_add _).symm
      · exact (outOf_lo y c s h r l hc).symm
    · have hl' := l.isLt
      refine (View.read_writes_cons_unit_of_mem arg11.view f i1 _ _ (ix4 0 h r l) (ix4 0 0 r (⟨l.val - 128, by omega⟩ : Fin 128)) rfl fun a => ?_).trans ?_
      · match a with
        | 0 => rfl
        | 1 => rfl
        | 2 => exact (Nat.zero_add _).symm
        | 3 => show l.val = 128 + (l.val - 128); omega
      · exact (outOf_hi y c s h r l hc).symm
  · have hne : h.val < q.val ∨ q.val + 1 ≤ h.val := by omega
    refine (View.read_writes_cons_unit_of_not_mem arg11.view f i1 _ _ (ix4 0 h r l) rfl 1 hne).trans ?_
    refine (View.read_writes_cons_unit_of_not_mem arg11.view f i0 _ _ (ix4 0 h r l) rfl 1 hne).trans ?_
    exact ih h r l (by omega)

/-- The sixteen stores, read as the block of rotated heads. -/
theorem read_heads {arg11 : Memref sig .tc .vmem S1x8x256x256 .bf16} (f : BufTy.Contents (Elt F) arg11.view.ty)
    (y : FVec F S256x1920 .f32) (c s : FVec F S256x128 .f32) (p0 q0 : FVec F S1x1x256x128 .bf16) (p1 q1 : FVec F S1x1x256x128 .bf16) (p2 q2 : FVec F S1x1x256x128 .bf16) (p3 q3 : FVec F S1x1x256x128 .bf16) (p4 q4 : FVec F S1x1x256x128 .bf16) (p5 q5 : FVec F S1x1x256x128 .bf16) (p6 q6 : FVec F S1x1x256x128 .bf16) (p7 q7 : FVec F S1x1x256x128 .bf16)
    (hp0 : p0 = lo y c s 0) (hq0 : q0 = hi y c s 0) (hp1 : p1 = lo y c s 1) (hq1 : q1 = hi y c s 1) (hp2 : p2 = lo y c s 2) (hq2 : q2 = hi y c s 2) (hp3 : p3 = lo y c s 3) (hq3 : q3 = hi y c s 3) (hp4 : p4 = lo y c s 4) (hq4 : q4 = hi y c s 4) (hp5 : p5 = lo y c s 5) (hq5 : q5 = hi y c s 5) (hp6 : p6 = lo y c s 6) (hq6 : q6 = hi y c s 6) (hp7 : p7 = lo y c s 7) (hq7 : q7 = hi y c s 7)
    i0 j0 i1 j1 i2 j2 i3 j3 i4 j4 i5 j5 i6 j6 i7 j7 :
    arg11.view.read (Elt F) (arg11.view.writes (Elt F) f
      [⟨Rect.unit (s := S1x8x256x256) ![0, 7, 0, 128] S1x1x256x128.size j7, q7⟩,
       ⟨Rect.unit (s := S1x8x256x256) ![0, 7, 0, 0] S1x1x256x128.size i7, p7⟩,
       ⟨Rect.unit (s := S1x8x256x256) ![0, 6, 0, 128] S1x1x256x128.size j6, q6⟩,
       ⟨Rect.unit (s := S1x8x256x256) ![0, 6, 0, 0] S1x1x256x128.size i6, p6⟩,
       ⟨Rect.unit (s := S1x8x256x256) ![0, 5, 0, 128] S1x1x256x128.size j5, q5⟩,
       ⟨Rect.unit (s := S1x8x256x256) ![0, 5, 0, 0] S1x1x256x128.size i5, p5⟩,
       ⟨Rect.unit (s := S1x8x256x256) ![0, 4, 0, 128] S1x1x256x128.size j4, q4⟩,
       ⟨Rect.unit (s := S1x8x256x256) ![0, 4, 0, 0] S1x1x256x128.size i4, p4⟩,
       ⟨Rect.unit (s := S1x8x256x256) ![0, 3, 0, 128] S1x1x256x128.size j3, q3⟩,
       ⟨Rect.unit (s := S1x8x256x256) ![0, 3, 0, 0] S1x1x256x128.size i3, p3⟩,
       ⟨Rect.unit (s := S1x8x256x256) ![0, 2, 0, 128] S1x1x256x128.size j2, q2⟩,
       ⟨Rect.unit (s := S1x8x256x256) ![0, 2, 0, 0] S1x1x256x128.size i2, p2⟩,
       ⟨Rect.unit (s := S1x8x256x256) ![0, 1, 0, 128] S1x1x256x128.size j1, q1⟩,
       ⟨Rect.unit (s := S1x8x256x256) ![0, 1, 0, 0] S1x1x256x128.size i1, p1⟩,
       ⟨Rect.unit (s := S1x8x256x256) ![0, 0, 0, 128] S1x1x256x128.size j0, q0⟩,
       ⟨Rect.unit (s := S1x8x256x256) ![0, 0, 0, 0] S1x1x256x128.size i0, p0⟩]) = outOf y c s := by
  subst hp0 hq0 hp1 hq1 hp2 hq2 hp3 hq3 hp4 hq4 hp5 hq5 hp6 hq6 hp7 hq7
  funext z
  obtain ⟨h, r, l, rfl⟩ : ∃ (h : Fin 8) (r l : Fin 256), z = ix4 0 h r l := ⟨z 1, z 2, z 3, by
    funext a; match a with | 0 => exact Fin.ext (Nat.lt_one_iff.mp (z 0).isLt) | 1 => rfl | 2 => rfl | 3 => rfl⟩
  refine read_head f y c s 7 7 rfl _ _ _ (fun h r l hl => ?_) h r l h.isLt
  refine read_head f y c s 6 6 rfl _ _ _ (fun h r l hl => ?_) h r l hl
  refine read_head f y c s 5 5 rfl _ _ _ (fun h r l hl => ?_) h r l hl
  refine read_head f y c s 4 4 rfl _ _ _ (fun h r l hl => ?_) h r l hl
  refine read_head f y c s 3 3 rfl _ _ _ (fun h r l hl => ?_) h r l hl
  refine read_head f y c s 2 2 rfl _ _ _ (fun h r l hl => ?_) h r l hl
  refine read_head f y c s 1 1 rfl _ _ _ (fun h r l hl => ?_) h r l hl
  refine read_head f y c s 0 0 rfl _ _ _ (fun h r l hl => ?_) h r l hl
  exact absurd hl (Nat.not_lt_zero _)

/-! Each stored payload is the rotated half of its head. -/
theorem lo0 (x0 : Vec F S256x7168 .fp8e4m3) (w : Vec F S7168x1792 .bf16) (x1 : Vec F S256x1 .f32) (x4 : Vec F S256x128 .bf16) (x5 : Vec F S128x1792 .bf16) (c s : Vec F S256x128 .f32) : k0_pay9 (F := F) (k0_pay8 (F := F) x0 w x1 x4 x5 c s) = lo (k0_pay5 (F := F) x0 w x1 x4 x5) c s 0 :=
  congrArg₂ (fun a b => k0_pay1 (F := F) lane a b c s k0_pay43) (slice_part (k0_pay5 (F := F) x0 w x1 x4 x5) 0 (by omega) slices_S256x1920_o0_0_S256x128) (slice_part (k0_pay5 (F := F) x0 w x1 x4 x5) 112 (by omega) slices_S256x1920_o0_112_S256x128)
theorem hi0 (x0 : Vec F S256x7168 .fp8e4m3) (w : Vec F S7168x1792 .bf16) (x1 : Vec F S256x1 .f32) (x4 : Vec F S256x128 .bf16) (x5 : Vec F S128x1792 .bf16) (c s : Vec F S256x128 .f32) : k0_pay10 (F := F) lane (k0_pay6 (F := F) x0 w x1 x4 x5) (k0_pay7 (F := F) x0 w x1 x4 x5) c s 112#32 = hi (k0_pay5 (F := F) x0 w x1 x4 x5) c s 0 :=
  congrArg₂ (fun a b => k0_pay2 (F := F) lane a b c s) (slice_part (k0_pay5 (F := F) x0 w x1 x4 x5) 0 (by omega) slices_S256x1920_o0_0_S256x128) (slice_part (k0_pay5 (F := F) x0 w x1 x4 x5) 112 (by omega) slices_S256x1920_o0_112_S256x128)
theorem lo1 (y : FVec F S256x1920 .f32) (c s : Vec F S256x128 .f32) : k0_pay14 (F := F) lane y c s = lo y c s 1 :=
  congrArg₂ (fun a b => k0_pay1 (F := F) lane a b c s k0_pay43) (slice_part y 224 (by omega) slices_S256x1920_o0_224_S256x128) (slice_part y 336 (by omega) slices_S256x1920_o0_336_S256x128)
theorem hi1 (y : FVec F S256x1920 .f32) (c s : Vec F S256x128 .f32) : k0_pay15 (F := F) (k0_pay13 (F := F) lane y c s) = hi y c s 1 :=
  congrArg₂ (fun a b => k0_pay2 (F := F) lane a b c s) (slice_part y 224 (by omega) slices_S256x1920_o0_224_S256x128) (slice_part y 336 (by omega) slices_S256x1920_o0_336_S256x128)
theorem lo2 (y : FVec F S256x1920 .f32) (c s : Vec F S256x128 .f32) : k0_pay18 (F := F) lane y c s = lo y c s 2 :=
  congrArg₂ (fun a b => k0_pay1 (F := F) lane a b c s k0_pay43) (slice_part y 448 (by omega) slices_S256x1920_o0_448_S256x128) (slice_part y 560 (by omega) slices_S256x1920_o0_560_S256x128)
theorem hi2 (y : FVec F S256x1920 .f32) (c s : Vec F S256x128 .f32) : k0_pay19 (F := F) lane y c s = hi y c s 2 :=
  congrArg₂ (fun a b => k0_pay2 (F := F) lane a b c s) (slice_part y 448 (by omega) slices_S256x1920_o0_448_S256x128) (slice_part y 560 (by omega) slices_S256x1920_o0_560_S256x128)
theorem lo3 (y : FVec F S256x1920 .f32) (c s : Vec F S256x128 .f32) : k0_pay22 (F := F) lane (k0_pay20 (F := F) y) (k0_pay21 (F := F) y) c s = lo y c s 3 :=
  congrArg₂ (fun a b => k0_pay1 (F := F) lane a b c s k0_pay43) (slice_part y 672 (by omega) slices_S256x1920_o0_672_S256x128) (slice_part y 784 (by omega) slices_S256x1920_o0_784_S256x128)
theorem hi3 (y : FVec F S256x1920 .f32) (c s : Vec F S256x128 .f32) : k0_pay23 (F := F) lane (k0_pay20 (F := F) y) (k0_pay21 (F := F) y) c s = hi y c s 3 :=
  congrArg₂ (fun a b => k0_pay2 (F := F) lane a b c s) (slice_part y 672 (by omega) slices_S256x1920_o0_672_S256x128) (slice_part y 784 (by omega) slices_S256x1920_o0_784_S256x128)
theorem lo4 (y : FVec F S256x1920 .f32) (c s : Vec F S256x128 .f32) : k0_pay30 (F := F) (k0_pay26 (F := F) lane y c s) = lo y c s 4 :=
  congrArg₂ (fun a b => k0_pay1 (F := F) lane a b c s k0_pay43) (slice_part y 896 (by omega) slices_S256x1920_o0_896_S256x128) (slice_part y 1008 (by omega) slices_S256x1920_o0_1008_S256x128)
theorem hi4 (y : FVec F S256x1920 .f32) (c s : Vec F S256x128 .f32) : k0_pay31 (F := F) (k0_pay27 lane) (k0_pay28 (F := F) y c) (k0_pay29 (F := F) y s) = hi y c s 4 :=
  congrArg₂ (fun a b => k0_pay2 (F := F) lane a b c s) (slice_part y 896 (by omega) slices_S256x1920_o0_896_S256x128) (slice_part y 1008 (by omega) slices_S256x1920_o0_1008_S256x128)
theorem lo5 (y : FVec F S256x1920 .f32) (c s : Vec F S256x128 .f32) : k0_pay34 (F := F) lane y c s = lo y c s 5 :=
  congrArg₂ (fun a b => k0_pay1 (F := F) lane a b c s k0_pay43) (slice_part y 1120 (by omega) slices_S256x1920_o0_1120_S256x128) (slice_part y 1232 (by omega) slices_S256x1920_o0_1232_S256x128)
theorem hi5 (y : FVec F S256x1920 .f32) (c s : Vec F S256x128 .f32) : k0_pay36 (F := F) (k0_pay35 (F := F) lane y c s) = hi y c s 5 :=
  congrArg₂ (fun a b => k0_pay2 (F := F) lane a b c s) (slice_part y 1120 (by omega) slices_S256x1920_o0_1120_S256x128) (slice_part y 1232 (by omega) slices_S256x1920_o0_1232_S256x128)
theorem lo6 (y : FVec F S256x1920 .f32) (c s : Vec F S256x128 .f32) : k0_pay39 (F := F) lane y c s = lo y c s 6 :=
  congrArg₂ (fun a b => k0_pay1 (F := F) lane a b c s k0_pay43) (slice_part y 1344 (by omega) slices_S256x1920_o0_1344_S256x128) (slice_part y 1456 (by omega) slices_S256x1920_o0_1456_S256x128)
theorem hi6 (y : FVec F S256x1920 .f32) (c s : Vec F S256x128 .f32) : k0_pay40 (F := F) lane y c s = hi y c s 6 :=
  congrArg₂ (fun a b => k0_pay2 (F := F) lane a b c s) (slice_part y 1344 (by omega) slices_S256x1920_o0_1344_S256x128) (slice_part y 1456 (by omega) slices_S256x1920_o0_1456_S256x128)
theorem lo7 (y : FVec F S256x1920 .f32) (c s : Vec F S256x128 .f32) : k0_pay1 (F := F) lane (k0_pay41 (F := F) y) (k0_pay42 (F := F) y) c s k0_pay43 = lo y c s 7 :=
  congrArg₂ (fun a b => k0_pay1 (F := F) lane a b c s k0_pay43) (slice_part y 1568 (by omega) slices_S256x1920_o0_1568_S256x128) (slice_part y 1680 (by omega) slices_S256x1920_o0_1680_S256x128)
theorem hi7 (y : FVec F S256x1920 .f32) (c s : Vec F S256x128 .f32) : k0_pay2 (F := F) lane (k0_pay41 (F := F) y) (k0_pay42 (F := F) y) c s = hi y c s 7 :=
  congrArg₂ (fun a b => k0_pay2 (F := F) lane a b c s) (slice_part y 1568 (by omega) slices_S256x1920_o0_1568_S256x128) (slice_part y 1680 (by omega) slices_S256x1920_o0_1680_S256x128)

set_option maxHeartbeats 4000000 in
/-- A point that begins a tile of columns: it widens the weights first. -/
theorem sound_first (c : Dev nD) (E : Set ℕ) (i : grid0.Coords) (k0_h1 : k0_cond1 i = 1#1) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole)
    (x0 : Vec F S256x7168 .fp8e4m3) (x1 : Vec F S256x1 .f32) (x2 : Vec F S3584x1792 .i8) (x3 : Vec F S56x1792 .f32) (x4 : Vec F S256x128 .bf16) (x5 : Vec F S128x1792 .bf16) (x6 : Vec F S256x128 .f32) (x7 : Vec F S256x128 .f32) (x8 : Vec F S1x8x256x256 .bf16) (x9 : Vec F S7168x1792 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf (F := F) (k0_pay5 (F := F) x0 (wide (F := F) x2 x3) x1 x4 x5) x6 x7) ∗ owns (c : Thread nD τ) arg12 fullShare (wide (F := F) x2 x3)) -∗ K ⟨⟩))
      ⊢ wp frame (wpE (defs₀ (F := F)) Variants.none c none) E (cc0_project_q i arg3 harg3 arg4 harg4 arg5 harg5 arg6 harg6 arg7 harg7 arg8 harg8 arg9 harg9 arg10 harg10 arg11 harg11 arg12 harg12) K := by
  simp only [cc0_project_q_eq_skeleton]; unfold cc0_project_q_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  have ew' : ∀ f, arg12.view.read (Elt F) (arg12.view.writes (Elt F) f (pb_k0_t2 (F := F) Variants.none c none i arg3 harg3 arg4 harg4 arg5 harg5 arg6 harg6 arg7 harg7 arg8 harg8 arg9 harg9 arg10 harg10 arg11 harg11 arg12 harg12 k0_h1 f2 f3 28 ++ pb_k0_t1 (F := F) Variants.none c none i arg3 harg3 arg4 harg4 arg5 harg5 arg6 harg6 arg7 harg7 arg8 harg8 arg9 harg9 arg10 harg10 arg11 harg11 arg12 harg12 k0_h1 f2 f3 28)) = (wide (F := F) (arg5.view.read (Elt F) f2) (arg6.view.read (Elt F) f3)) :=
    read_wide (F := F) Variants.none c none i arg3 harg3 arg4 harg4 arg5 harg5 arg6 harg6 arg7 harg7 arg8 harg8 arg9 harg9 arg10 harg10 arg11 harg11 arg12 harg12 k0_h1 f2 f3
  have ew : sound_first.sl.v7 c i k0_h1 arg3 harg3 arg4 harg4 arg5 harg5 arg6 harg6 arg7 harg7 arg8 harg8 arg9 harg9 arg10 harg10 arg11 harg11 arg12 harg12 f2 f3 f9 = (wide (F := F) (arg5.view.read (Elt F) f2) (arg6.view.read (Elt F) f3)) := by
    unfold sound_first.sl.v7
    exact (View.readAt_full _ _ _).trans (ew' f9)
  have er : sound_first.sl.r c i k0_h1 arg3 harg3 arg4 harg4 arg5 harg5 arg6 harg6 arg7 harg7 arg8 harg8 arg9 harg9 arg10 harg10 arg11 harg11 arg12 harg12 f0 f1 f2 f3 f4 f5 f9 = (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) := by
    unfold sound_first.sl.r
    rw [View.readAt_full, View.readAt_full, View.readAt_full, View.readAt_full, ew]
  have er_1 : sound_first.sl.r_1 c i k0_h1 arg3 harg3 arg4 harg4 arg5 harg5 arg6 harg6 arg7 harg7 arg8 harg8 arg9 harg9 arg10 harg10 arg11 harg11 arg12 harg12 f0 f1 f2 f3 f4 f5 f9 = k0_pay6 (F := F) (arg3.view.read (Elt F) f0) (wide (F := F) (arg5.view.read (Elt F) f2) (arg6.view.read (Elt F) f3)) (arg4.view.read (Elt F) f1) (arg7.view.read (Elt F) f4) (arg8.view.read (Elt F) f5) := by
    unfold sound_first.sl.r_1
    rw [View.readAt_full, View.readAt_full, View.readAt_full, View.readAt_full, ew]
  have er_2 : sound_first.sl.r_2 c i k0_h1 arg3 harg3 arg4 harg4 arg5 harg5 arg6 harg6 arg7 harg7 arg8 harg8 arg9 harg9 arg10 harg10 arg11 harg11 arg12 harg12 f0 f1 f2 f3 f4 f5 f9 = k0_pay7 (F := F) (arg3.view.read (Elt F) f0) (wide (F := F) (arg5.view.read (Elt F) f2) (arg6.view.read (Elt F) f3)) (arg4.view.read (Elt F) f1) (arg7.view.read (Elt F) f4) (arg8.view.read (Elt F) f5) := by
    unfold sound_first.sl.r_2
    rw [View.readAt_full, View.readAt_full, View.readAt_full, View.readAt_full, ew]
  have er_3 : sound_first.sl.r_3 c arg9 f6 = (arg9.view.read (Elt F) f6) := by
    unfold sound_first.sl.r_3
    rw [View.readAt_full]
  have er_4 : sound_first.sl.r_4 c arg10 f7 = (arg10.view.read (Elt F) f7) := by
    unfold sound_first.sl.r_4
    rw [View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr; swap; · iexact H8
    ipureintro
    exact read_heads (F := F) f8 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7) _ _ _ _ _ _ _ _ _ _ _ _ _ _ _ _
      (by unfold sound_first.sl.r_5; repeat (first | rw [ew] | rw [er] | rw [er_1] | rw [er_2] | rw [er_3] | rw [er_4] | rw [View.readAt_full])
          exact lo0 (arg3.view.read (Elt F) f0) (wide (F := F) (arg5.view.read (Elt F) f2) (arg6.view.read (Elt F) f3)) (arg4.view.read (Elt F) f1) (arg7.view.read (Elt F) f4) (arg8.view.read (Elt F) f5) (arg9.view.read (Elt F) f6) (arg10.view.read (Elt F) f7))
      (by repeat (first | rw [ew] | rw [er] | rw [er_1] | rw [er_2] | rw [er_3] | rw [er_4] | rw [View.readAt_full])
          exact hi0 (arg3.view.read (Elt F) f0) (wide (F := F) (arg5.view.read (Elt F) f2) (arg6.view.read (Elt F) f3)) (arg4.view.read (Elt F) f1) (arg7.view.read (Elt F) f4) (arg8.view.read (Elt F) f5) (arg9.view.read (Elt F) f6) (arg10.view.read (Elt F) f7))
      (by unfold sound_first.sl.r_7; repeat (first | rw [ew] | rw [er] | rw [er_1] | rw [er_2] | rw [er_3] | rw [er_4] | rw [View.readAt_full])
          exact lo1 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_6; repeat (first | rw [ew] | rw [er] | rw [er_1] | rw [er_2] | rw [er_3] | rw [er_4] | rw [View.readAt_full])
          exact hi1 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo2 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact hi2 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_8 sound_first.sl.r_9; repeat (first | rw [ew] | rw [er] | rw [er_1] | rw [er_2] | rw [er_3] | rw [er_4] | rw [View.readAt_full])
          exact lo3 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_8 sound_first.sl.r_9; repeat (first | rw [ew] | rw [er] | rw [er_1] | rw [er_2] | rw [er_3] | rw [er_4] | rw [View.readAt_full])
          exact hi3 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_10; repeat (first | rw [ew] | rw [er] | rw [er_1] | rw [er_2] | rw [er_3] | rw [er_4] | rw [View.readAt_full])
          exact lo4 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_11 sound_first.sl.r_12; repeat (first | rw [ew] | rw [er] | rw [er_1] | rw [er_2] | rw [er_3] | rw [er_4] | rw [View.readAt_full])
          exact hi4 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo5 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_13; repeat (first | rw [ew] | rw [er] | rw [er_1] | rw [er_2] | rw [er_3] | rw [er_4] | rw [View.readAt_full])
          exact hi5 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo6 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact hi6 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_14 sound_first.sl.r_15; repeat (first | rw [ew] | rw [er] | rw [er_1] | rw [er_2] | rw [er_3] | rw [er_4] | rw [View.readAt_full])
          exact lo7 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_14 sound_first.sl.r_15; repeat (first | rw [ew] | rw [er] | rw [er_1] | rw [er_2] | rw [er_3] | rw [er_4] | rw [View.readAt_full])
          exact hi7 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      _ _ _ _ _ _ _ _ _ _ _ _ _ _ _ _
  iexists _; isplitr; swap; · iexact H9
  ipureintro
  exact ew' f9

set_option maxHeartbeats 4000000 in
/-- A point that finds its weights already widened. -/
theorem sound_rest (c : Dev nD) (E : Set ℕ) (i : grid0.Coords) (k0_h1 : ¬ k0_cond1 i = 1#1) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole)
    (x0 : Vec F S256x7168 .fp8e4m3) (x1 : Vec F S256x1 .f32) (x2 : Vec F S3584x1792 .i8) (x3 : Vec F S56x1792 .f32) (x4 : Vec F S256x128 .bf16) (x5 : Vec F S128x1792 .bf16) (x6 : Vec F S256x128 .f32) (x7 : Vec F S256x128 .f32) (x8 : Vec F S1x8x256x256 .bf16) (x9 : Vec F S7168x1792 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf (F := F) (k0_pay5 (F := F) x0 x9 x1 x4 x5) x6 x7) ∗ owns (c : Thread nD τ) arg12 fullShare x9) -∗ K ⟨⟩))
      ⊢ wp frame (wpE (defs₀ (F := F)) Variants.none c none) E (cc0_project_q i arg3 harg3 arg4 harg4 arg5 harg5 arg6 harg6 arg7 harg7 arg8 harg8 arg9 harg9 arg10 harg10 arg11 harg11 arg12 harg12) K := by
  simp only [cc0_project_q_eq_skeleton]; unfold cc0_project_q_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  have er : sound_rest.sl.r c arg3 arg4 arg7 arg8 arg12 f0 f1 f4 f5 f9 = (k0_pay5 (F := F) (arg3.view.read (Elt F) f0) (arg12.view.read (Elt F) f9) (arg4.view.read (Elt F) f1) (arg7.view.read (Elt F) f4) (arg8.view.read (Elt F) f5)) := by
    unfold sound_rest.sl.r
    rw [View.readAt_full, View.readAt_full, View.readAt_full, View.readAt_full, View.readAt_full]
  have er_1 : sound_rest.sl.r_1 c arg3 arg4 arg7 arg8 arg12 f0 f1 f4 f5 f9 = k0_pay6 (F := F) (arg3.view.read (Elt F) f0) (arg12.view.read (Elt F) f9) (arg4.view.read (Elt F) f1) (arg7.view.read (Elt F) f4) (arg8.view.read (Elt F) f5) := by
    unfold sound_rest.sl.r_1
    rw [View.readAt_full, View.readAt_full, View.readAt_full, View.readAt_full, View.readAt_full]
  have er_2 : sound_rest.sl.r_2 c arg3 arg4 arg7 arg8 arg12 f0 f1 f4 f5 f9 = k0_pay7 (F := F) (arg3.view.read (Elt F) f0) (arg12.view.read (Elt F) f9) (arg4.view.read (Elt F) f1) (arg7.view.read (Elt F) f4) (arg8.view.read (Elt F) f5) := by
    unfold sound_rest.sl.r_2
    rw [View.readAt_full, View.readAt_full, View.readAt_full, View.readAt_full, View.readAt_full]
  have er_3 : sound_rest.sl.r_3 c arg9 f6 = (arg9.view.read (Elt F) f6) := by
    unfold sound_rest.sl.r_3
    rw [View.readAt_full]
  have er_4 : sound_rest.sl.r_4 c arg10 f7 = (arg10.view.read (Elt F) f7) := by
    unfold sound_rest.sl.r_4
    rw [View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr; swap; · iexact H8
    ipureintro
    exact read_heads (F := F) f8 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7) _ _ _ _ _ _ _ _ _ _ _ _ _ _ _ _
      (by unfold sound_rest.sl.r_5; repeat (first | rw [er] | rw [er_1] | rw [er_2] | rw [er_3] | rw [er_4] | rw [View.readAt_full])
          exact lo0 (arg3.view.read (Elt F) f0) (arg12.view.read (Elt F) f9) (arg4.view.read (Elt F) f1) (arg7.view.read (Elt F) f4) (arg8.view.read (Elt F) f5) (arg9.view.read (Elt F) f6) (arg10.view.read (Elt F) f7))
      (by repeat (first | rw [er] | rw [er_1] | rw [er_2] | rw [er_3] | rw [er_4] | rw [View.readAt_full])
          exact hi0 (arg3.view.read (Elt F) f0) (arg12.view.read (Elt F) f9) (arg4.view.read (Elt F) f1) (arg7.view.read (Elt F) f4) (arg8.view.read (Elt F) f5) (arg9.view.read (Elt F) f6) (arg10.view.read (Elt F) f7))
      (by unfold sound_rest.sl.r_7; repeat (first | rw [er] | rw [er_1] | rw [er_2] | rw [er_3] | rw [er_4] | rw [View.readAt_full])
          exact lo1 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_6; repeat (first | rw [er] | rw [er_1] | rw [er_2] | rw [er_3] | rw [er_4] | rw [View.readAt_full])
          exact hi1 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo2 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact hi2 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_8 sound_rest.sl.r_9; repeat (first | rw [er] | rw [er_1] | rw [er_2] | rw [er_3] | rw [er_4] | rw [View.readAt_full])
          exact lo3 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_8 sound_rest.sl.r_9; repeat (first | rw [er] | rw [er_1] | rw [er_2] | rw [er_3] | rw [er_4] | rw [View.readAt_full])
          exact hi3 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_10; repeat (first | rw [er] | rw [er_1] | rw [er_2] | rw [er_3] | rw [er_4] | rw [View.readAt_full])
          exact lo4 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_11 sound_rest.sl.r_12; repeat (first | rw [er] | rw [er_1] | rw [er_2] | rw [er_3] | rw [er_4] | rw [View.readAt_full])
          exact hi4 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo5 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_13; repeat (first | rw [er] | rw [er_1] | rw [er_2] | rw [er_3] | rw [er_4] | rw [View.readAt_full])
          exact hi5 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo6 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact hi6 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_14 sound_rest.sl.r_15; repeat (first | rw [er] | rw [er_1] | rw [er_2] | rw [er_3] | rw [er_4] | rw [View.readAt_full])
          exact lo7 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_14 sound_rest.sl.r_15; repeat (first | rw [er] | rw [er_1] | rw [er_2] | rw [er_3] | rw [er_4] | rw [View.readAt_full])
          exact hi7 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      _ _ _ _ _ _ _ _ _ _ _ _ _ _ _ _
  iexists f9; isplitr; · ipureintro; rfl
  iexact H9

end Cert.ProjectQIdeal.Body
end
-- ==== Proof.ProjectQPay.lean ====
/-
  The q projection's arithmetic at the ideal values: the kernel's block of rotated heads, from weights widened to sixteen
  times their value, and the reference's of the whole arrays are the same function of a row of products and its angles.
-/
module

public import proofs.«01_k».proof.Proof.ProjectQBody
public import proofs.«01_k».proof.Proof.Gen.ProjectQRefIdeal.Frame
public import proofs.«01_k».proof.Proof.Nibbles

@[expose] public section

set_option maxRecDepth 16384

noncomputable section

namespace Cert.Proof.ProjectQ

open Idealize.ShloMosaic Cert.Proof.Nibbles

variable [Cert.ProjectQIdeal.Facts] [Cert.ProjectQRefIdeal.Facts]

/-- A widened low half: sixteen times the nibble, times the scale. -/
theorem low_pay (w : IVec ⟨2, ![128, 1792]⟩ 8) (s : FVec Ideal ⟨2, ![1, 1792]⟩ .f32) (p : Fin 128) (l : Fin 1792) :
    Cert.ProjectQIdeal.Gen.k0_pay3 (F := Ideal) w s (ix2 p l) = val (16 * lowNib (w (ix2 p l))) * s (ix2 0 l) := by
  have h := low_byte w Cert.ProjectQIdeal.Facts₀.bitcasts_S128x1792_w8_S32x1792_w32 Cert.ProjectQIdeal.Facts₀.bitcasts_S32x1792_w32_S128x1792_w8 rfl p l
  rw [← low_toInt, ← h]
  unfold Cert.ProjectQIdeal.Gen.k0_pay3
  generalize (bitcast _ 8 _ _ : IVec ⟨2, ![128, 1792]⟩ 8) = B
  pointwise
  rfl

/-- A widened high half: sixteen times the nibble, times the scale. -/
theorem high_pay (w : IVec ⟨2, ![128, 1792]⟩ 8) (s : FVec Ideal ⟨2, ![1, 1792]⟩ .f32) (p : Fin 128) (l : Fin 1792) :
    Cert.ProjectQIdeal.Gen.k0_pay4 (F := Ideal) w s (ix2 p l) = val (16 * highNib (w (ix2 p l))) * s (ix2 0 l) := by
  have h := high_byte w Cert.ProjectQIdeal.Facts₀.bitcasts_S128x1792_w8_S32x1792_w32 Cert.ProjectQIdeal.Facts₀.bitcasts_S32x1792_w32_S128x1792_w8 rfl p l
  rw [← high_toInt, ← h]
  unfold Cert.ProjectQIdeal.Gen.k0_pay4
  generalize (bitcast _ 8 _ _ : IVec ⟨2, ![128, 1792]⟩ 8) = B
  pointwise
  rfl

/-- The reference's product at an element. -/
theorem ref_prod (X : FVec Ideal ⟨2, ![8192, 7168]⟩ .fp8e4m3) (CS : FVec Ideal ⟨2, ![8192, 1]⟩ .f32)
    (W : IVec ⟨2, ![3584, 5376]⟩ 8) (S : FVec Ideal ⟨2, ![56, 5376]⟩ .f32) (R : Fin 8192) (C : Fin 5376) :
    Cert.ProjectQRefIdeal.Gen.k0_pay2 (F := Ideal) X CS W S (ix2 R C)
      = rowOf (H := 3584) (fun k => X (ix2 R ⟨k.val, by have := k.isLt; omega⟩)) (fun k => X (ix2 R ⟨3584 + k.val, by have := k.isLt; omega⟩)) (fun k => W (ix2 k C)) (fun k => S (ix2 ⟨k.val / 128, by have := k.isLt; omega⟩ C)) (fun k => S (ix2 ⟨28 + k.val / 128, by have := k.isLt; omega⟩ C)) (CS (ix2 R 0)) := by
  pointwise [Cert.ProjectQRefIdeal.Gen.k0_pay2]
  simp only [signed_eq]
  rfl

variable (x : FVec Ideal ⟨2, ![256, 7168]⟩ .fp8e4m3) (cs : FVec Ideal ⟨2, ![256, 1]⟩ .f32)
  (w : IVec ⟨2, ![3584, 1792]⟩ 8) (s : FVec Ideal ⟨2, ![56, 1792]⟩ .f32)

/-- The widened weights, one half at a time. -/
theorem wide_low (k : Fin 3584) (l : Fin 1792) :
    Cert.ProjectQIdeal.Body.wide (F := Ideal) w s (ix2 ⟨k.val, by have := k.isLt; omega⟩ l)
      = val (16 * lowNib (w (ix2 k l))) * s (ix2 ⟨k.val / 128, by have := k.isLt; omega⟩ l) := by
  unfold Cert.ProjectQIdeal.Body.wide
  refine (dif_pos k.isLt).trans ?_
  refine (low_pay _ _ _ _).trans ?_
  unfold Cert.ProjectQIdeal.Body.wBlk Cert.ProjectQIdeal.Body.sRow
  refine congrArg (fun i => val (16 * lowNib (w i)) * _) (funext fun a => Fin.ext ?_)
  match a with
  | 0 => show 128 * (k.val / 128) + k.val % 128 = k.val; omega
  | 1 => rfl

theorem high_group (k : Fin 3584) (D : Nat) (hD : D = k.val) (h1 : D / 128 < 28) (h2 : 28 + D / 128 < 56) (l : Fin 1792) :
    Cert.ProjectQIdeal.Gen.k0_pay4 (F := Ideal) (Cert.ProjectQIdeal.Body.wBlk (F := Ideal) w ⟨D / 128, h1⟩) (Cert.ProjectQIdeal.Body.sRow (F := Ideal) s ⟨28 + D / 128, h2⟩)
        (Groups.inGroup (W := 128) (by decide) D l)
      = val (16 * highNib (w (ix2 k l))) * s (ix2 ⟨28 + k.val / 128, by have := k.isLt; omega⟩ l) := by
  subst hD
  refine (high_pay _ _ _ _).trans ?_
  unfold Cert.ProjectQIdeal.Body.wBlk Cert.ProjectQIdeal.Body.sRow
  refine congrArg (fun i => val (16 * highNib (w i)) * _) (funext fun a => Fin.ext ?_)
  match a with
  | 0 => show 128 * (k.val / 128) + k.val % 128 = k.val; omega
  | 1 => rfl

theorem wide_high_of (k : Fin 3584) (K : Fin 7168) (hK : K.val = 3584 + k.val) (l : Fin 1792) :
    Cert.ProjectQIdeal.Body.wide (F := Ideal) w s (ix2 K l)
      = val (16 * highNib (w (ix2 k l))) * s (ix2 ⟨28 + k.val / 128, by have := k.isLt; omega⟩ l) := by
  unfold Cert.ProjectQIdeal.Body.wide
  refine (dif_neg (show ¬ K.val < 3584 by omega)).trans ?_
  exact high_group w s k (K.val - 3584) (by omega) _ _ l

theorem wide_high (k : Fin 3584) (l : Fin 1792) :
    Cert.ProjectQIdeal.Body.wide (F := Ideal) w s (ix2 ⟨3584 + k.val, by have := k.isLt; omega⟩ l)
      = val (16 * highNib (w (ix2 k l))) * s (ix2 ⟨28 + k.val / 128, by have := k.isLt; omega⟩ l) :=
  wide_high_of w s k _ rfl l

variable (t : FVec Ideal ⟨2, ![256, 128]⟩ .bf16) (lb : FVec Ideal ⟨2, ![128, 1792]⟩ .bf16)

/-- The kernel's product at an element, without the zeros that follow the last head. -/
theorem ker_prod (r : Fin 256) (l : Fin 1792) (L : Fin 1920) (hL : L.val = l.val) :
    Cert.ProjectQIdeal.Gen.k0_pay5 (F := Ideal) x (Cert.ProjectQIdeal.Body.wide (F := Ideal) w s) cs t lb (ix2 r L)
      = rowOf (H := 3584) (fun k => x (ix2 r ⟨k.val, by have := k.isLt; omega⟩)) (fun k => x (ix2 r ⟨3584 + k.val, by have := k.isLt; omega⟩)) (fun k => w (ix2 k l)) (fun k => s (ix2 ⟨k.val / 128, by have := k.isLt; omega⟩ l)) (fun k => s (ix2 ⟨28 + k.val / 128, by have := k.isLt; omega⟩ l)) (cs (ix2 r 0))
        + ∑ k, t (ix2 r k) * lb (ix2 k l) := by
  have hl := l.isLt
  have key : ∀ v : FVec Ideal ⟨2, ![7168, 1792]⟩ .bf16, Cert.ProjectQIdeal.Gen.k0_pay5 (F := Ideal) x v cs t lb (ix2 r L)
      = (∑ k, x (ix2 r k) * v (ix2 k l)) * Ideal.div (cs (ix2 r 0)) (Ideal.ofBits .f32 0x41800000#32) + ∑ k, t (ix2 r k) * lb (ix2 k l) := fun v => by
    pointwise [Cert.ProjectQIdeal.Gen.k0_pay5]
    refine (dif_pos (show L.val < 1792 by omega)).trans ?_
    have e : (⟨L.val, by omega⟩ : Fin 1792) = l := Fin.ext hL
    rw [e]
  rw [key, sum_halves (H := 3584) rfl, sixteen_bits, ← rowOf_wide]
  simp only [wide_low, wide_high]

/-- One element of a rotated head, from the head's products and the angles' cosines and sines: the two halves of the head,
    each followed by sixteen zeros. -/
def headOf (q : Fin 224 → EReal) (c s : Fin 112 → EReal) (l : Fin 256) : EReal :=
  if h : l.val < 112 then q ⟨l.val, by omega⟩ * c ⟨l.val, h⟩ - q ⟨112 + l.val, by omega⟩ * s ⟨l.val, h⟩
  else if _h : l.val - 112 < 16 then 0
  else if h : l.val - 112 - 16 < 112 then q ⟨112 + (l.val - 112 - 16), by omega⟩ * c ⟨l.val - 112 - 16, h⟩ + q ⟨l.val - 112 - 16, by omega⟩ * s ⟨l.val - 112 - 16, h⟩
  else 0

theorem lane_lt : ∀ l : Fin 128, IntOp.cmpi .slt (BitVec.ofNat 32 l.val) 112#32 = if l.val < 112 then 1#1 else 0#1 := by decide +kernel

theorem lo_at (a b c s : FVec Ideal ⟨2, ![256, 128]⟩ .f32) (r : Fin 256) (l : Fin 128) :
    Cert.ProjectQIdeal.Gen.k0_pay1 (F := Ideal) Cert.ProjectQIdeal.Body.lane a b c s Cert.ProjectQIdeal.Gen.k0_pay43 (ix4 0 0 r l)
      = if l.val < 112 then a (ix2 r l) * c (ix2 r l) - b (ix2 r l) * s (ix2 r l) else 0 := by
  pointwise [Cert.ProjectQIdeal.Gen.k0_pay1, Cert.ProjectQIdeal.Body.lane, Cert.ProjectQIdeal.Gen.k0_pay43]
  rw [lane_lt]
  by_cases h : l.val < 112
  · rw [if_pos h, if_pos h]; rfl
  · rw [if_neg h, if_neg h]; rfl

theorem hi_at (a b c s : FVec Ideal ⟨2, ![256, 128]⟩ .f32) (r : Fin 256) (l : Fin 128) :
    Cert.ProjectQIdeal.Gen.k0_pay2 (F := Ideal) Cert.ProjectQIdeal.Body.lane a b c s (ix4 0 0 r l)
      = if l.val < 112 then b (ix2 r l) * c (ix2 r l) + a (ix2 r l) * s (ix2 r l) else 0 := by
  pointwise [Cert.ProjectQIdeal.Gen.k0_pay2, Cert.ProjectQIdeal.Body.lane]
  rw [lane_lt]
  by_cases h : l.val < 112
  · rw [if_pos h, if_pos h]; rfl
  · rw [if_neg h, if_neg h]; rfl

/-- The reference's rotated heads at an element. -/
theorem ref_heads (A : FVec Ideal ⟨2, ![8192, 5376]⟩ .f32) (T : FVec Ideal ⟨2, ![8192, 128]⟩ .bf16) (LB : FVec Ideal ⟨2, ![128, 5376]⟩ .bf16)
    (C S : FVec Ideal ⟨2, ![8192, 112]⟩ .f32) (b : Fin 2) (h : Fin 24) (R : Fin 4096) (l : Fin 256) :
    Cert.ProjectQRefIdeal.Gen.k0_pay1 (F := Ideal) A T LB C S (ix4 b h R l)
      = headOf (fun k => A (ix2 ⟨b.val * 4096 + R.val, by omega⟩ ⟨h.val * 224 + k.val, by omega⟩) + ∑ j, T (ix2 ⟨b.val * 4096 + R.val, by omega⟩ j) * LB (ix2 j ⟨h.val * 224 + k.val, by omega⟩))
          (fun k => C (ix2 ⟨b.val * 4096 + R.val, by omega⟩ k)) (fun k => S (ix2 ⟨b.val * 4096 + R.val, by omega⟩ k)) l := by
  pointwise [Cert.ProjectQRefIdeal.Gen.k0_pay1]
  rfl

theorem ref_heads_of (A : FVec Ideal ⟨2, ![8192, 5376]⟩ .f32) (T : FVec Ideal ⟨2, ![8192, 128]⟩ .bf16) (LB : FVec Ideal ⟨2, ![128, 5376]⟩ .bf16)
    (C S : FVec Ideal ⟨2, ![8192, 112]⟩ .f32) (b : Fin 2) (h : Fin 24) (R : Fin 4096) (l : Fin 256) (N : Fin 8192) (hN : N.val = b.val * 4096 + R.val) :
    Cert.ProjectQRefIdeal.Gen.k0_pay1 (F := Ideal) A T LB C S (ix4 b h R l)
      = headOf (fun k => A (ix2 N ⟨h.val * 224 + k.val, by omega⟩) + ∑ j, T (ix2 N j) * LB (ix2 j ⟨h.val * 224 + k.val, by omega⟩))
          (fun k => C (ix2 N k)) (fun k => S (ix2 N k)) l := by
  obtain ⟨n, hn⟩ := N
  obtain rfl : n = _ := hN
  exact ref_heads A T LB C S b h R l

/-- The kernel's rotated heads at an element. -/
theorem ker_heads (y : FVec Ideal ⟨2, ![256, 1920]⟩ .f32) (c s : FVec Ideal ⟨2, ![256, 128]⟩ .f32) (h : Fin 8) (r l : Fin 256) :
    Cert.ProjectQIdeal.Body.outOf (F := Ideal) y c s (ix4 0 h r l)
      = headOf (fun k => y (ix2 r ⟨224 * h.val + k.val, by omega⟩)) (fun k => c (ix2 r ⟨k.val, by omega⟩)) (fun k => s (ix2 r ⟨k.val, by omega⟩)) l := by
  have hh := h.isLt
  have hl := l.isLt
  unfold headOf
  by_cases hc : l.val < 128
  · rw [Cert.ProjectQIdeal.Body.outOf_lo y c s h r l hc]
    unfold Cert.ProjectQIdeal.Body.lo
    rw [lo_at]
    by_cases h1 : l.val < 112
    · rw [dif_pos h1, if_pos h1]
      have e : (ix2 r (⟨224 * h.val + 112 + l.val, by omega⟩ : Fin 1920) : Shape.Idx ⟨2, ![256, 1920]⟩) = ix2 r ⟨224 * h.val + (112 + l.val), by omega⟩ := congrArg (ix2 r) (Fin.ext (Nat.add_assoc _ _ _))
      show y (ix2 r ⟨224 * h.val + l.val, by omega⟩) * _ - y (ix2 r ⟨224 * h.val + 112 + l.val, by omega⟩) * _ = _
      rw [e]
    · rw [dif_neg h1, if_neg h1, dif_pos (show l.val - 112 < 16 by omega)]
  · rw [Cert.ProjectQIdeal.Body.outOf_hi y c s h r l hc, dif_neg (show ¬ l.val < 112 by omega), dif_neg (show ¬ l.val - 112 < 16 by omega)]
    unfold Cert.ProjectQIdeal.Body.hi
    rw [hi_at]
    obtain ⟨D, hD⟩ : ∃ D, D = l.val - 112 - 16 := ⟨_, rfl⟩
    have e0 : l.val - 128 = D := by omega
    simp only [← hD, e0]
    by_cases h1 : D < 112
    · rw [dif_pos h1, if_pos h1]
      have e : (ix2 r (⟨224 * h.val + 112 + D, by omega⟩ : Fin 1920) : Shape.Idx ⟨2, ![256, 1920]⟩) = ix2 r ⟨224 * h.val + (112 + D), by omega⟩ := congrArg (ix2 r) (Fin.ext (Nat.add_assoc _ _ _))
      show y (ix2 r ⟨224 * h.val + 112 + D, by omega⟩) * _ + y (ix2 r ⟨224 * h.val + D, by omega⟩) * _ = _
      rw [e]
    · rw [dif_neg h1, if_neg h1]

end Cert.Proof.ProjectQ

end
-- ==== Proof.ProjectQRun.lean ====
module
public import proofs.«01_k».proof.Proof.ProjectQBody

@[expose] public section
set_option maxRecDepth 16384
noncomputable section
namespace Cert.ProjectQIdeal.Body
open Cert.ProjectQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S7168x1792 .bf16 := Memref.whole cc0_scratch0

theorem PhiA_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem first_iff : ∀ t : Fin cfg0.N, Iff (k0_cond1 (grid0.coords t) = 1#1) (t.val % 32 = 0) := (by decide +kernel : ∀ t : Fin grid0.N, _)

/-- The point that widened the weights a point works with: the first of its tile of columns. -/
def tileStart (t : Fin cfg0.N) : Fin cfg0.N := ⟨t.val - t.val % 32, Nat.lt_of_le_of_lt (Nat.sub_le _ _) t.isLt⟩

/-- The widened weights a point works with. -/
def wideAt (c : Dev nD) (t : Fin cfg0.N) : Vec F S7168x1792 .bf16 := wide (F := F) (iblk m c 2 (tileStart t)) (iblk m c 3 (tileStart t))

/-- The block a point stores. -/
def headsAt (c : Dev nD) (t : Fin cfg0.N) : Vec F S1x8x256x256 .bf16 :=
  outOf (F := F) (k0_pay5 (F := F) (iblk m c 0 t) (wideAt m c t) (iblk m c 1 t) (iblk m c 4 t) (iblk m c 5 t)) (iblk m c 6 t) (iblk m c 7 t)

/-- What the scratch buffer holds before position `n`: the widened weights of the tile of columns it is inside of. -/
def Good (c : Dev nD) (n : ℕ) (X : Vec F S7168x1792 .bf16) : Prop :=
  ∀ t : Fin cfg0.N, n % 32 ≠ 0 → t.val + 1 = n → X = wideAt m c t

theorem wide_first (c : Dev nD) (t : Fin cfg0.N) (ht : t.val % 32 = 0) : wide (F := F) (iblk m c 2 t) (iblk m c 3 t) = wideAt m c t := by
  have e : tileStart t = t := Fin.ext (by show t.val - t.val % 32 = t.val; omega)
  unfold wideAt; rw [e]

theorem wide_rest (c : Dev nD) (t : Fin cfg0.N) (ht : ¬ t.val % 32 = 0) (X : Vec F S7168x1792 .bf16) (h : Good m c t.val X) : X = wideAt m c t := by
  have hl := t.isLt
  rw [h ⟨t.val - 1, by omega⟩ ht (by show t.val - 1 + 1 = t.val; omega)]
  have e : tileStart ⟨t.val - 1, by omega⟩ = tileStart t := Fin.ext (by show t.val - 1 - (t.val - 1) % 32 = t.val - t.val % 32; omega)
  unfold wideAt; rw [e]

theorem good_next (c : Dev nD) (t : Fin cfg0.N) : Good m c (t.val + 1) (wideAt m c t) := fun t' _ ht' => by
  have e : t' = t := Fin.ext (by omega)
  rw [e]

/-- The invariant before position `n`: the scratch buffer as `Good` says. -/
def Phi (c : Dev nD) (n : ℕ) (_h : n ≤ cfg0.N) : sProp 𝕄 :=
  iprop((∃ X, ⌜Good m c n X⌝ ∗ owns (c : Thread nD τ) scM0_0 fullShare X) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => headsAt m c t
    | ⟨_ + 9, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = headsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem body_first (c : Dev nD) (t : Fin cfg0.N) (ht : t.val % 32 = 0) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))) := by
  unfold bodyAt0
  simp only [before0_0, before0_1, before0_2, before0_3, before0_4, before0_5, before0_6, before0_7]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi headsAt
  iintro ⟨⟨⟨%X, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hx := wide_first m c t ht
  iapply (sound_first (F := F) c Set.univ (grid0.coords t) ((first_iff t).mpr ht) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  rw [hx]
  iintro ⟨H0, H1, H2, H3, H4, H5, H6, H7, H8, HS0⟩
  isplitl [HS0 Hg]
  · isplitl [HS0]
    · iexists _; isplitr; swap
      · iexact HS0
      ipureintro
      exact good_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_rest (c : Dev nD) (t : Fin cfg0.N) (ht : ¬ t.val % 32 = 0) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))) := by
  unfold bodyAt0
  simp only [before0_0, before0_1, before0_2, before0_3, before0_4, before0_5, before0_6, before0_7]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi headsAt
  iintro ⟨⟨⟨%X, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hx := wide_rest m c t ht X hG
  iapply (sound_rest (F := F) c Set.univ (grid0.coords t) (fun h => ht ((first_iff t).mp h)) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  rw [hx]
  iintro ⟨H0, H1, H2, H3, H4, H5, H6, H7, H8, HS0⟩
  isplitl [HS0 Hg]
  · isplitl [HS0]
    · iexists _; isplitr; swap
      · iexact HS0
      ipureintro
      exact good_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  have i4 : cfg0.idle 4 (cfg0.grid.coords t) = false := rfl
  have i5 : cfg0.idle 5 (cfg0.grid.coords t) = false := rfl
  have i6 : cfg0.idle 6 (cfg0.grid.coords t) = false := rfl
  have i7 : cfg0.idle 7 (cfg0.grid.coords t) = false := rfl
  have i8 : cfg0.idle 8 (cfg0.grid.coords t) = false := rfl
  by_cases ht : t.val % 32 = 0
  · refine triple_restated (body_first m c t ht) rfl .rfl fun _ => ?_
    simp only [i0, i1, i2, i3, i4, i5, i6, i7, i8]
    exact .rfl
  · refine triple_restated (body_rest m c t ht) rfl .rfl fun _ => ?_
    simp only [i0, i1, i2, i3, i4, i5, i6, i7, i8]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨%X, H0⟩, Hg⟩
  isplitl [H0]
  · iexists X; isplitr; swap
    · iexact H0
    ipureintro
    exact fun t h => absurd rfl h
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨%X, %_, H0⟩, Hg⟩
  isplitl [H0]
  · iexists X; iexact H0
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))
end Cert.ProjectQIdeal.Body
end
-- ==== Proof.ProjectQValue.lean ====
/-
  The q projection's array after the run: the reference's function of the argument arrays.
-/
module

public import proofs.«01_k».proof.Proof.ProjectQPay
public import proofs.«01_k».proof.Proof.ProjectQRun
public import proofs.«01_k».proof.Proof.Gen.ProjectQRefIdeal.Value
public import Idealize.ShloMosaic.Lib.Pipeline.ValueKit

@[expose] public section

set_option maxRecDepth 16384

noncomputable section

namespace Cert.Proof.ProjectQ

open Idealize.ShloMosaic Idealize.ShloMosaic.TcCoe Idealize.SL.Sem
open Cert.ProjectQIdeal Cert.ProjectQIdeal.Gen Cert.ProjectQIdeal.Body

variable [Cert.ProjectQRefIdeal.Facts]
variable (m : (l : Loc nD τ sig) → Buf (Elt Ideal) l) (c : Dev nD)

/-- Where each window's block stands: row blocks inside a tile of columns, tile after tile. -/
theorem idx0 : ∀ t : Fin cfg0.N, win0_0.index t = ![t.val % 32, 0] := (by decide +kernel : ∀ t : Fin grid0.N, _)
theorem idx1 : ∀ t : Fin cfg0.N, win0_1.index t = ![t.val % 32, 0] := (by decide +kernel : ∀ t : Fin grid0.N, _)
theorem idx2 : ∀ t : Fin cfg0.N, win0_2.index t = ![0, t.val / 32] := (by decide +kernel : ∀ t : Fin grid0.N, _)
theorem idx3 : ∀ t : Fin cfg0.N, win0_3.index t = ![0, t.val / 32] := (by decide +kernel : ∀ t : Fin grid0.N, _)
theorem idx4 : ∀ t : Fin cfg0.N, win0_4.index t = ![t.val % 32, 0] := (by decide +kernel : ∀ t : Fin grid0.N, _)
theorem idx5 : ∀ t : Fin cfg0.N, win0_5.index t = ![0, t.val / 32] := (by decide +kernel : ∀ t : Fin grid0.N, _)
theorem idx6 : ∀ t : Fin cfg0.N, win0_6.index t = ![t.val % 32, 0] := (by decide +kernel : ∀ t : Fin grid0.N, _)
theorem idx7 : ∀ t : Fin cfg0.N, win0_7.index t = ![t.val % 32, 0] := (by decide +kernel : ∀ t : Fin grid0.N, _)
theorem idx8 : ∀ t : Fin cfg0.N, win0_8.index t = ![t.val % 32 / 16, t.val / 32, t.val % 16, 0] := (by decide +kernel : ∀ t : Fin grid0.N, _)

/-- The array row an element of a point's block stands for, and its array column. -/
def row (t : Fin cfg0.N) (r : Fin 256) : Fin 8192 := ⟨t.val % 32 * 256 + r.val, by have := r.isLt; omega⟩
def col (t : Fin cfg0.N) (l : Fin 1792) : Fin 16128 := ⟨t.val / 32 * 1792 + l.val, by have h : t.val < 96 := t.isLt; have := l.isLt; omega⟩

theorem iblk0 (t : Fin cfg0.N) (r : Fin 256) (k : Fin 7168) : iblk m c 0 t (ix2 r k) = V m c main_arg0 (ix2 (row t r) k) := by
  blk_point [iblk, idx0 t, row]
theorem iblk1 (t : Fin cfg0.N) (r : Fin 256) : iblk m c 1 t (ix2 r 0) = V m c main_arg1 (ix2 (row t r) 0) := by
  blk_point [iblk, idx1 t, row]
theorem iblk2 (t : Fin cfg0.N) (k : Fin 3584) (l : Fin 1792) : iblk m c 2 t (ix2 k l) = V m c main_arg2 (ix2 k (col t l)) := by
  blk_point [iblk, idx2 t, col]
theorem iblk3 (t : Fin cfg0.N) (k : Fin 56) (l : Fin 1792) : iblk m c 3 t (ix2 k l) = V m c main_arg3 (ix2 k (col t l)) := by
  blk_point [iblk, idx3 t, col]
theorem iblk4 (t : Fin cfg0.N) (r : Fin 256) (k : Fin 128) : iblk m c 4 t (ix2 r k) = V m c main_arg4 (ix2 (row t r) ⟨k.val, by omega⟩) := by
  blk_point [iblk, idx4 t, row]
theorem iblk5 (t : Fin cfg0.N) (k : Fin 128) (l : Fin 1792) : iblk m c 5 t (ix2 k l) = V m c main_arg5 (ix2 k (col t l)) := by
  blk_point [iblk, idx5 t, col]
theorem iblk6 (t : Fin cfg0.N) (r : Fin 256) (k : Fin 128) : iblk m c 6 t (ix2 r k) = V m c main_arg6 (ix2 (row t r) k) := by
  blk_point [iblk, idx6 t, row]
theorem iblk7 (t : Fin cfg0.N) (r : Fin 256) (k : Fin 128) : iblk m c 7 t (ix2 r k) = V m c main_arg7 (ix2 (row t r) k) := by
  blk_point [iblk, idx7 t, row]

/-- Where a point's block of heads stands: its batch row, its heads and its positions. -/
def bat (t : Fin cfg0.N) : Fin 2 := ⟨t.val % 32 / 16, by omega⟩
def hd (t : Fin cfg0.N) (h : Fin 8) : Fin 24 := ⟨t.val / 32 * 8 + h.val, by have h : t.val < 96 := t.isLt; omega⟩
def pos (t : Fin cfg0.N) (r : Fin 256) : Fin 4096 := ⟨t.val % 16 * 256 + r.val, by omega⟩

theorem emb8 (t : Fin cfg0.N) (h : Fin 8) (r l : Fin 256) :
    ((View.whole main_v0).slice (win0_8.rect t)).emb (ix4 0 h r l) = ix4 (bat t) (hd t h) (pos t r) l := by
  blk_ext [idx8 t, bat, hd, pos]

theorem col_start (t : Fin cfg0.N) (l : Fin 1792) : col (tileStart t) l = col t l :=
  Fin.ext (by show (t.val - t.val % 32) / 32 * 1792 + l.val = t.val / 32 * 1792 + l.val; omega)

/-- A load of the leading columns of an array, at an element. -/
theorem lead {a b n : ℕ} {e : EltTy} (A : Vec Ideal ⟨2, ![a, n]⟩ e) (h : ∀ d : Fin 2, (![0, 0] : Fin 2 → ℕ) d + (⟨2, ![a, b]⟩ : Shape).size d ≤ (⟨2, ![a, n]⟩ : Shape).size d)
    (k : Fin a) (C : Fin b) (N : Fin n) (hN : N.val = C.val) :
    View.ld A (Rect.unit (s := ⟨2, ![a, n]⟩) ![0, 0] (⟨2, ![a, b]⟩ : Shape).size h) (ix2 k C) = A (ix2 k N) := by
  refine congrArg A (funext fun d => Fin.ext ?_)
  match d with
  | 0 => show 0 + 1 * k.val = k.val; omega
  | 1 => show 0 + 1 * C.val = N.val; omega

/-- The block a point stores, at an element. -/
theorem heads (t : Fin cfg0.N) (h : Fin 8) (r l : Fin 256) :
    headsAt m c t (ix4 0 h r l) = Cert.ProjectQRefIdeal.Value.G8 (F := Ideal) (V m c main_arg0) (V m c main_arg1) (V m c main_arg2) (V m c main_arg3) (V m c main_arg4) (V m c main_arg5) (V m c main_arg6) (V m c main_arg7) (ix4 (bat t) (hd t h) (pos t r) l) := by
  have hh := h.isLt
  have ht : t.val < 96 := t.isLt
  have hR : (row t r).val = (bat t).val * 4096 + (pos t r).val := by
    show t.val % 32 * 256 + r.val = t.val % 32 / 16 * 4096 + (t.val % 16 * 256 + r.val); omega
  unfold headsAt
  refine (ker_heads _ _ _ h r l).trans (Eq.trans ?_ (ref_heads_of _ _ _ _ _ (bat t) (hd t h) (pos t r) l (row t r) hR).symm)
  have hc : ∀ k : Fin 224, (col t ⟨224 * h.val + k.val, by omega⟩).val = (⟨(hd t h).val * 224 + k.val, by have := (hd t h).isLt; omega⟩ : Fin 5376).val := fun k => by
    show t.val / 32 * 1792 + (224 * h.val + k.val) = (t.val / 32 * 8 + h.val) * 224 + k.val; omega
  have e1 : (fun k : Fin 112 => iblk m c 6 t (ix2 r ⟨k.val, by omega⟩)) = fun k => View.ld (V m c main_arg6) Cert.ProjectQRefIdeal.Gen.r0_6 (ix2 (row t r) k) :=
    funext fun k => (iblk6 m c t r _).trans (lead (a := 8192) (b := 112) (n := 128) _ _ _ k _ rfl).symm
  have e2 : (fun k : Fin 112 => iblk m c 7 t (ix2 r ⟨k.val, by omega⟩)) = fun k => View.ld (V m c main_arg7) Cert.ProjectQRefIdeal.Gen.r0_6 (ix2 (row t r) k) :=
    funext fun k => (iblk7 m c t r _).trans (lead (a := 8192) (b := 112) (n := 128) _ _ _ k _ rfl).symm
  refine congr (congr (congr (congrArg headOf (funext fun k => ?_)) e1) e2) rfl
  unfold wideAt
  refine (ker_prod _ _ _ _ _ _ r ⟨224 * h.val + k.val, by omega⟩ _ rfl).trans ?_
  rw [ref_prod]
  have l2 := fun (j : Fin 3584) => lead (a := 3584) (b := 5376) (n := 16128) (V m c main_arg2) Cert.ProjectQRefIdeal.Gen.inb_S3584x16128_S3584x5376_0_0 j _ _ (hc k)
  have l3 := fun (j : Fin 56) => lead (a := 56) (b := 5376) (n := 16128) (V m c main_arg3) Cert.ProjectQRefIdeal.Gen.inb_S56x16128_S56x5376_0_0 j _ _ (hc k)
  have l5 := fun (j : Fin 128) => lead (a := 128) (b := 5376) (n := 16128) (V m c main_arg5) Cert.ProjectQRefIdeal.Gen.inb_S128x16128_S128x5376_0_0 j _ _ (hc k)
  have l4 := fun (j : Fin 128) => lead (a := 8192) (b := 128) (n := 384) (V m c main_arg4) Cert.ProjectQRefIdeal.Gen.inb_S8192x384_S8192x128_0_0 (row t r) j ⟨j.val, by omega⟩ rfl
  simp only [iblk0, iblk1, iblk2, iblk3, iblk4, iblk5, col_start]
  simp only [← l2, ← l3, ← l5, ← l4]

/-- The array after the run. -/
theorem fin8 : (dats m 0 c).arrAt 8 cfg0.N = Cert.ProjectQRefIdeal.Value.G8 (F := Ideal) (V m c main_arg0) (V m c main_arg1) (V m c main_arg2) (V m c main_arg3) (V m c main_arg4) (V m c main_arg5) (V m c main_arg6) (V m c main_arg7) := by
  refine (dats m 0 c).arrAt_eq_of_covers 8 _ (by decide +kernel) fun t hf y => ?_
  blk_simp
  rw [after0_8]
  obtain ⟨h, r, l, rfl⟩ : ∃ (h : Fin 8) (r l : Fin 256), y = ix4 0 h r l := ⟨y 1, y 2, y 3, by
    funext a; match a with | 0 => exact Fin.ext (Nat.lt_one_iff.mp (y 0).isLt) | 1 => rfl | 2 => rfl | 3 => rfl⟩
  rw [emb8]
  exact heads m c t h r l

end Cert.Proof.ProjectQ

end
-- ==== Proof.ProjectQClaim.lean ====
/-
  The q projection: the kernel's results are the reference's.
-/
module

public import proofs.«01_k».proof.Defs
public import proofs.«01_k».proof.Proof.ProjectQValue
public import proofs.«01_k».proof.Proof.Gen.ProjectQRefIdeal.Value

@[expose] public section

noncomputable section

namespace Cert.Proof.ProjectQ

open Idealize.ShloMosaic Idealize.SL.Sem

/-- Both programs run, and from equal arguments their results are equal. -/
theorem algebraic : Cert.algebraic_ProjectQIdeal_ProjectQRefIdeal (hProjectQIdeal := Cert.ProjectQIdeal.Gen.facts)
    (hProjectQRefIdeal := Cert.ProjectQRefIdeal.Gen.facts) := by
  intro m g m' g' _ hargs
  refine ⟨fun c => (Cert.ProjectQIdeal.Body.dats m 0 c).arrAt 8 Cert.ProjectQIdeal.cfg0.N,
    (θ_run _ _ _).mono (fun r h c => ?_) (θ_run_and (Cert.ProjectQIdeal.Body.run_main (F := Ideal) m g) (Cert.ProjectQIdeal.Body.frame (F := Ideal) m g)),
    (θ_run _ _ _).mono (fun r h c => ?_) (Cert.ProjectQRefIdeal.Value.run (F := Ideal) m' g')⟩
  · exact ⟨(h.1 c).1 8, h.2.1 c⟩
  · obtain ⟨h0, hk⟩ := h c
    obtain ⟨a0, a1, a2, a3, a4, a5, a6, a7⟩ := hargs c
    rw [a0, a1, a2, a3, a4, a5, a6, a7] at h0
    exact ⟨h0.trans (fin8 m c).symm, hk⟩

end Cert.Proof.ProjectQ

end
-- ==== Proof.NormPay.lean ====
/-
  The opening norm's arithmetic: each payload of the kernel's row block, at a row, is the reference's payload of the
  whole arrays at the row that block row stands for. The kernel holds the two halves of a row apart, the reference joins them.
-/
module

public import proofs.«01_k».proof.Proof.Gen.NormIdeal.Frame
public import proofs.«01_k».proof.Proof.Gen.NormRefIdeal.Frame
public import proofs.«01_k».proof.Proof.RowBounds

@[expose] public section

set_option maxRecDepth 16384

noncomputable section

namespace Cert.Proof.Norm

open Idealize.ShloMosaic

variable [Cert.NormIdeal.Facts] [Cert.NormRefIdeal.Facts]

/-- A channel of the first half and a channel of the second half, among all 7168. -/
def lo (k : Fin 3584) : Fin 7168 := Fin.castAdd 3584 k
def hi (k : Fin 3584) : Fin 7168 := Fin.natAdd 3584 k

theorem lo_val (k : Fin 3584) : (lo k).val = k.val := rfl
theorem hi_val (k : Fin 3584) : (hi k).val = 3584 + k.val := rfl

/-- Every channel is in one of the halves. -/
theorem halves (k : Fin 7168) : (∃ l, k = lo l) ∨ ∃ l, k = hi l := by
  rcases lt_or_ge k.val 3584 with h | h
  · exact .inl ⟨⟨k.val, h⟩, Fin.ext rfl⟩
  · exact .inr ⟨⟨k.val - 3584, by have := k.isLt; omega⟩, Fin.ext (Nat.add_sub_cancel' h).symm⟩

/-- The greatest entry of a row is the greater of its halves' greatest entries. -/
theorem rowMax_halves (f : Fin 7168 → EReal) :
    max (Rows.rowMax fun k => f (lo k)) (Rows.rowMax fun k => f (hi k)) = Rows.rowMax f := by
  refine eq_of_forall_ge_iff fun c => ?_
  rw [max_le_iff, Rows.rowMax_le, Rows.rowMax_le, Rows.rowMax_le]
  refine ⟨fun h k => ?_, fun h => ⟨fun k => h _, fun k => h _⟩⟩
  rcases halves k with ⟨l, rfl⟩ | ⟨l, rfl⟩
  · exact h.1 l
  · exact h.2 l

/-- The scales of rows held as two matrices, in the operations the kernel writes. -/
def scaleCol2 {M N : Nat} (A B : FVec Ideal ⟨2, ![M, N]⟩ .f32) (hr : Shape.Reduces ⟨2, ![M, N]⟩ [1] ⟨1, ![M]⟩)
    (hc : Shape.ShapeCasts ⟨1, ![M]⟩ ⟨2, ![M, 1]⟩) : FVec Ideal ⟨2, ![M, 1]⟩ .f32 :=
  have v32 : FVec Ideal ⟨2, ![M, 1]⟩ .f32 := maximumf
    (shapeCast ⟨2, ![M, 1]⟩ (multiReduction .maximumf [1] ⟨1, ![M]⟩ (absf A) 0xFF800000#32 hr (.inl rfl) rfl) hc)
    (shapeCast ⟨2, ![M, 1]⟩ (multiReduction .maximumf [1] ⟨1, ![M]⟩ (absf B) 0xFF800000#32 hr (.inl rfl) rfl) hc)
  select (cmpf .oeq v32 (broadcast ⟨2, ![M, 1]⟩ (Scalar.ofBits .f32 0x00000000#32)))
    (broadcast ⟨2, ![M, 1]⟩ (Scalar.ofBits .f32 0x3F800000#32))
    (divf v32 (broadcast ⟨2, ![M, 1]⟩ (Scalar.ofBits .f32 0x43E00000#32)))

theorem scaleCol2_at {M N : Nat} (A B : FVec Ideal ⟨2, ![M, N]⟩ .f32) (hr : Shape.Reduces ⟨2, ![M, N]⟩ [1] ⟨1, ![M]⟩)
    (hc : Shape.ShapeCasts ⟨1, ![M]⟩ ⟨2, ![M, 1]⟩) (r : Fin M) :
    scaleCol2 A B hr hc (ix2 r 0)
      = Rows.scaleOf (max (Rows.rowMax fun k => Rows.mag (A (ix2 r k))) (Rows.rowMax fun k => Rows.mag (B (ix2 r k)))) := by
  have keyA := Rows.multiReduction_max (absf A) hr r
  have keyB := Rows.multiReduction_max (absf B) hr r
  unfold scaleCol2
  generalize multiReduction .maximumf [1] ⟨1, ![M]⟩ (absf A) 0xFF800000#32 hr (.inl rfl) rfl = U at keyA ⊢
  generalize multiReduction .maximumf [1] ⟨1, ![M]⟩ (absf B) 0xFF800000#32 hr (.inl rfl) rfl = W at keyB ⊢
  have hU := Rows.col_at U hc r
  have hW := Rows.col_at W hc r
  generalize shapeCast ⟨2, ![M, 1]⟩ U hc = C at hU ⊢
  generalize shapeCast ⟨2, ![M, 1]⟩ W hc = D at hW ⊢
  pointwise [Rows.scaleOf]
  simp only [hU, hW, keyA, keyB]
  rfl

variable {h e : FVec Ideal ⟨2, ![256, 3584]⟩ .bf16} {H E : FVec Ideal ⟨2, ![8192, 3584]⟩ .bf16}
  {g1 g2 : FVec Ideal ⟨2, ![1, 3584]⟩ .f32} {G : FVec Ideal ⟨2, ![1, 7168]⟩ .f32}
  {a1 a2 : FVec Ideal ⟨2, ![3584, 384]⟩ .bf16} {A : FVec Ideal ⟨2, ![7168, 384]⟩ .bf16}
  {r : Fin 256} {q : Fin 8192}

/-- The normed first half of a row. -/
theorem normedLo (hh : ∀ k, h (ix2 r k) = H (ix2 q k)) (he : ∀ k, e (ix2 r k) = E (ix2 q k))
    (hg : ∀ k, g1 (ix2 0 k) = G (ix2 0 (lo k))) (l : Fin 3584) :
    Cert.NormIdeal.Gen.k0_pay7 (F := Ideal) h e g1 (ix2 r l) = Cert.NormRefIdeal.Gen.k0_pay2 (F := Ideal) H E G (ix2 q (lo l)) := by
  pointwise [Cert.NormIdeal.Gen.k0_pay7, Cert.NormIdeal.Gen.k0_pay6, Cert.NormIdeal.Gen.k0_pay5, Cert.NormIdeal.Gen.k0_pay4, Cert.NormRefIdeal.Gen.k0_pay2]
  rw [dif_pos (show (lo l).val < 3584 from l.isLt), hg]
  simp only [hh, he]
  rfl

/-- The normed second half of a row. -/
theorem normedHi (hh : ∀ k, h (ix2 r k) = H (ix2 q k)) (he : ∀ k, e (ix2 r k) = E (ix2 q k))
    (hg : ∀ k, g2 (ix2 0 k) = G (ix2 0 (hi k))) (l : Fin 3584) :
    Cert.NormIdeal.Gen.k0_pay8 (F := Ideal) h e g2 (ix2 r l) = Cert.NormRefIdeal.Gen.k0_pay2 (F := Ideal) H E G (ix2 q (hi l)) := by
  have hl : (⟨(hi l).val - 3584, by have := (hi l).isLt; omega⟩ : Fin 3584) = l := Fin.ext (by show (hi l).val - 3584 = l.val; rw [hi_val]; omega)
  pointwise [Cert.NormIdeal.Gen.k0_pay8, Cert.NormIdeal.Gen.k0_pay6, Cert.NormIdeal.Gen.k0_pay5, Cert.NormIdeal.Gen.k0_pay4, Cert.NormRefIdeal.Gen.k0_pay2]
  rw [dif_neg (show ¬ (hi l).val < 3584 by rw [hi_val]; omega), hg, hl]
  simp only [hh, he]

theorem scaleK : Cert.NormIdeal.Gen.k0_pay9 (F := Ideal) h e g1 g2
    = scaleCol2 (Cert.NormIdeal.Gen.k0_pay7 (F := Ideal) h e g1) (Cert.NormIdeal.Gen.k0_pay8 (F := Ideal) h e g2)
      Cert.NormIdeal.Facts₀.reduces_S256x3584_S256 Cert.NormIdeal.Facts₀.shapeCasts_S256_S256x1 := by
  unfold Cert.NormIdeal.Gen.k0_pay9 scaleCol2
  rfl

theorem scaleR : Cert.NormRefIdeal.Gen.k0_pay3 (F := Ideal) H E G
    = Rows.scaleCol (Cert.NormRefIdeal.Gen.k0_pay2 (F := Ideal) H E G)
      Cert.NormRefIdeal.Facts₀.reduces_S8192x7168_S8192 Cert.NormRefIdeal.Facts₀.shapeCasts_S8192_S8192x1 := by
  unfold Cert.NormRefIdeal.Gen.k0_pay3 Rows.scaleCol
  rfl

/-- The scale of one row. -/
theorem scale (hh : ∀ k, h (ix2 r k) = H (ix2 q k)) (he : ∀ k, e (ix2 r k) = E (ix2 q k))
    (hg1 : ∀ k, g1 (ix2 0 k) = G (ix2 0 (lo k))) (hg2 : ∀ k, g2 (ix2 0 k) = G (ix2 0 (hi k))) :
    Cert.NormIdeal.Gen.k0_pay9 (F := Ideal) h e g1 g2 (ix2 r 0) = Cert.NormRefIdeal.Gen.k0_pay3 (F := Ideal) H E G (ix2 q 0) := by
  rw [scaleK, scaleR, scaleCol2_at, Rows.scaleCol_at]
  simp only [normedLo hh he hg1, normedHi hh he hg2]
  exact congrArg Rows.scaleOf (rowMax_halves fun k => Rows.mag (Cert.NormRefIdeal.Gen.k0_pay2 (F := Ideal) H E G (ix2 q k)))

/-- The code of an element at its row's scale, clipped to 448. -/
def codeOf (x s : EReal) : EReal :=
  min (Ideal.ofBits .f32 0x43E00000#32) (max (Ideal.ofBits .f32 0xC3E00000#32) (Ideal.div x s))

/-- A matrix' codes at the scales of a second matrix, in the operations both programs write. -/
def codesOf {M N : Nat} (c d : FVec Ideal ⟨2, ![M, N]⟩ .f32) (hl : FTy.bits .fp8e4m3 < FTy.bits .f32) : FVec Ideal ⟨2, ![M, N]⟩ .fp8e4m3 :=
  truncf .fp8e4m3 (minimumf (broadcast ⟨2, ![M, N]⟩ (Scalar.ofBits .f32 0x43E00000#32))
    (maximumf (broadcast ⟨2, ![M, N]⟩ (Scalar.ofBits .f32 0xC3E00000#32)) (divf c d))) hl

theorem codesOf_at {M N : Nat} (c d : FVec Ideal ⟨2, ![M, N]⟩ .f32) (hl : FTy.bits .fp8e4m3 < FTy.bits .f32) (r : Fin M) (k : Fin N) :
    codesOf c d hl (ix2 r k) = codeOf (c (ix2 r k)) (d (ix2 r k)) := by
  pointwise [codesOf, codeOf]

/-- A column of scales spread over a matrix, at the kernel's and the reference's extents. -/
theorem spreadK (b : FVec Ideal ⟨2, ![256, 1]⟩ .f32) (hb : Shape.Broadcasts ⟨2, ![256, 1]⟩ ⟨2, ![256, 3584]⟩) (r : Fin 256) (l : Fin 3584) :
    broadcastTo ⟨2, ![256, 3584]⟩ b hb (ix2 r l) = b (ix2 r 0) := by
  pointwise

theorem spreadR (b : FVec Ideal ⟨2, ![8192, 1]⟩ .f32) (hb : Shape.Broadcasts ⟨2, ![8192, 1]⟩ ⟨2, ![8192, 7168]⟩) (r : Fin 8192) (l : Fin 7168) :
    broadcastTo ⟨2, ![8192, 7168]⟩ b hb (ix2 r l) = b (ix2 r 0) := by
  pointwise

theorem codesLo_eq (a : FVec Ideal ⟨2, ![256, 3584]⟩ .f32) (b : FVec Ideal ⟨2, ![256, 1]⟩ .f32) :
    Cert.NormIdeal.Gen.k0_pay1 (F := Ideal) a b
      = codesOf a (broadcastTo ⟨2, ![256, 3584]⟩ b Cert.NormIdeal.Facts₀.broadcasts_S256x1_S256x3584) Cert.NormIdeal.Facts₀.bitsLt_fp8e4m3_f32 := by
  unfold Cert.NormIdeal.Gen.k0_pay1 codesOf
  rfl

theorem codesHi_eq (a : FVec Ideal ⟨2, ![256, 3584]⟩ .f32) (b : FVec Ideal ⟨2, ![256, 1]⟩ .f32) :
    Cert.NormIdeal.Gen.k0_pay2 (F := Ideal) a b
      = codesOf a (broadcastTo ⟨2, ![256, 3584]⟩ b Cert.NormIdeal.Facts₀.broadcasts_S256x1_S256x3584) Cert.NormIdeal.Facts₀.bitsLt_fp8e4m3_f32 := by
  unfold Cert.NormIdeal.Gen.k0_pay2 codesOf
  rfl

theorem codesR_eq : Cert.NormRefIdeal.Gen.k0_pay4 (F := Ideal) H E G
    = codesOf (Cert.NormRefIdeal.Gen.k0_pay2 (F := Ideal) H E G)
      (broadcastTo ⟨2, ![8192, 7168]⟩ (Cert.NormRefIdeal.Gen.k0_pay3 (F := Ideal) H E G) Cert.NormRefIdeal.Facts₀.broadcasts_S8192x1_S8192x7168)
      Cert.NormRefIdeal.Facts₀.bitsLt_fp8e4m3_f32 := by
  unfold Cert.NormRefIdeal.Gen.k0_pay4 codesOf
  rfl

theorem codesLo (a : FVec Ideal ⟨2, ![256, 3584]⟩ .f32) (b : FVec Ideal ⟨2, ![256, 1]⟩ .f32) (l : Fin 3584) :
    Cert.NormIdeal.Gen.k0_pay1 (F := Ideal) a b (ix2 r l) = codeOf (a (ix2 r l)) (b (ix2 r 0)) := by
  rw [codesLo_eq, codesOf_at, spreadK]

theorem codesHi (a : FVec Ideal ⟨2, ![256, 3584]⟩ .f32) (b : FVec Ideal ⟨2, ![256, 1]⟩ .f32) (l : Fin 3584) :
    Cert.NormIdeal.Gen.k0_pay2 (F := Ideal) a b (ix2 r l) = codeOf (a (ix2 r l)) (b (ix2 r 0)) := by
  rw [codesHi_eq, codesOf_at, spreadK]

theorem codesR (k : Fin 7168) : Cert.NormRefIdeal.Gen.k0_pay4 (F := Ideal) H E G (ix2 q k)
    = codeOf (Cert.NormRefIdeal.Gen.k0_pay2 (F := Ideal) H E G (ix2 q k)) (Cert.NormRefIdeal.Gen.k0_pay3 (F := Ideal) H E G (ix2 q 0)) := by
  rw [codesR_eq, codesOf_at, spreadR]

/-- The low-rank state of one row: the two halves' products together are the whole row's. -/
theorem low (hh : ∀ k, h (ix2 r k) = H (ix2 q k)) (he : ∀ k, e (ix2 r k) = E (ix2 q k))
    (hg1 : ∀ k, g1 (ix2 0 k) = G (ix2 0 (lo k))) (hg2 : ∀ k, g2 (ix2 0 k) = G (ix2 0 (hi k)))
    (ha1 : ∀ k j, a1 (ix2 k j) = A (ix2 (lo k) j)) (ha2 : ∀ k j, a2 (ix2 k j) = A (ix2 (hi k) j)) (j : Fin 384) :
    Cert.NormIdeal.Gen.k0_pay3 (F := Ideal) (Cert.NormIdeal.Gen.k0_pay7 (F := Ideal) h e g1) (Cert.NormIdeal.Gen.k0_pay8 (F := Ideal) h e g2) a1 a2 (ix2 r j)
      = Cert.NormRefIdeal.Gen.k0_pay1 (F := Ideal) (Cert.NormRefIdeal.Gen.k0_pay5 (F := Ideal) H E G) A (ix2 q j) := by
  have n1 := normedLo hh he hg1
  have n2 := normedHi hh he hg2
  unfold Cert.NormRefIdeal.Gen.k0_pay5
  generalize Cert.NormIdeal.Gen.k0_pay7 (F := Ideal) h e g1 = x at n1 ⊢
  generalize Cert.NormIdeal.Gen.k0_pay8 (F := Ideal) h e g2 = y at n2 ⊢
  generalize Cert.NormRefIdeal.Gen.k0_pay2 (F := Ideal) H E G = z at n1 n2 ⊢
  pointwise [Cert.NormIdeal.Gen.k0_pay3, Cert.NormRefIdeal.Gen.k0_pay1]
  simp only [n1, n2, ha1, ha2]
  exact (Fin.sum_univ_add (fun k : Fin (3584 + 3584) => z (ix2 q k) * A (ix2 k j))).symm

end Cert.Proof.Norm

end
-- ==== Proof.NormValue.lean ====
/-
  The opening norm's arrays after the run: each is the reference's function of the argument arrays.
-/
module

public import proofs.«01_k».proof.Proof.NormPay
public import proofs.«01_k».proof.Proof.Gen.NormIdeal.Value
public import proofs.«01_k».proof.Proof.Gen.NormRefIdeal.Value
public import Idealize.ShloMosaic.Lib.Pipeline.ValueKit

@[expose] public section

set_option maxRecDepth 16384

noncomputable section

namespace Cert.Proof.Norm

open Idealize.ShloMosaic Idealize.ShloMosaic.TcCoe Idealize.SL.Sem
open Cert.NormIdeal Cert.NormIdeal.Gen

variable (m : (l : Loc nD τ sig) → Buf (Elt Ideal) l) (c : Dev nD)

/-- Where each window's block stands: the row windows at the point's number, the others at the start. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- The array row a block row stands for. -/
def row (t : Fin cfg0.N) (r : Fin 256) : Fin 8192 := ⟨t.val * 256 + r.val, by have h : t.val < 32 := t.isLt; have := r.isLt; omega⟩

/-- An index of a matrix is its row and its column. -/
theorem at2 {a b : Nat} (y : Shape.Idx ⟨2, ![a, b]⟩) : ∃ (r : Fin a) (l : Fin b), y = ix2 r l := ⟨y 0, y 1, Idealize.ShloMosaic.eq_ix2 y⟩

/-- An index of a column is its row. -/
theorem at1 {a : Nat} (y : Shape.Idx ⟨2, ![a, 1]⟩) : ∃ r : Fin a, y = ix2 r 0 := by
  obtain ⟨r, l, rfl⟩ := at2 y
  exact ⟨r, by rw [Subsingleton.elim l 0]⟩

/-! The blocks the body reads, as parts of the argument arrays. -/

theorem iblk0 (t : Fin cfg0.N) (r : Fin 256) (k : Fin 3584) : iblk m c 0 t (ix2 r k) = V m c main_arg0 (ix2 (row t r) k) := by
  blk_point [iblk, idx0 t, row]

theorem iblk1 (t : Fin cfg0.N) (r : Fin 256) (k : Fin 3584) : iblk m c 1 t (ix2 r k) = V m c main_arg1 (ix2 (row t r) k) := by
  blk_point [iblk, idx1 t, row]

theorem iblk2 (t : Fin cfg0.N) : iblk m c 2 t = V m c main_arg2 := by
  funext y
  obtain ⟨a, b, rfl⟩ := at2 y
  blk_point [iblk, idx2 t]

theorem iblk3 (t : Fin cfg0.N) : iblk m c 3 t = V m c main_arg3 := by
  funext y
  obtain ⟨a, b, rfl⟩ := at2 y
  blk_point [iblk, idx3 t]

/-- Where an output block's element stands in the array. -/
theorem emb4 (t : Fin cfg0.N) (r : Fin 256) (l : Fin 7168) : ((View.whole main_v0_0).slice (win0_4.rect t)).emb (ix2 r l) = ix2 (row t r) l := by
  blk_ext [idx4 t, row]

theorem emb5 (t : Fin cfg0.N) (r : Fin 256) : ((View.whole main_v0_1).slice (win0_5.rect t)).emb (ix2 r 0) = ix2 (row t r) 0 := by
  blk_ext [idx5 t, row]

theorem emb6 (t : Fin cfg0.N) (r : Fin 256) (l : Fin 384) : ((View.whole main_v0_2).slice (win0_6.rect t)).emb (ix2 r l) = ix2 (row t r) l := by
  blk_ext [idx6 t, row]

/-! The halves of a row's gain and of the low-rank weight, and where the two stores of a block stand. -/

theorem whole (x : Vec Ideal S256x3584 .bf16) : View.ld x r0_0 = x :=
  View.ld_unit_zero (S := S256x3584) (by funext a; match a with | 0 => rfl | 1 => rfl) _ x

theorem emb_lo (r : Fin 256) (l : Fin 3584) : r0_4.emb (ix2 r l) = ix2 r (lo l) := by
  funext d; match d with
  | 0 => exact Fin.ext (by show 0 + 1 * r.val = r.val; omega)
  | 1 => exact Fin.ext (by show 0 + 1 * l.val = (lo l).val; rw [lo_val]; omega)

theorem emb_hi (r : Fin 256) (l : Fin 3584) : r0_5.emb (ix2 r l) = ix2 r (hi l) := by
  funext d; match d with
  | 0 => exact Fin.ext (by show 0 + 1 * r.val = r.val; omega)
  | 1 => exact Fin.ext (by show 3584 + 1 * l.val = (hi l).val; rw [hi_val]; omega)

theorem gain_lo (G : Vec Ideal S1x7168 .f32) (l : Fin 3584) : View.ld G r0_1 (ix2 0 l) = G (ix2 0 (lo l)) := by
  refine congrArg G (funext fun d => ?_)
  match d with
  | 0 => rfl
  | 1 => exact Fin.ext (by show 0 + 1 * l.val = (lo l).val; rw [lo_val]; omega)

theorem gain_hi (G : Vec Ideal S1x7168 .f32) (l : Fin 3584) : View.ld G r0_2 (ix2 0 l) = G (ix2 0 (hi l)) := by
  refine congrArg G (funext fun d => ?_)
  match d with
  | 0 => rfl
  | 1 => exact Fin.ext (by show 3584 + 1 * l.val = (hi l).val; rw [hi_val]; omega)

theorem weight_lo (A : Vec Ideal S7168x384 .bf16) (k : Fin 3584) (j : Fin 384) : View.ld A r0_6 (ix2 k j) = A (ix2 (lo k) j) := by
  refine congrArg A (funext fun d => ?_)
  match d with
  | 0 => exact Fin.ext (by show 0 + 1 * k.val = (lo k).val; rw [lo_val]; omega)
  | 1 => exact Fin.ext (by show 0 + 1 * j.val = j.val; omega)

theorem weight_hi (A : Vec Ideal S7168x384 .bf16) (k : Fin 3584) (j : Fin 384) : View.ld A r0_7 (ix2 k j) = A (ix2 (hi k) j) := by
  refine congrArg A (funext fun d => ?_)
  match d with
  | 0 => exact Fin.ext (by show 3584 + 1 * k.val = (hi k).val; rw [hi_val]; omega)
  | 1 => exact Fin.ext (by show 0 + 1 * j.val = j.val; omega)

/-- The scale a point stores for a row. -/
theorem scaleAt (t : Fin cfg0.N) (r : Fin 256) :
    k0_pay12 (F := Ideal) (iblk m c 0 t) (iblk m c 1 t) (iblk m c 2 t) (iblk m c 3 t) (ix2 r 0)
      = Cert.NormRefIdeal.Gen.k0_pay3 (F := Ideal) (V m c main_arg0) (V m c main_arg1) (V m c main_arg2) (ix2 (row t r) 0) := by
  unfold k0_pay12
  rw [whole, whole, iblk2]
  exact scale (iblk0 m c t r) (iblk1 m c t r) (gain_lo _) (gain_hi _)

/-- The normed halves a point computes for a row. -/
theorem loAt (t : Fin cfg0.N) (r : Fin 256) (l : Fin 3584) :
    k0_pay10 (F := Ideal) (iblk m c 0 t) (iblk m c 1 t) (iblk m c 2 t) (iblk m c 3 t) (ix2 r l)
      = Cert.NormRefIdeal.Gen.k0_pay2 (F := Ideal) (V m c main_arg0) (V m c main_arg1) (V m c main_arg2) (ix2 (row t r) (lo l)) := by
  unfold k0_pay10
  rw [whole, whole, iblk2]
  exact normedLo (iblk0 m c t r) (iblk1 m c t r) (gain_lo _) l

theorem hiAt (t : Fin cfg0.N) (r : Fin 256) (l : Fin 3584) :
    k0_pay11 (F := Ideal) (iblk m c 0 t) (iblk m c 1 t) (iblk m c 2 t) (iblk m c 3 t) (ix2 r l)
      = Cert.NormRefIdeal.Gen.k0_pay2 (F := Ideal) (V m c main_arg0) (V m c main_arg1) (V m c main_arg2) (ix2 (row t r) (hi l)) := by
  unfold k0_pay11
  rw [whole, whole, iblk2]
  exact normedHi (iblk0 m c t r) (iblk1 m c t r) (gain_hi _) l

/-- The reference's codes over the rows a point stands for. -/
def blockCodes (t : Fin cfg0.N) (y : S256x7168.Idx) : Ideal .fp8e4m3 :=
  Cert.NormRefIdeal.Gen.k0_pay4 (F := Ideal) (V m c main_arg0) (V m c main_arg1) (V m c main_arg2) (ix2 (row t (y 0)) (y 1))

/-- The codes a point stores, in two pieces, at an element of its block. -/
theorem codesAt (t : Fin cfg0.N) (r : Fin 256) (l : Fin 7168) :
    out0_4 (F := Ideal) (iblk m c 0 t) (iblk m c 1 t) (iblk m c 2 t) (iblk m c 3 t) (ix2 r l)
      = Cert.NormRefIdeal.Gen.k0_pay4 (F := Ideal) (V m c main_arg0) (V m c main_arg1) (V m c main_arg2) (ix2 (row t r) l) := by
  unfold out0_4
  refine View.canon_apply_of_pieces (Val := Elt Ideal) (S := S256x7168) (e := .fp8e4m3)
    (blockCodes m c t)
    _ (fun p hp => ?_) (ix2 r l) (cover0_4 _ _ _)
  rcases List.mem_cons.mp hp with rfl | hp
  · intro x
    obtain ⟨a, b, rfl⟩ := at2 (a := 256) (b := 3584) x
    refine (codesHi _ _ b).trans ?_
    rw [hiAt, scaleAt]
    refine (codesR (hi b)).symm.trans ?_
    exact (congrArg (blockCodes m c t) (emb_hi a b)).symm
  · obtain rfl := List.mem_singleton.mp hp
    intro x
    obtain ⟨a, b, rfl⟩ := at2 (a := 256) (b := 3584) x
    refine (codesLo _ _ b).trans ?_
    rw [loAt, scaleAt]
    refine (codesR (lo b)).symm.trans ?_
    exact (congrArg (blockCodes m c t) (emb_lo a b)).symm

/-! The three arrays after the run. -/

theorem fin4 : (dats m 0 c).arrAt 4 cfg0.N = Cert.NormRefIdeal.Gen.k0_pay4 (F := Ideal) (V m c main_arg0) (V m c main_arg1) (V m c main_arg2) := by
  refine (dats m 0 c).arrAt_eq_of_covers 4 _ (by decide +kernel) fun t hf y => ?_
  blk_simp
  rw [after0_4]
  obtain ⟨r, l, rfl⟩ := at2 (a := 256) (b := 7168) y
  rw [emb4]
  exact codesAt m c t r l

theorem fin5 : (dats m 0 c).arrAt 5 cfg0.N = Cert.NormRefIdeal.Gen.k0_pay3 (F := Ideal) (V m c main_arg0) (V m c main_arg1) (V m c main_arg2) := by
  refine (dats m 0 c).arrAt_eq_of_covers 5 _ (by decide +kernel) fun t hf y => ?_
  blk_simp
  rw [after0_5]
  unfold out0_5
  rw [View.canon_unit_zero (by funext a; match a with | 0 => rfl | 1 => rfl)]
  obtain ⟨r, rfl⟩ := at1 (a := 256) y
  rw [emb5]
  exact scaleAt m c t r

theorem fin6 : (dats m 0 c).arrAt 6 cfg0.N = Cert.NormRefIdeal.Gen.k0_pay1 (F := Ideal)
    (Cert.NormRefIdeal.Gen.k0_pay5 (F := Ideal) (V m c main_arg0) (V m c main_arg1) (V m c main_arg2)) (V m c main_arg3) := by
  refine (dats m 0 c).arrAt_eq_of_covers 6 _ (by decide +kernel) fun t hf y => ?_
  blk_simp
  rw [after0_6]
  unfold out0_6 k0_pay10 k0_pay11
  rw [View.canon_unit_zero (by funext a; match a with | 0 => rfl | 1 => rfl)]
  obtain ⟨r, l, rfl⟩ := at2 (a := 256) (b := 384) y
  rw [emb6, whole, whole, iblk2, iblk3]
  exact low (iblk0 m c t r) (iblk1 m c t r) (gain_lo _) (gain_hi _) (weight_lo _) (weight_hi _) l

end Cert.Proof.Norm

end
-- ==== Proof.NormClaim.lean ====
/-
  The opening norm: the kernel's results are the reference's.
-/
module

public import proofs.«01_k».proof.Defs
public import proofs.«01_k».proof.Proof.NormValue

@[expose] public section

noncomputable section

namespace Cert.Proof.Norm

open Idealize.ShloMosaic Idealize.SL.Sem

/-- Both programs run, and from equal arguments their results are equal. -/
theorem algebraic : Cert.algebraic_NormIdeal_NormRefIdeal (hNormIdeal := Cert.NormIdeal.Gen.facts)
    (hNormRefIdeal := Cert.NormRefIdeal.Gen.facts) := by
  intro m g m' g' _ hargs
  refine ⟨fun c => (Cert.NormIdeal.Gen.dats m 0 c).arrAt 4 Cert.NormIdeal.cfg0.N,
    fun c => (Cert.NormIdeal.Gen.dats m 0 c).arrAt 5 Cert.NormIdeal.cfg0.N,
    fun c => (Cert.NormIdeal.Gen.dats m 0 c).arrAt 6 Cert.NormIdeal.cfg0.N,
    Cert.NormIdeal.Value.run_blocks (F := Ideal) m g,
    (θ_run _ _ _).mono (fun r h c => ?_) (Cert.NormRefIdeal.Value.run (F := Ideal) m' g')⟩
  obtain ⟨h0, h1, h2, hk⟩ := h c
  obtain ⟨a0, a1, a2, a3⟩ := hargs c
  rw [a0, a1, a2, a3] at h0 h1 h2
  exact ⟨h0.trans (fin4 m c).symm, h1.trans (fin5 m c).symm, h2.trans (fin6 m c).symm, hk⟩

end Cert.Proof.Norm

end
-- ==== Proof.BitsWide.lean ====
module
public import proofs.«01_k».proof.Proof.Gen.Down.Loops
public import proofs.«01_k».proof.Proof.Groups

@[expose] public section
set_option maxRecDepth 16384
noncomputable section
namespace Cert.Down.Body
open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S5376x512 .i8) (k : Fin 42) : Vec F S128x512 .i8 :=
  fun z => x (ix2 ⟨128 * k.val + (z 0).val, by have := (z 0).isLt; have h : S128x512.size 0 = 128 := rfl; omega⟩ (z 1))
/-- The scales of weight group `g`. -/
def sRow (x : Vec F S84x512 .f32) (g : Fin 84) : Vec F S1x512 .f32 := fun z => x (ix2 g (z 1))

/-- What one trip of the loop stores: its group of widened weights. -/
theorem tripL_t1 (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (k : Fin k0_t1_loop.trips) :
    ∃ inb, tripL_k0_t1 (F := F) 𝒱 c bd i arg2 harg2 arg3 harg3 arg4 harg4 arg5 harg5 arg6 harg6 arg7 harg7 arg8 harg8 arg9 harg9 arg10 harg10 X4 X5 k
      = [⟨Rect.unit (s := S10752x512) (k0_off3 k) S128x512.size inb, k0_pay13 (F := F) (wBlk (arg4.view.read (Elt F) X4) ⟨k.val, k.isLt⟩) (sRow (arg5.view.read (Elt F) X5) ⟨k.val, Nat.lt_of_lt_of_le (k.isLt) (by decide)⟩)⟩] := by
  refine ⟨k0_off3_inb k, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg4.view.read (Elt F) X4) ⟨k.val, k.isLt⟩
      = View.readAt (Elt F) arg4.view (Rect.unit (s := S5376x512) (k0_off1 k) S128x512.size (k0_off1_inb k)).toLoadRect X4 := by
    funext z
    refine congrArg (arg4.view.read (Elt F) X4) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg5.view.read (Elt F) X5) ⟨k.val, Nat.lt_of_lt_of_le (k.isLt) (by decide)⟩
      = View.readAt (Elt F) arg5.view (Rect.unit (s := S84x512) (k0_off2 k) S1x512.size (k0_off2_inb k)).toLoadRect X5 := by
    funext z
    refine congrArg (arg5.view.read (Elt F) X5) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of the loop stores: its group of widened weights. -/
theorem tripL_t2 (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (k : Fin k0_t2_loop.trips) :
    ∃ inb, tripL_k0_t2 (F := F) 𝒱 c bd i arg2 harg2 arg3 harg3 arg4 harg4 arg5 harg5 arg6 harg6 arg7 harg7 arg8 harg8 arg9 harg9 arg10 harg10 X4 X5 k
      = [⟨Rect.unit (s := S10752x512) (k0_off6 k) S128x512.size inb, k0_pay14 (F := F) (wBlk (arg4.view.read (Elt F) X4) ⟨k.val, k.isLt⟩) (sRow (arg5.view.read (Elt F) X5) ⟨42 + k.val, Nat.lt_of_lt_of_le (Nat.add_lt_add_left k.isLt 42) (by decide)⟩)⟩] := by
  refine ⟨k0_off6_inb k, ?_⟩
  have e1 : ∀ k : Fin k0_t2_loop.trips, k0_off4 k = ![128 * k.val, 0] := by decide +kernel
  have e2 : ∀ k : Fin k0_t2_loop.trips, k0_off5 k = ![42 + k.val, 0] := by decide +kernel
  have hw : wBlk (F := F) (arg4.view.read (Elt F) X4) ⟨k.val, k.isLt⟩
      = View.readAt (Elt F) arg4.view (Rect.unit (s := S5376x512) (k0_off4 k) S128x512.size (k0_off4_inb k)).toLoadRect X4 := by
    funext z
    refine congrArg (arg4.view.read (Elt F) X4) (funext fun a => Fin.ext ?_)
    match a with
    | 0 => show _ = k0_off4 k 0 + 1 * (z 0).val; rw [e1 k]; show _ = 128 * k.val + _; rw [Nat.one_mul]; rfl
    | 1 => show _ = k0_off4 k 1 + 1 * (z 1).val; rw [e1 k]; show _ = 0 + _; rw [Nat.one_mul, Nat.zero_add]; rfl
  have hs : sRow (F := F) (arg5.view.read (Elt F) X5) ⟨42 + k.val, Nat.lt_of_lt_of_le (Nat.add_lt_add_left k.isLt 42) (by decide)⟩
      = View.readAt (Elt F) arg5.view (Rect.unit (s := S84x512) (k0_off5 k) S1x512.size (k0_off5_inb k)).toLoadRect X5 := by
    funext z
    refine congrArg (arg5.view.read (Elt F) X5) (funext fun a => Fin.ext ?_)
    match a with
    | 0 => show _ = k0_off5 k 0 + 1 * (z 0).val; rw [e2 k]; have h0 : (z 0).val = 0 := Nat.lt_one_iff.mp (z 0).isLt; rw [h0]; rfl
    | 1 => show _ = k0_off5 k 1 + 1 * (z 1).val; rw [e2 k]; show _ = 0 + _; rw [Nat.one_mul, Nat.zero_add]; rfl
  rw [hw, hs]
  unfold tripL_k0_t2 trip_k0_t2
  rfl

/-- The widened weights: rows of the low nibbles, then rows of the high nibbles, group by group. -/
def wide (x2 : Vec F S5376x512 .i8) (x3 : Vec F S84x512 .f32) : Vec F S10752x512 .bf16 := fun y =>
  if h : (y 0).val < 5376 then
    k0_pay13 (F := F) (wBlk x2 ⟨(y 0).val / 128, by omega⟩) (sRow x3 ⟨(y 0).val / 128, by omega⟩) (Groups.inGroup (W := 128) (by decide) (y 0).val (y 1))
  else
    k0_pay14 (F := F) (wBlk x2 ⟨((y 0).val - 5376) / 128, by have := (y 0).isLt; have e : S10752x512.size 0 = 10752 := rfl; omega⟩)
      (sRow x3 ⟨42 + ((y 0).val - 5376) / 128, by have := (y 0).isLt; have e : S10752x512.size 0 = 10752 := rfl; omega⟩)
      (Groups.inGroup (W := 128) (by decide) ((y 0).val - 5376) (y 1))

/-- After both loops the scratch reads as the widened weights, whatever it held. -/
theorem read_wide (𝒱 : Variants) (c : Dev nD) (bd : Option 𝒱.V) (i : grid0.Coords) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (X4 : BufTy.Contents (Elt F) arg4.view.ty) (X5 : BufTy.Contents (Elt F) arg5.view.ty) (f : BufTy.Contents (Elt F) arg8.view.ty) :
    arg8.view.read (Elt F) (arg8.view.writes (Elt F) f
        (pb_k0_t2 (F := F) 𝒱 c bd i arg2 harg2 arg3 harg3 arg4 harg4 arg5 harg5 arg6 harg6 arg7 harg7 arg8 harg8 arg9 harg9 arg10 harg10 X4 X5 42 ++ pb_k0_t1 (F := F) 𝒱 c bd i arg2 harg2 arg3 harg3 arg4 harg4 arg5 harg5 arg6 harg6 arg7 harg7 arg8 harg8 arg9 harg9 arg10 harg10 X4 X5 42))
      = wide (F := F) (arg4.view.read (Elt F) X4) (arg5.view.read (Elt F) X5) := by
  funext y
  obtain ⟨r, l, rfl⟩ : ∃ (r : Fin 10752) (l : Fin 512), y = ix2 r l := ⟨y 0, y 1, by funext a; match a with | 0 => rfl | 1 => rfl⟩
  have o3 : ∀ k : Fin k0_t1_loop.trips, k0_off3 k = ![0 + 128 * k.val, 0] := by decide +kernel
  have o6 : ∀ k : Fin k0_t2_loop.trips, k0_off6 k = ![5376 + 128 * k.val, 0] := by decide +kernel
  have g2 := Groups.read_groups (W := 128) (by decide) arg8.view f 5376 42
    (fun k => if h : k < 42 then k0_pay14 (F := F) (wBlk (arg4.view.read (Elt F) X4) ⟨k, h⟩) (sRow (arg5.view.read (Elt F) X5) ⟨42 + k, by omega⟩) else fun _ => arg8.view.read (Elt F) f (ix2 r l))
    (pb_k0_t2 (F := F) 𝒱 c bd i arg2 harg2 arg3 harg3 arg4 harg4 arg5 harg5 arg6 harg6 arg7 harg7 arg8 harg8 arg9 harg9 arg10 harg10 X4 X5) rfl
    (fun k hk => by
      obtain ⟨inb, e⟩ := tripL_t2 (F := F) 𝒱 c bd i arg2 harg2 arg3 harg3 arg4 harg4 arg5 harg5 arg6 harg6 arg7 harg7 arg8 harg8 arg9 harg9 arg10 harg10 X4 X5 ⟨k, hk⟩
      refine ⟨k0_off6 ⟨k, hk⟩, inb, o6 ⟨k, hk⟩, ?_⟩
      rw [dif_pos hk, ← e]
      exact pb_k0_t2_succ (F := F) 𝒱 c bd i arg2 harg2 arg3 harg3 arg4 harg4 arg5 harg5 arg6 harg6 arg7 harg7 arg8 harg8 arg9 harg9 arg10 harg10 X4 X5 ⟨k, hk⟩) 42 le_rfl
  have g1 := Groups.read_groups (W := 128) (by decide) arg8.view f 0 42
    (fun k => if h : k < 42 then k0_pay13 (F := F) (wBlk (arg4.view.read (Elt F) X4) ⟨k, h⟩) (sRow (arg5.view.read (Elt F) X5) ⟨k, by omega⟩) else fun _ => arg8.view.read (Elt F) f (ix2 r l))
    (pb_k0_t1 (F := F) 𝒱 c bd i arg2 harg2 arg3 harg3 arg4 harg4 arg5 harg5 arg6 harg6 arg7 harg7 arg8 harg8 arg9 harg9 arg10 harg10 X4 X5) rfl
    (fun k hk => by
      obtain ⟨inb, e⟩ := tripL_t1 (F := F) 𝒱 c bd i arg2 harg2 arg3 harg3 arg4 harg4 arg5 harg5 arg6 harg6 arg7 harg7 arg8 harg8 arg9 harg9 arg10 harg10 X4 X5 ⟨k, hk⟩
      refine ⟨k0_off3 ⟨k, hk⟩, inb, o3 ⟨k, hk⟩, ?_⟩
      rw [dif_pos hk, ← e]
      exact pb_k0_t1_succ (F := F) 𝒱 c bd i arg2 harg2 arg3 harg3 arg4 harg4 arg5 harg5 arg6 harg6 arg7 harg7 arg8 harg8 arg9 harg9 arg10 harg10 X4 X5 ⟨k, hk⟩) 42 le_rfl [] r l
  rw [List.append_nil] at g1
  rw [g2 _ r l, g1]
  unfold wide
  have hr := r.isLt
  by_cases h : r.val < 5376
  · rw [if_neg (by omega), if_pos (by omega), dif_pos (show ((ix2 r l : S10752x512.Idx) 0).val < 5376 from h), dif_pos (by omega)]; rfl
  · rw [if_pos (by omega), dif_neg (show ¬ ((ix2 r l : S10752x512.Idx) 0).val < 5376 from h), dif_pos (by omega)]; rfl
end Cert.Down.Body
end
-- ==== Proof.BitsBody.lean ====
module
public import proofs.«01_k».proof.Proof.Gen.Down.Frame
public import proofs.«01_k».proof.Proof.BitsWide

@[expose] public section
set_option maxRecDepth 16384
noncomputable section
namespace Cert.Down.Body
open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The condition of the first point of a row of the grid. -/
theorem first_iff : ∀ j : Fin 7, Iff (Scalar.cmpi .ne (Scalar.extui (Scalar.cmpi .eq (BitVec.ofNat 32 j.val) 0#32)) 0#32 = 1#1) (j.val = 0) := by decide +kernel

/-- The products' scratch after a point: that point's slot at its product. -/
def yNext (i : grid0.Coords) (y : Vec F S7x512x512 .f32) (x0 : Vec F S512x10752 .fp8e4m3) (x1 : Vec F S512x1 .f32) (x2 : Vec F S5376x512 .i8) (x3 : Vec F S84x512 .f32) : Vec F S7x512x512 .f32 :=
  VecWindow.put y (k0_off7 i) S1x512x512.size (k0_pay16 (F := F) x0 (wide (F := F) x2 x3) x1)

/-- The running maxima after a point. -/
def aNext (i : grid0.Coords) (a : Vec F S512x128 .f32) (x0 : Vec F S512x10752 .fp8e4m3) (x1 : Vec F S512x1 .f32) (x2 : Vec F S5376x512 .i8) (x3 : Vec F S84x512 .f32) : Vec F S512x128 .f32 :=
  k0_pay1 (F := F) (k0_pay17 (F := F) x0 (wide (F := F) x2 x3) x1 (if (i 1).val = 0 then k0_pay12 (F := F) else a))

set_option maxHeartbeats 4000000 in
theorem sound_step (c : Dev nD) (E : Set ℕ) (i : grid0.Coords) (h2 : ¬ k0_cond2 i = 1#1) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (x0 : Vec F S512x10752 .fp8e4m3) (x1 : Vec F S512x1 .f32) (x2 : Vec F S5376x512 .i8) (x3 : Vec F S84x512 .f32) (x4 : Vec F S512x3584 .fp8e4m3) (x5 : Vec F S512x1 .f32) (x6 : Vec F S10752x512 .bf16) (x7 : Vec F S7x512x512 .f32) (x8 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (yNext (F := F) i x7 x0 x1 x2 x3) ∗ owns (c : Thread nD τ) arg10 fullShare (aNext (F := F) i x8 x0 x1 x2 x3)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  have e7 : sound_step.sl.v7 c i arg2 harg2 arg3 harg3 arg4 harg4 arg5 harg5 arg6 harg6 arg7 harg7 arg8 harg8 arg9 harg9 arg10 harg10 f2 f3 f6 = wide (F := F) (arg4.view.read (Elt F) f2) (arg5.view.read (Elt F) f3) := by
    unfold sound_step.sl.v7
    exact (View.readAt_full _ _ _).trans (read_wide (F := F) Variants.none c none i arg2 harg2 arg3 harg3 arg4 harg4 arg5 harg5 arg6 harg6 arg7 harg7 arg8 harg8 arg9 harg9 arg10 harg10 f2 f3 f6)
  have e18 : sound_step.sl.v18 c i arg10 f8 = (if (i 1).val = 0 then k0_pay12 (F := F) else arg10.view.read (Elt F) f8) := by
    unfold sound_step.sl.v18
    refine (View.readAt_full _ _ _).trans ?_
    have hc : sound_step.sl.v2 i = 1#1 ↔ (i 1).val = 0 := by
      unfold sound_step.sl.v2 sound_step.sl.v1
      exact first_iff (i 1)
    by_cases h0 : (i 1).val = 0
    · rw [dif_pos (hc.mpr h0), if_pos h0]; exact View.read_writes_full _ _ _ _ _
    · rw [dif_neg (fun h => h0 (hc.mp h)), if_neg h0]
  have er : sound_step.sl.r c i arg2 harg2 arg3 harg3 arg4 harg4 arg5 harg5 arg6 harg6 arg7 harg7 arg8 harg8 arg9 harg9 arg10 harg10 f0 f1 f2 f3 f6 f8 = k0_pay17 (F := F) (arg2.view.read (Elt F) f0) (wide (F := F) (arg4.view.read (Elt F) f2) (arg5.view.read (Elt F) f3)) (arg3.view.read (Elt F) f1) (if (i 1).val = 0 then k0_pay12 (F := F) else arg10.view.read (Elt F) f8) := by
    unfold sound_step.sl.r
    rw [e7, e18, View.readAt_full, View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists _; iexists _; isplitr; swap; · iexact H6
                  ipureintro; rfl
  isplitl [H7]
  · iexists _; isplitr; swap; · iexact H7
    ipureintro
    unfold yNext
    rw [e7, View.readAt_full, View.readAt_full]
    exact View.read_writes_cons_put _ _ _ _ [] rfl
  iexists _; isplitr; swap; · iexact H8
  ipureintro
  unfold aNext
  rw [er]
  exact View.read_writes_full _ _ _ _ _

/-- Slot `j` of the products' scratch. -/
def slot (y : Vec F S7x512x512 .f32) (j : Fin 7) : Vec F S1x512x512 .f32 :=
  fun z => y (ix3 j (z 1) (z 2))

/-- The codes written after the last slot: tile `q` of the columns from slot `q`. -/
def codesOf (a : Vec F S512x128 .f32) (y : Vec F S7x512x512 .f32) : Vec F S512x3584 .fp8e4m3 := fun z =>
  k0_pay5 (F := F) a (slot y ⟨(z 1).val / 512, by have := (z 1).isLt; have h : S512x3584.size 1 = 3584 := rfl; omega⟩)
    (ix2 (z 0) ⟨(z 1).val % 512, Nat.mod_lt _ (by decide)⟩)

/-- A store of a tile of 512 columns, read at an index. -/
theorem read_cons_col {arg6 : Memref sig .tc .vmem S512x3584 .fp8e4m3} (f : BufTy.Contents (Elt F) arg6.view.ty) (o : ℕ)
    (inb : ∀ a : Fin 2, (![0, o] : Fin 2 → ℕ) a + S512x512.size a ≤ S512x3584.size a) (w : Vec F S512x512 .fp8e4m3)
    (L : List (View.Piece (Elt F) S512x3584 .fp8e4m3)) (r : Fin 512) (l : Fin 3584) :
    arg6.view.read (Elt F) (arg6.view.writes (Elt F) f (⟨Rect.unit (s := S512x3584) ![0, o] S512x512.size inb, w⟩ :: L)) (ix2 r l)
      = if h : o ≤ l.val ∧ l.val < o + 512 then w (ix2 r ⟨l.val - o, by omega⟩) else arg6.view.read (Elt F) (arg6.view.writes (Elt F) f L) (ix2 r l) := by
  by_cases h : o ≤ l.val ∧ l.val < o + 512
  · rw [dif_pos h]
    refine View.read_writes_cons_unit_of_mem arg6.view f inb w L (ix2 r l) (ix2 r (⟨l.val - o, by omega⟩ : Fin 512)) rfl fun a => ?_
    match a with
    | 0 => exact (Nat.zero_add _).symm
    | 1 => show l.val = o + (l.val - o); omega
  · rw [dif_neg h]
    refine View.read_writes_cons_unit_of_not_mem _ _ _ _ _ _ rfl 1 ?_
    show l.val < o ∨ o + 512 ≤ l.val
    omega

/-- The seven stores of the codes, read as `codesOf`. -/
theorem read_codes {arg6 : Memref sig .tc .vmem S512x3584 .fp8e4m3} (f : BufTy.Contents (Elt F) arg6.view.ty)
    (a : Vec F S512x128 .f32) (y : Vec F S7x512x512 .f32) (i0 i1 i2 i3 i4 i5 i6) :
    arg6.view.read (Elt F) (arg6.view.writes (Elt F) f
      [⟨Rect.unit (s := S512x3584) ![0, 3072] S512x512.size i6, k0_pay5 (F := F) a (slot y 6)⟩,
       ⟨Rect.unit (s := S512x3584) ![0, 2560] S512x512.size i5, k0_pay5 (F := F) a (slot y 5)⟩,
       ⟨Rect.unit (s := S512x3584) ![0, 2048] S512x512.size i4, k0_pay5 (F := F) a (slot y 4)⟩,
       ⟨Rect.unit (s := S512x3584) ![0, 1536] S512x512.size i3, k0_pay5 (F := F) a (slot y 3)⟩,
       ⟨Rect.unit (s := S512x3584) ![0, 1024] S512x512.size i2, k0_pay5 (F := F) a (slot y 2)⟩,
       ⟨Rect.unit (s := S512x3584) ![0, 512] S512x512.size i1, k0_pay5 (F := F) a (slot y 1)⟩,
       ⟨Rect.unit (s := S512x3584) ![0, 0] S512x512.size i0, k0_pay5 (F := F) a (slot y 0)⟩]) = codesOf a y := by
  funext z
  obtain ⟨r, l, rfl⟩ : ∃ (r : Fin 512) (l : Fin 3584), z = ix2 r l := ⟨z 0, z 1, by funext a; match a with | 0 => rfl | 1 => rfl⟩
  have hl := l.isLt
  have key : ∀ (q : Fin 7) (h : 512 * q.val ≤ l.val ∧ l.val < 512 * q.val + 512),
      codesOf a y (ix2 r l) = k0_pay5 (F := F) a (slot y q) (ix2 r ⟨l.val - 512 * q.val, by omega⟩) := fun q h => by
    have e1 : (⟨l.val / 512, by omega⟩ : Fin 7) = q := Fin.ext (by show l.val / 512 = q.val; omega)
    have e2 : (⟨l.val % 512, Nat.mod_lt _ (by decide)⟩ : Fin 512) = ⟨l.val - 512 * q.val, by omega⟩ := Fin.ext (by show l.val % 512 = l.val - 512 * q.val; omega)
    show k0_pay5 (F := F) a (slot y ⟨l.val / 512, _⟩) (ix2 r ⟨l.val % 512, _⟩) = _
    rw [e1, e2]
  by_cases c6 : 3072 ≤ l.val
  · rw [read_cons_col, dif_pos (by omega)]; exact (key 6 (by show 512 * 6 ≤ _ ∧ _ < 512 * 6 + 512; omega)).symm
  by_cases c5 : 2560 ≤ l.val
  · rw [read_cons_col, dif_neg (by omega), read_cons_col, dif_pos (by omega)]; exact (key 5 (by show 512 * 5 ≤ _ ∧ _ < 512 * 5 + 512; omega)).symm
  by_cases c4 : 2048 ≤ l.val
  · rw [read_cons_col, dif_neg (by omega), read_cons_col, dif_neg (by omega), read_cons_col, dif_pos (by omega)]; exact (key 4 (by show 512 * 4 ≤ _ ∧ _ < 512 * 4 + 512; omega)).symm
  by_cases c3 : 1536 ≤ l.val
  · rw [read_cons_col, dif_neg (by omega), read_cons_col, dif_neg (by omega), read_cons_col, dif_neg (by omega), read_cons_col, dif_pos (by omega)]; exact (key 3 (by show 512 * 3 ≤ _ ∧ _ < 512 * 3 + 512; omega)).symm
  by_cases c2 : 1024 ≤ l.val
  · rw [read_cons_col, dif_neg (by omega), read_cons_col, dif_neg (by omega), read_cons_col, dif_neg (by omega), read_cons_col, dif_neg (by omega), read_cons_col, dif_pos (by omega)]; exact (key 2 (by show 512 * 2 ≤ _ ∧ _ < 512 * 2 + 512; omega)).symm
  by_cases c1 : 512 ≤ l.val
  · rw [read_cons_col, dif_neg (by omega), read_cons_col, dif_neg (by omega), read_cons_col, dif_neg (by omega), read_cons_col, dif_neg (by omega), read_cons_col, dif_neg (by omega), read_cons_col, dif_pos (by omega)]; exact (key 1 (by show 512 * 1 ≤ _ ∧ _ < 512 * 1 + 512; omega)).symm
  rw [read_cons_col, dif_neg (by omega), read_cons_col, dif_neg (by omega), read_cons_col, dif_neg (by omega), read_cons_col, dif_neg (by omega), read_cons_col, dif_neg (by omega), read_cons_col, dif_neg (by omega), read_cons_col, dif_pos (by omega)]
  exact (key 0 (by show 512 * 0 ≤ _ ∧ _ < 512 * 0 + 512; omega)).symm

/-- A load of one slot of the products' scratch. -/
theorem readAt_slot {arg9 : Memref sig .tc .vmem S7x512x512 .f32} (f : BufTy.Contents (Elt F) arg9.view.ty) (j : Fin 7)
    (inb : ∀ a : Fin 3, (![j.val, 0, 0] : Fin 3 → ℕ) a + S1x512x512.size a ≤ S7x512x512.size a) :
    View.readAt (Elt F) arg9.view (Rect.unit (s := S7x512x512) ![j.val, 0, 0] S1x512x512.size inb).toLoadRect f = slot (arg9.view.read (Elt F) f) j := by
  funext z
  refine congrArg (arg9.view.read (Elt F) f) (funext fun a => Fin.ext ?_)
  match a with
  | 0 => show j.val + 1 * (z 0).val = j.val; have h0 : (z 0).val = 0 := Nat.lt_one_iff.mp (z 0).isLt; omega
  | 1 => show 0 + 1 * (z 1).val = (z 1).val; omega
  | 2 => show 0 + 1 * (z 2).val = (z 2).val; omega

set_option maxHeartbeats 4000000 in
theorem sound_last (c : Dev nD) (E : Set ℕ) (i : grid0.Coords) (h2 : k0_cond2 i = 1#1) (arg2 : Memref sig .tc .vmem S512x10752 .fp8e4m3) (harg2 : arg2.IsWhole) (arg3 : Memref sig .tc .vmem S512x1 .f32) (harg3 : arg3.IsWhole) (arg4 : Memref sig .tc .vmem S5376x512 .i8) (harg4 : arg4.IsWhole) (arg5 : Memref sig .tc .vmem S84x512 .f32) (harg5 : arg5.IsWhole) (arg6 : Memref sig .tc .vmem S512x3584 .fp8e4m3) (harg6 : arg6.IsWhole) (arg7 : Memref sig .tc .vmem S512x1 .f32) (harg7 : arg7.IsWhole) (arg8 : Memref sig .tc .vmem S10752x512 .bf16) (harg8 : arg8.IsWhole) (arg9 : Memref sig .tc .vmem S7x512x512 .f32) (harg9 : arg9.IsWhole) (arg10 : Memref sig .tc .vmem S512x128 .f32) (harg10 : arg10.IsWhole)
    (x0 : Vec F S512x10752 .fp8e4m3) (x1 : Vec F S512x1 .f32) (x2 : Vec F S5376x512 .i8) (x3 : Vec F S84x512 .f32) (x4 : Vec F S512x3584 .fp8e4m3) (x5 : Vec F S512x1 .f32) (x6 : Vec F S10752x512 .bf16) (x7 : Vec F S7x512x512 .f32) (x8 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (codesOf (F := F) (aNext (F := F) i x8 x0 x1 x2 x3) (yNext (F := F) i x7 x0 x1 x2 x3)) ∗ owns (c : Thread nD τ) arg7 fullShare (k0_pay4 (F := F) (aNext (F := F) i x8 x0 x1 x2 x3)) ∗ (∃ d, owns (c : Thread nD τ) arg8 fullShare d) ∗ owns (c : Thread nD τ) arg9 fullShare (yNext (F := F) i x7 x0 x1 x2 x3) ∗ owns (c : Thread nD τ) arg10 fullShare (aNext (F := F) i x8 x0 x1 x2 x3)) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10) K := by
  simp only [cc0_down_eq_skeleton]; unfold cc0_down_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  have e7 : sound_last.sl.v7 c i arg2 harg2 arg3 harg3 arg4 harg4 arg5 harg5 arg6 harg6 arg7 harg7 arg8 harg8 arg9 harg9 arg10 harg10 f2 f3 f6 = wide (F := F) (arg4.view.read (Elt F) f2) (arg5.view.read (Elt F) f3) := by
    unfold sound_last.sl.v7
    exact (View.readAt_full _ _ _).trans (read_wide (F := F) Variants.none c none i arg2 harg2 arg3 harg3 arg4 harg4 arg5 harg5 arg6 harg6 arg7 harg7 arg8 harg8 arg9 harg9 arg10 harg10 f2 f3 f6)
  have e18 : sound_last.sl.v18 c i arg10 f8 = (if (i 1).val = 0 then k0_pay12 (F := F) else arg10.view.read (Elt F) f8) := by
    unfold sound_last.sl.v18
    refine (View.readAt_full _ _ _).trans ?_
    have hc : sound_last.sl.v2 i = 1#1 ↔ (i 1).val = 0 := by
      unfold sound_last.sl.v2 sound_last.sl.v1
      exact first_iff (i 1)
    by_cases h0 : (i 1).val = 0
    · rw [dif_pos (hc.mpr h0), if_pos h0]; exact View.read_writes_full _ _ _ _ _
    · rw [dif_neg (fun h => h0 (hc.mp h)), if_neg h0]
  have er : sound_last.sl.r c i arg2 harg2 arg3 harg3 arg4 harg4 arg5 harg5 arg6 harg6 arg7 harg7 arg8 harg8 arg9 harg9 arg10 harg10 f0 f1 f2 f3 f6 f8 = k0_pay17 (F := F) (arg2.view.read (Elt F) f0) (wide (F := F) (arg4.view.read (Elt F) f2) (arg5.view.read (Elt F) f3)) (arg3.view.read (Elt F) f1) (if (i 1).val = 0 then k0_pay12 (F := F) else arg10.view.read (Elt F) f8) := by
    unfold sound_last.sl.r
    rw [e7, e18, View.readAt_full, View.readAt_full]
  have e37 : sound_last.sl.v37 c i arg2 harg2 arg3 harg3 arg4 harg4 arg5 harg5 arg6 harg6 arg7 harg7 arg8 harg8 arg9 harg9 arg10 harg10 f0 f1 f2 f3 f6 f8 = aNext (F := F) i (arg10.view.read (Elt F) f8) (arg2.view.read (Elt F) f0) (arg3.view.read (Elt F) f1) (arg4.view.read (Elt F) f2) (arg5.view.read (Elt F) f3) := by
    unfold sound_last.sl.v37 sound_last.sl.H8_1 aNext
    rw [er]
    exact View.readAt_writes_full _ _ _ _ _ _
  have ey : arg9.view.read (Elt F) (arg9.view.writes (Elt F) f7 (sound_last.sl.H7_1 c i arg2 harg2 arg3 harg3 arg4 harg4 arg5 harg5 arg6 harg6 arg7 harg7 arg8 harg8 arg9 harg9 arg10 harg10 f0 f1 f2 f3 f6)) = yNext (F := F) i (arg9.view.read (Elt F) f7) (arg2.view.read (Elt F) f0) (arg3.view.read (Elt F) f1) (arg4.view.read (Elt F) f2) (arg5.view.read (Elt F) f3) := by
    unfold sound_last.sl.H7_1 yNext
    rw [e7, View.readAt_full, View.readAt_full]
    exact View.read_writes_cons_put _ _ _ _ [] rfl
  have s0 : sound_last.sl.v47 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 0 := by
    unfold sound_last.sl.v47
    rw [← ey]
    exact readAt_slot _ 0 _
  have s1 : sound_last.sl.v57 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 1 := by
    unfold sound_last.sl.v57
    rw [← ey]
    exact readAt_slot _ 1 _
  have s2 : sound_last.sl.v67 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 2 := by
    unfold sound_last.sl.v67
    rw [← ey]
    exact readAt_slot _ 2 _
  have s3 : sound_last.sl.v77 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 3 := by
    unfold sound_last.sl.v77
    rw [← ey]
    exact readAt_slot _ 3 _
  have s4 : sound_last.sl.v87 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 4 := by
    unfold sound_last.sl.v87
    rw [← ey]
    exact readAt_slot _ 4 _
  have s5 : sound_last.sl.v97 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 5 := by
    unfold sound_last.sl.v97
    rw [← ey]
    exact readAt_slot _ 5 _
  have s6 : sound_last.sl.v107 c i arg2 harg2 arg3 harg3 arg4 harg4 arg5 harg5 arg6 harg6 arg7 harg7 arg8 harg8 arg9 harg9 arg10 harg10 f0 f1 f2 f3 f6 f7 = slot (F := F) (yNext (F := F) i (arg9.view.read (Elt F) f7) (arg2.view.read (Elt F) f0) (arg3.view.read (Elt F) f1) (arg4.view.read (Elt F) f2) (arg5.view.read (Elt F) f3)) 6 := by
    unfold sound_last.sl.v107
    rw [← ey]
    exact readAt_slot _ 6 _
  have q1 : sound_last.sl.r_1 c i arg2 harg2 arg3 harg3 arg4 harg4 arg5 harg5 arg6 harg6 arg7 harg7 arg8 harg8 arg9 harg9 arg10 harg10 f0 f1 f2 f3 f6 f8 = k0_pay4 (F := F) (aNext (F := F) i (arg10.view.read (Elt F) f8) (arg2.view.read (Elt F) f0) (arg3.view.read (Elt F) f1) (arg4.view.read (Elt F) f2) (arg5.view.read (Elt F) f3)) := by
    unfold sound_last.sl.r_1
    rw [e37]
  have q2 : sound_last.sl.r_2 c i arg2 harg2 arg3 harg3 arg4 harg4 arg5 harg5 arg6 harg6 arg7 harg7 arg8 harg8 arg9 harg9 arg10 harg10 f0 f1 f2 f3 f6 f7 = k0_pay7 (F := F) (slot (F := F) (yNext (F := F) i (arg9.view.read (Elt F) f7) (arg2.view.read (Elt F) f0) (arg3.view.read (Elt F) f1) (arg4.view.read (Elt F) f2) (arg5.view.read (Elt F) f3)) 2) := by
    unfold sound_last.sl.r_2
    rw [s2]
  have q3 : sound_last.sl.r_3 c i arg2 harg2 arg3 harg3 arg4 harg4 arg5 harg5 arg6 harg6 arg7 harg7 arg8 harg8 arg9 harg9 arg10 harg10 f0 f1 f2 f3 f6 f7 f8 = k0_pay11 (F := F) (k0_pay4 (F := F) (aNext (F := F) i (arg10.view.read (Elt F) f8) (arg2.view.read (Elt F) f0) (arg3.view.read (Elt F) f1) (arg4.view.read (Elt F) f2) (arg5.view.read (Elt F) f3))) (slot (F := F) (yNext (F := F) i (arg9.view.read (Elt F) f7) (arg2.view.read (Elt F) f0) (arg3.view.read (Elt F) f1) (arg4.view.read (Elt F) f2) (arg5.view.read (Elt F) f3)) 5) := by
    unfold sound_last.sl.r_3
    rw [q1, s5]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists _; isplitr; swap; · iexact H4
                  ipureintro
                  rw [q1, q2, q3, e37, s0, s1, s3, s4, s6]
                  exact read_codes (F := F) f4 (aNext (F := F) i (arg10.view.read (Elt F) f8) (arg2.view.read (Elt F) f0) (arg3.view.read (Elt F) f1) (arg4.view.read (Elt F) f2) (arg5.view.read (Elt F) f3)) (yNext (F := F) i (arg9.view.read (Elt F) f7) (arg2.view.read (Elt F) f0) (arg3.view.read (Elt F) f1) (arg4.view.read (Elt F) f2) (arg5.view.read (Elt F) f3)) _ _ _ _ _ _ _
  isplitl [H5]; · iexists _; isplitr; swap; · iexact H5
                  ipureintro
                  rw [e37]
                  exact View.read_writes_full _ _ _ _ _
  isplitl [H6]; · iexists _; iexists _; isplitr; swap; · iexact H6
                  ipureintro; rfl
  isplitl [H7]
  · iexists _; isplitr; swap; · iexact H7
    ipureintro
    exact ey
  iexists _; isplitr; swap; · iexact H8
  ipureintro
  unfold aNext sound_last.sl.H8_1
  rw [er]
  exact View.read_writes_full _ _ _ _ _

end Cert.Down.Body
end
-- ==== Proof.BitsRun.lean ====
module
public import proofs.«01_k».proof.Proof.BitsBody

@[expose] public section
set_option maxRecDepth 16384
noncomputable section
namespace Cert.Down.Body
open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S10752x512 .bf16 := Memref.whole cc0_scratch0
abbrev scM0_1 : Memref sig .tc .vmem S7x512x512 .f32 := Memref.whole cc0_scratch1
abbrev scM0_2 : Memref sig .tc .vmem S512x128 .f32 := Memref.whole cc0_scratch2

theorem PhiA_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

theorem last_iff : ∀ t : Fin cfg0.N, Iff (k0_cond2 (grid0.coords t) = 1#1) (t.val % 7 = 6) := (by decide +kernel : ∀ t : Fin grid0.N, _)
theorem coord1 : ∀ t : Fin cfg0.N, (grid0.coords t 1).val = t.val % 7 := (by decide +kernel : ∀ t : Fin grid0.N, _)
theorem off7_eq : ∀ t : Fin cfg0.N, k0_off7 (grid0.coords t) = ![t.val % 7, 0, 0] := (by decide +kernel : ∀ t : Fin grid0.N, _)

/-- The product a point computes. -/
def prodAt (c : Dev nD) (t : Fin cfg0.N) : Vec F S1x512x512 .f32 :=
  k0_pay16 (F := F) (iblk m c 0 t) (wide (F := F) (iblk m c 2 t) (iblk m c 3 t)) (iblk m c 1 t)

/-- The running maxima after point `n`. -/
def maxAt (c : Dev nD) : (n : ℕ) → n < cfg0.N → Vec F S512x128 .f32
  | 0, h => aNext (F := F) (grid0.coords ⟨0, h⟩) (k0_pay12 (F := F)) (iblk m c 0 ⟨0, h⟩) (iblk m c 1 ⟨0, h⟩) (iblk m c 2 ⟨0, h⟩) (iblk m c 3 ⟨0, h⟩)
  | n + 1, h => aNext (F := F) (grid0.coords ⟨n + 1, h⟩) (maxAt c n (Nat.lt_of_succ_lt h)) (iblk m c 0 ⟨n + 1, h⟩) (iblk m c 1 ⟨n + 1, h⟩) (iblk m c 2 ⟨n + 1, h⟩) (iblk m c 3 ⟨n + 1, h⟩)

/-- What the scratch buffers hold before position `n`: the slots of the points of its row of the grid already done, and
    their running maxima. -/
def Good (c : Dev nD) (n : ℕ) (Y : Vec F S7x512x512 .f32) (A : Vec F S512x128 .f32) : Prop :=
  (∀ (j : Fin 7) (t : Fin cfg0.N), j.val < n % 7 → t.val = n - n % 7 + j.val → slot Y j = prodAt m c t)
  ∧ (∀ t : Fin cfg0.N, n % 7 ≠ 0 → t.val + 1 = n → A = maxAt m c t.val t.isLt)

theorem slot_yNext (t : Fin cfg0.N) (Y : Vec F S7x512x512 .f32) (x0 : Vec F S512x10752 .fp8e4m3) (x1 : Vec F S512x1 .f32) (x2 : Vec F S5376x512 .i8) (x3 : Vec F S84x512 .f32) (j : Fin 7) :
    slot (yNext (F := F) (grid0.coords t) Y x0 x1 x2 x3) j = if j.val = t.val % 7 then k0_pay16 (F := F) x0 (wide (F := F) x2 x3) x1 else slot Y j := by
  funext z
  unfold slot yNext
  rw [off7_eq]
  by_cases h : j.val = t.val % 7
  · rw [if_pos h]
    refine (dif_pos ?_).trans (congrArg (k0_pay16 (F := F) x0 (wide (F := F) x2 x3) x1) (funext fun a => Fin.ext ?_))
    · intro a
      match a with
      | 0 => show t.val % 7 ≤ j.val ∧ j.val < t.val % 7 + 1; omega
      | 1 => exact ⟨Nat.zero_le _, by show (z 1).val < 0 + 512; have := (z 1).isLt; have e : S1x512x512.size 1 = 512 := rfl; omega⟩
      | 2 => exact ⟨Nat.zero_le _, by show (z 2).val < 0 + 512; have := (z 2).isLt; have e : S1x512x512.size 2 = 512 := rfl; omega⟩
    · match a with
      | 0 => show j.val - t.val % 7 = (z 0).val; have h0 : (z 0).val = 0 := Nat.lt_one_iff.mp (z 0).isLt; omega
      | 1 => exact Nat.sub_zero _
      | 2 => exact Nat.sub_zero _
  · rw [if_neg h]
    refine dif_neg fun hall => ?_
    have := hall 0
    have h1 : t.val % 7 ≤ j.val ∧ j.val < t.val % 7 + 1 := this
    omega

theorem good_next (c : Dev nD) (t : Fin cfg0.N) (Y : Vec F S7x512x512 .f32) (A : Vec F S512x128 .f32) (h : Good m c t.val Y A) :
    Good m c (t.val + 1) (yNext (F := F) (grid0.coords t) Y (iblk m c 0 t) (iblk m c 1 t) (iblk m c 2 t) (iblk m c 3 t)) (aNext (F := F) (grid0.coords t) A (iblk m c 0 t) (iblk m c 1 t) (iblk m c 2 t) (iblk m c 3 t)) := by
  constructor
  · intro j t' hj ht'
    rw [slot_yNext]
    by_cases e : j.val = t.val % 7
    · rw [if_pos e]
      have : t' = t := Fin.ext (by omega)
      rw [this]; rfl
    · rw [if_neg e]
      exact h.1 j t' (by omega) (by omega)
  · intro t' hn ht'
    have e : t' = t := Fin.ext (by omega)
    subst e
    obtain ⟨n, hn'⟩ := t'
    by_cases hz : n % 7 = 0
    · have key : ∀ a a' : Vec F S512x128 .f32, ∀ x0 x1 x2 x3, aNext (F := F) (grid0.coords ⟨n, hn'⟩) a x0 x1 x2 x3 = aNext (F := F) (grid0.coords ⟨n, hn'⟩) a' x0 x1 x2 x3 := by
        intro a a' x0 x1 x2 x3
        have e0 : (grid0.coords ⟨n, hn'⟩ 1).val = 0 := (coord1 ⟨n, hn'⟩).trans hz
        unfold aNext; rw [if_pos e0, if_pos e0]
      cases n with
      | zero => exact key _ _ _ _ _ _
      | succ n => exact key _ _ _ _ _ _
    · cases n with
      | zero => exact absurd rfl hz
      | succ n =>
        have hA := h.2 ⟨n, Nat.lt_of_succ_lt hn'⟩ hz rfl
        rw [hA]; rfl

/-- The scale a row block ends with. -/
def scaleAt (c : Dev nD) (t : Fin cfg0.N) : Vec F S512x1 .f32 := k0_pay4 (F := F) (maxAt m c t.val t.isLt)

/-- The products of a whole row of the grid, the last of whose points is `t`. -/
def prods (c : Dev nD) (t : Fin cfg0.N) : Vec F S7x512x512 .f32 := fun z =>
  prodAt m c ⟨t.val - t.val % 7 + (z 0).val, by
    have h1 := t.isLt; have h2 : cfg0.N = 112 := N_0; have h3 := (z 0).isLt; have h4 : S7x512x512.size 0 = 7 := rfl; omega⟩ (ix3 0 (z 1) (z 2))

/-- The codes a row block ends with. -/
def codesAt (c : Dev nD) (t : Fin cfg0.N) : Vec F S512x3584 .fp8e4m3 := codesOf (F := F) (maxAt m c t.val t.isLt) (prods m c t)

theorem outs_last (c : Dev nD) (t : Fin cfg0.N) (ht : t.val % 7 = 6) (Y : Vec F S7x512x512 .f32) (A : Vec F S512x128 .f32) (h : Good m c t.val Y A) :
    codesOf (F := F) (aNext (F := F) (grid0.coords t) A (iblk m c 0 t) (iblk m c 1 t) (iblk m c 2 t) (iblk m c 3 t)) (yNext (F := F) (grid0.coords t) Y (iblk m c 0 t) (iblk m c 1 t) (iblk m c 2 t) (iblk m c 3 t)) = codesAt m c t
    ∧ k0_pay4 (F := F) (aNext (F := F) (grid0.coords t) A (iblk m c 0 t) (iblk m c 1 t) (iblk m c 2 t) (iblk m c 3 t)) = scaleAt m c t := by
  have hmax : aNext (F := F) (grid0.coords t) A (iblk m c 0 t) (iblk m c 1 t) (iblk m c 2 t) (iblk m c 3 t) = maxAt m c t.val t.isLt := by
    obtain ⟨n, hn⟩ := t
    cases n with
    | zero => exact absurd (show (0 : ℕ) % 7 = 6 from ht) (by decide)
    | succ n =>
      have hA := h.2 ⟨n, Nat.lt_of_succ_lt hn⟩ (by show (n + 1) % 7 ≠ 0; have : (n + 1) % 7 = 6 := ht; omega) rfl
      rw [hA]; rfl
  have hs : ∀ j : Fin 7, slot (yNext (F := F) (grid0.coords t) Y (iblk m c 0 t) (iblk m c 1 t) (iblk m c 2 t) (iblk m c 3 t)) j = slot (prods m c t) j := fun j => by
    have hl := t.isLt
    have hN : cfg0.N = 112 := N_0
    have hj := j.isLt
    have hp : slot (prods m c t) j = prodAt m c ⟨t.val - t.val % 7 + j.val, by omega⟩ := by
      funext z
      refine congrArg (prodAt m c _) (funext fun a => Fin.ext ?_)
      match a with
      | 0 => exact (Nat.lt_one_iff.mp (z 0).isLt).symm
      | 1 => rfl
      | 2 => rfl
    rw [slot_yNext, hp]
    by_cases e : j.val = t.val % 7
    · rw [if_pos e]
      have e' : (⟨t.val - t.val % 7 + j.val, by omega⟩ : Fin cfg0.N) = t := Fin.ext (by show t.val - t.val % 7 + j.val = t.val; omega)
      rw [e']; rfl
    · rw [if_neg e]
      exact h.1 j _ (by omega) rfl
  constructor
  · unfold codesAt
    rw [hmax]
    funext z
    unfold codesOf
    rw [hs]
  · rw [hmax]; rfl

/-- The invariant before position `n`: the widened weights' scratch at anything, the other two as `Good` says. -/
def Phi (c : Dev nD) (n : ℕ) (_h : n ≤ cfg0.N) : sProp 𝕄 :=
  iprop(iprop((∃ d, owns (c : Thread nD τ) scM0_0 fullShare d)
    ∗ (∃ Y A, ⌜Good m c n Y A⌝ ∗ owns (c : Thread nD τ) scM0_1 fullShare Y ∗ owns (c : Thread nD τ) scM0_2 fullShare A)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c t
    | ⟨_ + 6, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]
theorem after0_5 (c : Dev nD) (t : Fin cfg0.N) : (dats m 0 c).after 5 t = scaleAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem body_mid (c : Dev nD) (t : Fin cfg0.N) (ht : ¬ t.val % 7 = 6) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((dats m 0 c).before 4 t d))
    ∗ (∃ d, owns (c : Thread nD τ) (st0_5 t) fullShare ((dats m 0 c).before 5 t d)))) := by
  unfold bodyAt0
  simp only [before0_0, before0_1, before0_2, before0_3]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3]
  unfold Phi
  iintro ⟨⟨⟨⟨%g0, HS0⟩, %Y, %A, %hG, HS1, HS2⟩, Hg⟩, Ho, ⟨%d0, H0⟩, ⟨%d1, H1⟩, ⟨%d2, H2⟩, ⟨%d3, H3⟩, ⟨%d4, H4⟩, ⟨%d5, H5⟩⟩
  iapply (sound_step (F := F) c Set.univ (grid0.coords t) (fun h => ht ((last_iff t).mp h)) _ _ _ _ _ _ _ _ _ _ _ _ _ _ _ _ _ _ (iblk m c 0 t) (iblk m c 1 t) (iblk m c 2 t) (iblk m c 3 t) _ _ g0 Y A _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      iexists _; iexists _; isplitr; swap
      · isplitl [HS1]; · iexact HS1
        iexact HS2
      ipureintro
      exact good_next m c t Y A hG
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

theorem body_last (c : Dev nD) (t : Fin cfg0.N) (ht : t.val % 7 = 6) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))) := by
  unfold bodyAt0
  simp only [before0_0, before0_1, before0_2, before0_3]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5]
  unfold Phi
  iintro ⟨⟨⟨⟨%g0, HS0⟩, %Y, %A, %hG, HS1, HS2⟩, Hg⟩, Ho, ⟨%d0, H0⟩, ⟨%d1, H1⟩, ⟨%d2, H2⟩, ⟨%d3, H3⟩, ⟨%d4, H4⟩, ⟨%d5, H5⟩⟩
  iapply (sound_last (F := F) c Set.univ (grid0.coords t) ((last_iff t).mpr ht) _ _ _ _ _ _ _ _ _ _ _ _ _ _ _ _ _ _ (iblk m c 0 t) (iblk m c 1 t) (iblk m c 2 t) (iblk m c 3 t) _ _ g0 Y A _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      iexists _; iexists _; isplitr; swap
      · isplitl [HS1]; · iexact HS1
        iexact HS2
      ipureintro
      exact good_next m c t Y A hG
    iexact Hg
  isplitl [Ho]; · iexact Ho
  isplitl [H0]; · iexact H0
  isplitl [H1]; · iexact H1
  isplitl [H2]; · iexact H2
  isplitl [H3]; · iexact H3
  rw [← (outs_last m c t ht Y A hG).1, ← (outs_last m c t ht Y A hG).2]
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  by_cases ht : t.val % 7 = 6
  · have i4 : cfg0.idle 4 (cfg0.grid.coords t) = false := by
      show (!(k0_cond2 (grid0.coords t) == 1#1)) = false
      rw [(last_iff t).mpr ht]; rfl
    have i4' : idle0 4 (grid0.coords t) = false := i4
    have i5' : idle0 5 (grid0.coords t) = false := i4
    have hb := body_last m c t ht
    refine triple_restated hb rfl .rfl fun _ => ?_
    simp only [i0, i1, i2, i3, i4', i5']
    exact .rfl
  · have i4 : cfg0.idle 4 (cfg0.grid.coords t) = true := by
      show (!(k0_cond2 (grid0.coords t) == 1#1)) = true
      have hn : ¬ k0_cond2 (grid0.coords t) = 1#1 := fun h => ht ((last_iff t).mp h)
      rw [Bool.not_eq_true', beq_eq_false_iff_ne]; exact hn
    have i4' : idle0 4 (grid0.coords t) = true := i4
    have i5' : idle0 5 (grid0.coords t) = true := i4
    have f4 : (cfg0.win 4).flush t = false := Bool.eq_false_iff.mpr fun h => ht ((flush0_4 t).mp h)
    have f5 : (cfg0.win 5).flush t = false := Bool.eq_false_iff.mpr fun h => ht ((flush0_5 t).mp h)
    refine triple_restated (body_mid m c t ht) rfl .rfl fun _ => ?_
    simp only [i0, i1, i2, i3, i4', i5', f4, f5]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨H0, ⟨%Y, H1⟩, ⟨%A, H2⟩⟩, Hg⟩
  isplitl [H0 H1 H2]
  · isplitl [H0]; · iexact H0
    iexists Y; iexists A; isplitr; swap
    · isplitl [H1]; · iexact H1
      iexact H2
    ipureintro
    exact ⟨fun j t hj => absurd hj (Nat.not_lt_zero _), fun t h => absurd rfl h⟩
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨H0, %Y, %A, %_, H1, H2⟩, Hg⟩
  isplitl [H0 H1 H2]
  · isplitl [H0]; · iexact H0
    isplitl [H1]; · iexists Y; iexact H1
    iexists A; iexact H2
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))
end Cert.Down.Body
end
-- ==== Proof.GateUpBitsWide.lean ====
module
public import proofs.«01_k».proof.Proof.Gen.GateUp.Loops
public import proofs.«01_k».proof.Proof.Groups

@[expose] public section
set_option maxRecDepth 16384
noncomputable section
namespace Cert.GateUp.Body
open Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S1792x512 .i8) (k : Fin 14) : Vec F S128x512 .i8 :=
  fun z => x (ix2 ⟨128 * k.val + (z 0).val, by have := (z 0).isLt; have h : S128x512.size 0 = 128 := rfl; omega⟩ (z 1))
/-- The scales of weight group `g`. -/
def sRow (x : Vec F S28x512 .f32) (g : Fin 28) : Vec F S1x512 .f32 := fun z => x (ix2 g (z 1))

section Trips
variable (𝒱 : Variants) (c : Dev nD) (bd : Option 𝒱.V) (i : grid0.Coords) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)

/-- What one trip of loop 1 stores: its group of widened weights. -/
theorem tripL_t1 (Xw : BufTy.Contents (Elt F) arg4.view.ty) (Xs : BufTy.Contents (Elt F) arg6.view.ty) (k : Fin k0_t1_loop.trips) :
    ∃ inb, tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off4 k) S1x128x512.size inb, k0_pay29 (F := F) (wBlk (arg4.view.read (Elt F) Xw) ⟨k.val, k.isLt⟩) (sRow (arg6.view.read (Elt F) Xs) ⟨k.val, Nat.lt_of_lt_of_le k.isLt (by decide)⟩)⟩] := by
  refine ⟨k0_off4_inb k, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg4.view.read (Elt F) Xw) ⟨k.val, k.isLt⟩
      = View.readAt (Elt F) arg4.view (Rect.unit (s := S1792x512) (k0_off1 k) S128x512.size (k0_off1_inb k)).toLoadRect Xw := by
    funext z
    refine congrArg (arg4.view.read (Elt F) Xw) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg6.view.read (Elt F) Xs) ⟨k.val, Nat.lt_of_lt_of_le k.isLt (by decide)⟩
      = View.readAt (Elt F) arg6.view (Rect.unit (s := S28x512) (k0_off2 k) S1x512.size (k0_off2_inb k)).toLoadRect Xs := by
    funext z
    refine congrArg (arg6.view.read (Elt F) Xs) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of loop 2 stores: its group of widened weights. -/
theorem tripL_t2 (Xw : BufTy.Contents (Elt F) arg4.view.ty) (Xs : BufTy.Contents (Elt F) arg6.view.ty) (k : Fin k0_t2_loop.trips) :
    ∃ inb, tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off8 k) S1x128x512.size inb, k0_pay30 (F := F) (wBlk (arg4.view.read (Elt F) Xw) ⟨k.val, k.isLt⟩) (sRow (arg6.view.read (Elt F) Xs) ⟨14 + k.val, Nat.lt_of_lt_of_le (Nat.add_lt_add_left k.isLt 14) (by decide)⟩)⟩] := by
  refine ⟨k0_off8_inb k, ?_⟩
  have e1 : ∀ k : Fin k0_t2_loop.trips, k0_off5 k = ![128 * k.val, 0] := by decide +kernel
  have e2 : ∀ k : Fin k0_t2_loop.trips, k0_off6 k = ![14 + k.val, 0] := by decide +kernel
  have hw : wBlk (F := F) (arg4.view.read (Elt F) Xw) ⟨k.val, k.isLt⟩
      = View.readAt (Elt F) arg4.view (Rect.unit (s := S1792x512) (k0_off5 k) S128x512.size (k0_off5_inb k)).toLoadRect Xw := by
    funext z
    refine congrArg (arg4.view.read (Elt F) Xw) (funext fun a => Fin.ext ?_)
    match a with
    | 0 => show _ = k0_off5 k 0 + 1 * (z 0).val; rw [e1 k]; show _ = 128 * k.val + _; rw [Nat.one_mul]; rfl
    | 1 => show _ = k0_off5 k 1 + 1 * (z 1).val; rw [e1 k]; show _ = 0 + _; rw [Nat.one_mul, Nat.zero_add]; rfl
  have hs : sRow (F := F) (arg6.view.read (Elt F) Xs) ⟨14 + k.val, Nat.lt_of_lt_of_le (Nat.add_lt_add_left k.isLt 14) (by decide)⟩
      = View.readAt (Elt F) arg6.view (Rect.unit (s := S28x512) (k0_off6 k) S1x512.size (k0_off6_inb k)).toLoadRect Xs := by
    funext z
    refine congrArg (arg6.view.read (Elt F) Xs) (funext fun a => Fin.ext ?_)
    match a with
    | 0 => show _ = k0_off6 k 0 + 1 * (z 0).val; rw [e2 k]; have h0 : (z 0).val = 0 := Nat.lt_one_iff.mp (z 0).isLt; rw [h0]; rfl
    | 1 => show _ = k0_off6 k 1 + 1 * (z 1).val; rw [e2 k]; show _ = 0 + _; rw [Nat.one_mul, Nat.zero_add]; rfl
  rw [hw, hs]
  unfold tripL_k0_t2 trip_k0_t2
  rfl

/-- What one trip of loop 3 stores: its group of widened weights. -/
theorem tripL_t3 (Xw : BufTy.Contents (Elt F) arg5.view.ty) (Xs : BufTy.Contents (Elt F) arg7.view.ty) (k : Fin k0_t3_loop.trips) :
    ∃ inb, tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off12 k) S1x128x512.size inb, k0_pay31 (F := F) (wBlk (arg5.view.read (Elt F) Xw) ⟨k.val, k.isLt⟩) (sRow (arg7.view.read (Elt F) Xs) ⟨k.val, Nat.lt_of_lt_of_le k.isLt (by decide)⟩)⟩] := by
  refine ⟨k0_off12_inb k, ?_⟩
  have e1 : ∀ k : Fin k0_t3_loop.trips, k0_off9 k = ![128 * k.val, 0] := by decide +kernel
  have e2 : ∀ k : Fin k0_t3_loop.trips, k0_off10 k = ![k.val, 0] := by decide +kernel
  have hw : wBlk (F := F) (arg5.view.read (Elt F) Xw) ⟨k.val, k.isLt⟩
      = View.readAt (Elt F) arg5.view (Rect.unit (s := S1792x512) (k0_off9 k) S128x512.size (k0_off9_inb k)).toLoadRect Xw := by
    funext z
    refine congrArg (arg5.view.read (Elt F) Xw) (funext fun a => Fin.ext ?_)
    match a with
    | 0 => show _ = k0_off9 k 0 + 1 * (z 0).val; rw [e1 k]; show _ = 128 * k.val + _; rw [Nat.one_mul]; rfl
    | 1 => show _ = k0_off9 k 1 + 1 * (z 1).val; rw [e1 k]; show _ = 0 + _; rw [Nat.one_mul, Nat.zero_add]; rfl
  have hs : sRow (F := F) (arg7.view.read (Elt F) Xs) ⟨k.val, Nat.lt_of_lt_of_le k.isLt (by decide)⟩
      = View.readAt (Elt F) arg7.view (Rect.unit (s := S28x512) (k0_off10 k) S1x512.size (k0_off10_inb k)).toLoadRect Xs := by
    funext z
    refine congrArg (arg7.view.read (Elt F) Xs) (funext fun a => Fin.ext ?_)
    match a with
    | 0 => show _ = k0_off10 k 0 + 1 * (z 0).val; rw [e2 k]; have h0 : (z 0).val = 0 := Nat.lt_one_iff.mp (z 0).isLt; rw [h0]; rfl
    | 1 => show _ = k0_off10 k 1 + 1 * (z 1).val; rw [e2 k]; show _ = 0 + _; rw [Nat.one_mul, Nat.zero_add]; rfl
  rw [hw, hs]
  unfold tripL_k0_t3 trip_k0_t3
  rfl

/-- What one trip of loop 4 stores: its group of widened weights. -/
theorem tripL_t4 (Xw : BufTy.Contents (Elt F) arg5.view.ty) (Xs : BufTy.Contents (Elt F) arg7.view.ty) (k : Fin k0_t4_loop.trips) :
    ∃ inb, tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs k
      = [⟨Rect.unit (s := S2x3584x512) (k0_off16 k) S1x128x512.size inb, k0_pay32 (F := F) (wBlk (arg5.view.read (Elt F) Xw) ⟨k.val, k.isLt⟩) (sRow (arg7.view.read (Elt F) Xs) ⟨14 + k.val, Nat.lt_of_lt_of_le (Nat.add_lt_add_left k.isLt 14) (by decide)⟩)⟩] := by
  refine ⟨k0_off16_inb k, ?_⟩
  have e1 : ∀ k : Fin k0_t4_loop.trips, k0_off13 k = ![128 * k.val, 0] := by decide +kernel
  have e2 : ∀ k : Fin k0_t4_loop.trips, k0_off14 k = ![14 + k.val, 0] := by decide +kernel
  have hw : wBlk (F := F) (arg5.view.read (Elt F) Xw) ⟨k.val, k.isLt⟩
      = View.readAt (Elt F) arg5.view (Rect.unit (s := S1792x512) (k0_off13 k) S128x512.size (k0_off13_inb k)).toLoadRect Xw := by
    funext z
    refine congrArg (arg5.view.read (Elt F) Xw) (funext fun a => Fin.ext ?_)
    match a with
    | 0 => show _ = k0_off13 k 0 + 1 * (z 0).val; rw [e1 k]; show _ = 128 * k.val + _; rw [Nat.one_mul]; rfl
    | 1 => show _ = k0_off13 k 1 + 1 * (z 1).val; rw [e1 k]; show _ = 0 + _; rw [Nat.one_mul, Nat.zero_add]; rfl
  have hs : sRow (F := F) (arg7.view.read (Elt F) Xs) ⟨14 + k.val, Nat.lt_of_lt_of_le (Nat.add_lt_add_left k.isLt 14) (by decide)⟩
      = View.readAt (Elt F) arg7.view (Rect.unit (s := S28x512) (k0_off14 k) S1x512.size (k0_off14_inb k)).toLoadRect Xs := by
    funext z
    refine congrArg (arg7.view.read (Elt F) Xs) (funext fun a => Fin.ext ?_)
    match a with
    | 0 => show _ = k0_off14 k 0 + 1 * (z 0).val; rw [e2 k]; have h0 : (z 0).val = 0 := Nat.lt_one_iff.mp (z 0).isLt; rw [h0]; rfl
    | 1 => show _ = k0_off14 k 1 + 1 * (z 1).val; rw [e2 k]; show _ = 0 + _; rw [Nat.one_mul, Nat.zero_add]; rfl
  rw [hw, hs]
  unfold tripL_k0_t4 trip_k0_t4
  rfl

/-- The widened weights of one window: rows of the low nibbles, then rows of the high nibbles, group by group. -/
def wide (w : Vec F S1792x512 .i8) (s : Vec F S28x512 .f32) : Vec F S1x3584x512 .bf16 := fun y =>
  if h : (y 1).val < 1792 then
    k0_pay29 (F := F) (wBlk w ⟨(y 1).val / 128, by omega⟩) (sRow s ⟨(y 1).val / 128, by omega⟩) (Groups.inGroup3 (W := 128) (by decide) (y 1).val (y 2))
  else
    k0_pay30 (F := F) (wBlk w ⟨((y 1).val - 1792) / 128, by have := (y 1).isLt; have e : S1x3584x512.size 1 = 3584 := rfl; omega⟩)
      (sRow s ⟨14 + ((y 1).val - 1792) / 128, by have := (y 1).isLt; have e : S1x3584x512.size 1 = 3584 := rfl; omega⟩)
      (Groups.inGroup3 (W := 128) (by decide) ((y 1).val - 1792) (y 2))

/-- The scratch after loop 1, read at an index. -/
theorem read_t1 (Xw : BufTy.Contents (Elt F) arg4.view.ty) (Xs : BufTy.Contents (Elt F) arg6.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 0 ∧ 0 ≤ r.val ∧ r.val < 0 + 1792 then wide (F := F) (arg4.view.read (Elt F) Xw) (arg6.view.read (Elt F) Xs) (ix3 0 r l)
        else arg14.view.read (Elt F) (arg14.view.writes (Elt F) f L) (ix3 p r l) := by
  have o4 : ∀ k : Fin k0_t1_loop.trips, k0_off4 k = ![0, 0 + 128 * k.val, 0] := by decide +kernel
  have g := Groups.read_groups3 (W := 128) (by decide) arg14.view f 0 0 14
    (fun k => if h : k < 14 then k0_pay29 (F := F) (wBlk (arg4.view.read (Elt F) Xw) ⟨k, h⟩) (sRow (arg6.view.read (Elt F) Xs) ⟨k, by omega⟩) else fun _ => arg14.view.read (Elt F) f (ix3 p r l))
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off4 ⟨k, hk⟩, inb, o4 ⟨k, hk⟩, ?_⟩
      rw [dif_pos hk, ← e]
      exact pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 0 ∧ 0 ≤ r.val ∧ r.val < 0 + 1792
  · rw [if_pos hc, if_pos (by omega)]
    unfold wide
    rw [dif_pos (show ((ix3 0 r l : S1x3584x512.Idx) 1).val < 1792 by show r.val < 1792; omega), dif_pos (by omega)]; rfl
  · rw [if_neg hc, if_neg (by omega)]

/-- The scratch after loop 2, read at an index. -/
theorem read_t2 (Xw : BufTy.Contents (Elt F) arg4.view.ty) (Xs : BufTy.Contents (Elt F) arg6.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 0 ∧ 1792 ≤ r.val ∧ r.val < 1792 + 1792 then wide (F := F) (arg4.view.read (Elt F) Xw) (arg6.view.read (Elt F) Xs) (ix3 0 r l)
        else arg14.view.read (Elt F) (arg14.view.writes (Elt F) f L) (ix3 p r l) := by
  have o4 : ∀ k : Fin k0_t2_loop.trips, k0_off8 k = ![0, 1792 + 128 * k.val, 0] := by decide +kernel
  have g := Groups.read_groups3 (W := 128) (by decide) arg14.view f 0 1792 14
    (fun k => if h : k < 14 then k0_pay30 (F := F) (wBlk (arg4.view.read (Elt F) Xw) ⟨k, h⟩) (sRow (arg6.view.read (Elt F) Xs) ⟨14 + k, by omega⟩) else fun _ => arg14.view.read (Elt F) f (ix3 p r l))
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off8 ⟨k, hk⟩, inb, o4 ⟨k, hk⟩, ?_⟩
      rw [dif_pos hk, ← e]
      exact pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 0 ∧ 1792 ≤ r.val ∧ r.val < 1792 + 1792
  · rw [if_pos hc, if_pos (by omega)]
    unfold wide
    rw [dif_neg (show ¬ ((ix3 0 r l : S1x3584x512.Idx) 1).val < 1792 by show ¬ r.val < 1792; omega), dif_pos (by omega)]; rfl
  · rw [if_neg hc, if_neg (by omega)]

/-- The scratch after loop 3, read at an index. -/
theorem read_t3 (Xw : BufTy.Contents (Elt F) arg5.view.ty) (Xs : BufTy.Contents (Elt F) arg7.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 1 ∧ 0 ≤ r.val ∧ r.val < 0 + 1792 then wide (F := F) (arg5.view.read (Elt F) Xw) (arg7.view.read (Elt F) Xs) (ix3 0 r l)
        else arg14.view.read (Elt F) (arg14.view.writes (Elt F) f L) (ix3 p r l) := by
  have o4 : ∀ k : Fin k0_t3_loop.trips, k0_off12 k = ![1, 0 + 128 * k.val, 0] := by decide +kernel
  have g := Groups.read_groups3 (W := 128) (by decide) arg14.view f 1 0 14
    (fun k => if h : k < 14 then k0_pay31 (F := F) (wBlk (arg5.view.read (Elt F) Xw) ⟨k, h⟩) (sRow (arg7.view.read (Elt F) Xs) ⟨k, by omega⟩) else fun _ => arg14.view.read (Elt F) f (ix3 p r l))
    (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off12 ⟨k, hk⟩, inb, o4 ⟨k, hk⟩, ?_⟩
      rw [dif_pos hk, ← e]
      exact pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 1 ∧ 0 ≤ r.val ∧ r.val < 0 + 1792
  · rw [if_pos hc, if_pos (by omega)]
    unfold wide
    rw [dif_pos (show ((ix3 0 r l : S1x3584x512.Idx) 1).val < 1792 by show r.val < 1792; omega), dif_pos (by omega)]; rfl
  · rw [if_neg hc, if_neg (by omega)]

/-- The scratch after loop 4, read at an index. -/
theorem read_t4 (Xw : BufTy.Contents (Elt F) arg5.view.ty) (Xs : BufTy.Contents (Elt F) arg7.view.ty) (f : BufTy.Contents (Elt F) arg14.view.ty)
    (L : List (View.Piece (Elt F) S2x3584x512 .bf16)) (p : Fin 2) (r : Fin 3584) (l : Fin 512) :
    arg14.view.read (Elt F) (arg14.view.writes (Elt F) f (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs 14 ++ L)) (ix3 p r l)
      = if p.val = 1 ∧ 1792 ≤ r.val ∧ r.val < 1792 + 1792 then wide (F := F) (arg5.view.read (Elt F) Xw) (arg7.view.read (Elt F) Xs) (ix3 0 r l)
        else arg14.view.read (Elt F) (arg14.view.writes (Elt F) f L) (ix3 p r l) := by
  have o4 : ∀ k : Fin k0_t4_loop.trips, k0_off16 k = ![1, 1792 + 128 * k.val, 0] := by decide +kernel
  have g := Groups.read_groups3 (W := 128) (by decide) arg14.view f 1 1792 14
    (fun k => if h : k < 14 then k0_pay32 (F := F) (wBlk (arg5.view.read (Elt F) Xw) ⟨k, h⟩) (sRow (arg7.view.read (Elt F) Xs) ⟨14 + k, by omega⟩) else fun _ => arg14.view.read (Elt F) f (ix3 p r l))
    (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs) rfl
    (fun k hk => by
      obtain ⟨inb, e⟩ := tripL_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩
      refine ⟨k0_off16 ⟨k, hk⟩, inb, o4 ⟨k, hk⟩, ?_⟩
      rw [dif_pos hk, ← e]
      exact pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 Xw Xs ⟨k, hk⟩) 14 le_rfl L p r l
  refine g.trans ?_
  by_cases hc : p.val = 1 ∧ 1792 ≤ r.val ∧ r.val < 1792 + 1792
  · rw [if_pos hc, if_pos (by omega)]
    unfold wide
    rw [dif_neg (show ¬ ((ix3 0 r l : S1x3584x512.Idx) 1).val < 1792 by show ¬ r.val < 1792; omega), dif_pos (by omega)]; rfl
  · rw [if_neg hc, if_neg (by omega)]

/-- After the four loops plane 0 of the scratch reads as its window's widened weights, whatever it held. -/
theorem read_wide0 (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg14.view.ty) (inb) :
    View.readAt (Elt F) arg14.view (Rect.unit (s := S2x3584x512) ![0, 0, 0] S1x3584x512.size inb).toLoadRect (arg14.view.writes (Elt F) f
        (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14 ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14))))
      = wide (F := F) (arg4.view.read (Elt F) X4) (arg6.view.read (Elt F) X6) := by
  funext y
  obtain ⟨r, l, rfl⟩ : ∃ (r : Fin 3584) (l : Fin 512), y = ix3 0 r l := ⟨y 1, y 2, by
    funext a; match a with | 0 => exact Fin.ext (Nat.lt_one_iff.mp (y 0).isLt) | 1 => rfl | 2 => rfl⟩
  have e : ∀ g : BufTy.Contents (Elt F) arg14.view.ty, View.readAt (Elt F) arg14.view (Rect.unit (s := S2x3584x512) ![0, 0, 0] S1x3584x512.size inb).toLoadRect g (ix3 0 r l)
      = arg14.view.read (Elt F) g (ix3 0 r l) := fun g => by
    refine congrArg (arg14.view.read (Elt F) g) (funext fun a => Fin.ext ?_)
    match a with
    | 0 => rfl
    | 1 => show 0 + 1 * r.val = r.val; omega
    | 2 => show 0 + 1 * l.val = l.val; omega
  have hr := r.isLt
  rw [e, read_t4, read_t3, read_t2, ← List.append_nil (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14), read_t1]
  by_cases hh : r.val < 1792
  · rw [if_neg (by simp), if_neg (by simp), if_neg (by omega), if_pos ⟨rfl, by omega, by omega⟩]
  · rw [if_neg (by simp), if_neg (by simp), if_pos ⟨rfl, by omega, by omega⟩]

/-- After the four loops plane 1 of the scratch reads as its window's widened weights, whatever it held. -/
theorem read_wide1 (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg14.view.ty) (inb) :
    View.readAt (Elt F) arg14.view (Rect.unit (s := S2x3584x512) ![1, 0, 0] S1x3584x512.size inb).toLoadRect (arg14.view.writes (Elt F) f
        (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 X7 14 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14 ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14))))
      = wide (F := F) (arg5.view.read (Elt F) X5) (arg7.view.read (Elt F) X7) := by
  funext y
  obtain ⟨r, l, rfl⟩ : ∃ (r : Fin 3584) (l : Fin 512), y = ix3 0 r l := ⟨y 1, y 2, by
    funext a; match a with | 0 => exact Fin.ext (Nat.lt_one_iff.mp (y 0).isLt) | 1 => rfl | 2 => rfl⟩
  have e : ∀ g : BufTy.Contents (Elt F) arg14.view.ty, View.readAt (Elt F) arg14.view (Rect.unit (s := S2x3584x512) ![1, 0, 0] S1x3584x512.size inb).toLoadRect g (ix3 0 r l)
      = arg14.view.read (Elt F) g (ix3 1 r l) := fun g => by
    refine congrArg (arg14.view.read (Elt F) g) (funext fun a => Fin.ext ?_)
    match a with
    | 0 => rfl
    | 1 => show 0 + 1 * r.val = r.val; omega
    | 2 => show 0 + 1 * l.val = l.val; omega
  have hr := r.isLt
  rw [e, read_t4, read_t3, read_t2, ← List.append_nil (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X4 X6 14), read_t1]
  by_cases hh : r.val < 1792
  · rw [if_neg (by omega), if_pos ⟨rfl, by omega, by omega⟩]
  · rw [if_pos ⟨rfl, by omega, by omega⟩]
end Trips
end Cert.GateUp.Body
end
-- ==== Proof.GateUpBitsBody.lean ====
module
public import proofs.«01_k».proof.Proof.Gen.GateUp.Frame
public import proofs.«01_k».proof.Proof.GateUpBitsWide

@[expose] public section
set_option maxRecDepth 16384
noncomputable section
namespace Cert.GateUp.Body
open Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The condition of the first point of a row of the grid. -/
theorem first_iff : ∀ j : Fin 21, Iff (Scalar.cmpi .ne (Scalar.extui (Scalar.cmpi .eq (BitVec.ofNat 32 j.val) 0#32)) 0#32 = 1#1) (j.val = 0) := by decide +kernel

/-- The widened activations a row of the grid works with after a point. -/
def xNext (i : grid0.Coords) (xb : Vec F S512x3584 .bf16) (x0 : Vec F S512x3584 .fp8e4m3) : Vec F S512x3584 .bf16 :=
  if (i 1).val = 0 then k0_pay27 (F := F) x0 else xb

/-- The gated product of one tile of columns. -/
def mid (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S1x512x512 .f32 :=
  k0_pay36 (F := F) (k0_pay33 (F := F) x1) x6 (k0_pay34 (F := F) x1 xb (wide (F := F) x2 x4)) x7 xb (wide (F := F) x3 x5) x8

/-- The scratch of the tiles after a point: that point's slot at its gated product. -/
def yNext (i : grid0.Coords) (y : Vec F S21x512x512 .f32) (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S21x512x512 .f32 :=
  VecWindow.put y (k0_off17 i) S1x512x512.size (mid (F := F) xb x1 x2 x3 x4 x5 x6 x7 x8)

/-- The running maxima after a point. -/
def aNext (i : grid0.Coords) (a : Vec F S512x128 .f32) (xb : Vec F S512x3584 .bf16) (x1 : Vec F S512x1 .f32) (x2 x3 : Vec F S1792x512 .i8) (x4 x5 : Vec F S28x512 .f32) (x6 : Vec F S512x128 .bf16) (x7 x8 : Vec F S128x512 .bf16) : Vec F S512x128 .f32 :=
  k0_pay37 (F := F) (k0_pay33 (F := F) x1) x6 (k0_pay34 (F := F) x1 xb (wide (F := F) x2 x4)) x7 xb (wide (F := F) x3 x5) x8 (if (i 1).val = 0 then k0_pay28 (F := F) else a)

/-- Slot `j` of the tiles' scratch. -/
def slot (y : Vec F S21x512x512 .f32) (j : Fin 21) : Vec F S1x512x512 .f32 :=
  fun z => y (ix3 j (z 1) (z 2))

/-- The codes written after the last slot: tile `q` of the columns from slot `q`. -/
def codesOf (a : Vec F S512x128 .f32) (y : Vec F S21x512x512 .f32) : Vec F S512x10752 .fp8e4m3 := fun z =>
  k0_pay5 (F := F) a (slot y ⟨(z 1).val / 512, by have := (z 1).isLt; have h : S512x10752.size 1 = 10752 := rfl; omega⟩)
    (ix2 (z 0) ⟨(z 1).val % 512, Nat.mod_lt _ (by decide)⟩)

/-- A store of a tile of 512 columns, read at an index. -/
theorem read_cons_col {arg11 : Memref sig .tc .vmem S512x10752 .fp8e4m3} (f : BufTy.Contents (Elt F) arg11.view.ty) (o : ℕ)
    (inb : ∀ a : Fin 2, (![0, o] : Fin 2 → ℕ) a + S512x512.size a ≤ S512x10752.size a) (w : Vec F S512x512 .fp8e4m3)
    (L : List (View.Piece (Elt F) S512x10752 .fp8e4m3)) (r : Fin 512) (l : Fin 10752) :
    arg11.view.read (Elt F) (arg11.view.writes (Elt F) f (⟨Rect.unit (s := S512x10752) ![0, o] S512x512.size inb, w⟩ :: L)) (ix2 r l)
      = if h : o ≤ l.val ∧ l.val < o + 512 then w (ix2 r ⟨l.val - o, by omega⟩) else arg11.view.read (Elt F) (arg11.view.writes (Elt F) f L) (ix2 r l) := by
  by_cases h : o ≤ l.val ∧ l.val < o + 512
  · rw [dif_pos h]
    refine View.read_writes_cons_unit_of_mem arg11.view f inb w L (ix2 r l) (ix2 r (⟨l.val - o, by omega⟩ : Fin 512)) rfl fun a => ?_
    match a with
    | 0 => exact (Nat.zero_add _).symm
    | 1 => show l.val = o + (l.val - o); omega
  · rw [dif_neg h]
    refine View.read_writes_cons_unit_of_not_mem _ _ _ _ _ _ rfl 1 ?_
    show l.val < o ∨ o + 512 ≤ l.val
    omega

/-- One more tile: if the first `q` tiles of columns read as they should, so do the first `q + 1`. -/
theorem read_codes_step {arg11 : Memref sig .tc .vmem S512x10752 .fp8e4m3} (f : BufTy.Contents (Elt F) arg11.view.ty)
    (a : Vec F S512x128 .f32) (y : Vec F S21x512x512 .f32) (q : Fin 21) (o : ℕ) (ho : o = 512 * q.val)
    (inb : ∀ a : Fin 2, (![0, o] : Fin 2 → ℕ) a + S512x512.size a ≤ S512x10752.size a)
    (L : List (View.Piece (Elt F) S512x10752 .fp8e4m3))
    (ih : ∀ (r : Fin 512) (l : Fin 10752), l.val < 512 * q.val → arg11.view.read (Elt F) (arg11.view.writes (Elt F) f L) (ix2 r l) = codesOf a y (ix2 r l))
    (r : Fin 512) (l : Fin 10752) (hl : l.val < 512 * (q.val + 1)) :
    arg11.view.read (Elt F) (arg11.view.writes (Elt F) f (⟨Rect.unit (s := S512x10752) ![0, o] S512x512.size inb, k0_pay5 (F := F) a (slot y q)⟩ :: L)) (ix2 r l) = codesOf a y (ix2 r l) := by
  rw [read_cons_col]
  by_cases h : o ≤ l.val ∧ l.val < o + 512
  · rw [dif_pos h]
    have hlt := l.isLt
    have e1 : (⟨l.val / 512, by omega⟩ : Fin 21) = q := Fin.ext (by show l.val / 512 = q.val; omega)
    have e2 : (⟨l.val % 512, Nat.mod_lt _ (by decide)⟩ : Fin 512) = ⟨l.val - o, by omega⟩ := Fin.ext (by show l.val % 512 = l.val - o; omega)
    show _ = k0_pay5 (F := F) a (slot y ⟨l.val / 512, _⟩) (ix2 r ⟨l.val % 512, _⟩)
    rw [e1, e2]
  · rw [dif_neg h]
    exact ih r l (by omega)

/-- The stores of the codes, read as `codesOf`. -/
theorem read_codes {arg11 : Memref sig .tc .vmem S512x10752 .fp8e4m3} (f : BufTy.Contents (Elt F) arg11.view.ty)
    (a : Vec F S512x128 .f32) (y : Vec F S21x512x512 .f32) (i0 i1 i2 i3 i4 i5 i6 i7 i8 i9 i10 i11 i12 i13 i14 i15 i16 i17 i18 i19 i20) :
    arg11.view.read (Elt F) (arg11.view.writes (Elt F) f
      [⟨Rect.unit (s := S512x10752) ![0, 10240] S512x512.size i20, k0_pay5 (F := F) a (slot y 20)⟩,
       ⟨Rect.unit (s := S512x10752) ![0, 9728] S512x512.size i19, k0_pay5 (F := F) a (slot y 19)⟩,
       ⟨Rect.unit (s := S512x10752) ![0, 9216] S512x512.size i18, k0_pay5 (F := F) a (slot y 18)⟩,
       ⟨Rect.unit (s := S512x10752) ![0, 8704] S512x512.size i17, k0_pay5 (F := F) a (slot y 17)⟩,
       ⟨Rect.unit (s := S512x10752) ![0, 8192] S512x512.size i16, k0_pay5 (F := F) a (slot y 16)⟩,
       ⟨Rect.unit (s := S512x10752) ![0, 7680] S512x512.size i15, k0_pay5 (F := F) a (slot y 15)⟩,
       ⟨Rect.unit (s := S512x10752) ![0, 7168] S512x512.size i14, k0_pay5 (F := F) a (slot y 14)⟩,
       ⟨Rect.unit (s := S512x10752) ![0, 6656] S512x512.size i13, k0_pay5 (F := F) a (slot y 13)⟩,
       ⟨Rect.unit (s := S512x10752) ![0, 6144] S512x512.size i12, k0_pay5 (F := F) a (slot y 12)⟩,
       ⟨Rect.unit (s := S512x10752) ![0, 5632] S512x512.size i11, k0_pay5 (F := F) a (slot y 11)⟩,
       ⟨Rect.unit (s := S512x10752) ![0, 5120] S512x512.size i10, k0_pay5 (F := F) a (slot y 10)⟩,
       ⟨Rect.unit (s := S512x10752) ![0, 4608] S512x512.size i9, k0_pay5 (F := F) a (slot y 9)⟩,
       ⟨Rect.unit (s := S512x10752) ![0, 4096] S512x512.size i8, k0_pay5 (F := F) a (slot y 8)⟩,
       ⟨Rect.unit (s := S512x10752) ![0, 3584] S512x512.size i7, k0_pay5 (F := F) a (slot y 7)⟩,
       ⟨Rect.unit (s := S512x10752) ![0, 3072] S512x512.size i6, k0_pay5 (F := F) a (slot y 6)⟩,
       ⟨Rect.unit (s := S512x10752) ![0, 2560] S512x512.size i5, k0_pay5 (F := F) a (slot y 5)⟩,
       ⟨Rect.unit (s := S512x10752) ![0, 2048] S512x512.size i4, k0_pay5 (F := F) a (slot y 4)⟩,
       ⟨Rect.unit (s := S512x10752) ![0, 1536] S512x512.size i3, k0_pay5 (F := F) a (slot y 3)⟩,
       ⟨Rect.unit (s := S512x10752) ![0, 1024] S512x512.size i2, k0_pay5 (F := F) a (slot y 2)⟩,
       ⟨Rect.unit (s := S512x10752) ![0, 512] S512x512.size i1, k0_pay5 (F := F) a (slot y 1)⟩,
       ⟨Rect.unit (s := S512x10752) ![0, 0] S512x512.size i0, k0_pay5 (F := F) a (slot y 0)⟩]) = codesOf a y := by
  funext z
  obtain ⟨r, l, rfl⟩ : ∃ (r : Fin 512) (l : Fin 10752), z = ix2 r l := ⟨z 0, z 1, by funext a; match a with | 0 => rfl | 1 => rfl⟩
  refine read_codes_step f a y 20 10240 rfl _ _ (fun r l hl => ?_) r l l.isLt
  refine read_codes_step f a y 19 9728 rfl _ _ (fun r l hl => ?_) r l hl
  refine read_codes_step f a y 18 9216 rfl _ _ (fun r l hl => ?_) r l hl
  refine read_codes_step f a y 17 8704 rfl _ _ (fun r l hl => ?_) r l hl
  refine read_codes_step f a y 16 8192 rfl _ _ (fun r l hl => ?_) r l hl
  refine read_codes_step f a y 15 7680 rfl _ _ (fun r l hl => ?_) r l hl
  refine read_codes_step f a y 14 7168 rfl _ _ (fun r l hl => ?_) r l hl
  refine read_codes_step f a y 13 6656 rfl _ _ (fun r l hl => ?_) r l hl
  refine read_codes_step f a y 12 6144 rfl _ _ (fun r l hl => ?_) r l hl
  refine read_codes_step f a y 11 5632 rfl _ _ (fun r l hl => ?_) r l hl
  refine read_codes_step f a y 10 5120 rfl _ _ (fun r l hl => ?_) r l hl
  refine read_codes_step f a y 9 4608 rfl _ _ (fun r l hl => ?_) r l hl
  refine read_codes_step f a y 8 4096 rfl _ _ (fun r l hl => ?_) r l hl
  refine read_codes_step f a y 7 3584 rfl _ _ (fun r l hl => ?_) r l hl
  refine read_codes_step f a y 6 3072 rfl _ _ (fun r l hl => ?_) r l hl
  refine read_codes_step f a y 5 2560 rfl _ _ (fun r l hl => ?_) r l hl
  refine read_codes_step f a y 4 2048 rfl _ _ (fun r l hl => ?_) r l hl
  refine read_codes_step f a y 3 1536 rfl _ _ (fun r l hl => ?_) r l hl
  refine read_codes_step f a y 2 1024 rfl _ _ (fun r l hl => ?_) r l hl
  refine read_codes_step f a y 1 512 rfl _ _ (fun r l hl => ?_) r l hl
  refine read_codes_step f a y 0 0 rfl _ _ (fun r l hl => ?_) r l hl
  exact absurd hl (Nat.not_lt_zero _)

/-- A load of one slot of the tiles' scratch. -/
theorem readAt_slot {arg15 : Memref sig .tc .vmem S21x512x512 .f32} (f : BufTy.Contents (Elt F) arg15.view.ty) (j : Fin 21)
    (inb : ∀ a : Fin 3, (![j.val, 0, 0] : Fin 3 → ℕ) a + S1x512x512.size a ≤ S21x512x512.size a) :
    View.readAt (Elt F) arg15.view (Rect.unit (s := S21x512x512) ![j.val, 0, 0] S1x512x512.size inb).toLoadRect f = slot (arg15.view.read (Elt F) f) j := by
  funext z
  refine congrArg (arg15.view.read (Elt F) f) (funext fun a => Fin.ext ?_)
  match a with
  | 0 => show j.val + 1 * (z 0).val = j.val; have h0 : (z 0).val = 0 := Nat.lt_one_iff.mp (z 0).isLt; omega
  | 1 => show 0 + 1 * (z 1).val = (z 1).val; omega
  | 2 => show 0 + 1 * (z 2).val = (z 2).val; omega

set_option maxHeartbeats 4000000 in
/-- A point that does not end a row of the grid. -/
theorem sound_step (c : Dev nD) (E : Set ℕ) (i : grid0.Coords) (h2 : ¬ k0_cond2 i = 1#1) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)
    (x0 : Vec F S512x3584 .fp8e4m3) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (x9 : Vec F S512x10752 .fp8e4m3) (x10 : Vec F S512x1 .f32) (x11 : Vec F S512x3584 .bf16) (x12 : Vec F S2x3584x512 .bf16) (x13 : Vec F S21x512x512 .f32) (x14 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (xNext (F := F) i x11 x0) ∗ (∃ d, owns (c : Thread nD τ) arg14 fullShare d) ∗ owns (c : Thread nD τ) arg15 fullShare (yNext (F := F) i x13 (xNext (F := F) i x11 x0) x1 x2 x3 x4 x5 x6 x7 x8) ∗ owns (c : Thread nD τ) arg16 fullShare (aNext (F := F) i x14 (xNext (F := F) i x11 x0) x1 x2 x3 x4 x5 x6 x7 x8)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec
  sl_step
  have hc : sound_step.sl.v2 i = 1#1 ↔ (i 1).val = 0 := by
    unfold sound_step.sl.v2 sound_step.sl.v1
    exact first_iff (i 1)
  have ex : arg13.view.read (Elt F) (if hc : sound_step.sl.v2 i = 1#1 then arg13.view.writes (Elt F) f11 [⟨Rect.unit (s := S512x3584) ![0, 0] S512x3584.size inb_S512x3584_S512x3584_0_0, k0_pay27 (F := F) (View.readAt (Elt F) arg2.view (Rect.unit (s := S512x3584) ![0, 0] S512x3584.size inb_S512x3584_S512x3584_0_0).toLoadRect f0)⟩] else f11) = (xNext (F := F) i (arg13.view.read (Elt F) f11) (arg2.view.read (Elt F) f0)) := by
    unfold xNext
    by_cases h0 : (i 1).val = 0
    · rw [dif_pos (hc.mpr h0), if_pos h0, View.readAt_full]; exact View.read_writes_full _ _ _ _ _
    · rw [dif_neg (fun h => h0 (hc.mp h)), if_neg h0]
  have e11 : sound_step.sl.v11 c i arg2 arg13 f0 f11 = (xNext (F := F) i (arg13.view.read (Elt F) f11) (arg2.view.read (Elt F) f0)) := by
    unfold sound_step.sl.v11
    exact (View.readAt_full _ _ _).trans ex
  have e12 : sound_step.sl.v12 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg4.view.read (Elt F) f2) (arg6.view.read (Elt F) f4) := by
    unfold sound_step.sl.v12
    exact read_wide0 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e21 : sound_step.sl.v21 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg5.view.read (Elt F) f3) (arg7.view.read (Elt F) f5) := by
    unfold sound_step.sl.v21
    exact read_wide1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e42 : sound_step.sl.v42 c i arg16 f14 = (if (i 1).val = 0 then k0_pay28 (F := F) else (arg16.view.read (Elt F) f14)) := by
    unfold sound_step.sl.v42
    refine (View.readAt_full _ _ _).trans ?_
    by_cases h0 : (i 1).val = 0
    · rw [dif_pos (hc.mpr h0), if_pos h0]; exact View.read_writes_full _ _ _ _ _
    · rw [dif_neg (fun h => h0 (hc.mp h)), if_neg h0]
  have er0 : sound_step.sl.r c arg3 f1 = k0_pay33 (F := F) (arg3.view.read (Elt F) f1) := by
    unfold sound_step.sl.r
    rw [View.readAt_full]
  have er1 : sound_step.sl.r_1 c arg8 f6 = (arg8.view.read (Elt F) f6) := by
    unfold sound_step.sl.r_1
    rw [View.readAt_full]
  have er2 : sound_step.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f11 f12 = k0_pay34 (F := F) (arg3.view.read (Elt F) f1) (xNext (F := F) i (arg13.view.read (Elt F) f11) (arg2.view.read (Elt F) f0)) (wide (F := F) (arg4.view.read (Elt F) f2) (arg6.view.read (Elt F) f4)) := by
    unfold sound_step.sl.r_2
    rw [View.readAt_full, e11, e12]
  have er3 : sound_step.sl.r_3 c arg9 f7 = (arg9.view.read (Elt F) f7) := by
    unfold sound_step.sl.r_3
    rw [View.readAt_full]
  have er4 : sound_step.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_step.sl.r_4 aNext
    rw [er0, er1, er2, er3, e11, e21, e42, View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]
  · iexists _; isplitr; swap; · iexact H11
    ipureintro
    exact ex
  isplitl [H12]; · iexists _; iexists _; isplitr; swap; · iexact H12
                   ipureintro; rfl
  isplitl [H13]
  · iexists _; isplitr; swap; · iexact H13
    ipureintro
    unfold yNext mid
    rw [er0, er1, er2, er3, e11, e21, View.readAt_full]
    exact View.read_writes_cons_put _ _ _ _ [] rfl
  iexists _; isplitr; swap; · iexact H14
  ipureintro
  rw [er4]
  exact View.read_writes_full _ _ _ _ _

set_option maxHeartbeats 4000000 in
/-- A point that ends a row of the grid. -/
theorem sound_last (c : Dev nD) (E : Set ℕ) (i : grid0.Coords) (h2 : k0_cond2 i = 1#1) (arg2 : Memref sig .tc .vmem S512x3584 .fp8e4m3) (harg2 : arg2.IsWhole) (arg3 : Memref sig .tc .vmem S512x1 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S28x512 .f32) (harg6 : arg6.IsWhole) (arg7 : Memref sig .tc .vmem S28x512 .f32) (harg7 : arg7.IsWhole) (arg8 : Memref sig .tc .vmem S512x128 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x10752 .fp8e4m3) (harg11 : arg11.IsWhole) (arg12 : Memref sig .tc .vmem S512x1 .f32) (harg12 : arg12.IsWhole) (arg13 : Memref sig .tc .vmem S512x3584 .bf16) (harg13 : arg13.IsWhole) (arg14 : Memref sig .tc .vmem S2x3584x512 .bf16) (harg14 : arg14.IsWhole) (arg15 : Memref sig .tc .vmem S21x512x512 .f32) (harg15 : arg15.IsWhole) (arg16 : Memref sig .tc .vmem S512x128 .f32) (harg16 : arg16.IsWhole)
    (x0 : Vec F S512x3584 .fp8e4m3) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (x9 : Vec F S512x10752 .fp8e4m3) (x10 : Vec F S512x1 .f32) (x11 : Vec F S512x3584 .bf16) (x12 : Vec F S2x3584x512 .bf16) (x13 : Vec F S21x512x512 .f32) (x14 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (codesOf (F := F) (aNext (F := F) i x14 (xNext (F := F) i x11 x0) x1 x2 x3 x4 x5 x6 x7 x8) (yNext (F := F) i x13 (xNext (F := F) i x11 x0) x1 x2 x3 x4 x5 x6 x7 x8)) ∗ owns (c : Thread nD τ) arg12 fullShare (k0_pay3 (F := F) (aNext (F := F) i x14 (xNext (F := F) i x11 x0) x1 x2 x3 x4 x5 x6 x7 x8)) ∗ owns (c : Thread nD τ) arg13 fullShare (xNext (F := F) i x11 x0) ∗ (∃ d, owns (c : Thread nD τ) arg14 fullShare d) ∗ owns (c : Thread nD τ) arg15 fullShare (yNext (F := F) i x13 (xNext (F := F) i x11 x0) x1 x2 x3 x4 x5 x6 x7 x8) ∗ owns (c : Thread nD τ) arg16 fullShare (aNext (F := F) i x14 (xNext (F := F) i x11 x0) x1 x2 x3 x4 x5 x6 x7 x8)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec
  sl_step
  have hc : sound_last.sl.v2 i = 1#1 ↔ (i 1).val = 0 := by
    unfold sound_last.sl.v2 sound_last.sl.v1
    exact first_iff (i 1)
  have ex : arg13.view.read (Elt F) (if hc : sound_last.sl.v2 i = 1#1 then arg13.view.writes (Elt F) f11 [⟨Rect.unit (s := S512x3584) ![0, 0] S512x3584.size inb_S512x3584_S512x3584_0_0, k0_pay27 (F := F) (View.readAt (Elt F) arg2.view (Rect.unit (s := S512x3584) ![0, 0] S512x3584.size inb_S512x3584_S512x3584_0_0).toLoadRect f0)⟩] else f11) = (xNext (F := F) i (arg13.view.read (Elt F) f11) (arg2.view.read (Elt F) f0)) := by
    unfold xNext
    by_cases h0 : (i 1).val = 0
    · rw [dif_pos (hc.mpr h0), if_pos h0, View.readAt_full]; exact View.read_writes_full _ _ _ _ _
    · rw [dif_neg (fun h => h0 (hc.mp h)), if_neg h0]
  have e11 : sound_last.sl.v11 c i arg2 arg13 f0 f11 = (xNext (F := F) i (arg13.view.read (Elt F) f11) (arg2.view.read (Elt F) f0)) := by
    unfold sound_last.sl.v11
    exact (View.readAt_full _ _ _).trans ex
  have e12 : sound_last.sl.v12 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg4.view.read (Elt F) f2) (arg6.view.read (Elt F) f4) := by
    unfold sound_last.sl.v12
    exact read_wide0 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e21 : sound_last.sl.v21 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 = wide (F := F) (arg5.view.read (Elt F) f3) (arg7.view.read (Elt F) f5) := by
    unfold sound_last.sl.v21
    exact read_wide1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f12 _
  have e42 : sound_last.sl.v42 c i arg16 f14 = (if (i 1).val = 0 then k0_pay28 (F := F) else (arg16.view.read (Elt F) f14)) := by
    unfold sound_last.sl.v42
    refine (View.readAt_full _ _ _).trans ?_
    by_cases h0 : (i 1).val = 0
    · rw [dif_pos (hc.mpr h0), if_pos h0]; exact View.read_writes_full _ _ _ _ _
    · rw [dif_neg (fun h => h0 (hc.mp h)), if_neg h0]
  have er0 : sound_last.sl.r c arg3 f1 = k0_pay33 (F := F) (arg3.view.read (Elt F) f1) := by
    unfold sound_last.sl.r
    rw [View.readAt_full]
  have er1 : sound_last.sl.r_1 c arg8 f6 = (arg8.view.read (Elt F) f6) := by
    unfold sound_last.sl.r_1
    rw [View.readAt_full]
  have er2 : sound_last.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f11 f12 = k0_pay34 (F := F) (arg3.view.read (Elt F) f1) (xNext (F := F) i (arg13.view.read (Elt F) f11) (arg2.view.read (Elt F) f0)) (wide (F := F) (arg4.view.read (Elt F) f2) (arg6.view.read (Elt F) f4)) := by
    unfold sound_last.sl.r_2
    rw [View.readAt_full, e11, e12]
  have er3 : sound_last.sl.r_3 c arg9 f7 = (arg9.view.read (Elt F) f7) := by
    unfold sound_last.sl.r_3
    rw [View.readAt_full]
  have er4 : sound_last.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.r_4 aNext
    rw [er0, er1, er2, er3, e11, e21, e42, View.readAt_full]
  have e61 : sound_last.sl.v61 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.v61 sound_last.sl.H14_1
    rw [er4]
    exact View.readCov_full _ _ _ _ []
  have ey : arg15.view.read (Elt F) (arg15.view.writes (Elt F) f13 (sound_last.sl.H13_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12)) = (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.H13_1 yNext mid
    rw [er0, er1, er2, er3, e11, e21, View.readAt_full]
    exact View.read_writes_cons_put _ _ _ _ [] rfl
  have s0 : sound_last.sl.v71 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 0 := by
    unfold sound_last.sl.v71
    rw [← ey]
    exact readAt_slot _ 0 _
  have s1 : sound_last.sl.v81 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 1 := by
    unfold sound_last.sl.v81
    rw [← ey]
    exact readAt_slot _ 1 _
  have s2 : sound_last.sl.v91 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 2 := by
    unfold sound_last.sl.v91
    rw [← ey]
    exact readAt_slot _ 2 _
  have s3 : sound_last.sl.v101 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 3 := by
    unfold sound_last.sl.v101
    rw [← ey]
    exact readAt_slot _ 3 _
  have s4 : sound_last.sl.v111 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 4 := by
    unfold sound_last.sl.v111
    rw [← ey]
    exact readAt_slot _ 4 _
  have s5 : sound_last.sl.v121 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 5 := by
    unfold sound_last.sl.v121
    rw [← ey]
    exact readAt_slot _ 5 _
  have s6 : sound_last.sl.v131 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 6 := by
    unfold sound_last.sl.v131
    rw [← ey]
    exact readAt_slot _ 6 _
  have s7 : sound_last.sl.v141 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 7 := by
    unfold sound_last.sl.v141
    rw [← ey]
    exact readAt_slot _ 7 _
  have s8 : sound_last.sl.v151 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 8 := by
    unfold sound_last.sl.v151
    rw [← ey]
    exact readAt_slot _ 8 _
  have s9 : sound_last.sl.v161 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 9 := by
    unfold sound_last.sl.v161
    rw [← ey]
    exact readAt_slot _ 9 _
  have s10 : sound_last.sl.v171 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 10 := by
    unfold sound_last.sl.v171
    rw [← ey]
    exact readAt_slot _ 10 _
  have s11 : sound_last.sl.v181 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 11 := by
    unfold sound_last.sl.v181
    rw [← ey]
    exact readAt_slot _ 11 _
  have s12 : sound_last.sl.v191 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 12 := by
    unfold sound_last.sl.v191
    rw [← ey]
    exact readAt_slot _ 12 _
  have s13 : sound_last.sl.v201 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 13 := by
    unfold sound_last.sl.v201
    rw [← ey]
    exact readAt_slot _ 13 _
  have s14 : sound_last.sl.v211 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 14 := by
    unfold sound_last.sl.v211
    rw [← ey]
    exact readAt_slot _ 14 _
  have s15 : sound_last.sl.v221 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 15 := by
    unfold sound_last.sl.v221
    rw [← ey]
    exact readAt_slot _ 15 _
  have s16 : sound_last.sl.v231 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 16 := by
    unfold sound_last.sl.v231
    rw [← ey]
    exact readAt_slot _ 16 _
  have s17 : sound_last.sl.v241 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 17 := by
    unfold sound_last.sl.v241
    rw [← ey]
    exact readAt_slot _ 17 _
  have s18 : sound_last.sl.v251 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 18 := by
    unfold sound_last.sl.v251
    rw [← ey]
    exact readAt_slot _ 18 _
  have s19 : sound_last.sl.v261 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 19 := by
    unfold sound_last.sl.v261
    rw [← ey]
    exact readAt_slot _ 19 _
  have s20 : sound_last.sl.v271 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 20 := by
    unfold sound_last.sl.v271
    rw [← ey]
    exact readAt_slot _ 20 _
  have q5 : sound_last.sl.r_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f14 = k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) := by
    unfold sound_last.sl.r_5
    rw [e61]
  have q6 : sound_last.sl.r_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = k0_pay6 (F := F) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 2) := by
    unfold sound_last.sl.r_6
    rw [s2]
  have q7 : sound_last.sl.r_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay10 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 5) := by
    unfold sound_last.sl.r_7
    rw [q5, s5]
  have q8 : sound_last.sl.r_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay14 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 8) := by
    unfold sound_last.sl.r_8
    rw [q5, s8]
  have q9 : sound_last.sl.r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 = k0_pay18 (F := F) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 12) := by
    unfold sound_last.sl.r_9
    rw [s12]
  have q10 : sound_last.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay22 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 15) := by
    unfold sound_last.sl.r_10
    rw [q5, s15]
  have q11 : sound_last.sl.r_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 f0 f1 f2 f3 f4 f5 f6 f7 f8 f11 f12 f13 f14 = k0_pay26 (F := F) (k0_pay3 (F := F) (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8))) (slot (F := F) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) 18) := by
    unfold sound_last.sl.r_11
    rw [q5, s18]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists _; isplitr; swap; · iexact H9
                  ipureintro
                  rw [e61, q5, q6, q7, q8, q9, q10, q11, s0, s1, s3, s4, s6, s7, s9, s10, s11, s13, s14, s16, s17, s19, s20]
                  exact read_codes (F := F) f9 (aNext (F := F) i (arg16.view.read (Elt F) f14) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) (yNext (F := F) i (arg15.view.read (Elt F) f13) (xNext (F := F) i (arg13.view.read (Elt F) f11) (arg2.view.read (Elt F) f0)) (arg3.view.read (Elt F) f1) (arg4.view.read (Elt F) f2) (arg5.view.read (Elt F) f3) (arg6.view.read (Elt F) f4) (arg7.view.read (Elt F) f5) (arg8.view.read (Elt F) f6) (arg9.view.read (Elt F) f7) (arg10.view.read (Elt F) f8)) _ _ _ _ _ _ _ _ _ _ _ _ _ _ _ _ _ _ _ _ _
  isplitl [H10]; · iexists _; isplitr; swap; · iexact H10
                   ipureintro
                   simp only [e61, q5]
                   exact View.read_writes_full _ _ _ _ _
  isplitl [H11]
  · iexists _; isplitr; swap; · iexact H11
    ipureintro
    exact ex
  isplitl [H12]; · iexists _; iexists _; isplitr; swap; · iexact H12
                   ipureintro; rfl
  isplitl [H13]
  · iexists _; isplitr; swap; · iexact H13
    ipureintro
    exact ey
  iexists _; isplitr; swap; · iexact H14
  ipureintro
  unfold sound_last.sl.H14_1
  rw [er4]
  exact View.read_writes_full _ _ _ _ _

end Cert.GateUp.Body
end
-- ==== Proof.GateUpBitsRun.lean ====
module
public import proofs.«01_k».proof.Proof.GateUpBitsBody

@[expose] public section
set_option maxRecDepth 16384
noncomputable section
namespace Cert.GateUp.Body
open Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S512x3584 .bf16 := Memref.whole cc0_scratch0
abbrev scM0_1 : Memref sig .tc .vmem S2x3584x512 .bf16 := Memref.whole cc0_scratch1
abbrev scM0_2 : Memref sig .tc .vmem S21x512x512 .f32 := Memref.whole cc0_scratch2
abbrev scM0_3 : Memref sig .tc .vmem S512x128 .f32 := Memref.whole cc0_scratch3

theorem PhiA_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem last_iff : ∀ t : Fin cfg0.N, Iff (k0_cond2 (grid0.coords t) = 1#1) (t.val % 21 = 20) := (by decide +kernel : ∀ t : Fin grid0.N, _)
theorem coord1 : ∀ t : Fin cfg0.N, (grid0.coords t 1).val = t.val % 21 := (by decide +kernel : ∀ t : Fin grid0.N, _)
theorem off17_eq : ∀ t : Fin cfg0.N, k0_off17 (grid0.coords t) = ![t.val % 21, 0, 0] := (by decide +kernel : ∀ t : Fin grid0.N, _)

/-- The first point of the row of the grid a point belongs to. -/
def rowStart (t : Fin cfg0.N) : Fin cfg0.N := ⟨t.val - t.val % 21, Nat.lt_of_le_of_lt (Nat.sub_le _ _) t.isLt⟩

/-- The widened activations a point works with: those its row of the grid began with. -/
def xbAt (c : Dev nD) (t : Fin cfg0.N) : Vec F S512x3584 .bf16 := k0_pay27 (F := F) (iblk m c 0 (rowStart t))

/-- The gated product a point computes. -/
def prodAt (c : Dev nD) (t : Fin cfg0.N) : Vec F S1x512x512 .f32 :=
  mid (F := F) (xbAt m c t) (iblk m c 1 t) (iblk m c 2 t) (iblk m c 3 t) (iblk m c 4 t) (iblk m c 5 t) (iblk m c 6 t) (iblk m c 7 t) (iblk m c 8 t)

/-- The running maxima after point `n`. -/
def maxAt (c : Dev nD) : (n : ℕ) → n < cfg0.N → Vec F S512x128 .f32
  | 0, h => aNext (F := F) (grid0.coords ⟨0, h⟩) (k0_pay28 (F := F)) (xbAt m c ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩)
  | n + 1, h => aNext (F := F) (grid0.coords ⟨n + 1, h⟩) (maxAt c n (Nat.lt_of_succ_lt h)) (xbAt m c ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩)

/-- What the scratch buffers hold before position `n`: the widened activations of its row of the grid, the slots of the
    points of the row already done, and their running maxima. -/
def Good (c : Dev nD) (n : ℕ) (X : Vec F S512x3584 .bf16) (Y : Vec F S21x512x512 .f32) (A : Vec F S512x128 .f32) : Prop :=
  (∀ (j : Fin 21) (t : Fin cfg0.N), j.val < n % 21 → t.val = n - n % 21 + j.val → slot Y j = prodAt m c t)
  ∧ (∀ t : Fin cfg0.N, n % 21 ≠ 0 → t.val + 1 = n → A = maxAt m c t.val t.isLt)
  ∧ (∀ t : Fin cfg0.N, n % 21 ≠ 0 → t.val + 1 = n → X = xbAt m c t)

theorem xNext_eq (c : Dev nD) (t : Fin cfg0.N) (X : Vec F S512x3584 .bf16) (Y : Vec F S21x512x512 .f32) (A : Vec F S512x128 .f32) (h : Good m c t.val X Y A) :
    xNext (F := F) (grid0.coords t) X (iblk m c 0 t) = xbAt m c t := by
  unfold xNext xbAt
  by_cases h0 : t.val % 21 = 0
  · rw [if_pos ((coord1 t).trans h0)]
    have e : rowStart t = t := Fin.ext (by show t.val - t.val % 21 = t.val; omega)
    rw [e]
  · rw [if_neg (fun hh => h0 ((coord1 t).symm.trans hh))]
    have hl := t.isLt
    rw [h.2.2 ⟨t.val - 1, by omega⟩ h0 (by show t.val - 1 + 1 = t.val; omega)]
    unfold xbAt
    have e : rowStart ⟨t.val - 1, by omega⟩ = rowStart t := Fin.ext (by show t.val - 1 - (t.val - 1) % 21 = t.val - t.val % 21; omega)
    rw [e]

theorem slot_yNext (t : Fin cfg0.N) (Y : Vec F S21x512x512 .f32) (X : Vec F S512x3584 .bf16) (x1 : Vec F S512x1 .f32) (x2 : Vec F S1792x512 .i8) (x3 : Vec F S1792x512 .i8) (x4 : Vec F S28x512 .f32) (x5 : Vec F S28x512 .f32) (x6 : Vec F S512x128 .bf16) (x7 : Vec F S128x512 .bf16) (x8 : Vec F S128x512 .bf16) (j : Fin 21) :
    slot (yNext (F := F) (grid0.coords t) Y X x1 x2 x3 x4 x5 x6 x7 x8) j = if j.val = t.val % 21 then mid (F := F) X x1 x2 x3 x4 x5 x6 x7 x8 else slot Y j := by
  funext z
  unfold slot yNext
  rw [off17_eq]
  by_cases h : j.val = t.val % 21
  · rw [if_pos h]
    refine (dif_pos ?_).trans (congrArg (mid (F := F) X x1 x2 x3 x4 x5 x6 x7 x8) (funext fun a => Fin.ext ?_))
    · intro a
      match a with
      | 0 => show t.val % 21 ≤ j.val ∧ j.val < t.val % 21 + 1; omega
      | 1 => exact ⟨Nat.zero_le _, by show (z 1).val < 0 + 512; have := (z 1).isLt; have e : S1x512x512.size 1 = 512 := rfl; omega⟩
      | 2 => exact ⟨Nat.zero_le _, by show (z 2).val < 0 + 512; have := (z 2).isLt; have e : S1x512x512.size 2 = 512 := rfl; omega⟩
    · match a with
      | 0 => show j.val - t.val % 21 = (z 0).val; have h0 : (z 0).val = 0 := Nat.lt_one_iff.mp (z 0).isLt; omega
      | 1 => exact Nat.sub_zero _
      | 2 => exact Nat.sub_zero _
  · rw [if_neg h]
    refine dif_neg fun hall => ?_
    have := hall 0
    have h1 : t.val % 21 ≤ j.val ∧ j.val < t.val % 21 + 1 := this
    omega

/-- The maxima after a point, from any state its row of the grid can be in. -/
theorem aNext_eq (c : Dev nD) (t : Fin cfg0.N) (X : Vec F S512x3584 .bf16) (Y : Vec F S21x512x512 .f32) (A : Vec F S512x128 .f32) (h : Good m c t.val X Y A) :
    aNext (F := F) (grid0.coords t) A (xbAt m c t) (iblk m c 1 t) (iblk m c 2 t) (iblk m c 3 t) (iblk m c 4 t) (iblk m c 5 t) (iblk m c 6 t) (iblk m c 7 t) (iblk m c 8 t) = maxAt m c t.val t.isLt := by
  obtain ⟨n, hn'⟩ := t
  by_cases hz : n % 21 = 0
  · have key : ∀ a a' : Vec F S512x128 .f32, ∀ x x1 x2 x3 x4 x5 x6 x7 x8, aNext (F := F) (grid0.coords ⟨n, hn'⟩) a x x1 x2 x3 x4 x5 x6 x7 x8 = aNext (F := F) (grid0.coords ⟨n, hn'⟩) a' x x1 x2 x3 x4 x5 x6 x7 x8 := by
      intro a a' x x1 x2 x3 x4 x5 x6 x7 x8
      have e0 : (grid0.coords ⟨n, hn'⟩ 1).val = 0 := (coord1 ⟨n, hn'⟩).trans hz
      unfold aNext; rw [if_pos e0, if_pos e0]
    cases n with
    | zero => exact key _ _ _ _ _ _ _ _ _ _ _
    | succ n => exact key _ _ _ _ _ _ _ _ _ _ _
  · cases n with
    | zero => exact absurd rfl hz
    | succ n =>
      have hA := h.2.1 ⟨n, Nat.lt_of_succ_lt hn'⟩ hz rfl
      rw [hA]; rfl

theorem good_next (c : Dev nD) (t : Fin cfg0.N) (X : Vec F S512x3584 .bf16) (Y : Vec F S21x512x512 .f32) (A : Vec F S512x128 .f32) (h : Good m c t.val X Y A) :
    Good m c (t.val + 1) (xbAt m c t) (yNext (F := F) (grid0.coords t) Y (xbAt m c t) (iblk m c 1 t) (iblk m c 2 t) (iblk m c 3 t) (iblk m c 4 t) (iblk m c 5 t) (iblk m c 6 t) (iblk m c 7 t) (iblk m c 8 t)) (aNext (F := F) (grid0.coords t) A (xbAt m c t) (iblk m c 1 t) (iblk m c 2 t) (iblk m c 3 t) (iblk m c 4 t) (iblk m c 5 t) (iblk m c 6 t) (iblk m c 7 t) (iblk m c 8 t)) := by
  refine ⟨?_, ?_, ?_⟩
  · intro j t' hj ht'
    rw [slot_yNext]
    by_cases e : j.val = t.val % 21
    · rw [if_pos e]
      have : t' = t := Fin.ext (by omega)
      rw [this]; rfl
    · rw [if_neg e]
      exact h.1 j t' (by omega) (by omega)
  · intro t' hn ht'
    have e : t' = t := Fin.ext (by omega)
    subst e
    exact aNext_eq m c t' X Y A h
  · intro t' hn ht'
    have e : t' = t := Fin.ext (by omega)
    rw [e]

/-- The scale a row block ends with. -/
def scaleAt (c : Dev nD) (t : Fin cfg0.N) : Vec F S512x1 .f32 := k0_pay3 (F := F) (maxAt m c t.val t.isLt)

/-- The gated products of a whole row of the grid, the last of whose points is `t`. -/
def prods (c : Dev nD) (t : Fin cfg0.N) : Vec F S21x512x512 .f32 := fun z =>
  prodAt m c ⟨t.val - t.val % 21 + (z 0).val, by
    have h1 := t.isLt; have h2 : cfg0.N = 336 := N_0; have h3 := (z 0).isLt; have h4 : S21x512x512.size 0 = 21 := rfl; omega⟩ (ix3 0 (z 1) (z 2))

/-- The codes a row block ends with. -/
def codesAt (c : Dev nD) (t : Fin cfg0.N) : Vec F S512x10752 .fp8e4m3 := codesOf (F := F) (maxAt m c t.val t.isLt) (prods m c t)

theorem outs_last (c : Dev nD) (t : Fin cfg0.N) (ht : t.val % 21 = 20) (X : Vec F S512x3584 .bf16) (Y : Vec F S21x512x512 .f32) (A : Vec F S512x128 .f32) (h : Good m c t.val X Y A) :
    codesOf (F := F) (aNext (F := F) (grid0.coords t) A (xbAt m c t) (iblk m c 1 t) (iblk m c 2 t) (iblk m c 3 t) (iblk m c 4 t) (iblk m c 5 t) (iblk m c 6 t) (iblk m c 7 t) (iblk m c 8 t)) (yNext (F := F) (grid0.coords t) Y (xbAt m c t) (iblk m c 1 t) (iblk m c 2 t) (iblk m c 3 t) (iblk m c 4 t) (iblk m c 5 t) (iblk m c 6 t) (iblk m c 7 t) (iblk m c 8 t)) = codesAt m c t
    ∧ k0_pay3 (F := F) (aNext (F := F) (grid0.coords t) A (xbAt m c t) (iblk m c 1 t) (iblk m c 2 t) (iblk m c 3 t) (iblk m c 4 t) (iblk m c 5 t) (iblk m c 6 t) (iblk m c 7 t) (iblk m c 8 t)) = scaleAt m c t := by
  have hmax := aNext_eq m c t X Y A h
  have hs : ∀ j : Fin 21, slot (yNext (F := F) (grid0.coords t) Y (xbAt m c t) (iblk m c 1 t) (iblk m c 2 t) (iblk m c 3 t) (iblk m c 4 t) (iblk m c 5 t) (iblk m c 6 t) (iblk m c 7 t) (iblk m c 8 t)) j = slot (prods m c t) j := fun j => by
    have hl := t.isLt
    have hN : cfg0.N = 336 := N_0
    have hj := j.isLt
    have hp : slot (prods m c t) j = prodAt m c ⟨t.val - t.val % 21 + j.val, by omega⟩ := by
      funext z
      refine congrArg (prodAt m c _) (funext fun a => Fin.ext ?_)
      match a with
      | 0 => exact (Nat.lt_one_iff.mp (z 0).isLt).symm
      | 1 => rfl
      | 2 => rfl
    rw [slot_yNext, hp]
    by_cases e : j.val = t.val % 21
    · rw [if_pos e]
      have e' : (⟨t.val - t.val % 21 + j.val, by omega⟩ : Fin cfg0.N) = t := Fin.ext (by show t.val - t.val % 21 + j.val = t.val; omega)
      rw [e']; rfl
    · rw [if_neg e]
      exact h.1 j _ (by omega) rfl
  constructor
  · unfold codesAt
    rw [hmax]
    funext z
    unfold codesOf
    rw [hs]
  · rw [hmax]; rfl

/-- The invariant before position `n`: the widened weights' scratch at anything, the other three as `Good` says. -/
def Phi (c : Dev nD) (n : ℕ) (_h : n ≤ cfg0.N) : sProp 𝕄 :=
  iprop(iprop((∃ d, owns (c : Thread nD τ) scM0_1 fullShare d)
    ∗ (∃ X Y A, ⌜Good m c n X Y A⌝ ∗ owns (c : Thread nD τ) scM0_0 fullShare X ∗ owns (c : Thread nD τ) scM0_2 fullShare Y ∗ owns (c : Thread nD τ) scM0_3 fullShare A)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => codesAt m c t
    | ⟨10, _⟩ => scaleAt m c t
    | ⟨_ + 11, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = codesAt m c t := by dsimp only [dats]
theorem after0_10 (c : Dev nD) (t : Fin cfg0.N) : (dats m 0 c).after 10 t = scaleAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem body_mid (c : Dev nD) (t : Fin cfg0.N) (ht : ¬ t.val % 21 = 20) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare ((dats m 0 c).before 9 t d))
    ∗ (∃ d, owns (c : Thread nD τ) (st0_10 t) fullShare ((dats m 0 c).before 10 t d)))) := by
  unfold bodyAt0
  simp only [before0_0, before0_1, before0_2, before0_3, before0_4, before0_5, before0_6, before0_7, before0_8]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi
  iintro ⟨⟨⟨⟨%g1, HS1⟩, %X, %Y, %A, %hG, HS0, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hx := xNext_eq m c t X Y A hG
  iapply (sound_step (F := F) c Set.univ (grid0.coords t) (fun h => ht ((last_iff t).mp h)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ X g1 Y A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  rw [hx]
  iintro ⟨H0, H1, H2, H3, H4, H5, H6, H7, H8, H9, H10, HS0, HS1, HS2, HS3⟩
  isplitl [HS0 HS1 HS2 HS3 Hg]
  · isplitl [HS0 HS1 HS2 HS3]
    · isplitl [HS1]; · iexact HS1
      iexists _; iexists _; iexists _; isplitr; swap
      · isplitl [HS0]; · iexact HS0
        isplitl [HS2]; · iexact HS2
        iexact HS3
      ipureintro
      exact good_next m c t X Y A hG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

theorem body_last (c : Dev nD) (t : Fin cfg0.N) (ht : t.val % 21 = 20) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))) := by
  unfold bodyAt0
  simp only [before0_0, before0_1, before0_2, before0_3, before0_4, before0_5, before0_6, before0_7, before0_8]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8, after0_9, after0_10]
  unfold Phi
  iintro ⟨⟨⟨⟨%g1, HS1⟩, %X, %Y, %A, %hG, HS0, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hx := xNext_eq m c t X Y A hG
  iapply (sound_last (F := F) c Set.univ (grid0.coords t) ((last_iff t).mpr ht) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ X g1 Y A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  rw [hx]
  iintro ⟨H0, H1, H2, H3, H4, H5, H6, H7, H8, H9, H10, HS0, HS1, HS2, HS3⟩
  isplitl [HS0 HS1 HS2 HS3 Hg]
  · isplitl [HS0 HS1 HS2 HS3]
    · isplitl [HS1]; · iexact HS1
      iexists _; iexists _; iexists _; isplitr; swap
      · isplitl [HS0]; · iexact HS0
        isplitl [HS2]; · iexact HS2
        iexact HS3
      ipureintro
      exact good_next m c t X Y A hG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← (outs_last m c t ht X Y A hG).1, ← (outs_last m c t ht X Y A hG).2]
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  have i4 : cfg0.idle 4 (cfg0.grid.coords t) = false := rfl
  have i5 : cfg0.idle 5 (cfg0.grid.coords t) = false := rfl
  have i6 : cfg0.idle 6 (cfg0.grid.coords t) = false := rfl
  have i7 : cfg0.idle 7 (cfg0.grid.coords t) = false := rfl
  have i8 : cfg0.idle 8 (cfg0.grid.coords t) = false := rfl
  by_cases ht : t.val % 21 = 20
  · have i9 : cfg0.idle 9 (cfg0.grid.coords t) = false := by
      show (!(k0_cond2 (grid0.coords t) == 1#1)) = false
      rw [(last_iff t).mpr ht]; rfl
    have i9' : idle0 9 (grid0.coords t) = false := i9
    have i10' : idle0 10 (grid0.coords t) = false := i9
    have hb := body_last m c t ht
    refine triple_restated hb rfl .rfl fun _ => ?_
    simp only [i0, i1, i2, i3, i4, i5, i6, i7, i8, i9', i10']
    exact .rfl
  · have i9 : cfg0.idle 9 (cfg0.grid.coords t) = true := by
      show (!(k0_cond2 (grid0.coords t) == 1#1)) = true
      have hn : ¬ k0_cond2 (grid0.coords t) = 1#1 := fun h => ht ((last_iff t).mp h)
      rw [Bool.not_eq_true', beq_eq_false_iff_ne]; exact hn
    have i9' : idle0 9 (grid0.coords t) = true := i9
    have i10' : idle0 10 (grid0.coords t) = true := i9
    have f9 : (cfg0.win 9).flush t = false := Bool.eq_false_iff.mpr fun h => ht ((flush0_9 t).mp h)
    have f10 : (cfg0.win 10).flush t = false := Bool.eq_false_iff.mpr fun h => ht ((flush0_10 t).mp h)
    refine triple_restated (body_mid m c t ht) rfl .rfl fun _ => ?_
    simp only [i0, i1, i2, i3, i4, i5, i6, i7, i8, i9', i10', f9, f10]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨⟨%X, H0⟩, H1, ⟨%Y, H2⟩, ⟨%A, H3⟩⟩, Hg⟩
  isplitl [H0 H1 H2 H3]
  · isplitl [H1]; · iexact H1
    iexists X; iexists Y; iexists A; isplitr; swap
    · isplitl [H0]; · iexact H0
      isplitl [H2]; · iexact H2
      iexact H3
    ipureintro
    exact ⟨fun j t hj => absurd hj (Nat.not_lt_zero _), fun t h => absurd rfl h, fun t h => absurd rfl h⟩
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨H1, %X, %Y, %A, %_, H0, H2, H3⟩, Hg⟩
  isplitl [H0 H1 H2 H3]
  · isplitl [H0]; · iexists X; iexact H0
    isplitl [H1]; · iexact H1
    isplitl [H2]; · iexists Y; iexact H2
    iexists A; iexact H3
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))
end Cert.GateUp.Body
end
-- ==== Proof.ProjectQBitsWide.lean ====
module
public import proofs.«01_k».proof.Proof.Gen.ProjectQ.Loops
public import proofs.«01_k».proof.Proof.Groups

@[expose] public section
set_option maxRecDepth 16384
noncomputable section
namespace Cert.ProjectQ.Body
open Cert.ProjectQ.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The packed rows of weight group `k`. -/
def wBlk (x : Vec F S3584x1792 .i8) (k : Fin 28) : Vec F S128x1792 .i8 :=
  fun z => x (ix2 ⟨128 * k.val + (z 0).val, by have := (z 0).isLt; have h : S128x1792.size 0 = 128 := rfl; omega⟩ (z 1))
/-- The scales of weight group `g`. -/
def sRow (x : Vec F S56x1792 .f32) (g : Fin 56) : Vec F S1x1792 .f32 := fun z => x (ix2 g (z 1))

/-- What one trip of the loop stores: its group of widened weights. -/
theorem tripL_t1 (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (k : Fin k0_t1_loop.trips) :
    ∃ inb, tripL_k0_t1 (F := F) 𝒱 c bd i arg3 harg3 arg4 harg4 arg5 harg5 arg6 harg6 arg7 harg7 arg8 harg8 arg9 harg9 arg10 harg10 arg11 harg11 arg12 harg12 k0_h1 X5 X6 k
      = [⟨Rect.unit (s := S7168x1792) (k0_off3 k) S128x1792.size inb, k0_pay3 (F := F) (wBlk (arg5.view.read (Elt F) X5) ⟨k.val, k.isLt⟩) (sRow (arg6.view.read (Elt F) X6) ⟨k.val, Nat.lt_of_lt_of_le (k.isLt) (by decide)⟩)⟩] := by
  refine ⟨k0_off3_inb i k k0_h1, ?_⟩
  have e1 : ∀ k : Fin k0_t1_loop.trips, k0_off1 k = ![128 * k.val, 0] := by decide +kernel
  have e2 : ∀ k : Fin k0_t1_loop.trips, k0_off2 k = ![k.val, 0] := by decide +kernel
  have hw : wBlk (F := F) (arg5.view.read (Elt F) X5) ⟨k.val, k.isLt⟩
      = View.readAt (Elt F) arg5.view (Rect.unit (s := S3584x1792) (k0_off1 k) S128x1792.size (k0_off1_inb i k k0_h1)).toLoadRect X5 := by
    funext z
    refine congrArg (arg5.view.read (Elt F) X5) (funext fun a => Fin.ext ?_)
    match a with
    | 0 => show _ = k0_off1 k 0 + 1 * (z 0).val; rw [e1 k]; show _ = 128 * k.val + _; rw [Nat.one_mul]; rfl
    | 1 => show _ = k0_off1 k 1 + 1 * (z 1).val; rw [e1 k]; show _ = 0 + _; rw [Nat.one_mul, Nat.zero_add]; rfl
  have hs : sRow (F := F) (arg6.view.read (Elt F) X6) ⟨k.val, Nat.lt_of_lt_of_le (k.isLt) (by decide)⟩
      = View.readAt (Elt F) arg6.view (Rect.unit (s := S56x1792) (k0_off2 k) S1x1792.size (k0_off2_inb i k k0_h1)).toLoadRect X6 := by
    funext z
    refine congrArg (arg6.view.read (Elt F) X6) (funext fun a => Fin.ext ?_)
    match a with
    | 0 => show _ = k0_off2 k 0 + 1 * (z 0).val; rw [e2 k]; have h0 : (z 0).val = 0 := Nat.lt_one_iff.mp (z 0).isLt; rw [h0]; rfl
    | 1 => show _ = k0_off2 k 1 + 1 * (z 1).val; rw [e2 k]; show _ = 0 + _; rw [Nat.one_mul, Nat.zero_add]; rfl
  rw [hw, hs]
  unfold tripL_k0_t1 trip_k0_t1
  rfl

/-- What one trip of the loop stores: its group of widened weights. -/
theorem tripL_t2 (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (k : Fin k0_t2_loop.trips) :
    ∃ inb, tripL_k0_t2 (F := F) 𝒱 c bd i arg3 harg3 arg4 harg4 arg5 harg5 arg6 harg6 arg7 harg7 arg8 harg8 arg9 harg9 arg10 harg10 arg11 harg11 arg12 harg12 k0_h1 X5 X6 k
      = [⟨Rect.unit (s := S7168x1792) (k0_off6 k) S128x1792.size inb, k0_pay4 (F := F) (wBlk (arg5.view.read (Elt F) X5) ⟨k.val, k.isLt⟩) (sRow (arg6.view.read (Elt F) X6) ⟨28 + k.val, Nat.lt_of_lt_of_le (Nat.add_lt_add_left k.isLt 28) (by decide)⟩)⟩] := by
  refine ⟨k0_off6_inb i k k0_h1, ?_⟩
  have e1 : ∀ k : Fin k0_t2_loop.trips, k0_off4 k = ![128 * k.val, 0] := by decide +kernel
  have e2 : ∀ k : Fin k0_t2_loop.trips, k0_off5 k = ![28 + k.val, 0] := by decide +kernel
  have hw : wBlk (F := F) (arg5.view.read (Elt F) X5) ⟨k.val, k.isLt⟩
      = View.readAt (Elt F) arg5.view (Rect.unit (s := S3584x1792) (k0_off4 k) S128x1792.size (k0_off4_inb i k k0_h1)).toLoadRect X5 := by
    funext z
    refine congrArg (arg5.view.read (Elt F) X5) (funext fun a => Fin.ext ?_)
    match a with
    | 0 => show _ = k0_off4 k 0 + 1 * (z 0).val; rw [e1 k]; show _ = 128 * k.val + _; rw [Nat.one_mul]; rfl
    | 1 => show _ = k0_off4 k 1 + 1 * (z 1).val; rw [e1 k]; show _ = 0 + _; rw [Nat.one_mul, Nat.zero_add]; rfl
  have hs : sRow (F := F) (arg6.view.read (Elt F) X6) ⟨28 + k.val, Nat.lt_of_lt_of_le (Nat.add_lt_add_left k.isLt 28) (by decide)⟩
      = View.readAt (Elt F) arg6.view (Rect.unit (s := S56x1792) (k0_off5 k) S1x1792.size (k0_off5_inb i k k0_h1)).toLoadRect X6 := by
    funext z
    refine congrArg (arg6.view.read (Elt F) X6) (funext fun a => Fin.ext ?_)
    match a with
    | 0 => show _ = k0_off5 k 0 + 1 * (z 0).val; rw [e2 k]; have h0 : (z 0).val = 0 := Nat.lt_one_iff.mp (z 0).isLt; rw [h0]; rfl
    | 1 => show _ = k0_off5 k 1 + 1 * (z 1).val; rw [e2 k]; show _ = 0 + _; rw [Nat.one_mul, Nat.zero_add]; rfl
  rw [hw, hs]
  unfold tripL_k0_t2 trip_k0_t2
  rfl

/-- The widened weights: rows of the low nibbles, then rows of the high nibbles, group by group. -/
def wide (w : Vec F S3584x1792 .i8) (s : Vec F S56x1792 .f32) : Vec F S7168x1792 .bf16 := fun y =>
  if h : (y 0).val < 3584 then
    k0_pay3 (F := F) (wBlk w ⟨(y 0).val / 128, by omega⟩) (sRow s ⟨(y 0).val / 128, by omega⟩) (Groups.inGroup (W := 128) (by decide) (y 0).val (y 1))
  else
    k0_pay4 (F := F) (wBlk w ⟨((y 0).val - 3584) / 128, by have := (y 0).isLt; have e : S7168x1792.size 0 = 7168 := rfl; omega⟩)
      (sRow s ⟨28 + ((y 0).val - 3584) / 128, by have := (y 0).isLt; have e : S7168x1792.size 0 = 7168 := rfl; omega⟩)
      (Groups.inGroup (W := 128) (by decide) ((y 0).val - 3584) (y 1))

/-- After both loops the scratch reads as the widened weights, whatever it held. -/
theorem read_wide (𝒱 : Variants) (c : Dev nD) (bd : Option 𝒱.V) (i : grid0.Coords) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole) (k0_h1 : k0_cond1 i = 1#1)
    (X5 : BufTy.Contents (Elt F) arg5.view.ty) (X6 : BufTy.Contents (Elt F) arg6.view.ty) (f : BufTy.Contents (Elt F) arg12.view.ty) :
    arg12.view.read (Elt F) (arg12.view.writes (Elt F) f
        (pb_k0_t2 (F := F) 𝒱 c bd i arg3 harg3 arg4 harg4 arg5 harg5 arg6 harg6 arg7 harg7 arg8 harg8 arg9 harg9 arg10 harg10 arg11 harg11 arg12 harg12 k0_h1 X5 X6 28 ++ pb_k0_t1 (F := F) 𝒱 c bd i arg3 harg3 arg4 harg4 arg5 harg5 arg6 harg6 arg7 harg7 arg8 harg8 arg9 harg9 arg10 harg10 arg11 harg11 arg12 harg12 k0_h1 X5 X6 28))
      = wide (F := F) (arg5.view.read (Elt F) X5) (arg6.view.read (Elt F) X6) := by
  funext y
  obtain ⟨r, l, rfl⟩ : ∃ (r : Fin 7168) (l : Fin 1792), y = ix2 r l := ⟨y 0, y 1, by funext a; match a with | 0 => rfl | 1 => rfl⟩
  have o3 : ∀ k : Fin k0_t1_loop.trips, k0_off3 k = ![0 + 128 * k.val, 0] := by decide +kernel
  have o6 : ∀ k : Fin k0_t2_loop.trips, k0_off6 k = ![3584 + 128 * k.val, 0] := by decide +kernel
  have g2 := Groups.read_groups (W := 128) (by decide) arg12.view f 3584 28
    (fun k => if h : k < 28 then k0_pay4 (F := F) (wBlk (arg5.view.read (Elt F) X5) ⟨k, h⟩) (sRow (arg6.view.read (Elt F) X6) ⟨28 + k, by omega⟩) else fun _ => arg12.view.read (Elt F) f (ix2 r l))
    (pb_k0_t2 (F := F) 𝒱 c bd i arg3 harg3 arg4 harg4 arg5 harg5 arg6 harg6 arg7 harg7 arg8 harg8 arg9 harg9 arg10 harg10 arg11 harg11 arg12 harg12 k0_h1 X5 X6) rfl
    (fun k hk => by
      obtain ⟨inb, e⟩ := tripL_t2 (F := F) 𝒱 c bd i arg3 harg3 arg4 harg4 arg5 harg5 arg6 harg6 arg7 harg7 arg8 harg8 arg9 harg9 arg10 harg10 arg11 harg11 arg12 harg12 k0_h1 X5 X6 ⟨k, hk⟩
      refine ⟨k0_off6 ⟨k, hk⟩, inb, o6 ⟨k, hk⟩, ?_⟩
      rw [dif_pos hk, ← e]
      exact pb_k0_t2_succ (F := F) 𝒱 c bd i arg3 harg3 arg4 harg4 arg5 harg5 arg6 harg6 arg7 harg7 arg8 harg8 arg9 harg9 arg10 harg10 arg11 harg11 arg12 harg12 k0_h1 X5 X6 ⟨k, hk⟩) 28 le_rfl
  have g1 := Groups.read_groups (W := 128) (by decide) arg12.view f 0 28
    (fun k => if h : k < 28 then k0_pay3 (F := F) (wBlk (arg5.view.read (Elt F) X5) ⟨k, h⟩) (sRow (arg6.view.read (Elt F) X6) ⟨k, by omega⟩) else fun _ => arg12.view.read (Elt F) f (ix2 r l))
    (pb_k0_t1 (F := F) 𝒱 c bd i arg3 harg3 arg4 harg4 arg5 harg5 arg6 harg6 arg7 harg7 arg8 harg8 arg9 harg9 arg10 harg10 arg11 harg11 arg12 harg12 k0_h1 X5 X6) rfl
    (fun k hk => by
      obtain ⟨inb, e⟩ := tripL_t1 (F := F) 𝒱 c bd i arg3 harg3 arg4 harg4 arg5 harg5 arg6 harg6 arg7 harg7 arg8 harg8 arg9 harg9 arg10 harg10 arg11 harg11 arg12 harg12 k0_h1 X5 X6 ⟨k, hk⟩
      refine ⟨k0_off3 ⟨k, hk⟩, inb, o3 ⟨k, hk⟩, ?_⟩
      rw [dif_pos hk, ← e]
      exact pb_k0_t1_succ (F := F) 𝒱 c bd i arg3 harg3 arg4 harg4 arg5 harg5 arg6 harg6 arg7 harg7 arg8 harg8 arg9 harg9 arg10 harg10 arg11 harg11 arg12 harg12 k0_h1 X5 X6 ⟨k, hk⟩) 28 le_rfl [] r l
  rw [List.append_nil] at g1
  rw [g2 _ r l, g1]
  unfold wide
  have hr := r.isLt
  by_cases h : r.val < 3584
  · rw [if_neg (by omega), if_pos (by omega), dif_pos (show ((ix2 r l : S7168x1792.Idx) 0).val < 3584 from h), dif_pos (by omega)]; rfl
  · rw [if_pos (by omega), dif_neg (show ¬ ((ix2 r l : S7168x1792.Idx) 0).val < 3584 from h), dif_pos (by omega)]; rfl
end Cert.ProjectQ.Body
end
-- ==== Proof.ProjectQBitsBody.lean ====
module
public import proofs.«01_k».proof.Proof.Gen.ProjectQ.Frame
public import proofs.«01_k».proof.Proof.ProjectQBitsWide

@[expose] public section
set_option maxRecDepth 16384
noncomputable section
namespace Cert.ProjectQ.Body
open Cert.ProjectQ.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The 128 columns of the product that begin at column `o`. -/
def part (y : FVec F S256x1920 .f32) (o : ℕ) (ho : o ≤ 1792) : FVec F S256x128 .f32 :=
  fun z => y (ix2 (z 0) ⟨o + (z 1).val, by have := (z 1).isLt; have h : S256x128.size 1 = 128 := rfl; omega⟩)

/-- A slice of 128 columns is the columns from its offset. -/
theorem slice_part (y : FVec F S256x1920 .f32) (o : ℕ) (ho : o ≤ 1792) (h) :
    extractStridedSlice S256x128 ![0, o] y h = part y o ho := by
  funext z
  refine congrArg y (funext fun a => Fin.ext ?_)
  match a with
  | 0 => exact Nat.zero_add _
  | 1 => rfl

/-- The number of a lane. -/
def lane : IVec S256x128 32 := iota .tc S256x128 32 [1] iota_S256x128_d1_w32

/-- The first half of head `h`, rotated. -/
def lo (y : FVec F S256x1920 .f32) (c s : FVec F S256x128 .f32) (h : Fin 8) : FVec F S1x1x256x128 .bf16 :=
  k0_pay1 (F := F) lane (part y (224 * h.val) (by omega)) (part y (224 * h.val + 112) (by omega)) c s k0_pay43

/-- The second half of head `h`, rotated. -/
def hi (y : FVec F S256x1920 .f32) (c s : FVec F S256x128 .f32) (h : Fin 8) : FVec F S1x1x256x128 .bf16 :=
  k0_pay2 (F := F) lane (part y (224 * h.val) (by omega)) (part y (224 * h.val + 112) (by omega)) c s

/-- The block of rotated heads, from the product and the angles' cosines and sines. -/
def outOf (y : FVec F S256x1920 .f32) (c s : FVec F S256x128 .f32) : Vec F S1x8x256x256 .bf16 := fun z =>
  if h : (z 3).val < 128 then lo y c s (z 1) (ix4 0 0 (z 2) ⟨(z 3).val, h⟩)
  else hi y c s (z 1) (ix4 0 0 (z 2) ⟨(z 3).val - 128, by have := (z 3).isLt; have e : S1x8x256x256.size 3 = 256 := rfl; omega⟩)

theorem outOf_eq (y : FVec F S256x1920 .f32) (c s : FVec F S256x128 .f32) (h : Fin 8) (r l : Fin 256) :
    outOf y c s (ix4 0 h r l) = if h1 : l.val < 128 then lo y c s h (ix4 0 0 r ⟨l.val, h1⟩) else hi y c s h (ix4 0 0 r ⟨l.val - 128, by have := l.isLt; omega⟩) := rfl

theorem outOf_lo (y : FVec F S256x1920 .f32) (c s : FVec F S256x128 .f32) (h : Fin 8) (r l : Fin 256) (hc : l.val < 128) :
    outOf y c s (ix4 0 h r l) = lo y c s h (ix4 0 0 r ⟨l.val, hc⟩) := by
  rw [outOf_eq, dif_pos hc]

theorem outOf_hi (y : FVec F S256x1920 .f32) (c s : FVec F S256x128 .f32) (h : Fin 8) (r l : Fin 256) (hc : ¬ l.val < 128) :
    outOf y c s (ix4 0 h r l) = hi y c s h (ix4 0 0 r ⟨l.val - 128, by have := l.isLt; omega⟩) := by
  rw [outOf_eq, dif_neg hc]

/-- One more head: if the first `q` heads read as they should, so do the first `q + 1`. -/
theorem read_head {arg11 : Memref sig .tc .vmem S1x8x256x256 .bf16} (f : BufTy.Contents (Elt F) arg11.view.ty)
    (y : FVec F S256x1920 .f32) (c s : FVec F S256x128 .f32) (q : Fin 8) (o : ℕ) (ho : o = q.val)
    (i1 : ∀ a : Fin 4, (![0, o, 0, 128] : Fin 4 → ℕ) a + S1x1x256x128.size a ≤ S1x8x256x256.size a)
    (i0 : ∀ a : Fin 4, (![0, o, 0, 0] : Fin 4 → ℕ) a + S1x1x256x128.size a ≤ S1x8x256x256.size a)
    (L : List (View.Piece (Elt F) S1x8x256x256 .bf16))
    (ih : ∀ (h : Fin 8) (r l : Fin 256), h.val < q.val → arg11.view.read (Elt F) (arg11.view.writes (Elt F) f L) (ix4 0 h r l) = outOf y c s (ix4 0 h r l))
    (h : Fin 8) (r l : Fin 256) (hl : h.val < q.val + 1) :
    arg11.view.read (Elt F) (arg11.view.writes (Elt F) f (⟨Rect.unit (s := S1x8x256x256) ![0, o, 0, 128] S1x1x256x128.size i1, hi y c s q⟩
      :: ⟨Rect.unit (s := S1x8x256x256) ![0, o, 0, 0] S1x1x256x128.size i0, lo y c s q⟩ :: L)) (ix4 0 h r l) = outOf y c s (ix4 0 h r l) := by
  subst ho
  by_cases hq : h.val = q.val
  · have hq' : h = q := Fin.ext hq
    subst hq'
    by_cases hc : l.val < 128
    · refine (View.read_writes_cons_unit_of_not_mem arg11.view f i1 _ _ (ix4 0 h r l) rfl 3 (Or.inl hc)).trans ?_
      refine (View.read_writes_cons_unit_of_mem arg11.view f i0 _ L (ix4 0 h r l) (ix4 0 0 r (⟨l.val, hc⟩ : Fin 128)) rfl fun a => ?_).trans ?_
      · match a with
        | 0 => rfl
        | 1 => rfl
        | 2 => exact (Nat.zero_add _).symm
        | 3 => exact (Nat.zero_add _).symm
      · exact (outOf_lo y c s h r l hc).symm
    · have hl' := l.isLt
      refine (View.read_writes_cons_unit_of_mem arg11.view f i1 _ _ (ix4 0 h r l) (ix4 0 0 r (⟨l.val - 128, by omega⟩ : Fin 128)) rfl fun a => ?_).trans ?_
      · match a with
        | 0 => rfl
        | 1 => rfl
        | 2 => exact (Nat.zero_add _).symm
        | 3 => show l.val = 128 + (l.val - 128); omega
      · exact (outOf_hi y c s h r l hc).symm
  · have hne : h.val < q.val ∨ q.val + 1 ≤ h.val := by omega
    refine (View.read_writes_cons_unit_of_not_mem arg11.view f i1 _ _ (ix4 0 h r l) rfl 1 hne).trans ?_
    refine (View.read_writes_cons_unit_of_not_mem arg11.view f i0 _ _ (ix4 0 h r l) rfl 1 hne).trans ?_
    exact ih h r l (by omega)

/-- The sixteen stores, read as the block of rotated heads. -/
theorem read_heads {arg11 : Memref sig .tc .vmem S1x8x256x256 .bf16} (f : BufTy.Contents (Elt F) arg11.view.ty)
    (y : FVec F S256x1920 .f32) (c s : FVec F S256x128 .f32) (p0 q0 : FVec F S1x1x256x128 .bf16) (p1 q1 : FVec F S1x1x256x128 .bf16) (p2 q2 : FVec F S1x1x256x128 .bf16) (p3 q3 : FVec F S1x1x256x128 .bf16) (p4 q4 : FVec F S1x1x256x128 .bf16) (p5 q5 : FVec F S1x1x256x128 .bf16) (p6 q6 : FVec F S1x1x256x128 .bf16) (p7 q7 : FVec F S1x1x256x128 .bf16)
    (hp0 : p0 = lo y c s 0) (hq0 : q0 = hi y c s 0) (hp1 : p1 = lo y c s 1) (hq1 : q1 = hi y c s 1) (hp2 : p2 = lo y c s 2) (hq2 : q2 = hi y c s 2) (hp3 : p3 = lo y c s 3) (hq3 : q3 = hi y c s 3) (hp4 : p4 = lo y c s 4) (hq4 : q4 = hi y c s 4) (hp5 : p5 = lo y c s 5) (hq5 : q5 = hi y c s 5) (hp6 : p6 = lo y c s 6) (hq6 : q6 = hi y c s 6) (hp7 : p7 = lo y c s 7) (hq7 : q7 = hi y c s 7)
    i0 j0 i1 j1 i2 j2 i3 j3 i4 j4 i5 j5 i6 j6 i7 j7 :
    arg11.view.read (Elt F) (arg11.view.writes (Elt F) f
      [⟨Rect.unit (s := S1x8x256x256) ![0, 7, 0, 128] S1x1x256x128.size j7, q7⟩,
       ⟨Rect.unit (s := S1x8x256x256) ![0, 7, 0, 0] S1x1x256x128.size i7, p7⟩,
       ⟨Rect.unit (s := S1x8x256x256) ![0, 6, 0, 128] S1x1x256x128.size j6, q6⟩,
       ⟨Rect.unit (s := S1x8x256x256) ![0, 6, 0, 0] S1x1x256x128.size i6, p6⟩,
       ⟨Rect.unit (s := S1x8x256x256) ![0, 5, 0, 128] S1x1x256x128.size j5, q5⟩,
       ⟨Rect.unit (s := S1x8x256x256) ![0, 5, 0, 0] S1x1x256x128.size i5, p5⟩,
       ⟨Rect.unit (s := S1x8x256x256) ![0, 4, 0, 128] S1x1x256x128.size j4, q4⟩,
       ⟨Rect.unit (s := S1x8x256x256) ![0, 4, 0, 0] S1x1x256x128.size i4, p4⟩,
       ⟨Rect.unit (s := S1x8x256x256) ![0, 3, 0, 128] S1x1x256x128.size j3, q3⟩,
       ⟨Rect.unit (s := S1x8x256x256) ![0, 3, 0, 0] S1x1x256x128.size i3, p3⟩,
       ⟨Rect.unit (s := S1x8x256x256) ![0, 2, 0, 128] S1x1x256x128.size j2, q2⟩,
       ⟨Rect.unit (s := S1x8x256x256) ![0, 2, 0, 0] S1x1x256x128.size i2, p2⟩,
       ⟨Rect.unit (s := S1x8x256x256) ![0, 1, 0, 128] S1x1x256x128.size j1, q1⟩,
       ⟨Rect.unit (s := S1x8x256x256) ![0, 1, 0, 0] S1x1x256x128.size i1, p1⟩,
       ⟨Rect.unit (s := S1x8x256x256) ![0, 0, 0, 128] S1x1x256x128.size j0, q0⟩,
       ⟨Rect.unit (s := S1x8x256x256) ![0, 0, 0, 0] S1x1x256x128.size i0, p0⟩]) = outOf y c s := by
  subst hp0 hq0 hp1 hq1 hp2 hq2 hp3 hq3 hp4 hq4 hp5 hq5 hp6 hq6 hp7 hq7
  funext z
  obtain ⟨h, r, l, rfl⟩ : ∃ (h : Fin 8) (r l : Fin 256), z = ix4 0 h r l := ⟨z 1, z 2, z 3, by
    funext a; match a with | 0 => exact Fin.ext (Nat.lt_one_iff.mp (z 0).isLt) | 1 => rfl | 2 => rfl | 3 => rfl⟩
  refine read_head f y c s 7 7 rfl _ _ _ (fun h r l hl => ?_) h r l h.isLt
  refine read_head f y c s 6 6 rfl _ _ _ (fun h r l hl => ?_) h r l hl
  refine read_head f y c s 5 5 rfl _ _ _ (fun h r l hl => ?_) h r l hl
  refine read_head f y c s 4 4 rfl _ _ _ (fun h r l hl => ?_) h r l hl
  refine read_head f y c s 3 3 rfl _ _ _ (fun h r l hl => ?_) h r l hl
  refine read_head f y c s 2 2 rfl _ _ _ (fun h r l hl => ?_) h r l hl
  refine read_head f y c s 1 1 rfl _ _ _ (fun h r l hl => ?_) h r l hl
  refine read_head f y c s 0 0 rfl _ _ _ (fun h r l hl => ?_) h r l hl
  exact absurd hl (Nat.not_lt_zero _)

/-! Each stored payload is the rotated half of its head. -/
theorem lo0 (x0 : Vec F S256x7168 .fp8e4m3) (w : Vec F S7168x1792 .bf16) (x1 : Vec F S256x1 .f32) (x4 : Vec F S256x128 .bf16) (x5 : Vec F S128x1792 .bf16) (c s : Vec F S256x128 .f32) : k0_pay9 (F := F) (k0_pay8 (F := F) x0 w x1 x4 x5 c s) = lo (k0_pay5 (F := F) x0 w x1 x4 x5) c s 0 :=
  congrArg₂ (fun a b => k0_pay1 (F := F) lane a b c s k0_pay43) (slice_part (k0_pay5 (F := F) x0 w x1 x4 x5) 0 (by omega) slices_S256x1920_o0_0_S256x128) (slice_part (k0_pay5 (F := F) x0 w x1 x4 x5) 112 (by omega) slices_S256x1920_o0_112_S256x128)
theorem hi0 (x0 : Vec F S256x7168 .fp8e4m3) (w : Vec F S7168x1792 .bf16) (x1 : Vec F S256x1 .f32) (x4 : Vec F S256x128 .bf16) (x5 : Vec F S128x1792 .bf16) (c s : Vec F S256x128 .f32) : k0_pay10 (F := F) lane (k0_pay6 (F := F) x0 w x1 x4 x5) (k0_pay7 (F := F) x0 w x1 x4 x5) c s 112#32 = hi (k0_pay5 (F := F) x0 w x1 x4 x5) c s 0 :=
  congrArg₂ (fun a b => k0_pay2 (F := F) lane a b c s) (slice_part (k0_pay5 (F := F) x0 w x1 x4 x5) 0 (by omega) slices_S256x1920_o0_0_S256x128) (slice_part (k0_pay5 (F := F) x0 w x1 x4 x5) 112 (by omega) slices_S256x1920_o0_112_S256x128)
theorem lo1 (y : FVec F S256x1920 .f32) (c s : Vec F S256x128 .f32) : k0_pay14 (F := F) lane y c s = lo y c s 1 :=
  congrArg₂ (fun a b => k0_pay1 (F := F) lane a b c s k0_pay43) (slice_part y 224 (by omega) slices_S256x1920_o0_224_S256x128) (slice_part y 336 (by omega) slices_S256x1920_o0_336_S256x128)
theorem hi1 (y : FVec F S256x1920 .f32) (c s : Vec F S256x128 .f32) : k0_pay15 (F := F) (k0_pay13 (F := F) lane y c s) = hi y c s 1 :=
  congrArg₂ (fun a b => k0_pay2 (F := F) lane a b c s) (slice_part y 224 (by omega) slices_S256x1920_o0_224_S256x128) (slice_part y 336 (by omega) slices_S256x1920_o0_336_S256x128)
theorem lo2 (y : FVec F S256x1920 .f32) (c s : Vec F S256x128 .f32) : k0_pay18 (F := F) lane y c s = lo y c s 2 :=
  congrArg₂ (fun a b => k0_pay1 (F := F) lane a b c s k0_pay43) (slice_part y 448 (by omega) slices_S256x1920_o0_448_S256x128) (slice_part y 560 (by omega) slices_S256x1920_o0_560_S256x128)
theorem hi2 (y : FVec F S256x1920 .f32) (c s : Vec F S256x128 .f32) : k0_pay19 (F := F) lane y c s = hi y c s 2 :=
  congrArg₂ (fun a b => k0_pay2 (F := F) lane a b c s) (slice_part y 448 (by omega) slices_S256x1920_o0_448_S256x128) (slice_part y 560 (by omega) slices_S256x1920_o0_560_S256x128)
theorem lo3 (y : FVec F S256x1920 .f32) (c s : Vec F S256x128 .f32) : k0_pay22 (F := F) lane (k0_pay20 (F := F) y) (k0_pay21 (F := F) y) c s = lo y c s 3 :=
  congrArg₂ (fun a b => k0_pay1 (F := F) lane a b c s k0_pay43) (slice_part y 672 (by omega) slices_S256x1920_o0_672_S256x128) (slice_part y 784 (by omega) slices_S256x1920_o0_784_S256x128)
theorem hi3 (y : FVec F S256x1920 .f32) (c s : Vec F S256x128 .f32) : k0_pay23 (F := F) lane (k0_pay20 (F := F) y) (k0_pay21 (F := F) y) c s = hi y c s 3 :=
  congrArg₂ (fun a b => k0_pay2 (F := F) lane a b c s) (slice_part y 672 (by omega) slices_S256x1920_o0_672_S256x128) (slice_part y 784 (by omega) slices_S256x1920_o0_784_S256x128)
theorem lo4 (y : FVec F S256x1920 .f32) (c s : Vec F S256x128 .f32) : k0_pay30 (F := F) (k0_pay26 (F := F) lane y c s) = lo y c s 4 :=
  congrArg₂ (fun a b => k0_pay1 (F := F) lane a b c s k0_pay43) (slice_part y 896 (by omega) slices_S256x1920_o0_896_S256x128) (slice_part y 1008 (by omega) slices_S256x1920_o0_1008_S256x128)
theorem hi4 (y : FVec F S256x1920 .f32) (c s : Vec F S256x128 .f32) : k0_pay31 (F := F) (k0_pay27 lane) (k0_pay28 (F := F) y c) (k0_pay29 (F := F) y s) = hi y c s 4 :=
  congrArg₂ (fun a b => k0_pay2 (F := F) lane a b c s) (slice_part y 896 (by omega) slices_S256x1920_o0_896_S256x128) (slice_part y 1008 (by omega) slices_S256x1920_o0_1008_S256x128)
theorem lo5 (y : FVec F S256x1920 .f32) (c s : Vec F S256x128 .f32) : k0_pay34 (F := F) lane y c s = lo y c s 5 :=
  congrArg₂ (fun a b => k0_pay1 (F := F) lane a b c s k0_pay43) (slice_part y 1120 (by omega) slices_S256x1920_o0_1120_S256x128) (slice_part y 1232 (by omega) slices_S256x1920_o0_1232_S256x128)
theorem hi5 (y : FVec F S256x1920 .f32) (c s : Vec F S256x128 .f32) : k0_pay36 (F := F) (k0_pay35 (F := F) lane y c s) = hi y c s 5 :=
  congrArg₂ (fun a b => k0_pay2 (F := F) lane a b c s) (slice_part y 1120 (by omega) slices_S256x1920_o0_1120_S256x128) (slice_part y 1232 (by omega) slices_S256x1920_o0_1232_S256x128)
theorem lo6 (y : FVec F S256x1920 .f32) (c s : Vec F S256x128 .f32) : k0_pay39 (F := F) lane y c s = lo y c s 6 :=
  congrArg₂ (fun a b => k0_pay1 (F := F) lane a b c s k0_pay43) (slice_part y 1344 (by omega) slices_S256x1920_o0_1344_S256x128) (slice_part y 1456 (by omega) slices_S256x1920_o0_1456_S256x128)
theorem hi6 (y : FVec F S256x1920 .f32) (c s : Vec F S256x128 .f32) : k0_pay40 (F := F) lane y c s = hi y c s 6 :=
  congrArg₂ (fun a b => k0_pay2 (F := F) lane a b c s) (slice_part y 1344 (by omega) slices_S256x1920_o0_1344_S256x128) (slice_part y 1456 (by omega) slices_S256x1920_o0_1456_S256x128)
theorem lo7 (y : FVec F S256x1920 .f32) (c s : Vec F S256x128 .f32) : k0_pay1 (F := F) lane (k0_pay41 (F := F) y) (k0_pay42 (F := F) y) c s k0_pay43 = lo y c s 7 :=
  congrArg₂ (fun a b => k0_pay1 (F := F) lane a b c s k0_pay43) (slice_part y 1568 (by omega) slices_S256x1920_o0_1568_S256x128) (slice_part y 1680 (by omega) slices_S256x1920_o0_1680_S256x128)
theorem hi7 (y : FVec F S256x1920 .f32) (c s : Vec F S256x128 .f32) : k0_pay2 (F := F) lane (k0_pay41 (F := F) y) (k0_pay42 (F := F) y) c s = hi y c s 7 :=
  congrArg₂ (fun a b => k0_pay2 (F := F) lane a b c s) (slice_part y 1568 (by omega) slices_S256x1920_o0_1568_S256x128) (slice_part y 1680 (by omega) slices_S256x1920_o0_1680_S256x128)

set_option maxHeartbeats 4000000 in
/-- A point that begins a tile of columns: it widens the weights first. -/
theorem sound_first (c : Dev nD) (E : Set ℕ) (i : grid0.Coords) (k0_h1 : k0_cond1 i = 1#1) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole)
    (x0 : Vec F S256x7168 .fp8e4m3) (x1 : Vec F S256x1 .f32) (x2 : Vec F S3584x1792 .i8) (x3 : Vec F S56x1792 .f32) (x4 : Vec F S256x128 .bf16) (x5 : Vec F S128x1792 .bf16) (x6 : Vec F S256x128 .f32) (x7 : Vec F S256x128 .f32) (x8 : Vec F S1x8x256x256 .bf16) (x9 : Vec F S7168x1792 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf (F := F) (k0_pay5 (F := F) x0 (wide (F := F) x2 x3) x1 x4 x5) x6 x7) ∗ owns (c : Thread nD τ) arg12 fullShare (wide (F := F) x2 x3)) -∗ K ⟨⟩))
      ⊢ wp frame (wpE (defs₀ (F := F)) Variants.none c none) E (cc0_project_q i arg3 harg3 arg4 harg4 arg5 harg5 arg6 harg6 arg7 harg7 arg8 harg8 arg9 harg9 arg10 harg10 arg11 harg11 arg12 harg12) K := by
  simp only [cc0_project_q_eq_skeleton]; unfold cc0_project_q_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  have ew' : ∀ f, arg12.view.read (Elt F) (arg12.view.writes (Elt F) f (pb_k0_t2 (F := F) Variants.none c none i arg3 harg3 arg4 harg4 arg5 harg5 arg6 harg6 arg7 harg7 arg8 harg8 arg9 harg9 arg10 harg10 arg11 harg11 arg12 harg12 k0_h1 f2 f3 28 ++ pb_k0_t1 (F := F) Variants.none c none i arg3 harg3 arg4 harg4 arg5 harg5 arg6 harg6 arg7 harg7 arg8 harg8 arg9 harg9 arg10 harg10 arg11 harg11 arg12 harg12 k0_h1 f2 f3 28)) = (wide (F := F) (arg5.view.read (Elt F) f2) (arg6.view.read (Elt F) f3)) :=
    read_wide (F := F) Variants.none c none i arg3 harg3 arg4 harg4 arg5 harg5 arg6 harg6 arg7 harg7 arg8 harg8 arg9 harg9 arg10 harg10 arg11 harg11 arg12 harg12 k0_h1 f2 f3
  have ew : sound_first.sl.v7 c i k0_h1 arg3 harg3 arg4 harg4 arg5 harg5 arg6 harg6 arg7 harg7 arg8 harg8 arg9 harg9 arg10 harg10 arg11 harg11 arg12 harg12 f2 f3 f9 = (wide (F := F) (arg5.view.read (Elt F) f2) (arg6.view.read (Elt F) f3)) := by
    unfold sound_first.sl.v7
    exact (View.readAt_full _ _ _).trans (ew' f9)
  have er : sound_first.sl.r c i k0_h1 arg3 harg3 arg4 harg4 arg5 harg5 arg6 harg6 arg7 harg7 arg8 harg8 arg9 harg9 arg10 harg10 arg11 harg11 arg12 harg12 f0 f1 f2 f3 f4 f5 f9 = (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) := by
    unfold sound_first.sl.r
    rw [View.readAt_full, View.readAt_full, View.readAt_full, View.readAt_full, ew]
  have er_1 : sound_first.sl.r_1 c i k0_h1 arg3 harg3 arg4 harg4 arg5 harg5 arg6 harg6 arg7 harg7 arg8 harg8 arg9 harg9 arg10 harg10 arg11 harg11 arg12 harg12 f0 f1 f2 f3 f4 f5 f9 = k0_pay6 (F := F) (arg3.view.read (Elt F) f0) (wide (F := F) (arg5.view.read (Elt F) f2) (arg6.view.read (Elt F) f3)) (arg4.view.read (Elt F) f1) (arg7.view.read (Elt F) f4) (arg8.view.read (Elt F) f5) := by
    unfold sound_first.sl.r_1
    rw [View.readAt_full, View.readAt_full, View.readAt_full, View.readAt_full, ew]
  have er_2 : sound_first.sl.r_2 c i k0_h1 arg3 harg3 arg4 harg4 arg5 harg5 arg6 harg6 arg7 harg7 arg8 harg8 arg9 harg9 arg10 harg10 arg11 harg11 arg12 harg12 f0 f1 f2 f3 f4 f5 f9 = k0_pay7 (F := F) (arg3.view.read (Elt F) f0) (wide (F := F) (arg5.view.read (Elt F) f2) (arg6.view.read (Elt F) f3)) (arg4.view.read (Elt F) f1) (arg7.view.read (Elt F) f4) (arg8.view.read (Elt F) f5) := by
    unfold sound_first.sl.r_2
    rw [View.readAt_full, View.readAt_full, View.readAt_full, View.readAt_full, ew]
  have er_3 : sound_first.sl.r_3 c arg9 f6 = (arg9.view.read (Elt F) f6) := by
    unfold sound_first.sl.r_3
    rw [View.readAt_full]
  have er_4 : sound_first.sl.r_4 c arg10 f7 = (arg10.view.read (Elt F) f7) := by
    unfold sound_first.sl.r_4
    rw [View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr; swap; · iexact H8
    ipureintro
    exact read_heads (F := F) f8 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7) _ _ _ _ _ _ _ _ _ _ _ _ _ _ _ _
      (by unfold sound_first.sl.r_5; repeat (first | rw [ew] | rw [er] | rw [er_1] | rw [er_2] | rw [er_3] | rw [er_4] | rw [View.readAt_full])
          exact lo0 (arg3.view.read (Elt F) f0) (wide (F := F) (arg5.view.read (Elt F) f2) (arg6.view.read (Elt F) f3)) (arg4.view.read (Elt F) f1) (arg7.view.read (Elt F) f4) (arg8.view.read (Elt F) f5) (arg9.view.read (Elt F) f6) (arg10.view.read (Elt F) f7))
      (by repeat (first | rw [ew] | rw [er] | rw [er_1] | rw [er_2] | rw [er_3] | rw [er_4] | rw [View.readAt_full])
          exact hi0 (arg3.view.read (Elt F) f0) (wide (F := F) (arg5.view.read (Elt F) f2) (arg6.view.read (Elt F) f3)) (arg4.view.read (Elt F) f1) (arg7.view.read (Elt F) f4) (arg8.view.read (Elt F) f5) (arg9.view.read (Elt F) f6) (arg10.view.read (Elt F) f7))
      (by unfold sound_first.sl.r_7; repeat (first | rw [ew] | rw [er] | rw [er_1] | rw [er_2] | rw [er_3] | rw [er_4] | rw [View.readAt_full])
          exact lo1 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_6; repeat (first | rw [ew] | rw [er] | rw [er_1] | rw [er_2] | rw [er_3] | rw [er_4] | rw [View.readAt_full])
          exact hi1 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo2 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact hi2 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_8 sound_first.sl.r_9; repeat (first | rw [ew] | rw [er] | rw [er_1] | rw [er_2] | rw [er_3] | rw [er_4] | rw [View.readAt_full])
          exact lo3 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_8 sound_first.sl.r_9; repeat (first | rw [ew] | rw [er] | rw [er_1] | rw [er_2] | rw [er_3] | rw [er_4] | rw [View.readAt_full])
          exact hi3 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_10; repeat (first | rw [ew] | rw [er] | rw [er_1] | rw [er_2] | rw [er_3] | rw [er_4] | rw [View.readAt_full])
          exact lo4 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_11 sound_first.sl.r_12; repeat (first | rw [ew] | rw [er] | rw [er_1] | rw [er_2] | rw [er_3] | rw [er_4] | rw [View.readAt_full])
          exact hi4 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo5 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_13; repeat (first | rw [ew] | rw [er] | rw [er_1] | rw [er_2] | rw [er_3] | rw [er_4] | rw [View.readAt_full])
          exact hi5 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact lo6 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by repeat (first | rw [ew] | rw [er] | rw [er_1] | rw [er_2] | rw [er_3] | rw [er_4] | rw [View.readAt_full])
          exact hi6 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_14 sound_first.sl.r_15; repeat (first | rw [ew] | rw [er] | rw [er_1] | rw [er_2] | rw [er_3] | rw [er_4] | rw [View.readAt_full])
          exact lo7 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      (by unfold sound_first.sl.r_14 sound_first.sl.r_15; repeat (first | rw [ew] | rw [er] | rw [er_1] | rw [er_2] | rw [er_3] | rw [er_4] | rw [View.readAt_full])
          exact hi7 (k0_pay5 (F := F) (arg3.view.read (Elt F) f0) (wide (F := F) (arg5.view.read (Elt F) f2) (arg6.view.read (Elt F) f3)) (arg4.view.read (Elt F) f1) (arg7.view.read (Elt F) f4) (arg8.view.read (Elt F) f5)) (arg9.view.read (Elt F) f6) (arg10.view.read (Elt F) f7))
      _ _ _ _ _ _ _ _ _ _ _ _ _ _ _ _
  iexists _; isplitr; swap; · iexact H9
  ipureintro
  exact ew' f9

set_option maxHeartbeats 4000000 in
/-- A point that finds its weights already widened. -/
theorem sound_rest (c : Dev nD) (E : Set ℕ) (i : grid0.Coords) (k0_h1 : ¬ k0_cond1 i = 1#1) (arg3 : Memref sig .tc .vmem S256x7168 .fp8e4m3) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S128x1792 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S1x8x256x256 .bf16) (harg11 : arg11.IsWhole) (arg12 : Memref sig .tc .vmem S7168x1792 .bf16) (harg12 : arg12.IsWhole)
    (x0 : Vec F S256x7168 .fp8e4m3) (x1 : Vec F S256x1 .f32) (x2 : Vec F S3584x1792 .i8) (x3 : Vec F S56x1792 .f32) (x4 : Vec F S256x128 .bf16) (x5 : Vec F S128x1792 .bf16) (x6 : Vec F S256x128 .f32) (x7 : Vec F S256x128 .f32) (x8 : Vec F S1x8x256x256 .bf16) (x9 : Vec F S7168x1792 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outOf (F := F) (k0_pay5 (F := F) x0 x9 x1 x4 x5) x6 x7) ∗ owns (c : Thread nD τ) arg12 fullShare x9) -∗ K ⟨⟩))
      ⊢ wp frame (wpE (defs₀ (F := F)) Variants.none c none) E (cc0_project_q i arg3 harg3 arg4 harg4 arg5 harg5 arg6 harg6 arg7 harg7 arg8 harg8 arg9 harg9 arg10 harg10 arg11 harg11 arg12 harg12) K := by
  simp only [cc0_project_q_eq_skeleton]; unfold cc0_project_q_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  have er : sound_rest.sl.r c arg3 arg4 arg7 arg8 arg12 f0 f1 f4 f5 f9 = (k0_pay5 (F := F) (arg3.view.read (Elt F) f0) (arg12.view.read (Elt F) f9) (arg4.view.read (Elt F) f1) (arg7.view.read (Elt F) f4) (arg8.view.read (Elt F) f5)) := by
    unfold sound_rest.sl.r
    rw [View.readAt_full, View.readAt_full, View.readAt_full, View.readAt_full, View.readAt_full]
  have er_1 : sound_rest.sl.r_1 c arg3 arg4 arg7 arg8 arg12 f0 f1 f4 f5 f9 = k0_pay6 (F := F) (arg3.view.read (Elt F) f0) (arg12.view.read (Elt F) f9) (arg4.view.read (Elt F) f1) (arg7.view.read (Elt F) f4) (arg8.view.read (Elt F) f5) := by
    unfold sound_rest.sl.r_1
    rw [View.readAt_full, View.readAt_full, View.readAt_full, View.readAt_full, View.readAt_full]
  have er_2 : sound_rest.sl.r_2 c arg3 arg4 arg7 arg8 arg12 f0 f1 f4 f5 f9 = k0_pay7 (F := F) (arg3.view.read (Elt F) f0) (arg12.view.read (Elt F) f9) (arg4.view.read (Elt F) f1) (arg7.view.read (Elt F) f4) (arg8.view.read (Elt F) f5) := by
    unfold sound_rest.sl.r_2
    rw [View.readAt_full, View.readAt_full, View.readAt_full, View.readAt_full, View.readAt_full]
  have er_3 : sound_rest.sl.r_3 c arg9 f6 = (arg9.view.read (Elt F) f6) := by
    unfold sound_rest.sl.r_3
    rw [View.readAt_full]
  have er_4 : sound_rest.sl.r_4 c arg10 f7 = (arg10.view.read (Elt F) f7) := by
    unfold sound_rest.sl.r_4
    rw [View.readAt_full]
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr; swap; · iexact H8
    ipureintro
    exact read_heads (F := F) f8 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7) _ _ _ _ _ _ _ _ _ _ _ _ _ _ _ _
      (by unfold sound_rest.sl.r_5; repeat (first | rw [er] | rw [er_1] | rw [er_2] | rw [er_3] | rw [er_4] | rw [View.readAt_full])
          exact lo0 (arg3.view.read (Elt F) f0) (arg12.view.read (Elt F) f9) (arg4.view.read (Elt F) f1) (arg7.view.read (Elt F) f4) (arg8.view.read (Elt F) f5) (arg9.view.read (Elt F) f6) (arg10.view.read (Elt F) f7))
      (by repeat (first | rw [er] | rw [er_1] | rw [er_2] | rw [er_3] | rw [er_4] | rw [View.readAt_full])
          exact hi0 (arg3.view.read (Elt F) f0) (arg12.view.read (Elt F) f9) (arg4.view.read (Elt F) f1) (arg7.view.read (Elt F) f4) (arg8.view.read (Elt F) f5) (arg9.view.read (Elt F) f6) (arg10.view.read (Elt F) f7))
      (by unfold sound_rest.sl.r_7; repeat (first | rw [er] | rw [er_1] | rw [er_2] | rw [er_3] | rw [er_4] | rw [View.readAt_full])
          exact lo1 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_6; repeat (first | rw [er] | rw [er_1] | rw [er_2] | rw [er_3] | rw [er_4] | rw [View.readAt_full])
          exact hi1 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo2 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact hi2 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_8 sound_rest.sl.r_9; repeat (first | rw [er] | rw [er_1] | rw [er_2] | rw [er_3] | rw [er_4] | rw [View.readAt_full])
          exact lo3 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_8 sound_rest.sl.r_9; repeat (first | rw [er] | rw [er_1] | rw [er_2] | rw [er_3] | rw [er_4] | rw [View.readAt_full])
          exact hi3 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_10; repeat (first | rw [er] | rw [er_1] | rw [er_2] | rw [er_3] | rw [er_4] | rw [View.readAt_full])
          exact lo4 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_11 sound_rest.sl.r_12; repeat (first | rw [er] | rw [er_1] | rw [er_2] | rw [er_3] | rw [er_4] | rw [View.readAt_full])
          exact hi4 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo5 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_13; repeat (first | rw [er] | rw [er_1] | rw [er_2] | rw [er_3] | rw [er_4] | rw [View.readAt_full])
          exact hi5 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact lo6 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by repeat (first | rw [er] | rw [er_1] | rw [er_2] | rw [er_3] | rw [er_4] | rw [View.readAt_full])
          exact hi6 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_14 sound_rest.sl.r_15; repeat (first | rw [er] | rw [er_1] | rw [er_2] | rw [er_3] | rw [er_4] | rw [View.readAt_full])
          exact lo7 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      (by unfold sound_rest.sl.r_14 sound_rest.sl.r_15; repeat (first | rw [er] | rw [er_1] | rw [er_2] | rw [er_3] | rw [er_4] | rw [View.readAt_full])
          exact hi7 (k0_pay5 (F := F) (arg3.view.read (Elt F) f0) (arg12.view.read (Elt F) f9) (arg4.view.read (Elt F) f1) (arg7.view.read (Elt F) f4) (arg8.view.read (Elt F) f5)) (arg9.view.read (Elt F) f6) (arg10.view.read (Elt F) f7))
      _ _ _ _ _ _ _ _ _ _ _ _ _ _ _ _
  iexists f9; isplitr; · ipureintro; rfl
  iexact H9

end Cert.ProjectQ.Body
end
-- ==== Proof.ProjectQBitsRun.lean ====
module
public import proofs.«01_k».proof.Proof.ProjectQBitsBody

@[expose] public section
set_option maxRecDepth 16384
noncomputable section
namespace Cert.ProjectQ.Body
open Cert.ProjectQ.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev scM0_0 : Memref sig .tc .vmem S7168x1792 .bf16 := Memref.whole cc0_scratch0

theorem PhiA_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem first_iff : ∀ t : Fin cfg0.N, Iff (k0_cond1 (grid0.coords t) = 1#1) (t.val % 32 = 0) := (by decide +kernel : ∀ t : Fin grid0.N, _)

/-- The point that widened the weights a point works with: the first of its tile of columns. -/
def tileStart (t : Fin cfg0.N) : Fin cfg0.N := ⟨t.val - t.val % 32, Nat.lt_of_le_of_lt (Nat.sub_le _ _) t.isLt⟩

/-- The widened weights a point works with. -/
def wideAt (c : Dev nD) (t : Fin cfg0.N) : Vec F S7168x1792 .bf16 := wide (F := F) (iblk m c 2 (tileStart t)) (iblk m c 3 (tileStart t))

/-- The block a point stores. -/
def headsAt (c : Dev nD) (t : Fin cfg0.N) : Vec F S1x8x256x256 .bf16 :=
  outOf (F := F) (k0_pay5 (F := F) (iblk m c 0 t) (wideAt m c t) (iblk m c 1 t) (iblk m c 4 t) (iblk m c 5 t)) (iblk m c 6 t) (iblk m c 7 t)

/-- What the scratch buffer holds before position `n`: the widened weights of the tile of columns it is inside of. -/
def Good (c : Dev nD) (n : ℕ) (X : Vec F S7168x1792 .bf16) : Prop :=
  ∀ t : Fin cfg0.N, n % 32 ≠ 0 → t.val + 1 = n → X = wideAt m c t

theorem wide_first (c : Dev nD) (t : Fin cfg0.N) (ht : t.val % 32 = 0) : wide (F := F) (iblk m c 2 t) (iblk m c 3 t) = wideAt m c t := by
  have e : tileStart t = t := Fin.ext (by show t.val - t.val % 32 = t.val; omega)
  unfold wideAt; rw [e]

theorem wide_rest (c : Dev nD) (t : Fin cfg0.N) (ht : ¬ t.val % 32 = 0) (X : Vec F S7168x1792 .bf16) (h : Good m c t.val X) : X = wideAt m c t := by
  have hl := t.isLt
  rw [h ⟨t.val - 1, by omega⟩ ht (by show t.val - 1 + 1 = t.val; omega)]
  have e : tileStart ⟨t.val - 1, by omega⟩ = tileStart t := Fin.ext (by show t.val - 1 - (t.val - 1) % 32 = t.val - t.val % 32; omega)
  unfold wideAt; rw [e]

theorem good_next (c : Dev nD) (t : Fin cfg0.N) : Good m c (t.val + 1) (wideAt m c t) := fun t' _ ht' => by
  have e : t' = t := Fin.ext (by omega)
  rw [e]

/-- The invariant before position `n`: the scratch buffer as `Good` says. -/
def Phi (c : Dev nD) (n : ℕ) (_h : n ≤ cfg0.N) : sProp 𝕄 :=
  iprop((∃ X, ⌜Good m c n X⌝ ∗ owns (c : Thread nD τ) scM0_0 fullShare X) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => headsAt m c t
    | ⟨_ + 9, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = headsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem body_first (c : Dev nD) (t : Fin cfg0.N) (ht : t.val % 32 = 0) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))) := by
  unfold bodyAt0
  simp only [before0_0, before0_1, before0_2, before0_3, before0_4, before0_5, before0_6, before0_7]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi headsAt
  iintro ⟨⟨⟨%X, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hx := wide_first m c t ht
  iapply (sound_first (F := F) c Set.univ (grid0.coords t) ((first_iff t).mpr ht) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  rw [hx]
  iintro ⟨H0, H1, H2, H3, H4, H5, H6, H7, H8, HS0⟩
  isplitl [HS0 Hg]
  · isplitl [HS0]
    · iexists _; isplitr; swap
      · iexact HS0
      ipureintro
      exact good_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_rest (c : Dev nD) (t : Fin cfg0.N) (ht : ¬ t.val % 32 = 0) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))) := by
  unfold bodyAt0
  simp only [before0_0, before0_1, before0_2, before0_3, before0_4, before0_5, before0_6, before0_7]
  rw [show (dats m 0 c).Φ t.castSucc = Phi m c t.val (Nat.le_of_lt t.isLt) from by dsimp only [dats]; exact Pipeline.Dat.Φ_castSucc (Phi m c) t,
    show (dats m 0 c).Φ t.succ = Phi m c (t.val + 1) t.isLt from rfl,
    show (dats m 0 c).owesAt () t.succ = (dats m 0 c).owesAt () t.castSucc from rfl,
    after0_0, after0_1, after0_2, after0_3, after0_4, after0_5, after0_6, after0_7, after0_8]
  unfold Phi headsAt
  iintro ⟨⟨⟨%X, %hG, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hx := wide_rest m c t ht X hG
  iapply (sound_rest (F := F) c Set.univ (grid0.coords t) (fun h => ht ((first_iff t).mp h)) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  rw [hx]
  iintro ⟨H0, H1, H2, H3, H4, H5, H6, H7, H8, HS0⟩
  isplitl [HS0 Hg]
  · isplitl [HS0]
    · iexists _; isplitr; swap
      · iexact HS0
      ipureintro
      exact good_next m c t
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  have i4 : cfg0.idle 4 (cfg0.grid.coords t) = false := rfl
  have i5 : cfg0.idle 5 (cfg0.grid.coords t) = false := rfl
  have i6 : cfg0.idle 6 (cfg0.grid.coords t) = false := rfl
  have i7 : cfg0.idle 7 (cfg0.grid.coords t) = false := rfl
  have i8 : cfg0.idle 8 (cfg0.grid.coords t) = false := rfl
  by_cases ht : t.val % 32 = 0
  · refine triple_restated (body_first m c t ht) rfl .rfl fun _ => ?_
    simp only [i0, i1, i2, i3, i4, i5, i6, i7, i8]
    exact .rfl
  · refine triple_restated (body_rest m c t ht) rfl .rfl fun _ => ?_
    simp only [i0, i1, i2, i3, i4, i5, i6, i7, i8]
    exact .rfl

theorem Phi_in (c : Dev nD) : (Pipeline.ΦA spec0 c : sProp 𝕄) ⊢ (dats m 0 c).Φ 0 := by
  rw [PhiA_eq, show (dats m 0 c).Φ 0 = Phi m c 0 (Nat.zero_le _) from rfl]
  unfold Phi
  iintro ⟨⟨%X, H0⟩, Hg⟩
  isplitl [H0]
  · iexists X; isplitr; swap
    · iexact H0
    ipureintro
    exact fun t h => absurd rfl h
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = Phi m c cfg0.N le_rfl from rfl]
  unfold Phi
  iintro ⟨⟨%X, %_, H0⟩, Hg⟩
  isplitl [H0]
  · iexists X; iexact H0
  iexact Hg

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))
end Cert.ProjectQ.Body
end
-- ==== Proof.lean ====
/-
  The proof of `Cert.Claim`: each call runs, keeps its arguments, and its results are its plain reference's.
-/
module

public import proofs.«01_k».proof.Defs
public import proofs.«01_k».proof.Proof.ClosingClaim
public import proofs.«01_k».proof.Proof.DownClaim
public import proofs.«01_k».proof.Proof.GateUpClaim
public import proofs.«01_k».proof.Proof.ProjectQClaim
public import proofs.«01_k».proof.Proof.NormClaim
public import proofs.«01_k».proof.Proof.Gen.Closing.Frame
public import proofs.«01_k».proof.Proof.Gen.ClosingIdeal.Frame
public import proofs.«01_k».proof.Proof.Gen.ClosingIdeal.Value
public import proofs.«01_k».proof.Proof.Gen.ClosingRefIdeal.Frame
public import proofs.«01_k».proof.Proof.Gen.ClosingRefIdeal.Value
public import proofs.«01_k».proof.Proof.BitsRun
public import proofs.«01_k».proof.Proof.Gen.DownIdeal.Frame
public import proofs.«01_k».proof.Proof.Gen.DownRefIdeal.Frame
public import proofs.«01_k».proof.Proof.Gen.DownRefIdeal.Value
public import proofs.«01_k».proof.Proof.GateUpBitsRun
public import proofs.«01_k».proof.Proof.Gen.GateUpIdeal.Frame
public import proofs.«01_k».proof.Proof.Gen.GateUpRefIdeal.Frame
public import proofs.«01_k».proof.Proof.Gen.GateUpRefIdeal.Value
public import proofs.«01_k».proof.Proof.ProjectQBitsRun
public import proofs.«01_k».proof.Proof.Gen.ProjectQIdeal.Frame
public import proofs.«01_k».proof.Proof.Gen.ProjectQRefIdeal.Frame
public import proofs.«01_k».proof.Proof.Gen.ProjectQRefIdeal.Value
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Frame
public import proofs.«01_k».proof.Proof.Gen.NormRefIdeal.Value
public import Idealize.ShloMosaic.Adequacy
public import Idealize.ShloMosaic.Init

@[expose] public section

noncomputable section

namespace Cert.Proof

open Idealize.ShloMosaic Idealize.SL.Sem

theorem claim : Cert.Claim :=
  ⟨Cert.Closing.Gen.facts, Cert.ClosingIdeal.Gen.facts, Cert.ClosingRefIdeal.Gen.facts, Cert.Down.Gen.facts, Cert.DownIdeal.Gen.facts, Cert.DownRefIdeal.Gen.facts, Cert.GateUp.Gen.facts, Cert.GateUpIdeal.Gen.facts, Cert.GateUpRefIdeal.Gen.facts, Cert.ProjectQ.Gen.facts, Cert.ProjectQIdeal.Gen.facts, Cert.ProjectQRefIdeal.Gen.facts,
    Cert.Norm.Gen.facts, Cert.NormIdeal.Gen.facts, Cert.NormRefIdeal.Gen.facts,
    fun m g _ => Cert.Closing.Gen.frame m g, fun m g _ => Cert.ClosingIdeal.Gen.frame m g, fun m g _ => Cert.ClosingRefIdeal.Gen.frame m g,
    fun m g _ => Cert.Down.Body.frame m g, fun m g _ => Cert.DownIdeal.Body.frame m g, fun m g _ => Cert.DownRefIdeal.Gen.frame m g,
    fun m g _ => Cert.GateUp.Body.frame m g, fun m g _ => Cert.GateUpIdeal.Body.frame m g, fun m g _ => Cert.GateUpRefIdeal.Gen.frame m g,
    fun m g _ => Cert.ProjectQ.Body.frame m g, fun m g _ => Cert.ProjectQIdeal.Body.frame m g, fun m g _ => Cert.ProjectQRefIdeal.Gen.frame m g,
    fun m g _ => Cert.Norm.Gen.frame m g, fun m g _ => Cert.NormIdeal.Gen.frame m g, fun m g _ => Cert.NormRefIdeal.Gen.frame m g,
    trivial, Closing.algebraic, trivial, Down.algebraic, trivial, GateUp.algebraic, trivial, ProjectQ.algebraic, trivial, Norm.algebraic⟩

end Cert.Proof

end
